-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2 = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "qs" .f32 0x3E38AA3B#32 (((Real.sqrt 64)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v190) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v88) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "qs" .f32 0x3E38AA3B#32 (((Real.sqrt 64)⁻¹ * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_v30) = v3 c
          ∧ r.2.mem ((c.tc : Thread Cert.Reference4Ideal.nD Cert.Reference4Ideal.τ).loc Cert.Reference4Ideal.main_v31) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "qs" .f32 0x3E38AA3B#32 (((Real.sqrt 64)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v69) = v1 c
          ∧ r.2.mem ((c.tc : Thread Cert.Reference5Ideal.nD Cert.Reference5Ideal.τ).loc Cert.Reference5Ideal.main_v71) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x4096x8x2x64 : Shape := ⟨5, ![4, 4096, 8, 2, 64]⟩
abbrev S4x4096x8x128 : Shape := ⟨4, ![4, 4096, 8, 128]⟩
abbrev S4x1x256x8x128 : Shape := ⟨5, ![4, 1, 256, 8, 128]⟩
abbrev S1x64 : Shape := ⟨2, ![1, 64]⟩
abbrev S1x128 : Shape := ⟨2, ![1, 128]⟩
abbrev S1x8x1024x3584 : Shape := ⟨4, ![1, 8, 1024, 3584]⟩
abbrev S1x8x3584x1024 : Shape := ⟨4, ![1, 8, 3584, 1024]⟩
abbrev S_ : Shape := ⟨0, ![]⟩

class Facts : Prop where
  bcast_S_S4x4096x8x2x64 : S_.BroadcastsInDim S4x4096x8x2x64 (![] : Fin 0 → Fin S4x4096x8x2x64.rank)
  bcast_S_S4x4096x8x128 : S_.BroadcastsInDim S4x4096x8x128 (![] : Fin 0 → Fin S4x4096x8x128.rank)
  bcast_S_S4x1x256x8x128 : S_.BroadcastsInDim S4x1x256x8x128 (![] : Fin 0 → Fin S4x1x256x8x128.rank)
  bcast_S_S1x64 : S_.BroadcastsInDim S1x64 (![] : Fin 0 → Fin S1x64.rank)

variable [Facts]

def fn_part1 {F : FTy → Type} [FloatOps F] (main_arg6 : FVec F S1x64 .f32) (main_arg7 : FVec F S1x64 .f32) (main_arg8 : FVec F S1x64 .f32) (main_v2 : IVec S4x4096x8x2x64 1) (main_v5 : IVec S4x4096x8x2x64 1) (main_v8 : IVec S4x4096x8x128 1) (main_v11 : IVec S4x1x256x8x128 1) (main_v14 : IVec S4x1x256x8x128 1) (main_v17 : IVec S1x64 1) : IVec S4x4096x8x2x64 1 × IVec S4x4096x8x2x64 1 × IVec S4x4096x8x128 1 × IVec S4x1x256x8x128 1 × IVec S4x1x256x8x128 1 × IVec S1x64 1 × IVec S1x64 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  let main_v21 : FVec F S1x64 .f32 := Host.absf main_arg7
  let main_cst_6 : FVec F S_ .f32 := constant S_ .f32 0x7F800000#32
  let main_v22 : FVec F S1x64 .f32 := broadcastInDim S1x64 ![] bcast_S_S1x64 main_cst_6
  let main_v23 : IVec S1x64 1 := cmpf .olt main_v21 main_v22
  let main_v24 : FVec F S1x64 .f32 := Host.absf main_arg8
  let main_cst_7 : FVec F S_ .f32 := constant S_ .f32 0x7F800000#32
  let main_v25 : FVec F S1x64 .f32 := broadcastInDim S1x64 ![] bcast_S_S1x64 main_cst_7
  let main_v26 : IVec S1x64 1 := cmpf .olt main_v24 main_v25
  (main_v2, main_v5, main_v8, main_v11, main_v14, main_v17, main_v20, main_v23, main_v26)

def fn {F : FTy → Type} [FloatOps F] (main_arg0 : FVec F S4x4096x8x2x64 .f32) (main_arg1 : FVec F S4x4096x8x2x64 .f32) (main_arg2 : FVec F S4x4096x8x128 .f32) (main_arg3 : FVec F S4x1x256x8x128 .f32) (main_arg4 : FVec F S4x1x256x8x128 .f32) (main_arg5 : FVec F S1x64 .f32) (main_arg6 : FVec F S1x64 .f32) (main_arg7 : FVec F S1x64 .f32) (main_arg8 : FVec F S1x64 .f32) (main_arg9 : FVec F S1x128 .f32) (main_arg10 : FVec F S1x8x1024x3584 .f32) (main_arg11 : FVec F S1x8x1024x3584 .f32) (main_arg12 : FVec F S1x8x3584x1024 .f32) : IVec S4x4096x8x2x64 1 × IVec S4x4096x8x2x64 1 × IVec S4x4096x8x128 1 × IVec S4x1x256x8x128 1 × IVec S4x1x256x8x128 1 × IVec S1x64 1 × IVec S1x64 1 × IVec S1x64 1 × IVec S1x64 1 :=
  let main_v0 : FVec F S4x4096x8x2x64 .f32 := Host.absf main_arg0
  let main_cst : FVec F S_ .f32 := constant S_ .f32 0x7F800000#32
  let main_v1 : FVec F S4x4096x8x2x64 .f32 := broadcastInDim S4x4096x8x2x64 ![] bcast_S_S4x4096x8x2x64 main_cst
  let main_v2 : IVec S4x4096x8x2x64 1 := cmpf .olt main_v0 main_v1
  let main_v3 : FVec F S4x4096x8x2x64 .f32 := Host.absf main_arg1
  let main_cst_0 : FVec F S_ .f32 := constant S_ .f32 0x7F800000#32
  let main_v4 : FVec F S4x4096x8x2x64 .f32 := broadcastInDim S4x4096x8x2x64 ![] bcast_S_S4x4096x8x2x64 main_cst_0
  let main_v5 : IVec S4x4096x8x2x64 1 := cmpf .olt main_v3 main_v4
  let main_v6 : FVec F S4x4096x8x128 .f32 := Host.absf main_arg2
  let main_cst_1 : FVec F S_ .f32 := constant S_ .f32 0x7F800000#32
  let main_v7 : FVec F S4x4096x8x128 .f32 := broadcastInDim S4x4096x8x128 ![] bcast_S_S4x4096x8x128 main_cst_1
  let main_v8 : IVec S4x4096x8x128 1 := cmpf .olt main_v6 main_v7
  let main_v9 : FVec F S4x1x256x8x128 .f32 := Host.absf main_arg3
  let main_cst_2 : FVec F S_ .f32 := constant S_ .f32 0x7F800000#32
  let main_v10 : FVec F S4x1x256x8x128 .f32 := broadcastInDim S4x1x256x8x128 ![] bcast_S_S4x1x256x8x128 main_cst_2
  let main_v11 : IVec S4x1x256x8x128 1 := cmpf .olt main_v9 main_v10
  let main_v12 : FVec F S4x1x256x8x128 .f32 := Host.absf main_arg4
  let main_cst_3 : FVec F S_ .f32 := constant S_ .f32 0x7F800000#32
  let main_v13 : FVec F S4x1x256x8x128 .f32 := broadcastInDim S4x1x256x8x128 ![] bcast_S_S4x1x256x8x128 main_cst_3
  let main_v14 : IVec S4x1x256x8x128 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_arg7 main_arg8 main_v2 main_v5 main_v8 main_v11 main_v14 main_v17
-- ==== Pre_in_range.lean ====
abbrev S110 : Shape := ⟨1, ![110]⟩
abbrev S56320x1024 : Shape := ⟨2, ![56320, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S110 : S_.BroadcastsInDim S110 (![] : Fin 0 → Fin S110.rank)

variable [Facts]

def fn {F : FTy → Type} [FloatOps F] (main_arg0 : IVec S110 32) (main_arg1 : IVec S110 32) (main_arg2 : FVec F S56320x1024 .f32) (main_arg3 : FVec F S8x1024x3584 .bf16) (main_arg4 : FVec F S8x1024x3584 .bf16) (main_arg5 : FVec F S8x3584x1024 .bf16) : IVec S110 1 :=
  let main_c : IVec S_ 32 := constantI S_ 32 0#32
  let main_v0 : IVec S110 32 := broadcastInDim S110 ![] bcast_S_S110 main_c
  let main_v1 : IVec S110 1 := cmpi .sge main_arg0 main_v0
  let main_c_0 : IVec S_ 32 := constantI S_ 32 8#32
  let main_v2 : IVec S110 32 := broadcastInDim S110 ![] bcast_S_S110 main_c_0
  let main_v3 : IVec S110 1 := cmpi .slt main_arg0 main_v2
  let main_v4 : IVec S110 1 := andi main_v1 main_v3
  main_v4
-- ==== Kernel.lean ====
abbrev S4x4096x8x2x64 : Shape := ⟨5, ![4, 4096, 8, 2, 64]⟩
abbrev S4x4096x8x128 : Shape := ⟨4, ![4, 4096, 8, 128]⟩
abbrev S4x1x256x8x128 : Shape := ⟨5, ![4, 1, 256, 8, 128]⟩
abbrev S1x64 : Shape := ⟨2, ![1, 64]⟩
abbrev S1x128 : Shape := ⟨2, ![1, 128]⟩
abbrev S1x8x1024x3584 : Shape := ⟨4, ![1, 8, 1024, 3584]⟩
abbrev S1x8x3584x1024 : Shape := ⟨4, ![1, 8, 3584, 1024]⟩
abbrev S64 : Shape := ⟨1, ![64]⟩
abbrev S4x64 : Shape := ⟨2, ![4, 64]⟩
abbrev S128 : Shape := ⟨1, ![128]⟩
abbrev S16384x1024 : Shape := ⟨2, ![16384, 1024]⟩
abbrev S4x2048x128 : Shape := ⟨3, ![4, 2048, 128]⟩
abbrev S8x1024x3584 : Shape := ⟨3, ![8, 1024, 3584]⟩
abbrev S8x3584x1024 : Shape := ⟨3, ![8, 3584, 1024]⟩
abbrev S1024x128 : Shape := ⟨2, ![1024, 128]⟩
abbrev S4096x128 : Shape := ⟨2, ![4096, 128]⟩
abbrev S1x2048x128 : Shape := ⟨3, ![1, 2048, 128]⟩
abbrev S1x1024x896 : Shape := ⟨3, ![1, 1024, 896]⟩
abbrev S1x896x1024 : Shape := ⟨3, ![1, 896, 1024]⟩
abbrev S1024x896 : Shape := ⟨2, ![1024, 896]⟩
abbrev S896x1024 : Shape := ⟨2, ![896, 1024]⟩
abbrev S1x256x128 : Shape := ⟨3, ![1, 256, 128]⟩
abbrev S256x128 : Shape := ⟨2, ![256, 128]⟩
abbrev S2048x128 : Shape := ⟨2, ![2048, 128]⟩
abbrev S1024x256 : Shape := ⟨2, ![1024, 256]⟩
abbrev S1024 : Shape := ⟨1, ![1024]⟩
abbrev S1024x1 : Shape := ⟨2, ![1024, 1]⟩
abbrev S1024x2048 : Shape := ⟨2, ![1024, 2048]⟩
abbrev S1 : Shape := ⟨1, ![1]⟩
abbrev S1x1 : Shape := ⟨2, ![1, 1]⟩

abbrev nBuf : Space → Nat
  | .hbm => 38
  | .vmem => 26
  | .smem => 0
  | _ => 0

abbrev bufTy : (tb : Table) → Fin (tcTables nBuf tb) → BufTy
  | .hbm, ⟨0, _⟩ => ⟨S4x4096x8x2x64, .f32⟩
  | .hbm, ⟨1, _⟩ => ⟨S4x4096x8x2x64, .f32⟩
  | .hbm, ⟨2, _⟩ => ⟨S4x4096x8x128, .f32⟩
  | .hbm, ⟨3, _⟩ => ⟨S4x1x256x8x128, .f32⟩
  | .hbm, ⟨4, _⟩ => ⟨S4x1x256x8x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S1x8x1024x3584, .f32⟩
  | .hbm, ⟨11, _⟩ => ⟨S1x8x1024x3584, .f32⟩
  | .hbm, ⟨12, _⟩ => ⟨S1x8x3584x1024, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S4x64, .f32⟩
  | .hbm, ⟨22, _⟩ => ⟨S128, .f32⟩
  | .hbm, ⟨23, _⟩ => ⟨S1x128, .f32⟩
  | .hbm, ⟨24, _⟩ => ⟨S16384x1024, .f32⟩
  | .hbm, ⟨25, _⟩ => ⟨S16384x1024, .f32⟩
  | .hbm, ⟨26, _⟩ => ⟨S16384x1024, .bf16⟩
  | .hbm, ⟨27, _⟩ => ⟨S16384x1024, .f32⟩
  | .hbm, ⟨28, _⟩ => ⟨S16384x1024, .bf16⟩
  | .hbm, ⟨29, _⟩ => ⟨S4x2048x128, .f32⟩
  | .hbm, ⟨30, _⟩ => ⟨S4x2048x128, .f32⟩
  | .hbm, ⟨31, _⟩ => ⟨S8x1024x3584, .f32⟩
  | .hbm, ⟨32, _⟩ => ⟨S8x1024x3584, .f32⟩
  | .hbm, ⟨33, _⟩ => ⟨S8x3584x1024, .f32⟩
  | .hbm, ⟨34, _⟩ => ⟨S16384x1024, .bf16⟩
  | .hbm, ⟨35, _⟩ => ⟨S8x1024x3584, .bf16⟩
  | .hbm, ⟨36, _⟩ => ⟨S8x1024x3584, .bf16⟩
  | .hbm, ⟨37, _⟩ => ⟨S8x3584x1024, .bf16⟩
  | .local _ .vmem, ⟨0, _⟩ => ⟨S1024x128, .f32⟩
  | .local _ .vmem, ⟨1, _⟩ => ⟨S1024x128, .f32⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S4x64, .f32⟩
  | .local _ .vmem, ⟨11, _⟩ => ⟨S1x128, .f32⟩
  | .local _ .vmem, ⟨12, _⟩ => ⟨S1x1024x896, .f32⟩
  | .local _ .vmem, ⟨13, _⟩ => ⟨S1x1024x896, .f32⟩
  | .local _ .vmem, ⟨14, _⟩ => ⟨S1x1024x896, .f32⟩
  | .local _ .vmem, ⟨15, _⟩ => ⟨S1x1024x896, .f32⟩
  | .local _ .vmem, ⟨16, _⟩ => ⟨S1x896x1024, .f32⟩
  | .local _ .vmem, ⟨17, _⟩ => ⟨S1x896x1024, .f32⟩
  | .local _ .vmem, ⟨18, _⟩ => ⟨S1024x128, .bf16⟩
  | .local _ .vmem, ⟨19, _⟩ => ⟨S1024x128, .bf16⟩
  | .local _ .vmem, ⟨20, _⟩ => ⟨S1x1024x896, .bf16⟩
  | .local _ .vmem, ⟨21, _⟩ => ⟨S1x1024x896, .bf16⟩
  | .local _ .vmem, ⟨22, _⟩ => ⟨S1x1024x896, .bf16⟩
  | .local _ .vmem, ⟨23, _⟩ => ⟨S1x1024x896, .bf16⟩
  | .local _ .vmem, ⟨24, _⟩ => ⟨S1x896x1024, .bf16⟩
  | .local _ .vmem, ⟨25, _⟩ => ⟨S1x896x1024, .bf16⟩
  | _, _ => ⟨S4x4096x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v21_2 : Ref sig .tc := ⟨.hbm, 36, rfl⟩
abbrev main_v21_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨3, ![4, 8, 4], ![false, false, false]⟩

def k0_off1 (i : grid0.Coords) : Fin 3 → Nat :=
  let c0_11 : Index := 0#32
  let arg1 : BitVec 32 := BitVec.ofNat 32 (i 1).val
  let v33 : Index := Scalar.indexCast arg1
  let c0_12 : Index := 0#32
  ![0, v33.toNat, 0]
def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c4_i32 : BitVec 32 := 4#32
  let v2 : BitVec 32 := Scalar.muli v1 c4_i32
  let arg2 : BitVec 32 := BitVec.ofNat 32 (i 2).val
  let v3 : BitVec 32 := Scalar.addi v2 arg2
  let c0_i32 : BitVec 32 := 0#32
  let v4 : BitVec 1 := Scalar.cmpi .sge v3 c0_i32
  let c32_i32 : BitVec 32 := 32#32
  let v5 : BitVec 1 := Scalar.cmpi .slt v3 c32_i32
  let v6 : BitVec 1 := Scalar.andi v4 v5
  let v7 : BitVec 32 := Scalar.extui v6
  let c0_i32_0 : BitVec 32 := 0#32
  let v8 : BitVec 1 := Scalar.cmpi .ne v7 c0_i32_0
  v8

def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c4_i32 : BitVec 32 := 4#32
  let v2 : BitVec 32 := Scalar.muli v1 c4_i32
  let arg2 : BitVec 32 := BitVec.ofNat 32 (i 2).val
  let v3 : BitVec 32 := Scalar.addi v2 arg2
  let c32_i32_1 : BitVec 32 := 32#32
  let v9 : BitVec 1 := Scalar.cmpi .sge v3 c32_i32_1
  let c64_i32 : BitVec 32 := 64#32
  let v10 : BitVec 1 := Scalar.cmpi .slt v3 c64_i32
  let v11 : BitVec 1 := Scalar.andi v9 v10
  let v12 : BitVec 32 := Scalar.extui v11
  let c0_i32_2 : BitVec 32 := 0#32
  let v13 : BitVec 1 := Scalar.cmpi .ne v12 c0_i32_2
  v13

def k0_cond3 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c4_i32 : BitVec 32 := 4#32
  let v2 : BitVec 32 := Scalar.muli v1 c4_i32
  let arg2 : BitVec 32 := BitVec.ofNat 32 (i 2).val
  let v3 : BitVec 32 := Scalar.addi v2 arg2
  let c64_i32_3 : BitVec 32 := 64#32
  let v14 : BitVec 1 := Scalar.cmpi .sge v3 c64_i32_3
  let c96_i32 : BitVec 32 := 96#32
  let v15 : BitVec 1 := Scalar.cmpi .slt v3 c96_i32
  let v16 : BitVec 1 := Scalar.andi v14 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let v4 : BitVec 32 := Scalar.subi v3 c0_i32
  let c0_i32_0 : BitVec 32 := 0#32
  let c31_i32 : BitVec 32 := 31#32
  let v5 : BitVec 32 := Scalar.maxsi c0_i32_0 v4
  let v6 : BitVec 32 := Scalar.minsi c31_i32 v5
  let c4_i32_1 : BitVec 32 := 4#32
  let v7 : BitVec 32 := Scalar.divsi v6 c4_i32_1
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c4_i32_1 c0_i32_4
  let v14 : BitVec 32 := Scalar.extui v13
  let c0_i32_5 : BitVec 32 := 0#32
  let v15 : BitVec 1 := Scalar.cmpi .slt c4_i32_1 c0_i32_5
  let v16 : BitVec 32 := Scalar.extui v15
  let v17 : BitVec 32 := Scalar.subi v14 v16
  let v18 : BitVec 1 := Scalar.cmpi .ne v12 v17
  let v19 : BitVec 32 := Scalar.remsi v6 c4_i32_1
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_10 : BitVec 32 := 0#32
  let v27 : BitVec 1 := Scalar.cmpi .ne v26 c0_i32_10
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let v31 : BitVec 1 := Scalar.andi v30 v27
  let v32 : BitVec 32 := Scalar.addi v26 v25
  let v33 : BitVec 32 := Scalar.select v31 v32 v26
  let c8_i32_13 : BitVec 32 := 8#32
  let v34 : BitVec 32 := Scalar.muli arg0 c8_i32_13
  let v35 : BitVec 32 := Scalar.addi v34 arg1
  let c4_i32_14 : BitVec 32 := 4#32
  let v36 : BitVec 32 := Scalar.muli v35 c4_i32_14
  let v37 : BitVec 32 := Scalar.addi v36 arg2
  let c0_i32_15 : BitVec 32 := 0#32
  let v38 : BitVec 32 := Scalar.subi v37 c0_i32_15
  let c0_i32_16 : BitVec 32 := 0#32
  let c31_i32_17 : BitVec 32 := 31#32
  let v39 : BitVec 32 := Scalar.maxsi c0_i32_16 v38
  let v40 : BitVec 32 := Scalar.minsi c31_i32_17 v39
  let c4_i32_18 : BitVec 32 := 4#32
  let v41 : BitVec 32 := Scalar.divsi v40 c4_i32_18
  let c0_i32_19 : BitVec 32 := 0#32
  let v42 : BitVec 1 := Scalar.cmpi .sgt v40 c0_i32_19
  let v43 : BitVec 32 := Scalar.extui v42
  let c0_i32_20 : BitVec 32 := 0#32
  let v44 : BitVec 1 := Scalar.cmpi .slt v40 c0_i32_20
  let v45 : BitVec 32 := Scalar.extui v44
  let v46 : BitVec 32 := Scalar.subi v43 v45
  let c0_i32_21 : BitVec 32 := 0#32
  let v47 : BitVec 1 := Scalar.cmpi .sgt c4_i32_18 c0_i32_21
  let v48 : BitVec 32 := Scalar.extui v47
  let c0_i32_22 : BitVec 32 := 0#32
  let v49 : BitVec 1 := Scalar.cmpi .slt c4_i32_18 c0_i32_22
  let v50 : BitVec 32 := Scalar.extui v49
  let v51 : BitVec 32 := Scalar.subi v48 v50
  let v52 : BitVec 1 := Scalar.cmpi .ne v46 v51
  let v53 : BitVec 32 := Scalar.remsi v40 c4_i32_18
  let c0_i32_23 : BitVec 32 := 0#32
  let v54 : BitVec 1 := Scalar.cmpi .ne v53 c0_i32_23
  let v55 : BitVec 1 := Scalar.andi v52 v54
  let c1_i32_24 : BitVec 32 := 1#32
  let v56 : BitVec 32 := Scalar.subi v41 c1_i32_24
  let v57 : BitVec 32 := Scalar.select v55 v56 v41
  let c4_i32_25 : BitVec 32 := 4#32
  let c0_i32_26 : BitVec 32 := 0#32
  let v58 : BitVec 1 := Scalar.cmpi .eq c4_i32_25 c0_i32_26
  let c1_i32_27 : BitVec 32 := 1#32
  let v59 : BitVec 32 := Scalar.select v58 c1_i32_27 c4_i32_25
  let v60 : BitVec 32 := Scalar.remsi v40 v59
  let c0_i32_28 : BitVec 32 := 0#32
  let v61 : BitVec 1 := Scalar.cmpi .ne v60 c0_i32_28
  let c0_i32_29 : BitVec 32 := 0#32
  let v62 : BitVec 1 := Scalar.cmpi .slt v60 c0_i32_29
  let c0_i32_30 : BitVec 32 := 0#32
  let v63 : BitVec 1 := Scalar.cmpi .slt v59 c0_i32_30
  let v64 : BitVec 1 := Scalar.xori v62 v63
  let v65 : BitVec 1 := Scalar.andi v64 v61
  let v66 : BitVec 32 := Scalar.addi v60 v59
  let v67 : BitVec 32 := Scalar.select v65 v66 v60
  let c0_i32_31 : BitVec 32 := 0#32
  let c0_i32_32 : BitVec 32 := 0#32
  ![v23.toNat, c0_i32_31.toNat, v67.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c32_i32 : BitVec 32 := 32#32
  let v4 : BitVec 32 := Scalar.subi v3 c32_i32
  let c0_i32 : BitVec 32 := 0#32
  let c31_i32 : BitVec 32 := 31#32
  let v5 : BitVec 32 := Scalar.maxsi c0_i32 v4
  let v6 : BitVec 32 := Scalar.minsi c31_i32 v5
  let c4_i32_0 : BitVec 32 := 4#32
  let v7 : BitVec 32 := Scalar.divsi v6 c4_i32_0
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c0_i32_3 : BitVec 32 := 0#32
  let v13 : BitVec 1 := Scalar.cmpi .sgt c4_i32_0 c0_i32_3
  let v14 : BitVec 32 := Scalar.extui v13
  let c0_i32_4 : BitVec 32 := 0#32
  let v15 : BitVec 1 := Scalar.cmpi .slt c4_i32_0 c0_i32_4
  let v16 : BitVec 32 := Scalar.extui v15
  let v17 : BitVec 32 := Scalar.subi v14 v16
  let v18 : BitVec 1 := Scalar.cmpi .ne v12 v17
  let v19 : BitVec 32 := Scalar.remsi v6 c4_i32_0
  let c0_i32_5 : BitVec 32 := 0#32
  let v20 : BitVec 1 := Scalar.cmpi .ne v19 c0_i32_5
  let v21 : BitVec 1 := Scalar.andi v18 v20
  let c1_i32 : BitVec 32 := 1#32
  let v22 : BitVec 32 := Scalar.subi v7 c1_i32
  let v23 : BitVec 32 := Scalar.select v21 v22 v7
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v6 v25
  let c0_i32_9 : BitVec 32 := 0#32
  let v27 : BitVec 1 := Scalar.cmpi .ne v26 c0_i32_9
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let v31 : BitVec 1 := Scalar.andi v30 v27
  let v32 : BitVec 32 := Scalar.addi v26 v25
  let v33 : BitVec 32 := Scalar.select v31 v32 v26
  let c8_i32_12 : BitVec 32 := 8#32
  let v34 : BitVec 32 := Scalar.muli arg0 c8_i32_12
  let v35 : BitVec 32 := Scalar.addi v34 arg1
  let c4_i32_13 : BitVec 32 := 4#32
  let v36 : BitVec 32 := Scalar.muli v35 c4_i32_13
  let v37 : BitVec 32 := Scalar.addi v36 arg2
  let c32_i32_14 : BitVec 32 := 32#32
  let v38 : BitVec 32 := Scalar.subi v37 c32_i32_14
  let c0_i32_15 : BitVec 32 := 0#32
  let c31_i32_16 : BitVec 32 := 31#32
  let v39 : BitVec 32 := Scalar.maxsi c0_i32_15 v38
  let v40 : BitVec 32 := Scalar.minsi c31_i32_16 v39
  let c4_i32_17 : BitVec 32 := 4#32
  let v41 : BitVec 32 := Scalar.divsi v40 c4_i32_17
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c0_i32_20 : BitVec 32 := 0#32
  let v47 : BitVec 1 := Scalar.cmpi .sgt c4_i32_17 c0_i32_20
  let v48 : BitVec 32 := Scalar.extui v47
  let c0_i32_21 : BitVec 32 := 0#32
  let v49 : BitVec 1 := Scalar.cmpi .slt c4_i32_17 c0_i32_21
  let v50 : BitVec 32 := Scalar.extui v49
  let v51 : BitVec 32 := Scalar.subi v48 v50
  let v52 : BitVec 1 := Scalar.cmpi .ne v46 v51
  let v53 : BitVec 32 := Scalar.remsi v40 c4_i32_17
  let c0_i32_22 : BitVec 32 := 0#32
  let v54 : BitVec 1 := Scalar.cmpi .ne v53 c0_i32_22
  let v55 : BitVec 1 := Scalar.andi v52 v54
  let c1_i32_23 : BitVec 32 := 1#32
  let v56 : BitVec 32 := Scalar.subi v41 c1_i32_23
  let v57 : BitVec 32 := Scalar.select v55 v56 v41
  let c4_i32_24 : BitVec 32 := 4#32
  let c0_i32_25 : BitVec 32 := 0#32
  let v58 : BitVec 1 := Scalar.cmpi .eq c4_i32_24 c0_i32_25
  let c1_i32_26 : BitVec 32 := 1#32
  let v59 : BitVec 32 := Scalar.select v58 c1_i32_26 c4_i32_24
  let v60 : BitVec 32 := Scalar.remsi v40 v59
  let c0_i32_27 : BitVec 32 := 0#32
  let v61 : BitVec 1 := Scalar.cmpi .ne v60 c0_i32_27
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let v65 : BitVec 1 := Scalar.andi v64 v61
  let v66 : BitVec 32 := Scalar.addi v60 v59
  let v67 : BitVec 32 := Scalar.select v65 v66 v60
  let c0_i32_30 : BitVec 32 := 0#32
  let c0_i32_31 : BitVec 32 := 0#32
  ![v23.toNat, c0_i32_30.toNat, v67.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c64_i32 : BitVec 32 := 64#32
  let v4 : BitVec 32 := Scalar.subi v3 c64_i32
  let c0_i32 : BitVec 32 := 0#32
  let c31_i32 : BitVec 32 := 31#32
  let v5 : BitVec 32 := Scalar.maxsi c0_i32 v4
  let v6 : BitVec 32 := Scalar.minsi c31_i32 v5
  let c4_i32_0 : BitVec 32 := 4#32
  let v7 : BitVec 32 := Scalar.divsi v6 c4_i32_0
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c0_i32_3 : BitVec 32 := 0#32
  let v13 : BitVec 1 := Scalar.cmpi .sgt c4_i32_0 c0_i32_3
  let v14 : BitVec 32 := Scalar.extui v13
  let c0_i32_4 : BitVec 32 := 0#32
  let v15 : BitVec 1 := Scalar.cmpi .slt c4_i32_0 c0_i32_4
  let v16 : BitVec 32 := Scalar.extui v15
  let v17 : BitVec 32 := Scalar.subi v14 v16
  let v18 : BitVec 1 := Scalar.cmpi .ne v12 v17
  let v19 : BitVec 32 := Scalar.remsi v6 c4_i32_0
  let c0_i32_5 : BitVec 32 := 0#32
  let v20 : BitVec 1 := Scalar.cmpi .ne v19 c0_i32_5
  let v21 : BitVec 1 := Scalar.andi v18 v20
  let c1_i32 : BitVec 32 := 1#32
  let v22 : BitVec 32 := Scalar.subi v7 c1_i32
  let v23 : BitVec 32 := Scalar.select v21 v22 v7
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v6 v25
  let c0_i32_9 : BitVec 32 := 0#32
  let v27 : BitVec 1 := Scalar.cmpi .ne v26 c0_i32_9
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let v31 : BitVec 1 := Scalar.andi v30 v27
  let v32 : BitVec 32 := Scalar.addi v26 v25
  let v33 : BitVec 32 := Scalar.select v31 v32 v26
  let c0_i32_12 : BitVec 32 := 0#32
  let c0_i32_13 : BitVec 32 := 0#32
  ![v23.toNat, v33.toNat, c0_i32_12.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let v4 : BitVec 32 := Scalar.subi v3 c0_i32
  let c0_i32_0 : BitVec 32 := 0#32
  let c31_i32 : BitVec 32 := 31#32
  let v5 : BitVec 32 := Scalar.maxsi c0_i32_0 v4
  let v6 : BitVec 32 := Scalar.minsi c31_i32 v5
  let c4_i32_1 : BitVec 32 := 4#32
  let v7 : BitVec 32 := Scalar.divsi v6 c4_i32_1
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c4_i32_1 c0_i32_4
  let v14 : BitVec 32 := Scalar.extui v13
  let c0_i32_5 : BitVec 32 := 0#32
  let v15 : BitVec 1 := Scalar.cmpi .slt c4_i32_1 c0_i32_5
  let v16 : BitVec 32 := Scalar.extui v15
  let v17 : BitVec 32 := Scalar.subi v14 v16
  let v18 : BitVec 1 := Scalar.cmpi .ne v12 v17
  let v19 : BitVec 32 := Scalar.remsi v6 c4_i32_1
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_10 : BitVec 32 := 0#32
  let v27 : BitVec 1 := Scalar.cmpi .ne v26 c0_i32_10
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let v31 : BitVec 1 := Scalar.andi v30 v27
  let v32 : BitVec 32 := Scalar.addi v26 v25
  let v33 : BitVec 32 := Scalar.select v31 v32 v26
  let c8_i32_13 : BitVec 32 := 8#32
  let v34 : BitVec 32 := Scalar.muli arg0 c8_i32_13
  let v35 : BitVec 32 := Scalar.addi v34 arg1
  let c4_i32_14 : BitVec 32 := 4#32
  let v36 : BitVec 32 := Scalar.muli v35 c4_i32_14
  let v37 : BitVec 32 := Scalar.addi v36 arg2
  let c0_i32_15 : BitVec 32 := 0#32
  let v38 : BitVec 32 := Scalar.subi v37 c0_i32_15
  let c0_i32_16 : BitVec 32 := 0#32
  let c31_i32_17 : BitVec 32 := 31#32
  let v39 : BitVec 32 := Scalar.maxsi c0_i32_16 v38
  let v40 : BitVec 32 := Scalar.minsi c31_i32_17 v39
  let c4_i32_18 : BitVec 32 := 4#32
  let v41 : BitVec 32 := Scalar.divsi v40 c4_i32_18
  let c0_i32_19 : BitVec 32 := 0#32
  let v42 : BitVec 1 := Scalar.cmpi .sgt v40 c0_i32_19
  let v43 : BitVec 32 := Scalar.extui v42
  let c0_i32_20 : BitVec 32 := 0#32
  let v44 : BitVec 1 := Scalar.cmpi .slt v40 c0_i32_20
  let v45 : BitVec 32 := Scalar.extui v44
  let v46 : BitVec 32 := Scalar.subi v43 v45
  let c0_i32_21 : BitVec 32 := 0#32
  let v47 : BitVec 1 := Scalar.cmpi .sgt c4_i32_18 c0_i32_21
  let v48 : BitVec 32 := Scalar.extui v47
  let c0_i32_22 : BitVec 32 := 0#32
  let v49 : BitVec 1 := Scalar.cmpi .slt c4_i32_18 c0_i32_22
  let v50 : BitVec 32 := Scalar.extui v49
  let v51 : BitVec 32 := Scalar.subi v48 v50
  let v52 : BitVec 1 := Scalar.cmpi .ne v46 v51
  let v53 : BitVec 32 := Scalar.remsi v40 c4_i32_18
  let c0_i32_23 : BitVec 32 := 0#32
  let v54 : BitVec 1 := Scalar.cmpi .ne v53 c0_i32_23
  let v55 : BitVec 1 := Scalar.andi v52 v54
  let c1_i32_24 : BitVec 32 := 1#32
  let v56 : BitVec 32 := Scalar.subi v41 c1_i32_24
  let v57 : BitVec 32 := Scalar.select v55 v56 v41
  let c4_i32_25 : BitVec 32 := 4#32
  let c0_i32_26 : BitVec 32 := 0#32
  let v58 : BitVec 1 := Scalar.cmpi .eq c4_i32_25 c0_i32_26
  let c1_i32_27 : BitVec 32 := 1#32
  let v59 : BitVec 32 := Scalar.select v58 c1_i32_27 c4_i32_25
  let v60 : BitVec 32 := Scalar.remsi v40 v59
  let c0_i32_28 : BitVec 32 := 0#32
  let v61 : BitVec 1 := Scalar.cmpi .ne v60 c0_i32_28
  let c0_i32_29 : BitVec 32 := 0#32
  let v62 : BitVec 1 := Scalar.cmpi .slt v60 c0_i32_29
  let c0_i32_30 : BitVec 32 := 0#32
  let v63 : BitVec 1 := Scalar.cmpi .slt v59 c0_i32_30
  let v64 : BitVec 1 := Scalar.xori v62 v63
  let v65 : BitVec 1 := Scalar.andi v64 v61
  let v66 : BitVec 32 := Scalar.addi v60 v59
  let v67 : BitVec 32 := Scalar.select v65 v66 v60
  let c0_i32_31 : BitVec 32 := 0#32
  let c0_i32_32 : BitVec 32 := 0#32
  ![v23.toNat, c0_i32_31.toNat, v67.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c32_i32 : BitVec 32 := 32#32
  let v4 : BitVec 32 := Scalar.subi v3 c32_i32
  let c0_i32 : BitVec 32 := 0#32
  let c31_i32 : BitVec 32 := 31#32
  let v5 : BitVec 32 := Scalar.maxsi c0_i32 v4
  let v6 : BitVec 32 := Scalar.minsi c31_i32 v5
  let c4_i32_0 : BitVec 32 := 4#32
  let v7 : BitVec 32 := Scalar.divsi v6 c4_i32_0
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c0_i32_3 : BitVec 32 := 0#32
  let v13 : BitVec 1 := Scalar.cmpi .sgt c4_i32_0 c0_i32_3
  let v14 : BitVec 32 := Scalar.extui v13
  let c0_i32_4 : BitVec 32 := 0#32
  let v15 : BitVec 1 := Scalar.cmpi .slt c4_i32_0 c0_i32_4
  let v16 : BitVec 32 := Scalar.extui v15
  let v17 : BitVec 32 := Scalar.subi v14 v16
  let v18 : BitVec 1 := Scalar.cmpi .ne v12 v17
  let v19 : BitVec 32 := Scalar.remsi v6 c4_i32_0
  let c0_i32_5 : BitVec 32 := 0#32
  let v20 : BitVec 1 := Scalar.cmpi .ne v19 c0_i32_5
  let v21 : BitVec 1 := Scalar.andi v18 v20
  let c1_i32 : BitVec 32 := 1#32
  let v22 : BitVec 32 := Scalar.subi v7 c1_i32
  let v23 : BitVec 32 := Scalar.select v21 v22 v7
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v6 v25
  let c0_i32_9 : BitVec 32 := 0#32
  let v27 : BitVec 1 := Scalar.cmpi .ne v26 c0_i32_9
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let v31 : BitVec 1 := Scalar.andi v30 v27
  let v32 : BitVec 32 := Scalar.addi v26 v25
  let v33 : BitVec 32 := Scalar.select v31 v32 v26
  let c8_i32_12 : BitVec 32 := 8#32
  let v34 : BitVec 32 := Scalar.muli arg0 c8_i32_12
  let v35 : BitVec 32 := Scalar.addi v34 arg1
  let c4_i32_13 : BitVec 32 := 4#32
  let v36 : BitVec 32 := Scalar.muli v35 c4_i32_13
  let v37 : BitVec 32 := Scalar.addi v36 arg2
  let c32_i32_14 : BitVec 32 := 32#32
  let v38 : BitVec 32 := Scalar.subi v37 c32_i32_14
  let c0_i32_15 : BitVec 32 := 0#32
  let c31_i32_16 : BitVec 32 := 31#32
  let v39 : BitVec 32 := Scalar.maxsi c0_i32_15 v38
  let v40 : BitVec 32 := Scalar.minsi c31_i32_16 v39
  let c4_i32_17 : BitVec 32 := 4#32
  let v41 : BitVec 32 := Scalar.divsi v40 c4_i32_17
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c0_i32_20 : BitVec 32 := 0#32
  let v47 : BitVec 1 := Scalar.cmpi .sgt c4_i32_17 c0_i32_20
  let v48 : BitVec 32 := Scalar.extui v47
  let c0_i32_21 : BitVec 32 := 0#32
  let v49 : BitVec 1 := Scalar.cmpi .slt c4_i32_17 c0_i32_21
  let v50 : BitVec 32 := Scalar.extui v49
  let v51 : BitVec 32 := Scalar.subi v48 v50
  let v52 : BitVec 1 := Scalar.cmpi .ne v46 v51
  let v53 : BitVec 32 := Scalar.remsi v40 c4_i32_17
  let c0_i32_22 : BitVec 32 := 0#32
  let v54 : BitVec 1 := Scalar.cmpi .ne v53 c0_i32_22
  let v55 : BitVec 1 := Scalar.andi v52 v54
  let c1_i32_23 : BitVec 32 := 1#32
  let v56 : BitVec 32 := Scalar.subi v41 c1_i32_23
  let v57 : BitVec 32 := Scalar.select v55 v56 v41
  let c4_i32_24 : BitVec 32 := 4#32
  let c0_i32_25 : BitVec 32 := 0#32
  let v58 : BitVec 1 := Scalar.cmpi .eq c4_i32_24 c0_i32_25
  let c1_i32_26 : BitVec 32 := 1#32
  let v59 : BitVec 32 := Scalar.select v58 c1_i32_26 c4_i32_24
  let v60 : BitVec 32 := Scalar.remsi v40 v59
  let c0_i32_27 : BitVec 32 := 0#32
  let v61 : BitVec 1 := Scalar.cmpi .ne v60 c0_i32_27
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let v65 : BitVec 1 := Scalar.andi v64 v61
  let v66 : BitVec 32 := Scalar.addi v60 v59
  let v67 : BitVec 32 := Scalar.select v65 v66 v60
  let c0_i32_30 : BitVec 32 := 0#32
  let c0_i32_31 : BitVec 32 := 0#32
  ![v23.toNat, c0_i32_30.toNat, v67.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c64_i32 : BitVec 32 := 64#32
  let v4 : BitVec 32 := Scalar.subi v3 c64_i32
  let c0_i32 : BitVec 32 := 0#32
  let c31_i32 : BitVec 32 := 31#32
  let v5 : BitVec 32 := Scalar.maxsi c0_i32 v4
  let v6 : BitVec 32 := Scalar.minsi c31_i32 v5
  let c4_i32_0 : BitVec 32 := 4#32
  let v7 : BitVec 32 := Scalar.divsi v6 c4_i32_0
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c0_i32_3 : BitVec 32 := 0#32
  let v13 : BitVec 1 := Scalar.cmpi .sgt c4_i32_0 c0_i32_3
  let v14 : BitVec 32 := Scalar.extui v13
  let c0_i32_4 : BitVec 32 := 0#32
  let v15 : BitVec 1 := Scalar.cmpi .slt c4_i32_0 c0_i32_4
  let v16 : BitVec 32 := Scalar.extui v15
  let v17 : BitVec 32 := Scalar.subi v14 v16
  let v18 : BitVec 1 := Scalar.cmpi .ne v12 v17
  let v19 : BitVec 32 := Scalar.remsi v6 c4_i32_0
  let c0_i32_5 : BitVec 32 := 0#32
  let v20 : BitVec 1 := Scalar.cmpi .ne v19 c0_i32_5
  let v21 : BitVec 1 := Scalar.andi v18 v20
  let c1_i32 : BitVec 32 := 1#32
  let v22 : BitVec 32 := Scalar.subi v7 c1_i32
  let v23 : BitVec 32 := Scalar.select v21 v22 v7
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v6 v25
  let c0_i32_9 : BitVec 32 := 0#32
  let v27 : BitVec 1 := Scalar.cmpi .ne v26 c0_i32_9
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let v31 : BitVec 1 := Scalar.andi v30 v27
  let v32 : BitVec 32 := Scalar.addi v26 v25
  let v33 : BitVec 32 := Scalar.select v31 v32 v26
  let c0_i32_12 : BitVec 32 := 0#32
  let c0_i32_13 : BitVec 32 := 0#32
  ![v23.toNat, v33.toNat, c0_i32_12.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x896x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1024x896 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1024x896 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x896x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== KernelIdeal.lean ====
variable {F : FTy → Type} [FloatOps F] [Named F]
def κ : String → Option EReal := fun
  | "qs" => some (((Real.sqrt 64)⁻¹ * (Real.log 2)⁻¹ : ℝ) : EReal)
  | _ => none
-- ==== ReferenceIdeal.lean ====
abbrev S4x4096x8x2x64 : Shape := ⟨5, ![4, 4096, 8, 2, 64]⟩
abbrev S4x4096x8x128 : Shape := ⟨4, ![4, 4096, 8, 128]⟩
abbrev S4x1x256x8x128 : Shape := ⟨5, ![4, 1, 256, 8, 128]⟩
abbrev S1x64 : Shape := ⟨2, ![1, 64]⟩
abbrev S1x128 : Shape := ⟨2, ![1, 128]⟩
abbrev S1x8x1024x3584 : Shape := ⟨4, ![1, 8, 1024, 3584]⟩
abbrev S1x8x3584x1024 : Shape := ⟨4, ![1, 8, 3584, 1024]⟩
abbrev S64 : Shape := ⟨1, ![64]⟩
abbrev S_ : Shape := ⟨0, ![]⟩
abbrev S4x256x8x128 : Shape := ⟨4, ![4, 256, 8, 128]⟩
abbrev S4x256x8x2x64 : Shape := ⟨5, ![4, 256, 8, 2, 64]⟩
abbrev S4x4352x8x2x64 : Shape := ⟨5, ![4, 4352, 8, 2, 64]⟩
abbrev S4x4352x8x128 : Shape := ⟨4, ![4, 4352, 8, 128]⟩
abbrev S4x8x2x4096x4352 : Shape := ⟨5, ![4, 8, 2, 4096, 4352]⟩
abbrev S4x8x2x4096 : Shape := ⟨4, ![4, 8, 2, 4096]⟩
abbrev S4x8x2x4096x1 : Shape := ⟨5, ![4, 8, 2, 4096, 1]⟩
abbrev S4x8x1x4096x4352 : Shape := ⟨5, ![4, 8, 1, 4096, 4352]⟩
abbrev S4x8x4096x4352 : Shape := ⟨4, ![4, 8, 4096, 4352]⟩
abbrev S4x8x128x4096 : Shape := ⟨4, ![4, 8, 128, 4096]⟩
abbrev S4x4096x8 : Shape := ⟨3, ![4, 4096, 8]⟩
abbrev S4x4096x8x1 : Shape := ⟨4, ![4, 4096, 8, 1]⟩
abbrev S128 : Shape := ⟨1, ![128]⟩
abbrev S1x1x1x128 : Shape := ⟨4, ![1, 1, 1, 128]⟩
abbrev S16384x1024 : Shape := ⟨2, ![16384, 1024]⟩
abbrev S8x1024x3584 : Shape := ⟨3, ![8, 1024, 3584]⟩
abbrev S8x3584x1024 : Shape := ⟨3, ![8, 3584, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4x4096x8x2x64, .f32⟩
  | .hbm, ⟨1, _⟩ => ⟨S4x4096x8x2x64, .f32⟩
  | .hbm, ⟨2, _⟩ => ⟨S4x4096x8x128, .f32⟩
  | .hbm, ⟨3, _⟩ => ⟨S4x1x256x8x128, .f32⟩
  | .hbm, ⟨4, _⟩ => ⟨S4x1x256x8x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S1x8x1024x3584, .f32⟩
  | .hbm, ⟨11, _⟩ => ⟨S1x8x1024x3584, .f32⟩
  | .hbm, ⟨12, _⟩ => ⟨S1x8x3584x1024, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x256x8x128, .f32⟩
  | .hbm, ⟨29, _⟩ => ⟨S4x256x8x2x64, .f32⟩
  | .hbm, ⟨30, _⟩ => ⟨S4x4352x8x2x64, .f32⟩
  | .hbm, ⟨31, _⟩ => ⟨S4x256x8x128, .f32⟩
  | .hbm, ⟨32, _⟩ => ⟨S4x4352x8x128, .f32⟩
  | .hbm, ⟨33, _⟩ => ⟨S4x8x2x4096x4352, .f32⟩
  | .hbm, ⟨34, _⟩ => ⟨S_, .f32⟩
  | .hbm, ⟨35, _⟩ => ⟨S4x8x2x4096x4352, .f32⟩
  | .hbm, ⟨36, _⟩ => ⟨S4x8x2x4096x4352, .f32⟩
  | .hbm, ⟨37, _⟩ => ⟨S_, .f32⟩
  | .hbm, ⟨38, _⟩ => ⟨S4x8x2x4096, .f32⟩
  | .hbm, ⟨39, _⟩ => ⟨S_, .f32⟩
  | .hbm, ⟨40, _⟩ => ⟨S4x8x2x4096, .f32⟩
  | .hbm, ⟨41, _⟩ => ⟨S4x8x2x4096, .f32⟩
  | .hbm, ⟨42, _⟩ => ⟨S4x8x2x4096x1, .f32⟩
  | .hbm, ⟨43, _⟩ => ⟨S4x8x2x4096x4352, .f32⟩
  | .hbm, ⟨44, _⟩ => ⟨S4x8x2x4096x4352, .f32⟩
  | .hbm, ⟨45, _⟩ => ⟨S4x8x2x4096x4352, .f32⟩
  | .hbm, ⟨46, _⟩ => ⟨S_, .f32⟩
  | .hbm, ⟨47, _⟩ => ⟨S4x8x2x4096, .f32⟩
  | .hbm, ⟨48, _⟩ => ⟨S4x8x2x4096x1, .f32⟩
  | .hbm, ⟨49, _⟩ => ⟨S4x8x2x4096x4352, .f32⟩
  | .hbm, ⟨50, _⟩ => ⟨S4x8x2x4096x4352, .f32⟩
  | .hbm, ⟨51, _⟩ => ⟨S4x8x1x4096x4352, .f32⟩
  | .hbm, ⟨52, _⟩ => ⟨S4x8x4096x4352, .f32⟩
  | .hbm, ⟨53, _⟩ => ⟨S4x8x1x4096x4352, .f32⟩
  | .hbm, ⟨54, _⟩ => ⟨S4x8x4096x4352, .f32⟩
  | .hbm, ⟨55, _⟩ => ⟨S4x8x4096x4352, .f32⟩
  | .hbm, ⟨56, _⟩ => ⟨S4x8x4096x4352, .f32⟩
  | .hbm, ⟨57, _⟩ => ⟨S4x8x4096x4352, .f32⟩
  | .hbm, ⟨58, _⟩ => ⟨S4x8x128x4096, .f32⟩
  | .hbm, ⟨59, _⟩ => ⟨S4x4096x8x128, .f32⟩
  | .hbm, ⟨60, _⟩ => ⟨S4x4096x8x128, .f32⟩
  | .hbm, ⟨61, _⟩ => ⟨S_, .f32⟩
  | .hbm, ⟨62, _⟩ => ⟨S4x4096x8, .f32⟩
  | .hbm, ⟨63, _⟩ => ⟨S4x4096x8x1, .f32⟩
  | .hbm, ⟨64, _⟩ => ⟨S_, .f32⟩
  | .hbm, ⟨65, _⟩ => ⟨S4x4096x8x1, .f32⟩
  | .hbm, ⟨66, _⟩ => ⟨S4x4096x8x1, .f32⟩
  | .hbm, ⟨67, _⟩ => ⟨S_, .f32⟩
  | .hbm, ⟨68, _⟩ => ⟨S4x4096x8x1, .f32⟩
  | .hbm, ⟨69, _⟩ => ⟨S4x4096x8x1, .f32⟩
  | .hbm, ⟨70, _⟩ => ⟨S4x4096x8x1, .f32⟩
  | .hbm, ⟨71, _⟩ => ⟨S4x4096x8x128, .f32⟩
  | .hbm, ⟨72, _⟩ => ⟨S4x4096x8x128, .f32⟩
  | .hbm, ⟨73, _⟩ => ⟨S128, .f32⟩
  | .hbm, ⟨74, _⟩ => ⟨S1x1x1x128, .f32⟩
  | .hbm, ⟨75, _⟩ => ⟨S4x4096x8x128, .f32⟩
  | .hbm, ⟨76, _⟩ => ⟨S4x4096x8x128, .f32⟩
  | .hbm, ⟨77, _⟩ => ⟨S_, .f32⟩
  | .hbm, ⟨78, _⟩ => ⟨S4x4096x8x128, .f32⟩
  | .hbm, ⟨79, _⟩ => ⟨S4x4096x8x128, .f32⟩
  | .hbm, ⟨80, _⟩ => ⟨S16384x1024, .f32⟩
  | .hbm, ⟨81, _⟩ => ⟨S16384x1024, .bf16⟩
  | .hbm, ⟨82, _⟩ => ⟨S8x1024x3584, .f32⟩
  | .hbm, ⟨83, _⟩ => ⟨S8x1024x3584, .bf16⟩
  | .hbm, ⟨84, _⟩ => ⟨S8x1024x3584, .f32⟩
  | .hbm, ⟨85, _⟩ => ⟨S8x1024x3584, .bf16⟩
  | .hbm, ⟨86, _⟩ => ⟨S8x3584x1024, .f32⟩
  | .hbm, ⟨87, _⟩ => ⟨S8x3584x1024, .bf16⟩
  | _, _ => ⟨S4x4096x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Kernel2.lean ====
abbrev S110 : Shape := ⟨1, ![110]⟩
abbrev S56320x1024 : Shape := ⟨2, ![56320, 1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1 : Shape := ⟨1, ![1]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 5
  | .vmem => 12
  | .smem => 2
  | _ => 0

abbrev bufTy : (tb : Table) → Fin (tcTables nBuf tb) → BufTy
  | .hbm, ⟨0, _⟩ => ⟨S56320x1024, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S56320x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S110, .i32⟩
  | .local _ .smem, ⟨1, _⟩ => ⟨S110, .i32⟩
  | _, _ => ⟨S56320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![110, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v1 : BitVec 32) : BitVec 1 :=
  let c1_i32 : BitVec 32 := 1#32
  let v2 : BitVec 1 := Scalar.cmpi .eq v1 c1_i32
  let arg1 : BitVec 32 := BitVec.ofNat 32 (i 1).val
  let c1_i32_1 : BitVec 32 := 1#32
  let v7 : BitVec 1 := Scalar.cmpi .eq arg1 c1_i32_1
  let v8 : BitVec 1 := Scalar.andi v2 v7
  let v9 : BitVec 32 := Scalar.extui v8
  let c0_i32_2 : BitVec 32 := 0#32
  let v10 : BitVec 1 := Scalar.cmpi .ne v9 c0_i32_2
  v10

def k0_cond3 (i : grid0.Coords) (v1 : BitVec 32) : BitVec 1 :=
  let c1_i32 : BitVec 32 := 1#32
  let v2 : BitVec 1 := Scalar.cmpi .eq v1 c1_i32
  let v_true : BitVec 1 := 1#1
  let v11 : BitVec 1 := Scalar.xori v2 v_true
  let arg1 : BitVec 32 := BitVec.ofNat 32 (i 1).val
  let c1_i32_3 : BitVec 32 := 1#32
  let v12 : BitVec 1 := Scalar.cmpi .eq arg1 c1_i32_3
  let v13 : BitVec 1 := Scalar.andi v11 v12
  let v14 : BitVec 32 := Scalar.extui v13
  let c0_i32_4 : BitVec 32 := 0#32
  let v15 : BitVec 1 := Scalar.cmpi .ne v14 c0_i32_4
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S110.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S110) ![v0.toNat] S1.size (k0_off1_inb i)) numel1_S1
  let v2 : Index := Scalar.indexCast arg0
  let v3 : BitVec 32 := pf.at 1 (Rect.unit (s := S110) ![v2.toNat] S1.size (k0_off1_inb i)) numel1_S1
  let c1_i32 : BitVec 32 := 1#32
  let v4 : BitVec 1 := Scalar.cmpi .eq v3 c1_i32
  let c1_i32_0 : BitVec 32 := 1#32
  let v5 : BitVec 32 := Scalar.select v4 arg1 c1_i32_0
  let c0_i32 : BitVec 32 := 0#32
  let c0_i32_1 : BitVec 32 := 0#32
  ![v1.toNat, c0_i32.toNat, v5.toNat]

def cc0_transform_2 (k0_off1_inb : ∀ i : grid0.Coords, ∀ a, (k0_off1 i) a + S1.size a ≤ S110.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S110) ![v0.toNat] S1.size (k0_off1_inb i)) numel1_S1
  let v2 : Index := Scalar.indexCast arg0
  let v3 : BitVec 32 := pf.at 1 (Rect.unit (s := S110) ![v2.toNat] S1.size (k0_off1_inb i)) numel1_S1
  let c1_i32 : BitVec 32 := 1#32
  let v4 : BitVec 1 := Scalar.cmpi .eq v3 c1_i32
  let c1_i32_0 : BitVec 32 := 1#32
  let v5 : BitVec 32 := Scalar.select v4 arg1 c1_i32_0
  let c0_i32 : BitVec 32 := 0#32
  let c0_i32_1 : BitVec 32 := 0#32
  ![v1.toNat, c0_i32.toNat, v5.toNat]

def cc0_transform_3 (k0_off1_inb : ∀ i : grid0.Coords, ∀ a, (k0_off1 i) a + S1.size a ≤ S110.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S110) ![v0.toNat] S1.size (k0_off1_inb i)) numel1_S1
  let v2 : Index := Scalar.indexCast arg0
  let v3 : BitVec 32 := pf.at 1 (Rect.unit (s := S110) ![v2.toNat] S1.size (k0_off1_inb i)) numel1_S1
  let c1_i32 : BitVec 32 := 1#32
  let v4 : BitVec 1 := Scalar.cmpi .eq v3 c1_i32
  let c1_i32_0 : BitVec 32 := 1#32
  let v5 : BitVec 32 := Scalar.select v4 arg1 c1_i32_0
  let c0_i32 : BitVec 32 := 0#32
  let c0_i32_1 : BitVec 32 := 0#32
  ![v1.toNat, v5.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S110 : Shape := ⟨1, ![110]⟩
abbrev S56320x1024 : Shape := ⟨2, ![56320, 1024]⟩
abbrev S8x1024x3584 : Shape := ⟨3, ![8, 1024, 3584]⟩
abbrev S8x3584x1024 : Shape := ⟨3, ![8, 3584, 1024]⟩
abbrev S110x512 : Shape := ⟨2, ![110, 512]⟩
abbrev S56320 : Shape := ⟨1, ![56320]⟩
abbrev S_ : Shape := ⟨0, ![]⟩
abbrev S56320x1 : Shape := ⟨2, ![56320, 1]⟩
abbrev S1x1024x3584 : Shape := ⟨3, ![1, 1024, 3584]⟩
abbrev S1024x3584 : Shape := ⟨2, ![1024, 3584]⟩
abbrev S56320x3584 : Shape := ⟨2, ![56320, 3584]⟩
abbrev S1x3584x1024 : Shape := ⟨3, ![1, 3584, 1024]⟩
abbrev S3584x1024 : Shape := ⟨2, ![3584, 1024]⟩

abbrev nBuf : Space → Nat
  | .hbm => 303
  | .vmem => 0
  | .smem => 0
  | _ => 0

abbrev hbmTy0_0 (i : Nat) : BufTy := match i % 128 with
  | 0 => ⟨S110, .i32⟩
  | 1 => ⟨S110, .i32⟩
  | 2 => ⟨S56320x1024, .f32⟩
  | 3 => ⟨S8x1024x3584, .bf16⟩
  | 4 => ⟨S8x1024x3584, .bf16⟩
  | 5 => ⟨S8x3584x1024, .bf16⟩
  | 6 => ⟨S110x512, .i32⟩
  | 7 => ⟨S56320, .i32⟩
  | 8 => ⟨S110x512, .i32⟩
  | 9 => ⟨S56320, .i32⟩
  | 10 => ⟨S_, .i32⟩
  | 11 => ⟨S56320, .i32⟩
  | 12 => ⟨S56320, .i1⟩
  | 13 => ⟨S_, .f32⟩
  | 14 => ⟨S56320x1024, .f32⟩
  | 15 => ⟨S_, .i32⟩
  | 16 => ⟨S56320, .i32⟩
  | 17 => ⟨S56320, .i1⟩
  | 18 => ⟨S56320, .i1⟩
  | 19 => ⟨S_, .f32⟩
  | 20 => ⟨S_, .f32⟩
  | 21 => ⟨S56320, .f32⟩
  | 22 => ⟨S56320, .f32⟩
  | 23 => ⟨S56320, .f32⟩
  | 24 => ⟨S56320x1, .f32⟩
  | 25 => ⟨S1x1024x3584, .bf16⟩
  | 26 => ⟨S1024x3584, .bf16⟩
  | 27 => ⟨S1024x3584, .f32⟩
  | 28 => ⟨S56320x3584, .f32⟩
  | 29 => ⟨S56320x3584, .f32⟩
  | 30 => ⟨S56320x3584, .f32⟩
  | 31 => ⟨S_, .f32⟩
  | 32 => ⟨S56320x3584, .f32⟩
  | 33 => ⟨S56320x3584, .f32⟩
  | 34 => ⟨S_, .f32⟩
  | 35 => ⟨S56320x3584, .f32⟩
  | 36 => ⟨S56320x3584, .f32⟩
  | 37 => ⟨S56320x3584, .f32⟩
  | 38 => ⟨S1x1024x3584, .bf16⟩
  | 39 => ⟨S1024x3584, .bf16⟩
  | 40 => ⟨S1024x3584, .f32⟩
  | 41 => ⟨S56320x3584, .f32⟩
  | 42 => ⟨S56320x3584, .f32⟩
  | 43 => ⟨S1x3584x1024, .bf16⟩
  | 44 => ⟨S3584x1024, .bf16⟩
  | 45 => ⟨S3584x1024, .f32⟩
  | 46 => ⟨S56320x1024, .f32⟩
  | 47 => ⟨S56320x1, .f32⟩
  | 48 => ⟨S56320x1024, .f32⟩
  | 49 => ⟨S56320x1024, .f32⟩
  | 50 => ⟨S56320x1024, .f32⟩
  | 51 => ⟨S_, .i32⟩
  | 52 => ⟨S56320, .i32⟩
  | 53 => ⟨S56320, .i1⟩
  | 54 => ⟨S56320, .i1⟩
  | 55 => ⟨S_, .f32⟩
  | 56 => ⟨S_, .f32⟩
  | 57 => ⟨S56320, .f32⟩
  | 58 => ⟨S56320, .f32⟩
  | 59 => ⟨S56320, .f32⟩
  | 60 => ⟨S56320x1, .f32⟩
  | 61 => ⟨S1x1024x3584, .bf16⟩
  | 62 => ⟨S1024x3584, .bf16⟩
  | 63 => ⟨S1024x3584, .f32⟩
  | 64 => ⟨S56320x3584, .f32⟩
  | 65 => ⟨S56320x3584, .f32⟩
  | 66 => ⟨S56320x3584, .f32⟩
  | 67 => ⟨S_, .f32⟩
  | 68 => ⟨S56320x3584, .f32⟩
  | 69 => ⟨S56320x3584, .f32⟩
  | 70 => ⟨S_, .f32⟩
  | 71 => ⟨S56320x3584, .f32⟩
  | 72 => ⟨S56320x3584, .f32⟩
  | 73 => ⟨S56320x3584, .f32⟩
  | 74 => ⟨S1x1024x3584, .bf16⟩
  | 75 => ⟨S1024x3584, .bf16⟩
  | 76 => ⟨S1024x3584, .f32⟩
  | 77 => ⟨S56320x3584, .f32⟩
  | 78 => ⟨S56320x3584, .f32⟩
  | 79 => ⟨S1x3584x1024, .bf16⟩
  | 80 => ⟨S3584x1024, .bf16⟩
  | 81 => ⟨S3584x1024, .f32⟩
  | 82 => ⟨S56320x1024, .f32⟩
  | 83 => ⟨S56320x1, .f32⟩
  | 84 => ⟨S56320x1024, .f32⟩
  | 85 => ⟨S56320x1024, .f32⟩
  | 86 => ⟨S56320x1024, .f32⟩
  | 87 => ⟨S_, .i32⟩
  | 88 => ⟨S56320, .i32⟩
  | 89 => ⟨S56320, .i1⟩
  | 90 => ⟨S56320, .i1⟩
  | 91 => ⟨S_, .f32⟩
  | 92 => ⟨S_, .f32⟩
  | 93 => ⟨S56320, .f32⟩
  | 94 => ⟨S56320, .f32⟩
  | 95 => ⟨S56320, .f32⟩
  | 96 => ⟨S56320x1, .f32⟩
  | 97 => ⟨S1x1024x3584, .bf16⟩
  | 98 => ⟨S1024x3584, .bf16⟩
  | 99 => ⟨S1024x3584, .f32⟩
  | 100 => ⟨S56320x3584, .f32⟩
  | 101 => ⟨S56320x3584, .f32⟩
  | 102 => ⟨S56320x3584, .f32⟩
  | 103 => ⟨S_, .f32⟩
  | 104 => ⟨S56320x3584, .f32⟩
  | 105 => ⟨S56320x3584, .f32⟩
  | 106 => ⟨S_, .f32⟩
  | 107 => ⟨S56320x3584, .f32⟩
  | 108 => ⟨S56320x3584, .f32⟩
  | 109 => ⟨S56320x3584, .f32⟩
  | 110 => ⟨S1x1024x3584, .bf16⟩
  | 111 => ⟨S1024x3584, .bf16⟩
  | 112 => ⟨S1024x3584, .f32⟩
  | 113 => ⟨S56320x3584, .f32⟩
  | 114 => ⟨S56320x3584, .f32⟩
  | 115 => ⟨S1x3584x1024, .bf16⟩
  | 116 => ⟨S3584x1024, .bf16⟩
  | 117 => ⟨S3584x1024, .f32⟩
  | 118 => ⟨S56320x1024, .f32⟩
  | 119 => ⟨S56320x1, .f32⟩
  | 120 => ⟨S56320x1024, .f32⟩
  | 121 => ⟨S56320x1024, .f32⟩
  | 122 => ⟨S56320x1024, .f32⟩
  | 123 => ⟨S_, .i32⟩
  | 124 => ⟨S56320, .i32⟩
  | 125 => ⟨S56320, .i1⟩
  | 126 => ⟨S56320, .i1⟩
  | 127 => ⟨S_, .f32⟩
  | _ => ⟨S110, .i32⟩

abbrev hbmTy0_1 (i : Nat) : BufTy := match i % 128 with
  | 0 => ⟨S_, .f32⟩
  | 1 => ⟨S56320, .f32⟩
  | 2 => ⟨S56320, .f32⟩
  | 3 => ⟨S56320, .f32⟩
  | 4 => ⟨S56320x1, .f32⟩
  | 5 => ⟨S1x1024x3584, .bf16⟩
  | 6 => ⟨S1024x3584, .bf16⟩
  | 7 => ⟨S1024x3584, .f32⟩
  | 8 => ⟨S56320x3584, .f32⟩
  | 9 => ⟨S56320x3584, .f32⟩
  | 10 => ⟨S56320x3584, .f32⟩
  | 11 => ⟨S_, .f32⟩
  | 12 => ⟨S56320x3584, .f32⟩
  | 13 => ⟨S56320x3584, .f32⟩
  | 14 => ⟨S_, .f32⟩
  | 15 => ⟨S56320x3584, .f32⟩
  | 16 => ⟨S56320x3584, .f32⟩
  | 17 => ⟨S56320x3584, .f32⟩
  | 18 => ⟨S1x1024x3584, .bf16⟩
  | 19 => ⟨S1024x3584, .bf16⟩
  | 20 => ⟨S1024x3584, .f32⟩
  | 21 => ⟨S56320x3584, .f32⟩
  | 22 => ⟨S56320x3584, .f32⟩
  | 23 => ⟨S1x3584x1024, .bf16⟩
  | 24 => ⟨S3584x1024, .bf16⟩
  | 25 => ⟨S3584x1024, .f32⟩
  | 26 => ⟨S56320x1024, .f32⟩
  | 27 => ⟨S56320x1, .f32⟩
  | 28 => ⟨S56320x1024, .f32⟩
  | 29 => ⟨S56320x1024, .f32⟩
  | 30 => ⟨S56320x1024, .f32⟩
  | 31 => ⟨S_, .i32⟩
  | 32 => ⟨S56320, .i32⟩
  | 33 => ⟨S56320, .i1⟩
  | 34 => ⟨S56320, .i1⟩
  | 35 => ⟨S_, .f32⟩
  | 36 => ⟨S_, .f32⟩
  | 37 => ⟨S56320, .f32⟩
  | 38 => ⟨S56320, .f32⟩
  | 39 => ⟨S56320, .f32⟩
  | 40 => ⟨S56320x1, .f32⟩
  | 41 => ⟨S1x1024x3584, .bf16⟩
  | 42 => ⟨S1024x3584, .bf16⟩
  | 43 => ⟨S1024x3584, .f32⟩
  | 44 => ⟨S56320x3584, .f32⟩
  | 45 => ⟨S56320x3584, .f32⟩
  | 46 => ⟨S56320x3584, .f32⟩
  | 47 => ⟨S_, .f32⟩
  | 48 => ⟨S56320x3584, .f32⟩
  | 49 => ⟨S56320x3584, .f32⟩
  | 50 => ⟨S_, .f32⟩
  | 51 => ⟨S56320x3584, .f32⟩
  | 52 => ⟨S56320x3584, .f32⟩
  | 53 => ⟨S56320x3584, .f32⟩
  | 54 => ⟨S1x1024x3584, .bf16⟩
  | 55 => ⟨S1024x3584, .bf16⟩
  | 56 => ⟨S1024x3584, .f32⟩
  | 57 => ⟨S56320x3584, .f32⟩
  | 58 => ⟨S56320x3584, .f32⟩
  | 59 => ⟨S1x3584x1024, .bf16⟩
  | 60 => ⟨S3584x1024, .bf16⟩
  | 61 => ⟨S3584x1024, .f32⟩
  | 62 => ⟨S56320x1024, .f32⟩
  | 63 => ⟨S56320x1, .f32⟩
  | 64 => ⟨S56320x1024, .f32⟩
  | 65 => ⟨S56320x1024, .f32⟩
  | 66 => ⟨S56320x1024, .f32⟩
  | 67 => ⟨S_, .i32⟩
  | 68 => ⟨S56320, .i32⟩
  | 69 => ⟨S56320, .i1⟩
  | 70 => ⟨S56320, .i1⟩
  | 71 => ⟨S_, .f32⟩
  | 72 => ⟨S_, .f32⟩
  | 73 => ⟨S56320, .f32⟩
  | 74 => ⟨S56320, .f32⟩
  | 75 => ⟨S56320, .f32⟩
  | 76 => ⟨S56320x1, .f32⟩
  | 77 => ⟨S1x1024x3584, .bf16⟩
  | 78 => ⟨S1024x3584, .bf16⟩
  | 79 => ⟨S1024x3584, .f32⟩
  | 80 => ⟨S56320x3584, .f32⟩
  | 81 => ⟨S56320x3584, .f32⟩
  | 82 => ⟨S56320x3584, .f32⟩
  | 83 => ⟨S_, .f32⟩
  | 84 => ⟨S56320x3584, .f32⟩
  | 85 => ⟨S56320x3584, .f32⟩
  | 86 => ⟨S_, .f32⟩
  | 87 => ⟨S56320x3584, .f32⟩
  | 88 => ⟨S56320x3584, .f32⟩
  | 89 => ⟨S56320x3584, .f32⟩
  | 90 => ⟨S1x1024x3584, .bf16⟩
  | 91 => ⟨S1024x3584, .bf16⟩
  | 92 => ⟨S1024x3584, .f32⟩
  | 93 => ⟨S56320x3584, .f32⟩
  | 94 => ⟨S56320x3584, .f32⟩
  | 95 => ⟨S1x3584x1024, .bf16⟩
  | 96 => ⟨S3584x1024, .bf16⟩
  | 97 => ⟨S3584x1024, .f32⟩
  | 98 => ⟨S56320x1024, .f32⟩
  | 99 => ⟨S56320x1, .f32⟩
  | 100 => ⟨S56320x1024, .f32⟩
  | 101 => ⟨S56320x1024, .f32⟩
  | 102 => ⟨S56320x1024, .f32⟩
  | 103 => ⟨S_, .i32⟩
  | 104 => ⟨S56320, .i32⟩
  | 105 => ⟨S56320, .i1⟩
  | 106 => ⟨S56320, .i1⟩
  | 107 => ⟨S_, .f32⟩
  | 108 => ⟨S_, .f32⟩
  | 109 => ⟨S56320, .f32⟩
  | 110 => ⟨S56320, .f32⟩
  | 111 => ⟨S56320, .f32⟩
  | 112 => ⟨S56320x1, .f32⟩
  | 113 => ⟨S1x1024x3584, .bf16⟩
  | 114 => ⟨S1024x3584, .bf16⟩
  | 115 => ⟨S1024x3584, .f32⟩
  | 116 => ⟨S56320x3584, .f32⟩
  | 117 => ⟨S56320x3584, .f32⟩
  | 118 => ⟨S56320x3584, .f32⟩
  | 119 => ⟨S_, .f32⟩
  | 120 => ⟨S56320x3584, .f32⟩
  | 121 => ⟨S56320x3584, .f32⟩
  | 122 => ⟨S_, .f32⟩
  | 123 => ⟨S56320x3584, .f32⟩
  | 124 => ⟨S56320x3584, .f32⟩
  | 125 => ⟨S56320x3584, .f32⟩
  | 126 => ⟨S1x1024x3584, .bf16⟩
  | 127 => ⟨S1024x3584, .bf16⟩
  | _ => ⟨S110, .i32⟩

abbrev hbmTy0_2 (i : Nat) : BufTy := match i % 128 with
  | 0 => ⟨S1024x3584, .f32⟩
  | 1 => ⟨S56320x3584, .f32⟩
  | 2 => ⟨S56320x3584, .f32⟩
  | 3 => ⟨S1x3584x1024, .bf16⟩
  | 4 => ⟨S3584x1024, .bf16⟩
  | 5 => ⟨S3584x1024, .f32⟩
  | 6 => ⟨S56320x1024, .f32⟩
  | 7 => ⟨S56320x1, .f32⟩
  | 8 => ⟨S56320x1024, .f32⟩
  | 9 => ⟨S56320x1024, .f32⟩
  | 10 => ⟨S56320x1024, .f32⟩
  | 11 => ⟨S_, .i32⟩
  | 12 => ⟨S56320, .i32⟩
  | 13 => ⟨S56320, .i1⟩
  | 14 => ⟨S56320, .i1⟩
  | 15 => ⟨S_, .f32⟩
  | 16 => ⟨S_, .f32⟩
  | 17 => ⟨S56320, .f32⟩
  | 18 => ⟨S56320, .f32⟩
  | 19 => ⟨S56320, .f32⟩
  | 20 => ⟨S56320x1, .f32⟩
  | 21 => ⟨S1x1024x3584, .bf16⟩
  | 22 => ⟨S1024x3584, .bf16⟩
  | 23 => ⟨S1024x3584, .f32⟩
  | 24 => ⟨S56320x3584, .f32⟩
  | 25 => ⟨S56320x3584, .f32⟩
  | 26 => ⟨S56320x3584, .f32⟩
  | 27 => ⟨S_, .f32⟩
  | 28 => ⟨S56320x3584, .f32⟩
  | 29 => ⟨S56320x3584, .f32⟩
  | 30 => ⟨S_, .f32⟩
  | 31 => ⟨S56320x3584, .f32⟩
  | 32 => ⟨S56320x3584, .f32⟩
  | 33 => ⟨S56320x3584, .f32⟩
  | 34 => ⟨S1x1024x3584, .bf16⟩
  | 35 => ⟨S1024x3584, .bf16⟩
  | 36 => ⟨S1024x3584, .f32⟩
  | 37 => ⟨S56320x3584, .f32⟩
  | 38 => ⟨S56320x3584, .f32⟩
  | 39 => ⟨S1x3584x1024, .bf16⟩
  | 40 => ⟨S3584x1024, .bf16⟩
  | 41 => ⟨S3584x1024, .f32⟩
  | 42 => ⟨S56320x1024, .f32⟩
  | 43 => ⟨S56320x1, .f32⟩
  | 44 => ⟨S56320x1024, .f32⟩
  | 45 => ⟨S56320x1024, .f32⟩
  | 46 => ⟨S56320x1024, .f32⟩
  | _ => ⟨S110, .i32⟩

abbrev hbmTy (i : Nat) : BufTy := match i / 128 with
  | 0 => hbmTy0_0 i
  | 1 => hbmTy0_1 i
  | 2 => hbmTy0_2 i
  | _ => ⟨S110, .i32⟩

abbrev bufTy : (tb : Table) → Fin (tcTables nBuf tb) → BufTy
  | .hbm, ⟨i, _⟩ => hbmTy i
  | _, _ => ⟨S110, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_cst_5 : Ref sig .tc := ⟨.hbm, 56, rfl⟩
abbrev main_call2_v0 : Ref sig .tc := ⟨.hbm, 57, rfl⟩
abbrev main_call2_v1 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call3_v0 : Ref sig .tc := ⟨.hbm, 65, rfl⟩
abbrev main_call3_v1 : Ref sig .tc := ⟨.hbm, 66, rfl⟩
abbrev main_call3_cst : Ref sig .tc := ⟨.hbm, 67, rfl⟩
abbrev main_call3_v2 : Ref sig .tc := ⟨.hbm, 68, rfl⟩
abbrev main_call3_v3 : Ref sig .tc := ⟨.hbm, 69, rfl⟩
abbrev main_call3_cst_0 : Ref sig .tc := ⟨.hbm, 70, rfl⟩
abbrev main_call3_v4 : Ref sig .tc := ⟨.hbm, 71, rfl⟩
abbrev main_call3_v5 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_6 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_7 : Ref sig .tc := ⟨.hbm, 91, rfl⟩
abbrev main_cst_8 : Ref sig .tc := ⟨.hbm, 92, rfl⟩
abbrev main_call4_v0 : Ref sig .tc := ⟨.hbm, 93, rfl⟩
abbrev main_call4_v1 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_call5_v0 : Ref sig .tc := ⟨.hbm, 101, rfl⟩
abbrev main_call5_v1 : Ref sig .tc := ⟨.hbm, 102, rfl⟩
abbrev main_call5_cst : Ref sig .tc := ⟨.hbm, 103, rfl⟩
abbrev main_call5_v2 : Ref sig .tc := ⟨.hbm, 104, rfl⟩
abbrev main_call5_v3 : Ref sig .tc := ⟨.hbm, 105, rfl⟩
abbrev main_call5_cst_0 : Ref sig .tc := ⟨.hbm, 106, rfl⟩
abbrev main_call5_v4 : Ref sig .tc := ⟨.hbm, 107, rfl⟩
abbrev main_call5_v5 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_c_9 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_10 : Ref sig .tc := ⟨.hbm, 127, rfl⟩
abbrev main_cst_11 : Ref sig .tc := ⟨.hbm, 128, rfl⟩
abbrev main_call6_v0 : Ref sig .tc := ⟨.hbm, 129, rfl⟩
abbrev main_call6_v1 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_call7_v0 : Ref sig .tc := ⟨.hbm, 137, rfl⟩
abbrev main_call7_v1 : Ref sig .tc := ⟨.hbm, 138, rfl⟩
abbrev main_call7_cst : Ref sig .tc := ⟨.hbm, 139, rfl⟩
abbrev main_call7_v2 : Ref sig .tc := ⟨.hbm, 140, rfl⟩
abbrev main_call7_v3 : Ref sig .tc := ⟨.hbm, 141, rfl⟩
abbrev main_call7_cst_0 : Ref sig .tc := ⟨.hbm, 142, rfl⟩
abbrev main_call7_v4 : Ref sig .tc := ⟨.hbm, 143, rfl⟩
abbrev main_call7_v5 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_c_12 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_13 : Ref sig .tc := ⟨.hbm, 163, rfl⟩
abbrev main_cst_14 : Ref sig .tc := ⟨.hbm, 164, rfl⟩
abbrev main_call8_v0 : Ref sig .tc := ⟨.hbm, 165, rfl⟩
abbrev main_call8_v1 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_call9_v0 : Ref sig .tc := ⟨.hbm, 173, rfl⟩
abbrev main_call9_v1 : Ref sig .tc := ⟨.hbm, 174, rfl⟩
abbrev main_call9_cst : Ref sig .tc := ⟨.hbm, 175, rfl⟩
abbrev main_call9_v2 : Ref sig .tc := ⟨.hbm, 176, rfl⟩
abbrev main_call9_v3 : Ref sig .tc := ⟨.hbm, 177, rfl⟩
abbrev main_call9_cst_0 : Ref sig .tc := ⟨.hbm, 178, rfl⟩
abbrev main_call9_v4 : Ref sig .tc := ⟨.hbm, 179, rfl⟩
abbrev main_call9_v5 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_c_15 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_cst_16 : Ref sig .tc := ⟨.hbm, 199, rfl⟩
abbrev main_cst_17 : Ref sig .tc := ⟨.hbm, 200, rfl⟩
abbrev main_call10_v0 : Ref sig .tc := ⟨.hbm, 201, rfl⟩
abbrev main_call10_v1 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_call11_v0 : Ref sig .tc := ⟨.hbm, 209, rfl⟩
abbrev main_call11_v1 : Ref sig .tc := ⟨.hbm, 210, rfl⟩
abbrev main_call11_cst : Ref sig .tc := ⟨.hbm, 211, rfl⟩
abbrev main_call11_v2 : Ref sig .tc := ⟨.hbm, 212, rfl⟩
abbrev main_call11_v3 : Ref sig .tc := ⟨.hbm, 213, rfl⟩
abbrev main_call11_cst_0 : Ref sig .tc := ⟨.hbm, 214, rfl⟩
abbrev main_call11_v4 : Ref sig .tc := ⟨.hbm, 215, rfl⟩
abbrev main_call11_v5 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_c_18 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_cst_19 : Ref sig .tc := ⟨.hbm, 235, rfl⟩
abbrev main_cst_20 : Ref sig .tc := ⟨.hbm, 236, rfl⟩
abbrev main_call12_v0 : Ref sig .tc := ⟨.hbm, 237, rfl⟩
abbrev main_call12_v1 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_call13_v0 : Ref sig .tc := ⟨.hbm, 245, rfl⟩
abbrev main_call13_v1 : Ref sig .tc := ⟨.hbm, 246, rfl⟩
abbrev main_call13_cst : Ref sig .tc := ⟨.hbm, 247, rfl⟩
abbrev main_call13_v2 : Ref sig .tc := ⟨.hbm, 248, rfl⟩
abbrev main_call13_v3 : Ref sig .tc := ⟨.hbm, 249, rfl⟩
abbrev main_call13_cst_0 : Ref sig .tc := ⟨.hbm, 250, rfl⟩
abbrev main_call13_v4 : Ref sig .tc := ⟨.hbm, 251, rfl⟩
abbrev main_call13_v5 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_c_21 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_cst_22 : Ref sig .tc := ⟨.hbm, 271, rfl⟩
abbrev main_cst_23 : Ref sig .tc := ⟨.hbm, 272, rfl⟩
abbrev main_call14_v0 : Ref sig .tc := ⟨.hbm, 273, rfl⟩
abbrev main_call14_v1 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_call15_v0 : Ref sig .tc := ⟨.hbm, 281, rfl⟩
abbrev main_call15_v1 : Ref sig .tc := ⟨.hbm, 282, rfl⟩
abbrev main_call15_cst : Ref sig .tc := ⟨.hbm, 283, rfl⟩
abbrev main_call15_v2 : Ref sig .tc := ⟨.hbm, 284, rfl⟩
abbrev main_call15_v3 : Ref sig .tc := ⟨.hbm, 285, rfl⟩
abbrev main_call15_cst_0 : Ref sig .tc := ⟨.hbm, 286, rfl⟩
abbrev main_call15_v4 : Ref sig .tc := ⟨.hbm, 287, rfl⟩
abbrev main_call15_v5 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩

abbrev nD : Nat := 1
abbrev τ : Topo := Topo.v7x

variable {F : FTy → Type} [FloatOps F]
-- ==== Kernel3.lean ====
abbrev S8192x1024 : Shape := ⟨2, ![8192, 1024]⟩
abbrev S16384x1024 : Shape := ⟨2, ![16384, 1024]⟩
abbrev S2x8x6x1024 : Shape := ⟨4, ![2, 8, 6, 1024]⟩
abbrev S1x1024 : Shape := ⟨2, ![1, 1024]⟩
abbrev S1024x2816 : Shape := ⟨2, ![1024, 2816]⟩
abbrev S2816x1024 : Shape := ⟨2, ![2816, 1024]⟩
abbrev S24576x1024 : Shape := ⟨2, ![24576, 1024]⟩
abbrev S512x1024 : Shape := ⟨2, ![512, 1024]⟩
abbrev S1x1x6x1024 : Shape := ⟨4, ![1, 1, 6, 1024]⟩
abbrev S1x1x1x1024 : Shape := ⟨4, ![1, 1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S16384x1024, .f32⟩
  | .hbm, ⟨2, _⟩ => ⟨S2x8x6x1024, .f32⟩
  | .hbm, ⟨3, _⟩ => ⟨S1x1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S24576x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 4 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let c16_i32_0 : BitVec 32 := 16#32
  let v2 : BitVec 32 := Scalar.subi v0 c16_i32_0
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 c4_i32 v19
  let c0_i32_6 : BitVec 32 := 0#32
  let c0_i32_7 : BitVec 32 := 0#32
  let c0_i32_8 : BitVec 32 := 0#32
  let c0_i32_9 : BitVec 32 := 0#32
  ![c0_i32_6.toNat, v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8192x1024 : Shape := ⟨2, ![8192, 1024]⟩
abbrev S16384x1024 : Shape := ⟨2, ![16384, 1024]⟩
abbrev S2x8x6x1024 : Shape := ⟨4, ![2, 8, 6, 1024]⟩
abbrev S1x1024 : Shape := ⟨2, ![1, 1024]⟩
abbrev S1024x2816 : Shape := ⟨2, ![1024, 2816]⟩
abbrev S2816x1024 : Shape := ⟨2, ![2816, 1024]⟩
abbrev S1x8192x1024 : Shape := ⟨3, ![1, 8192, 1024]⟩
abbrev S1x1x6x1024 : Shape := ⟨4, ![1, 1, 6, 1024]⟩
abbrev S1x6x1024 : Shape := ⟨3, ![1, 6, 1024]⟩
abbrev S_ : Shape := ⟨0, ![]⟩
abbrev S1x8192 : Shape := ⟨2, ![1, 8192]⟩
abbrev S1x8192x1 : Shape := ⟨3, ![1, 8192, 1]⟩
abbrev S1024 : Shape := ⟨1, ![1024]⟩
abbrev S1x1x1024 : Shape := ⟨3, ![1, 1, 1024]⟩
abbrev S1x8192x2816 : Shape := ⟨3, ![1, 8192, 2816]⟩
abbrev S4x4096x1024 : Shape := ⟨3, ![4, 4096, 1024]⟩
abbrev S1x4x6x1024 : Shape := ⟨4, ![1, 4, 6, 1024]⟩
abbrev S4x6x1024 : Shape := ⟨3, ![4, 6, 1024]⟩
abbrev S4x4096 : Shape := ⟨2, ![4, 4096]⟩
abbrev S4x4096x1 : Shape := ⟨3, ![4, 4096, 1]⟩
abbrev S4x1x1024 : Shape := ⟨3, ![4, 1, 1024]⟩
abbrev S4x1024 : Shape := ⟨2, ![4, 1024]⟩
abbrev S4x4096x2816 : Shape := ⟨3, ![4, 4096, 2816]⟩
abbrev S24576x1024 : Shape := ⟨2, ![24576, 1024]⟩

abbrev nBuf : Space → Nat
  | .hbm => 120
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16384x1024, .f32⟩
  | .hbm, ⟨2, _⟩ => ⟨S2x8x6x1024, .f32⟩
  | .hbm, ⟨3, _⟩ => ⟨S1x1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S1x8192x1024, .f32⟩
  | .hbm, ⟨8, _⟩ => ⟨S1x1x6x1024, .f32⟩
  | .hbm, ⟨9, _⟩ => ⟨S1x6x1024, .f32⟩
  | .hbm, ⟨10, _⟩ => ⟨S1x8192x1024, .f32⟩
  | .hbm, ⟨11, _⟩ => ⟨S_, .f32⟩
  | .hbm, ⟨12, _⟩ => ⟨S1x8192, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1x1x1024, .f32⟩
  | .hbm, ⟨28, _⟩ => ⟨S1x1024, .f32⟩
  | .hbm, ⟨29, _⟩ => ⟨S1x1x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S1x1x1024, .f32⟩
  | .hbm, ⟨36, _⟩ => ⟨S1x1024, .f32⟩
  | .hbm, ⟨37, _⟩ => ⟨S1x1x1024, .f32⟩
  | .hbm, ⟨38, _⟩ => ⟨S1x8192x1024, .f32⟩
  | .hbm, ⟨39, _⟩ => ⟨S1x8192x1024, .f32⟩
  | .hbm, ⟨40, _⟩ => ⟨S1x1x1024, .f32⟩
  | .hbm, ⟨41, _⟩ => ⟨S1x1024, .f32⟩
  | .hbm, ⟨42, _⟩ => ⟨S1x1x1024, .f32⟩
  | .hbm, ⟨43, _⟩ => ⟨S1024x2816, .f32⟩
  | .hbm, ⟨44, _⟩ => ⟨S1x8192x2816, .f32⟩
  | .hbm, ⟨45, _⟩ => ⟨S1x8192x2816, .f32⟩
  | .hbm, ⟨46, _⟩ => ⟨S1x8192x2816, .f32⟩
  | .hbm, ⟨47, _⟩ => ⟨S_, .f32⟩
  | .hbm, ⟨48, _⟩ => ⟨S1x8192x2816, .f32⟩
  | .hbm, ⟨49, _⟩ => ⟨S1x8192x2816, .f32⟩
  | .hbm, ⟨50, _⟩ => ⟨S_, .f32⟩
  | .hbm, ⟨51, _⟩ => ⟨S1x8192x2816, .f32⟩
  | .hbm, ⟨52, _⟩ => ⟨S1x8192x2816, .f32⟩
  | .hbm, ⟨53, _⟩ => ⟨S1x8192x2816, .f32⟩
  | .hbm, ⟨54, _⟩ => ⟨S1024x2816, .f32⟩
  | .hbm, ⟨55, _⟩ => ⟨S1x8192x2816, .f32⟩
  | .hbm, ⟨56, _⟩ => ⟨S1x8192x2816, .f32⟩
  | .hbm, ⟨57, _⟩ => ⟨S2816x1024, .f32⟩
  | .hbm, ⟨58, _⟩ => ⟨S1x8192x1024, .f32⟩
  | .hbm, ⟨59, _⟩ => ⟨S1x8192x1024, .f32⟩
  | .hbm, ⟨60, _⟩ => ⟨S1x8192x1024, .f32⟩
  | .hbm, ⟨61, _⟩ => ⟨S1x8192x1024, .f32⟩
  | .hbm, ⟨62, _⟩ => ⟨S4x4096x1024, .f32⟩
  | .hbm, ⟨63, _⟩ => ⟨S1x4x6x1024, .f32⟩
  | .hbm, ⟨64, _⟩ => ⟨S4x6x1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x1024, .f32⟩
  | .hbm, ⟨77, _⟩ => ⟨S4x4096x1024, .f32⟩
  | .hbm, ⟨78, _⟩ => ⟨S1024, .f32⟩
  | .hbm, ⟨79, _⟩ => ⟨S1x1x1024, .f32⟩
  | .hbm, ⟨80, _⟩ => ⟨S4x4096x1024, .f32⟩
  | .hbm, ⟨81, _⟩ => ⟨S4x4096x1024, .f32⟩
  | .hbm, ⟨82, _⟩ => ⟨S4x1x1024, .f32⟩
  | .hbm, ⟨83, _⟩ => ⟨S4x1024, .f32⟩
  | .hbm, ⟨84, _⟩ => ⟨S4x1x1024, .f32⟩
  | .hbm, ⟨85, _⟩ => ⟨S_, .f32⟩
  | .hbm, ⟨86, _⟩ => ⟨S4x1x1024, .f32⟩
  | .hbm, ⟨87, _⟩ => ⟨S4x1x1024, .f32⟩
  | .hbm, ⟨88, _⟩ => ⟨S4x4096x1024, .f32⟩
  | .hbm, ⟨89, _⟩ => ⟨S4x4096x1024, .f32⟩
  | .hbm, ⟨90, _⟩ => ⟨S4x1x1024, .f32⟩
  | .hbm, ⟨91, _⟩ => ⟨S4x1024, .f32⟩
  | .hbm, ⟨92, _⟩ => ⟨S4x1x1024, .f32⟩
  | .hbm, ⟨93, _⟩ => ⟨S4x4096x1024, .f32⟩
  | .hbm, ⟨94, _⟩ => ⟨S4x4096x1024, .f32⟩
  | .hbm, ⟨95, _⟩ => ⟨S4x1x1024, .f32⟩
  | .hbm, ⟨96, _⟩ => ⟨S4x1024, .f32⟩
  | .hbm, ⟨97, _⟩ => ⟨S4x1x1024, .f32⟩
  | .hbm, ⟨98, _⟩ => ⟨S1024x2816, .f32⟩
  | .hbm, ⟨99, _⟩ => ⟨S4x4096x2816, .f32⟩
  | .hbm, ⟨100, _⟩ => ⟨S4x4096x2816, .f32⟩
  | .hbm, ⟨101, _⟩ => ⟨S4x4096x2816, .f32⟩
  | .hbm, ⟨102, _⟩ => ⟨S_, .f32⟩
  | .hbm, ⟨103, _⟩ => ⟨S4x4096x2816, .f32⟩
  | .hbm, ⟨104, _⟩ => ⟨S4x4096x2816, .f32⟩
  | .hbm, ⟨105, _⟩ => ⟨S_, .f32⟩
  | .hbm, ⟨106, _⟩ => ⟨S4x4096x2816, .f32⟩
  | .hbm, ⟨107, _⟩ => ⟨S4x4096x2816, .f32⟩
  | .hbm, ⟨108, _⟩ => ⟨S4x4096x2816, .f32⟩
  | .hbm, ⟨109, _⟩ => ⟨S1024x2816, .f32⟩
  | .hbm, ⟨110, _⟩ => ⟨S4x4096x2816, .f32⟩
  | .hbm, ⟨111, _⟩ => ⟨S4x4096x2816, .f32⟩
  | .hbm, ⟨112, _⟩ => ⟨S2816x1024, .f32⟩
  | .hbm, ⟨113, _⟩ => ⟨S4x4096x1024, .f32⟩
  | .hbm, ⟨114, _⟩ => ⟨S4x4096x1024, .f32⟩
  | .hbm, ⟨115, _⟩ => ⟨S4x4096x1024, .f32⟩
  | .hbm, ⟨116, _⟩ => ⟨S4x4096x1024, .f32⟩
  | .hbm, ⟨117, _⟩ => ⟨S8192x1024, .f32⟩
  | .hbm, ⟨118, _⟩ => ⟨S16384x1024, .f32⟩
  | .hbm, ⟨119, _⟩ => ⟨S24576x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_3 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]
-- ==== Kernel4.lean ====
abbrev S24576x1024 : Shape := ⟨2, ![24576, 1024]⟩
abbrev S2x8x6x1024 : Shape := ⟨4, ![2, 8, 6, 1024]⟩
abbrev S1x1024 : Shape := ⟨2, ![1, 1024]⟩
abbrev S1024x3072 : Shape := ⟨2, ![1024, 3072]⟩
abbrev S8192x1024 : Shape := ⟨2, ![8192, 1024]⟩
abbrev S512x1024 : Shape := ⟨2, ![512, 1024]⟩
abbrev S1x1x6x1024 : Shape := ⟨4, ![1, 1, 6, 1024]⟩
abbrev S1x1x1x1024 : Shape := ⟨4, ![1, 1, 1, 1024]⟩
abbrev S512 : Shape := ⟨1, ![512]⟩
abbrev S512x1 : Shape := ⟨2, ![512, 1]⟩
abbrev S512x3072 : Shape := ⟨2, ![512, 3072]⟩

abbrev nBuf : Space → Nat
  | .hbm => 9
  | .vmem => 16
  | .smem => 0
  | _ => 0

abbrev bufTy : (tb : Table) → Fin (tcTables nBuf tb) → BufTy
  | .hbm, ⟨0, _⟩ => ⟨S24576x1024, .f32⟩
  | .hbm, ⟨1, _⟩ => ⟨S2x8x6x1024, .f32⟩
  | .hbm, ⟨2, _⟩ => ⟨S1x1024, .f32⟩
  | .hbm, ⟨3, _⟩ => ⟨S1024x3072, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x3072, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let c16_i32_0 : BitVec 32 := 16#32
  let v2 : BitVec 32 := Scalar.subi v0 c16_i32_0
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 c4_i32 v19
  let c1_i32_6 : BitVec 32 := 1#32
  let c0_i32_7 : BitVec 32 := 0#32
  let c0_i32_8 : BitVec 32 := 0#32
  let c0_i32_9 : BitVec 32 := 0#32
  ![c1_i32_6.toNat, v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel4Ideal.lean ====
variable {F : FTy → Type} [FloatOps F] [Named F]
def κ : String → Option EReal := fun
  | "qs" => some (((Real.sqrt 64)⁻¹ * (Real.log 2)⁻¹ : ℝ) : EReal)
  | _ => none
-- ==== Reference4Ideal.lean ====
abbrev S24576x1024 : Shape := ⟨2, ![24576, 1024]⟩
abbrev S2x8x6x1024 : Shape := ⟨4, ![2, 8, 6, 1024]⟩
abbrev S1x1024 : Shape := ⟨2, ![1, 1024]⟩
abbrev S1024x3072 : Shape := ⟨2, ![1024, 3072]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1x1x1024 : Shape := ⟨4, ![1, 1, 1, 1024]⟩
abbrev S8192x3072 : Shape := ⟨2, ![8192, 3072]⟩

abbrev nBuf : Space → Nat
  | .hbm => 51
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S2x8x6x1024, .f32⟩
  | .hbm, ⟨2, _⟩ => ⟨S1x1024, .f32⟩
  | .hbm, ⟨3, _⟩ => ⟨S1024x3072, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1x1x1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1x1x1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1024x3072, .f32⟩
  | .hbm, ⟨36, _⟩ => ⟨S8192x3072, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S8192x1024, .bf16⟩
  | .hbm, ⟨50, _⟩ => ⟨S8192x1024, .bf16⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel5.lean ====
abbrev S24576x1024 : Shape := ⟨2, ![24576, 1024]⟩
abbrev S2x8x6x1024 : Shape := ⟨4, ![2, 8, 6, 1024]⟩
abbrev S1x1024 : Shape := ⟨2, ![1, 1024]⟩
abbrev S1024x3072 : Shape := ⟨2, ![1024, 3072]⟩
abbrev S4096x128 : Shape := ⟨2, ![4096, 128]⟩
abbrev S16384x1024 : Shape := ⟨2, ![16384, 1024]⟩
abbrev S512x1024 : Shape := ⟨2, ![512, 1024]⟩
abbrev S1x1x6x1024 : Shape := ⟨4, ![1, 1, 6, 1024]⟩
abbrev S512x128 : Shape := ⟨2, ![512, 128]⟩
abbrev S1x1x1x1024 : Shape := ⟨4, ![1, 1, 1, 1024]⟩
abbrev S512 : Shape := ⟨1, ![512]⟩
abbrev S512x1 : Shape := ⟨2, ![512, 1]⟩
abbrev S512x3072 : Shape := ⟨2, ![512, 3072]⟩

abbrev nBuf : Space → Nat
  | .hbm => 9
  | .vmem => 16
  | .smem => 0
  | _ => 0

abbrev bufTy : (tb : Table) → Fin (tcTables nBuf tb) → BufTy
  | .hbm, ⟨0, _⟩ => ⟨S24576x1024, .f32⟩
  | .hbm, ⟨1, _⟩ => ⟨S2x8x6x1024, .f32⟩
  | .hbm, ⟨2, _⟩ => ⟨S1x1024, .f32⟩
  | .hbm, ⟨3, _⟩ => ⟨S1024x3072, .bf16⟩
  | .hbm, ⟨4, _⟩ => ⟨S4096x128, .f32⟩
  | .hbm, ⟨5, _⟩ => ⟨S4096x128, .f32⟩
  | .hbm, ⟨6, _⟩ => ⟨S16384x1024, .bf16⟩
  | .hbm, ⟨7, _⟩ => ⟨S16384x1024, .bf16⟩
  | .hbm, ⟨8, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x3072, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let c16_i32 : BitVec 32 := 16#32
  let v0 : BitVec 32 := Scalar.addi arg0 c16_i32
  let c16_i32_0 : BitVec 32 := 16#32
  let v1 : BitVec 1 := Scalar.cmpi .slt v0 c16_i32_0
  let c16_i32_1 : BitVec 32 := 16#32
  let v2 : BitVec 32 := Scalar.subi v0 c16_i32_1
  let c8_i32 : BitVec 32 := 8#32
  let v3 : BitVec 32 := Scalar.divsi v2 c8_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 c4_i32 v19
  let c1_i32_6 : BitVec 32 := 1#32
  let c0_i32_7 : BitVec 32 := 0#32
  let c0_i32_8 : BitVec 32 := 0#32
  let c0_i32_9 : BitVec 32 := 0#32
  ![c1_i32_6.toNat, v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel5Ideal.lean ====
variable {F : FTy → Type} [FloatOps F] [Named F]
def κ : String → Option EReal := fun
  | "qs" => some (((Real.sqrt 64)⁻¹ * (Real.log 2)⁻¹ : ℝ) : EReal)
  | _ => none
-- ==== Reference5Ideal.lean ====
abbrev S24576x1024 : Shape := ⟨2, ![24576, 1024]⟩
abbrev S2x8x6x1024 : Shape := ⟨4, ![2, 8, 6, 1024]⟩
abbrev S1x1024 : Shape := ⟨2, ![1, 1024]⟩
abbrev S1024x3072 : Shape := ⟨2, ![1024, 3072]⟩
abbrev S4096x128 : Shape := ⟨2, ![4096, 128]⟩
abbrev S16384x1024 : Shape := ⟨2, ![16384, 1024]⟩
abbrev S4x4096x1024 : Shape := ⟨3, ![4, 4096, 1024]⟩
abbrev S1x4x6x1024 : Shape := ⟨4, ![1, 4, 6, 1024]⟩
abbrev S4x6x1024 : Shape := ⟨3, ![4, 6, 1024]⟩
abbrev S4x1x6x1024 : Shape := ⟨4, ![4, 1, 6, 1024]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S4x4096x3072 : Shape := ⟨3, ![4, 4096, 3072]⟩
abbrev S524288x2x16 : Shape := ⟨3, ![524288, 2, 16]⟩
abbrev S524288x1x16 : Shape := ⟨3, ![524288, 1, 16]⟩
abbrev S4x4096x8x128 : Shape := ⟨4, ![4, 4096, 8, 128]⟩
abbrev S1x4096x1x128 : Shape := ⟨4, ![1, 4096, 1, 128]⟩

abbrev nBuf : Space → Nat
  | .hbm => 84
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S2x8x6x1024, .f32⟩
  | .hbm, ⟨2, _⟩ => ⟨S1x1024, .f32⟩
  | .hbm, ⟨3, _⟩ => ⟨S1024x3072, .bf16⟩
  | .hbm, ⟨4, _⟩ => ⟨S4096x128, .f32⟩
  | .hbm, ⟨5, _⟩ => ⟨S4096x128, .f32⟩
  | .hbm, ⟨6, _⟩ => ⟨S16384x1024, .f32⟩
  | .hbm, ⟨7, _⟩ => ⟨S4x4096x1024, .f32⟩
  | .hbm, ⟨8, _⟩ => ⟨S1x4x6x1024, .f32⟩
  | .hbm, ⟨9, _⟩ => ⟨S4x6x1024, .f32⟩
  | .hbm, ⟨10, _⟩ => ⟨S4x1x6x1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x1x1x1024, .f32⟩
  | .hbm, ⟨29, _⟩ => ⟨S4x1x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x1x1x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S1024x3072, .f32⟩
  | .hbm, ⟨40, _⟩ => ⟨S4x4096x3072, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S524288x2x16, .f32⟩
  | .hbm, ⟨45, _⟩ => ⟨S524288x1x16, .f32⟩
  | .hbm, ⟨46, _⟩ => ⟨S524288x1x16, .f32⟩
  | .hbm, ⟨47, _⟩ => ⟨S524288x2x16, .f32⟩
  | .hbm, ⟨48, _⟩ => ⟨S4x4096x8x128, .f32⟩
  | .hbm, ⟨49, _⟩ => ⟨S4x4096x8x128, .f32⟩
  | .hbm, ⟨50, _⟩ => ⟨S1x4096x1x128, .f32⟩
  | .hbm, ⟨51, _⟩ => ⟨S4x4096x8x128, .f32⟩
  | .hbm, ⟨52, _⟩ => ⟨S4x4096x8x128, .f32⟩
  | .hbm, ⟨53, _⟩ => ⟨S1x4096x1x128, .f32⟩
  | .hbm, ⟨54, _⟩ => ⟨S4x4096x8x128, .f32⟩
  | .hbm, ⟨55, _⟩ => ⟨S4x4096x8x128, .f32⟩
  | .hbm, ⟨56, _⟩ => ⟨S4x4096x8x128, .f32⟩
  | .hbm, ⟨57, _⟩ => ⟨S16384x1024, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x1024, .bf16⟩
  | .hbm, ⟨67, _⟩ => ⟨S524288x2x16, .f32⟩
  | .hbm, ⟨68, _⟩ => ⟨S524288x1x16, .f32⟩
  | .hbm, ⟨69, _⟩ => ⟨S524288x1x16, .f32⟩
  | .hbm, ⟨70, _⟩ => ⟨S524288x2x16, .f32⟩
  | .hbm, ⟨71, _⟩ => ⟨S4x4096x8x128, .f32⟩
  | .hbm, ⟨72, _⟩ => ⟨S4x4096x8x128, .f32⟩
  | .hbm, ⟨73, _⟩ => ⟨S1x4096x1x128, .f32⟩
  | .hbm, ⟨74, _⟩ => ⟨S4x4096x8x128, .f32⟩
  | .hbm, ⟨75, _⟩ => ⟨S4x4096x8x128, .f32⟩
  | .hbm, ⟨76, _⟩ => ⟨S1x4096x1x128, .f32⟩
  | .hbm, ⟨77, _⟩ => ⟨S4x4096x8x128, .f32⟩
  | .hbm, ⟨78, _⟩ => ⟨S4x4096x8x128, .f32⟩
  | .hbm, ⟨79, _⟩ => ⟨S4x4096x8x128, .f32⟩
  | .hbm, ⟨80, _⟩ => ⟨S16384x1024, .f32⟩
  | .hbm, ⟨81, _⟩ => ⟨S16384x1024, .bf16⟩
  | .hbm, ⟨82, _⟩ => ⟨S16384x1024, .f32⟩
  | .hbm, ⟨83, _⟩ => ⟨S16384x1024, .bf16⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩

abbrev nD : Nat := 1
abbrev τ : Topo := Topo.v7x

variable {F : FTy → Type} [FloatOps F]
-- ==== Proof.BitsRunA.lean ====
/-
The attention kernel's body on machine words at a point of case A (see BitsBase for the cases): it runs on whole
buffers, gives its inputs back and leaves its outputs at some contents.
-/
module

public import proofs.«01_k».proof.Proof.BitsBase

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- The body's triple IN CASE A (`scf.if` 0 taken, `scf.if` 1 not taken, `scf.if` 2 not taken: points 0, 1, … 31: 32 of 128): on whole staging memrefs — the inputs' at their contents,
    the FORGOTTEN outputs' (10, 11, 12, 13) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S1024x128 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x1024x896 .f32) (harg10 : arg10.IsWhole) (arg11 : Memref sig .tc .vmem S1x1024x896 .f32) (harg11 : arg11.IsWhole) (arg12 : Memref sig .tc .vmem S1x896x1024 .f32) (harg12 : arg12.IsWhole) (arg13 : Memref sig .tc .vmem S1024x128 .bf16) (harg13 : arg13.IsWhole) (arg14 : Memref sig .tc .vmem S1x1024x896 .bf16) (harg14 : arg14.IsWhole) (arg15 : Memref sig .tc .vmem S1x1024x896 .bf16) (harg15 : arg15.IsWhole) (arg16 : Memref sig .tc .vmem S1x896x1024 .bf16) (harg16 : arg16.IsWhole) (hc0 : cond0_0 i) (hc1 : ¬cond0_1 i) (hc2 : ¬cond0_2 i)
    (x0 : Vec F S1024x128 .f32) (x1 : Vec F S4096x128 .bf16) (x2 : Vec F S4096x128 .bf16) (x3 : Vec F S1x2048x128 .f32) (x4 : Vec F S1x2048x128 .f32) (x5 : Vec F S4x64 .f32) (x6 : Vec F S1x128 .f32) (x7 : Vec F S1x1024x896 .f32) (x8 : Vec F S1x1024x896 .f32) (x9 : Vec F S1x896x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn_lat i arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attn_lat_eq_skeleton]; unfold cc0_attn_lat_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

end Cert.Kernel.Gen

end
-- ==== Proof.BitsRunB.lean ====
/-
The attention kernel's body on machine words at a point of case B (see BitsBase for the cases): it runs on whole
buffers, gives its inputs back and leaves its outputs at some contents.
-/
module

public import proofs.«01_k».proof.Proof.BitsBase

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- The body's triple IN CASE B (`scf.if` 0 not taken, `scf.if` 1 taken, `scf.if` 2 not taken: points 32, 33, … 63: 32 of 128): on whole staging memrefs — the inputs' at their contents,
    the FORGOTTEN outputs' (10, 11, 12, 13) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S1024x128 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x1024x896 .f32) (harg10 : arg10.IsWhole) (arg11 : Memref sig .tc .vmem S1x1024x896 .f32) (harg11 : arg11.IsWhole) (arg12 : Memref sig .tc .vmem S1x896x1024 .f32) (harg12 : arg12.IsWhole) (arg13 : Memref sig .tc .vmem S1024x128 .bf16) (harg13 : arg13.IsWhole) (arg14 : Memref sig .tc .vmem S1x1024x896 .bf16) (harg14 : arg14.IsWhole) (arg15 : Memref sig .tc .vmem S1x1024x896 .bf16) (harg15 : arg15.IsWhole) (arg16 : Memref sig .tc .vmem S1x896x1024 .bf16) (harg16 : arg16.IsWhole) (hc0 : ¬cond0_0 i) (hc1 : cond0_1 i) (hc2 : ¬cond0_2 i)
    (x0 : Vec F S1024x128 .f32) (x1 : Vec F S4096x128 .bf16) (x2 : Vec F S4096x128 .bf16) (x3 : Vec F S1x2048x128 .f32) (x4 : Vec F S1x2048x128 .f32) (x5 : Vec F S4x64 .f32) (x6 : Vec F S1x128 .f32) (x7 : Vec F S1x1024x896 .f32) (x8 : Vec F S1x1024x896 .f32) (x9 : Vec F S1x896x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn_lat i arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attn_lat_eq_skeleton]; unfold cc0_attn_lat_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

end Cert.Kernel.Gen

end
-- ==== Proof.BitsRunC.lean ====
/-
The attention kernel's body on machine words at a point of case C (see BitsBase for the cases): it runs on whole
buffers, gives its inputs back and leaves its outputs at some contents.
-/
module

public import proofs.«01_k».proof.Proof.BitsBase

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- The body's triple IN CASE C (`scf.if` 0 not taken, `scf.if` 1 not taken, `scf.if` 2 taken: points 64, 65, … 95: 32 of 128): on whole staging memrefs — the inputs' at their contents,
    the FORGOTTEN outputs' (10, 11, 12, 13) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_C (c : Dev nD) (i : grid0.Coords) (arg3 : Memref sig .tc .vmem S1024x128 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x1024x896 .f32) (harg10 : arg10.IsWhole) (arg11 : Memref sig .tc .vmem S1x1024x896 .f32) (harg11 : arg11.IsWhole) (arg12 : Memref sig .tc .vmem S1x896x1024 .f32) (harg12 : arg12.IsWhole) (arg13 : Memref sig .tc .vmem S1024x128 .bf16) (harg13 : arg13.IsWhole) (arg14 : Memref sig .tc .vmem S1x1024x896 .bf16) (harg14 : arg14.IsWhole) (arg15 : Memref sig .tc .vmem S1x1024x896 .bf16) (harg15 : arg15.IsWhole) (arg16 : Memref sig .tc .vmem S1x896x1024 .bf16) (harg16 : arg16.IsWhole) (hc0 : ¬cond0_0 i) (hc1 : ¬cond0_1 i) (hc2 : cond0_2 i)
    (x0 : Vec F S1024x128 .f32) (x1 : Vec F S4096x128 .bf16) (x2 : Vec F S4096x128 .bf16) (x3 : Vec F S1x2048x128 .f32) (x4 : Vec F S1x2048x128 .f32) (x5 : Vec F S4x64 .f32) (x6 : Vec F S1x128 .f32) (x7 : Vec F S1x1024x896 .f32) (x8 : Vec F S1x1024x896 .f32) (x9 : Vec F S1x896x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn_lat i arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attn_lat_eq_skeleton]; unfold cc0_attn_lat_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

end Cert.Kernel.Gen

end
-- ==== Proof.BitsRunD.lean ====
/-
The attention kernel's body on machine words at a point of case D (see BitsBase for the cases): it runs on whole
buffers, gives its inputs back and leaves its outputs at some contents.
-/
module

public import proofs.«01_k».proof.Proof.BitsBase

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- The body's triple IN CASE D (`scf.if` 0 not taken, `scf.if` 1 not taken, `scf.if` 2 not taken: points 96, 97, … 127: 32 of 128): on whole staging memrefs — the inputs' at their contents,
    the FORGOTTEN outputs' (10, 11, 12, 13) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_D (c : Dev nD) (i : grid0.Coords) (arg3 : Memref sig .tc .vmem S1024x128 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x1024x896 .f32) (harg10 : arg10.IsWhole) (arg11 : Memref sig .tc .vmem S1x1024x896 .f32) (harg11 : arg11.IsWhole) (arg12 : Memref sig .tc .vmem S1x896x1024 .f32) (harg12 : arg12.IsWhole) (arg13 : Memref sig .tc .vmem S1024x128 .bf16) (harg13 : arg13.IsWhole) (arg14 : Memref sig .tc .vmem S1x1024x896 .bf16) (harg14 : arg14.IsWhole) (arg15 : Memref sig .tc .vmem S1x1024x896 .bf16) (harg15 : arg15.IsWhole) (arg16 : Memref sig .tc .vmem S1x896x1024 .bf16) (harg16 : arg16.IsWhole) (hc0 : ¬cond0_0 i) (hc1 : ¬cond0_1 i) (hc2 : ¬cond0_2 i)
    (x0 : Vec F S1024x128 .f32) (x1 : Vec F S4096x128 .bf16) (x2 : Vec F S4096x128 .bf16) (x3 : Vec F S1x2048x128 .f32) (x4 : Vec F S1x2048x128 .f32) (x5 : Vec F S4x64 .f32) (x6 : Vec F S1x128 .f32) (x7 : Vec F S1x1024x896 .f32) (x8 : Vec F S1x1024x896 .f32) (x9 : Vec F S1x896x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn_lat i arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attn_lat_eq_skeleton]; unfold cc0_attn_lat_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

end Cert.Kernel.Gen

end
-- ==== Proof.BitsFrame.lean ====
/-
The frame of the attention kernel on machine words: it ends, with its arguments unchanged and every counter at zero;
nothing is said of what it writes.
-/
module

public import proofs.«01_k».proof.Proof.BitsRunA
public import proofs.«01_k».proof.Proof.BitsRunB
public import proofs.«01_k».proof.Proof.BitsRunC
public import proofs.«01_k».proof.Proof.BitsRunD
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (10, 11, 12, 13): nothing reads what the kernel leaves in them, so nothing
    of it is named (Lib/Pipeline/Dat.lean `Dat.toRForget`). -/
def forgets0 : Fin 14 → Bool := fun w => w.val == 10 || w.val == 11 || w.val == 12 || w.val == 13

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 4800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  have hN : t.val < 128 := lt_of_lt_of_eq t.isLt (show cfg0.N = 128 from N_0)
  by_cases h0 : t.val < 32
  · by_cases h1 : t.val / 32 % 4 = 1
    · exfalso; omega
    · by_cases h2 : t.val / 32 % 4 = 2
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        iintro ⟨H0, H1, H2, H3, H4, H5, H6, H7, H8, H9, H10, H11, H12, H13⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
  · by_cases h1 : t.val / 32 % 4 = 1
    · by_cases h2 : t.val / 32 % 4 = 2
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_B c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        iintro ⟨H0, H1, H2, H3, H4, H5, H6, H7, H8, H9, H10, H11, H12, H13⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
    · by_cases h2 : t.val / 32 % 4 = 2
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_C c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        iintro ⟨H0, H1, H2, H3, H4, H5, H6, H7, H8, H9, H10, H11, H12, H13⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_D c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        iintro ⟨H0, H1, H2, H3, H4, H5, H6, H7, H8, H9, H10, H11, H12, H13⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The same as `run_main`, and every semaphore counter ends at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run ends, with every input of the pipeline unchanged; nothing is said of its four outputs. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments unchanged, from a run of which the outputs are forgotten. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of_forgotten m ρ (fun c => (dats m 0 c).toRForget forgets0) (A_eq m) (run_main m ρ)

/-- The arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel.Gen

end
-- ==== Proof.LatBase.lean ====
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 32 — decided over the grid. -/
theorem hcond0_0 : ∀ t : Fin cfg0.N, cond0_0 (grid0.coords t) ↔ t.val < 32 :=
  (by decide +kernel : ∀ t : Fin grid0.N, cond0_0 (grid0.coords t) ↔ t.val < 32)

/-- The condition of the body's `scf.if` 1 (`k0_h2`), from the grid coordinates (the skeleton's scalar
    chain substituted). -/
abbrev cond0_1 (i : grid0.Coords) : Prop := k0_cond2 i = 1#1
/-- It holds at the points whose coordinates have i0 = 1 — decided over the grid. -/
theorem hcond0_1 : ∀ t : Fin cfg0.N, cond0_1 (grid0.coords t) ↔ t.val / 32 % 4 = 1 :=
  (by decide +kernel : ∀ t : Fin grid0.N, cond0_1 (grid0.coords t) ↔ t.val / 32 % 4 = 1)

/-- The condition of the body's `scf.if` 2 (`k0_h3`), from the grid coordinates (the skeleton's scalar
    chain substituted). -/
abbrev cond0_2 (i : grid0.Coords) : Prop := k0_cond3 i = 1#1
/-- It holds at the points whose coordinates have i0 = 2 — decided over the grid. -/
theorem hcond0_2 : ∀ t : Fin cfg0.N, cond0_2 (grid0.coords t) ↔ t.val / 32 % 4 = 2 :=
  (by decide +kernel : ∀ t : Fin grid0.N, cond0_2 (grid0.coords t) ↔ t.val / 32 % 4 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x896 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x896 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x896x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024x896 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024x896 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x896x1024 .bf16 := win0_13.stage (cfg0.slots t 13)
abbrev hs0_13 (t : Fin cfg0.N) : (ms0_13 t).IsWhole := hstage0_13 ((cfg0.slots t 13).cast nbuf0_13)

end Cert.KernelIdeal.Gen

end
-- ==== Proof.LatBlk.lean ====
/-
The block the attention kernel writes at one grid point, as a function of what it loads: two running softmaxes in base two
(one per half of the lanes of the query), each over three chunks of keys, their difference weighted by lambda, and the
normalisation of the head.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The pieces of one softmax step -/

/-- A binary operation over sixteen values, from the left. -/
def chain16 {X : Type} (f : X → X → X) (g : Fin 16 → X) : X :=
  f (f (f (f (f (f (f (f (f (f (f (f (f (f (f (g 0) (g 1)) (g 2)) (g 3)) (g 4)) (g 5)) (g 6)) (g 7)) (g 8)) (g 9)) (g 10)) (g 11)) (g 12)) (g 13)) (g 14)) (g 15)

/-- The maximum of each row, spread over the lanes. -/
def rowMax (x : FVec F S1024x128 .f32) : FVec F S1024x128 .f32 :=
  broadcastTo S1024x128 (shapeCast S1024x1 (multiReduction .maximumf [1] S1024 x 0xFF800000#32 reduces_S1024x128_S1024 (.inl rfl) rfl)
    shapeCasts_S1024_S1024x1) broadcasts_S1024x1_S1024x128

/-- The sum of each row, spread over the lanes. -/
def rowSum (x : FVec F S1024x128 .f32) : FVec F S1024x128 .f32 :=
  broadcastTo S1024x128 (shapeCast S1024x1 (multiReduction .add [1] S1024 x 0x00000000#32 reduces_S1024x128_S1024 (.inl rfl) rfl)
    shapeCasts_S1024_S1024x1) broadcasts_S1024x1_S1024x128

/-- Two to the power of the difference. -/
def pow2 (x m : FVec F S1024x128 .f32) : FVec F S1024x128 .f32 := exp2 (subf x m)

/-- The scores against 256 keys, and against 2048 keys. -/
def score2 (q : FVec F S1024x128 .bf16) (k : FVec F S256x128 .bf16) : FVec F S1024x256 .f32 :=
  matmul dot_S1024x128_S256x128_S1024x256_1_1_0_0_n_n none q k (constant S1024x256 .f32 0x00000000#32)
def score16 (q : FVec F S1024x128 .bf16) (k : FVec F S2048x128 .bf16) : FVec F S1024x2048 .f32 :=
  matmul dot_S1024x128_S2048x128_S1024x2048_1_1_0_0_n_n none q k (constant S1024x2048 .f32 0x00000000#32)

theorem slices2 (j : Fin 2) : S1024x256.Slices ![0, 128 * j.val] S1024x128 := by revert j; decide
theorem slices16 (j : Fin 16) : S1024x2048.Slices ![0, 128 * j.val] S1024x128 := by revert j; decide

/-- The scores cut into blocks of 128 keys. -/
def cut2 (s : FVec F S1024x256 .f32) (j : Fin 2) : FVec F S1024x128 .f32 :=
  extractStridedSlice S1024x128 ![0, 128 * j.val] s (slices2 j)
def cut16 (s : FVec F S1024x2048 .f32) (j : Fin 16) : FVec F S1024x128 .f32 :=
  extractStridedSlice S1024x128 ![0, 128 * j.val] s (slices16 j)

/-- Blocks of weights side by side. -/
def join2 (p : Fin 2 → FVec F S1024x128 .f32) : FVec F S1024x256 .bf16 :=
  truncf .bf16 (concatenate S1024x256 1 [⟨S1024x128, p 0⟩, ⟨S1024x128, p 1⟩] concatenates_S1024x128_S1024x128_S1024x256_d1) bitsLt_bf16_f32
def join16 (p : Fin 16 → FVec F S1024x128 .f32) : FVec F S1024x2048 .bf16 :=
  truncf .bf16 (concatenate S1024x2048 1 [⟨S1024x128, p 0⟩, ⟨S1024x128, p 1⟩, ⟨S1024x128, p 2⟩, ⟨S1024x128, p 3⟩, ⟨S1024x128, p 4⟩, ⟨S1024x128, p 5⟩, ⟨S1024x128, p 6⟩, ⟨S1024x128, p 7⟩, ⟨S1024x128, p 8⟩, ⟨S1024x128, p 9⟩, ⟨S1024x128, p 10⟩, ⟨S1024x128, p 11⟩, ⟨S1024x128, p 12⟩, ⟨S1024x128, p 13⟩, ⟨S1024x128, p 14⟩, ⟨S1024x128, p 15⟩] concatenates_S1024x128_S1024x128_S1024x128_S1024x128_S1024x128_S1024x128_S1024x128_S1024x128_S1024x128_S1024x128_S1024x128_S1024x128_S1024x128_S1024x128_S1024x128_S1024x128_S1024x2048_d1) bitsLt_bf16_f32

/-- The new maximum, the new lane sums and the new weighted values after a chunk of 256 keys. -/
def m2 (s : FVec F S1024x256 .f32) (m : FVec F S1024x128 .f32) : FVec F S1024x128 .f32 :=
  maximumf m (rowMax (maximumf (cut2 s 0) (cut2 s 1)))
def l2 (s : FVec F S1024x256 .f32) (m l : FVec F S1024x128 .f32) : FVec F S1024x128 .f32 :=
  addf (mulf (pow2 m (m2 s m)) l) (addf (pow2 (cut2 s 0) (m2 s m)) (pow2 (cut2 s 1) (m2 s m)))
def a2 (s : FVec F S1024x256 .f32) (v : FVec F S256x128 .bf16) (m a : FVec F S1024x128 .f32) : FVec F S1024x128 .f32 :=
  addf (mulf (pow2 m (m2 s m)) a) (matmul dot_S1024x256_S256x128_S1024x128_1_0_0_1_n_n none
    (join2 fun j => pow2 (cut2 s j) (m2 s m)) v (constant S1024x128 .f32 0x00000000#32))

/-- The same after a chunk of 2048 keys. -/
def m16 (s : FVec F S1024x2048 .f32) (m : FVec F S1024x128 .f32) : FVec F S1024x128 .f32 :=
  maximumf m (rowMax (chain16 maximumf (cut16 s)))
def l16 (s : FVec F S1024x2048 .f32) (m l : FVec F S1024x128 .f32) : FVec F S1024x128 .f32 :=
  addf (mulf (pow2 m (m16 s m)) l) (chain16 addf fun j => pow2 (cut16 s j) (m16 s m))
def a16 (s : FVec F S1024x2048 .f32) (v : FVec F S2048x128 .bf16) (m a : FVec F S1024x128 .f32) : FVec F S1024x128 .f32 :=
  addf (mulf (pow2 m (m16 s m)) a) (matmul dot_S1024x2048_S2048x128_S1024x128_1_0_0_1_n_n none
    (join16 fun j => pow2 (cut16 s j) (m16 s m)) v (constant S1024x128 .f32 0x00000000#32))

/-! ## One softmax over the three chunks -/

/-- What a softmax starts from. -/
def mInit : FVec F S1024x128 .f32 := broadcast S1024x128 (Scalar.ofBits .f32 0xFF800000#32)
def zInit : FVec F S1024x128 .f32 := broadcast S1024x128 (Scalar.ofBits .f32 0x00000000#32)

/-- The softmax of one half of the query's lanes: the weighted values over the sum of the weights. -/
def attend (q : FVec F S1024x128 .bf16) (k0 v0 : FVec F S256x128 .bf16) (k1 v1 k2 v2 : FVec F S2048x128 .bf16) : FVec F S1024x128 .f32 :=
  let s0 := score2 q k0
  let s1 := score16 q k1
  let s2 := score16 q k2
  let m0 := m2 s0 mInit
  let m1 := m16 s1 m0
  let A := a16 s2 v2 m1 (a16 s1 v1 m0 (a2 s0 v0 mInit zInit))
  let L := l16 s2 m1 (l16 s1 m0 (l2 s0 mInit zInit))
  divf A (rowSum L)

/-! ## The block -/

/-- A chunk of cached rows of one head. -/
def cached (x : Vec F S1x256x128 .f32) : FVec F S256x128 .bf16 :=
  truncf .bf16 (shapeCast S256x128 x shapeCasts_S1x256x128_S256x128) bitsLt_bf16_f32

/-- The lanes of the first map. -/
def firstMap : IVec S1024x128 1 := cmpi .slt (iota .tc S1024x128 32 [1] iota_S1024x128_d1_w32) (broadcast S1024x128 64#32)
def zeroQ : FVec F S1024x128 .bf16 := broadcast S1024x128 (Scalar.ofBits .bf16 0x0000#16)

/-- The difference of the two maps, normalised: what is stored at a grid point, from what is loaded there. -/
def latBlock (q : Vec F S1024x128 .f32) (ck cv : Vec F S1x256x128 .f32) (k1 v1 k2 v2 : Vec F S2048x128 .bf16)
    (lp : Vec F S4x64 .f32) (sg : Vec F S1x128 .f32) : FVec F S1024x128 .bf16 :=
  k0_pay1
    (attend (select firstMap (k0_pay5 q) zeroQ) (cached ck) (cached cv)
      (shapeCast S2048x128 k1 shapeCasts_S2048x128_S2048x128) (shapeCast S2048x128 v1 shapeCasts_S2048x128_S2048x128)
      (shapeCast S2048x128 k2 shapeCasts_S2048x128_S2048x128) (shapeCast S2048x128 v2 shapeCasts_S2048x128_S2048x128))
    (attend (select firstMap zeroQ (k0_pay5 q)) (cached ck) (cached cv)
      (shapeCast S2048x128 k1 shapeCasts_S2048x128_S2048x128) (shapeCast S2048x128 v1 shapeCasts_S2048x128_S2048x128)
      (shapeCast S2048x128 k2 shapeCasts_S2048x128_S2048x128) (shapeCast S2048x128 v2 shapeCasts_S2048x128_S2048x128))
    (k0_pay185 lp) (k0_pay186 lp) sg

/-! ## What is loaded at a grid point -/

def rectQ : LoadRect S1024x128 := (Rect.unit (s := S1024x128) ![0, 0] S1024x128.size inb_S1024x128_S1024x128_0_0).toLoadRect
def rectC (i : grid0.Coords) : LoadRect S1x2048x128 := ⟨k0_off1 i, S1x256x128.size, ![1, 8, 1], k0_off1_inb i⟩
def rectLo : LoadRect S4096x128 := (Rect.unit (s := S4096x128) ![0, 0] S2048x128.size inb_S4096x128_S2048x128_0_0).toLoadRect
def rectHi : LoadRect S4096x128 := (Rect.unit (s := S4096x128) ![2048, 0] S2048x128.size inb_S4096x128_S2048x128_2048_0).toLoadRect
def rectL : LoadRect S4x64 := (Rect.unit (s := S4x64) ![0, 0] S4x64.size inb_S4x64_S4x64_0_0).toLoadRect
def rectG : LoadRect S1x128 := (Rect.unit (s := S1x128) ![0, 0] S1x128.size inb_S1x128_S1x128_0_0).toLoadRect

/-- The block stored at the point `i`, from the blocks staged there. -/
def latOut (i : grid0.Coords) (x0 : Vec F S1024x128 .f32) (x1 x2 : Vec F S4096x128 .bf16) (x3 x4 : Vec F S1x2048x128 .f32)
    (x5 : Vec F S4x64 .f32) (x6 : Vec F S1x128 .f32) : FVec F S1024x128 .bf16 :=
  latBlock (fun j => x0 (rectQ.idx j)) (fun j => x3 ((rectC i).idx j)) (fun j => x4 ((rectC i).idx j))
    (fun j => x1 (rectLo.idx j)) (fun j => x2 (rectLo.idx j)) (fun j => x1 (rectHi.idx j)) (fun j => x2 (rectHi.idx j))
    (fun j => x5 (rectL.idx j)) (fun j => x6 (rectG.idx j))

/-- The converted block of the first two weight arrays, and of the third. -/
def castUp (x : Vec F S1x1024x896 .f32) : FVec F S1x1024x896 .bf16 := k0_pay2 x
def castDown (x : Vec F S1x896x1024 .f32) : FVec F S1x896x1024 .bf16 := k0_pay4 x

theorem castUp_whole (x : Vec F S1x1024x896 .f32) :
    k0_pay2 (fun j => x ((Rect.unit (s := S1x1024x896) ![0, 0, 0] S1x1024x896.size inb_S1x1024x896_S1x1024x896_0_0_0).toLoadRect.idx j)) = castUp x :=
  congrArg k0_pay2 (View.ld_unit_zero (by funext a; fin_cases a <;> rfl) inb_S1x1024x896_S1x1024x896_0_0_0 x)
theorem castDown_whole (x : Vec F S1x896x1024 .f32) :
    k0_pay4 (fun j => x ((Rect.unit (s := S1x896x1024) ![0, 0, 0] S1x896x1024.size inb_S1x896x1024_S1x896x1024_0_0_0).toLoadRect.idx j)) = castDown x :=
  congrArg k0_pay4 (View.ld_unit_zero (by funext a; fin_cases a <;> rfl) inb_S1x896x1024_S1x896x1024_0_0_0 x)

/-- A load from a whole buffer reads its contents at the loaded places. -/
theorem readAt_unread {s : Shape} {e : EltTy} {m : Memref sig .tc .vmem s e} (h : m.IsWhole) (X : s.Idx → Elt F e) (r : LoadRect s) :
    m.view.readAt (Elt F) r (h.unread X) = fun x => X (r.idx x) :=
  funext fun x => congrFun (h.read_unread X) (r.idx x)

/-- One store of the whole buffer leaves what it stored. -/
theorem read_one_whole {s : Shape} {e : EltTy} (v : View sig .tc .vmem s e) (f : v.ty.Contents (Elt F)) {off : Fin s.rank → Nat}
    (h : off = fun _ => 0) (inb : ∀ a, off a + s.size a ≤ s.size a) (w : s.Idx → Elt F e) :
    v.read (Elt F) (v.writes (Elt F) f [⟨Rect.unit off s.size inb, w⟩]) = w :=
  (View.read_writes_eq_canon v f _ fun y => ⟨_, List.mem_singleton_self _, View.mem_set_unit_zero h inb y⟩).trans
    (View.canon_unit_zero h inb w)

end Cert.KernelIdeal.Gen

end
-- ==== Proof.LatRunA.lean ====
module

public import proofs.«01_k».proof.Proof.LatBase
public import proofs.«01_k».proof.Proof.LatBlk

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a point while the first weight array is being converted: from the blocks of its inputs it leaves the attention's block and the converted
    weights, and hands back what it does not write. -/
theorem latRun_A (c : Dev nD) (i : grid0.Coords) (arg3 : Memref sig .tc .vmem S1024x128 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x1024x896 .f32) (harg10 : arg10.IsWhole) (arg11 : Memref sig .tc .vmem S1x1024x896 .f32) (harg11 : arg11.IsWhole) (arg12 : Memref sig .tc .vmem S1x896x1024 .f32) (harg12 : arg12.IsWhole) (arg13 : Memref sig .tc .vmem S1024x128 .bf16) (harg13 : arg13.IsWhole) (arg14 : Memref sig .tc .vmem S1x1024x896 .bf16) (harg14 : arg14.IsWhole) (arg15 : Memref sig .tc .vmem S1x1024x896 .bf16) (harg15 : arg15.IsWhole) (arg16 : Memref sig .tc .vmem S1x896x1024 .bf16) (harg16 : arg16.IsWhole) (hc0 : cond0_0 i) (hc1 : ¬cond0_1 i) (hc2 : ¬cond0_2 i)
    (x0 : Vec F S1024x128 .f32) (x1 : Vec F S4096x128 .bf16) (x2 : Vec F S4096x128 .bf16) (x3 : Vec F S1x2048x128 .f32) (x4 : Vec F S1x2048x128 .f32) (x5 : Vec F S4x64 .f32) (x6 : Vec F S1x128 .f32) (x7 : Vec F S1x1024x896 .f32) (x8 : Vec F S1x1024x896 .f32) (x9 : Vec F S1x896x1024 .f32)
    (y1 y2 : Vec F S1x1024x896 .bf16) (y3 : Vec F S1x896x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare y1 ∗ owns (c : Thread nD τ) arg15 fullShare y2 ∗ owns (c : Thread nD τ) arg16 fullShare y3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (latOut i x0 x1 x2 x3 x4 x5 x6) ∗ owns (c : Thread nD τ) arg14 fullShare (castUp x7) ∗ owns (c : Thread nD τ) arg15 fullShare y2 ∗ owns (c : Thread nD τ) arg16 fullShare y3) -∗ K ⟨⟩))
          ⊢ wp frame (wpE (defs₀ (F := F)) Variants.none c none) E (cc0_attn_lat i arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attn_lat_eq_skeleton]; unfold cc0_attn_lat_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg14.eq_unread hf11; obtain rfl := harg15.eq_unread hf12; obtain rfl := harg16.eq_unread hf13
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; swap; · iexact H10
      ipureintro
      refine (read_one_whole _ _ (by funext a; fin_cases a <;> rfl) _ _).trans ?_
      refine Eq.trans (b := latBlock (arg3.view.readAt (Elt F) rectQ (harg3.unread x0)) (arg6.view.readAt (Elt F) (rectC i) (harg6.unread x3))
        (arg7.view.readAt (Elt F) (rectC i) (harg7.unread x4)) (arg4.view.readAt (Elt F) rectLo (harg4.unread x1))
        (arg5.view.readAt (Elt F) rectLo (harg5.unread x2)) (arg4.view.readAt (Elt F) rectHi (harg4.unread x1))
        (arg5.view.readAt (Elt F) rectHi (harg5.unread x2)) (arg8.view.readAt (Elt F) rectL (harg8.unread x5))
        (arg9.view.readAt (Elt F) rectG (harg9.unread x6))) rfl ?_
      simp only [readAt_unread]; rfl
    isplitl [H11]
    · iexists _; isplitr; swap; · iexact H11
      ipureintro
      refine (read_one_whole _ _ (by funext a; fin_cases a <;> rfl) _ _).trans ?_
      rw [readAt_unread]; exact castUp_whole _
    isplitl [H12]
    · iexists _; isplitr; · ipureintro; exact harg15.read_unread _
      iexact H12
    iexists _; isplitr; · ipureintro; exact harg16.read_unread _
    iexact H13

end Cert.KernelIdeal.Gen

end
-- ==== Proof.LatRunB.lean ====
module

public import proofs.«01_k».proof.Proof.LatBase
public import proofs.«01_k».proof.Proof.LatBlk

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a point while the second weight array is being converted: from the blocks of its inputs it leaves the attention's block and the converted
    weights, and hands back what it does not write. -/
theorem latRun_B (c : Dev nD) (i : grid0.Coords) (arg3 : Memref sig .tc .vmem S1024x128 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x1024x896 .f32) (harg10 : arg10.IsWhole) (arg11 : Memref sig .tc .vmem S1x1024x896 .f32) (harg11 : arg11.IsWhole) (arg12 : Memref sig .tc .vmem S1x896x1024 .f32) (harg12 : arg12.IsWhole) (arg13 : Memref sig .tc .vmem S1024x128 .bf16) (harg13 : arg13.IsWhole) (arg14 : Memref sig .tc .vmem S1x1024x896 .bf16) (harg14 : arg14.IsWhole) (arg15 : Memref sig .tc .vmem S1x1024x896 .bf16) (harg15 : arg15.IsWhole) (arg16 : Memref sig .tc .vmem S1x896x1024 .bf16) (harg16 : arg16.IsWhole) (hc0 : ¬cond0_0 i) (hc1 : cond0_1 i) (hc2 : ¬cond0_2 i)
    (x0 : Vec F S1024x128 .f32) (x1 : Vec F S4096x128 .bf16) (x2 : Vec F S4096x128 .bf16) (x3 : Vec F S1x2048x128 .f32) (x4 : Vec F S1x2048x128 .f32) (x5 : Vec F S4x64 .f32) (x6 : Vec F S1x128 .f32) (x7 : Vec F S1x1024x896 .f32) (x8 : Vec F S1x1024x896 .f32) (x9 : Vec F S1x896x1024 .f32)
    (y1 y2 : Vec F S1x1024x896 .bf16) (y3 : Vec F S1x896x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare y1 ∗ owns (c : Thread nD τ) arg15 fullShare y2 ∗ owns (c : Thread nD τ) arg16 fullShare y3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (latOut i x0 x1 x2 x3 x4 x5 x6) ∗ owns (c : Thread nD τ) arg14 fullShare y1 ∗ owns (c : Thread nD τ) arg15 fullShare (castUp x8) ∗ owns (c : Thread nD τ) arg16 fullShare y3) -∗ K ⟨⟩))
          ⊢ wp frame (wpE (defs₀ (F := F)) Variants.none c none) E (cc0_attn_lat i arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attn_lat_eq_skeleton]; unfold cc0_attn_lat_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg14.eq_unread hf11; obtain rfl := harg15.eq_unread hf12; obtain rfl := harg16.eq_unread hf13
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; swap; · iexact H10
      ipureintro
      refine (read_one_whole _ _ (by funext a; fin_cases a <;> rfl) _ _).trans ?_
      refine Eq.trans (b := latBlock (arg3.view.readAt (Elt F) rectQ (harg3.unread x0)) (arg6.view.readAt (Elt F) (rectC i) (harg6.unread x3))
        (arg7.view.readAt (Elt F) (rectC i) (harg7.unread x4)) (arg4.view.readAt (Elt F) rectLo (harg4.unread x1))
        (arg5.view.readAt (Elt F) rectLo (harg5.unread x2)) (arg4.view.readAt (Elt F) rectHi (harg4.unread x1))
        (arg5.view.readAt (Elt F) rectHi (harg5.unread x2)) (arg8.view.readAt (Elt F) rectL (harg8.unread x5))
        (arg9.view.readAt (Elt F) rectG (harg9.unread x6))) rfl ?_
      simp only [readAt_unread]; rfl
    isplitl [H11]
    · iexists _; isplitr; · ipureintro; exact harg14.read_unread _
      iexact H11
    isplitl [H12]
    · iexists _; isplitr; swap; · iexact H12
      ipureintro
      refine (read_one_whole _ _ (by funext a; fin_cases a <;> rfl) _ _).trans ?_
      rw [readAt_unread]; exact castUp_whole _
    iexists _; isplitr; · ipureintro; exact harg16.read_unread _
    iexact H13

end Cert.KernelIdeal.Gen

end
-- ==== Proof.LatRunC.lean ====
module

public import proofs.«01_k».proof.Proof.LatBase
public import proofs.«01_k».proof.Proof.LatBlk

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a point while the third weight array is being converted: from the blocks of its inputs it leaves the attention's block and the converted
    weights, and hands back what it does not write. -/
theorem latRun_C (c : Dev nD) (i : grid0.Coords) (arg3 : Memref sig .tc .vmem S1024x128 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x1024x896 .f32) (harg10 : arg10.IsWhole) (arg11 : Memref sig .tc .vmem S1x1024x896 .f32) (harg11 : arg11.IsWhole) (arg12 : Memref sig .tc .vmem S1x896x1024 .f32) (harg12 : arg12.IsWhole) (arg13 : Memref sig .tc .vmem S1024x128 .bf16) (harg13 : arg13.IsWhole) (arg14 : Memref sig .tc .vmem S1x1024x896 .bf16) (harg14 : arg14.IsWhole) (arg15 : Memref sig .tc .vmem S1x1024x896 .bf16) (harg15 : arg15.IsWhole) (arg16 : Memref sig .tc .vmem S1x896x1024 .bf16) (harg16 : arg16.IsWhole) (hc0 : ¬cond0_0 i) (hc1 : ¬cond0_1 i) (hc2 : cond0_2 i)
    (x0 : Vec F S1024x128 .f32) (x1 : Vec F S4096x128 .bf16) (x2 : Vec F S4096x128 .bf16) (x3 : Vec F S1x2048x128 .f32) (x4 : Vec F S1x2048x128 .f32) (x5 : Vec F S4x64 .f32) (x6 : Vec F S1x128 .f32) (x7 : Vec F S1x1024x896 .f32) (x8 : Vec F S1x1024x896 .f32) (x9 : Vec F S1x896x1024 .f32)
    (y1 y2 : Vec F S1x1024x896 .bf16) (y3 : Vec F S1x896x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare y1 ∗ owns (c : Thread nD τ) arg15 fullShare y2 ∗ owns (c : Thread nD τ) arg16 fullShare y3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (latOut i x0 x1 x2 x3 x4 x5 x6) ∗ owns (c : Thread nD τ) arg14 fullShare y1 ∗ owns (c : Thread nD τ) arg15 fullShare y2 ∗ owns (c : Thread nD τ) arg16 fullShare (castDown x9)) -∗ K ⟨⟩))
          ⊢ wp frame (wpE (defs₀ (F := F)) Variants.none c none) E (cc0_attn_lat i arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attn_lat_eq_skeleton]; unfold cc0_attn_lat_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg14.eq_unread hf11; obtain rfl := harg15.eq_unread hf12; obtain rfl := harg16.eq_unread hf13
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; swap; · iexact H10
      ipureintro
      refine (read_one_whole _ _ (by funext a; fin_cases a <;> rfl) _ _).trans ?_
      refine Eq.trans (b := latBlock (arg3.view.readAt (Elt F) rectQ (harg3.unread x0)) (arg6.view.readAt (Elt F) (rectC i) (harg6.unread x3))
        (arg7.view.readAt (Elt F) (rectC i) (harg7.unread x4)) (arg4.view.readAt (Elt F) rectLo (harg4.unread x1))
        (arg5.view.readAt (Elt F) rectLo (harg5.unread x2)) (arg4.view.readAt (Elt F) rectHi (harg4.unread x1))
        (arg5.view.readAt (Elt F) rectHi (harg5.unread x2)) (arg8.view.readAt (Elt F) rectL (harg8.unread x5))
        (arg9.view.readAt (Elt F) rectG (harg9.unread x6))) rfl ?_
      simp only [readAt_unread]; rfl
    isplitl [H11]
    · iexists _; isplitr; · ipureintro; exact harg14.read_unread _
      iexact H11
    isplitl [H12]
    · iexists _; isplitr; · ipureintro; exact harg15.read_unread _
      iexact H12
    iexists _; isplitr; swap; · iexact H13
    ipureintro
    refine (read_one_whole _ _ (by funext a; fin_cases a <;> rfl) _ _).trans ?_
    rw [readAt_unread]; exact castDown_whole _

end Cert.KernelIdeal.Gen

end
-- ==== Proof.LatRunD.lean ====
module

public import proofs.«01_k».proof.Proof.LatBase
public import proofs.«01_k».proof.Proof.LatBlk

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a point after the weights are done: from the blocks of its inputs it leaves the attention's block and the converted
    weights, and hands back what it does not write. -/
theorem latRun_D (c : Dev nD) (i : grid0.Coords) (arg3 : Memref sig .tc .vmem S1024x128 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x1024x896 .f32) (harg10 : arg10.IsWhole) (arg11 : Memref sig .tc .vmem S1x1024x896 .f32) (harg11 : arg11.IsWhole) (arg12 : Memref sig .tc .vmem S1x896x1024 .f32) (harg12 : arg12.IsWhole) (arg13 : Memref sig .tc .vmem S1024x128 .bf16) (harg13 : arg13.IsWhole) (arg14 : Memref sig .tc .vmem S1x1024x896 .bf16) (harg14 : arg14.IsWhole) (arg15 : Memref sig .tc .vmem S1x1024x896 .bf16) (harg15 : arg15.IsWhole) (arg16 : Memref sig .tc .vmem S1x896x1024 .bf16) (harg16 : arg16.IsWhole) (hc0 : ¬cond0_0 i) (hc1 : ¬cond0_1 i) (hc2 : ¬cond0_2 i)
    (x0 : Vec F S1024x128 .f32) (x1 : Vec F S4096x128 .bf16) (x2 : Vec F S4096x128 .bf16) (x3 : Vec F S1x2048x128 .f32) (x4 : Vec F S1x2048x128 .f32) (x5 : Vec F S4x64 .f32) (x6 : Vec F S1x128 .f32) (x7 : Vec F S1x1024x896 .f32) (x8 : Vec F S1x1024x896 .f32) (x9 : Vec F S1x896x1024 .f32)
    (y1 y2 : Vec F S1x1024x896 .bf16) (y3 : Vec F S1x896x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare y1 ∗ owns (c : Thread nD τ) arg15 fullShare y2 ∗ owns (c : Thread nD τ) arg16 fullShare y3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (latOut i x0 x1 x2 x3 x4 x5 x6) ∗ owns (c : Thread nD τ) arg14 fullShare y1 ∗ owns (c : Thread nD τ) arg15 fullShare y2 ∗ owns (c : Thread nD τ) arg16 fullShare y3) -∗ K ⟨⟩))
          ⊢ wp frame (wpE (defs₀ (F := F)) Variants.none c none) E (cc0_attn_lat i arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attn_lat_eq_skeleton]; unfold cc0_attn_lat_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg14.eq_unread hf11; obtain rfl := harg15.eq_unread hf12; obtain rfl := harg16.eq_unread hf13
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; swap; · iexact H10
      ipureintro
      refine (read_one_whole _ _ (by funext a; fin_cases a <;> rfl) _ _).trans ?_
      refine Eq.trans (b := latBlock (arg3.view.readAt (Elt F) rectQ (harg3.unread x0)) (arg6.view.readAt (Elt F) (rectC i) (harg6.unread x3))
        (arg7.view.readAt (Elt F) (rectC i) (harg7.unread x4)) (arg4.view.readAt (Elt F) rectLo (harg4.unread x1))
        (arg5.view.readAt (Elt F) rectLo (harg5.unread x2)) (arg4.view.readAt (Elt F) rectHi (harg4.unread x1))
        (arg5.view.readAt (Elt F) rectHi (harg5.unread x2)) (arg8.view.readAt (Elt F) rectL (harg8.unread x5))
        (arg9.view.readAt (Elt F) rectG (harg9.unread x6))) rfl ?_
      simp only [readAt_unread]; rfl
    isplitl [H11]
    · iexists _; isplitr; · ipureintro; exact harg14.read_unread _
      iexact H11
    isplitl [H12]
    · iexists _; isplitr; · ipureintro; exact harg15.read_unread _
      iexact H12
    iexists _; isplitr; · ipureintro; exact harg16.read_unread _
    iexact H13

end Cert.KernelIdeal.Gen

end
-- ==== Proof.LatFrame.lean ====
/-
The attention kernel's pipeline, point by point: what the body leaves in every window's buffer (the attention's block, and
the three converted weight blocks, each written during its own stretch of the grid and left alone outside it), the launch,
and that the program ends with its arguments unchanged.
-/
module

public import proofs.«01_k».proof.Proof.LatRunA
public import proofs.«01_k».proof.Proof.LatRunB
public import proofs.«01_k».proof.Proof.LatRunC
public import proofs.«01_k».proof.Proof.LatRunD
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## What the body leaves -/

/-- A point held at `n`: the last point at which a weight window is written. -/
def clip (n : ℕ) (hn : n < 128) (t : Fin cfg0.N) : Fin cfg0.N := ⟨min t.val n, lt_of_le_of_lt (Nat.min_le_right _ _) (lt_of_lt_of_eq hn N_0.symm)⟩

theorem clip_of_le {n : ℕ} {hn : n < 128} {t : Fin cfg0.N} (h : t.val ≤ n) : clip n hn t = t := Fin.ext (Nat.min_eq_left h)
theorem clip_of_ge {n : ℕ} {hn : n < 128} {t : Fin cfg0.N} (h : n ≤ t.val) : clip n hn t = ⟨n, lt_of_lt_of_eq hn N_0.symm⟩ := Fin.ext (Nat.min_eq_right h)

/-- The proof data: the arrays as the region finds them; after the body each input's buffer at its block, the attention's
    output at the block computed from them, and each weight's output at the converted block of the last point it was written. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => latOut (grid0.coords t) (iblk m c 0 t) (iblk m c 1 t) (iblk m c 2 t) (iblk m c 3 t) (iblk m c 4 t) (iblk m c 5 t) (iblk m c 6 t)
    | ⟨11, _⟩ => castUp (iblk m c 7 (clip 31 (by decide) t))
    | ⟨12, _⟩ => castUp (iblk m c 8 (clip 63 (by decide) t))
    | ⟨13, _⟩ => castDown (iblk m c 9 (clip 95 (by decide) t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t =
    latOut (grid0.coords t) (iblk m c 0 t) (iblk m c 1 t) (iblk m c 2 t) (iblk m c 3 t) (iblk m c 4 t) (iblk m c 5 t) (iblk m c 6 t) := by dsimp only [dats]
theorem after0_11 (c : Dev nD) (t : Fin cfg0.N) : (dats m 0 c).after 11 t = castUp (iblk m c 7 (clip 31 (by decide) t)) := by dsimp only [dats]
theorem after0_12 (c : Dev nD) (t : Fin cfg0.N) : (dats m 0 c).after 12 t = castUp (iblk m c 8 (clip 63 (by decide) t)) := by dsimp only [dats]
theorem after0_13 (c : Dev nD) (t : Fin cfg0.N) : (dats m 0 c).after 13 t = castDown (iblk m c 9 (clip 95 (by decide) t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The weight windows outside their stretch -/

theorem live0_10 : ∀ t : Fin cfg0.N, cfg0.idle 10 (grid0.coords t) = false := fun _ => rfl

theorem idle0_11 : ∀ t : Fin cfg0.N, cfg0.idle 11 (grid0.coords t) = decide ¬(0 ≤ t.val ∧ t.val ≤ 31) :=
  (by decide +kernel : ∀ t : Fin grid0.N, idle0 11 (grid0.coords t) = decide ¬(0 ≤ t.val ∧ t.val ≤ 31))
theorem noflush0_11 : ∀ t : Fin cfg0.N, t.val < 0 ∨ 31 ≤ t.val → t.val < 127 → (cfg0.win 11).flush t = false :=
  (by decide +kernel : ∀ t : Fin grid0.N, t.val < 0 ∨ 31 ≤ t.val → t.val < 127 → win0_11.flush t = false)

/-- After its stretch the window keeps what the stretch's last point left. -/
theorem held0_11 (c : Dev nD) (n : ℕ) (hn : 31 + 1 + n < 128) (d) :
    (dats m 0 c).before 11 ⟨31 + 1 + n, lt_of_lt_of_eq hn N_0.symm⟩ d = castUp (iblk m c 7 ⟨31, lt_of_lt_of_eq (by decide) N_0.symm⟩) := by
  induction n with
  | zero =>
    rw [(dats m 0 c).before_of_pos 11 _ (by simp) ((cfg0.win 11).fetch_out rfl _), noflush0_11 _ (.inr (by simp)) (by simp), if_neg Bool.false_ne_true]
    unfold Dat.left
    rw [idle0_11]
    exact (after0_11 m c _).trans (congrArg _ (congrArg _ (clip_of_le (by simp))))
  | succ n ih =>
    rw [(dats m 0 c).before_of_pos 11 _ (by simp) ((cfg0.win 11).fetch_out rfl _), noflush0_11 _ (.inr (by dsimp only; omega)) (by dsimp only; omega),
      if_neg Bool.false_ne_true]
    unfold Dat.left
    rw [idle0_11, decide_eq_true (by dsimp only; omega)]
    exact ih (by omega)

theorem leaves0_11_live (c : Dev nD) (t : Fin cfg0.N) (h : 0 ≤ t.val ∧ t.val ≤ 31) :
    (dats m 0 c).leavesExact 11 t = owns (c : Thread nD τ) (ms0_11 t) fullShare (castUp (iblk m c 7 t)) := by
  unfold Dat.leavesExact
  rw [idle0_11 t, decide_eq_false (not_not.mpr h)]
  dsimp only
  rw [after0_11, clip_of_le h.2]

theorem leaves0_11_idle (c : Dev nD) (t : Fin cfg0.N) (h : ¬(0 ≤ t.val ∧ t.val ≤ 31)) (d) :
    owns (c : Thread nD τ) (ms0_11 t) fullShare ((dats m 0 c).before 11 t d) ⊢ (dats m 0 c).leavesExact 11 t := by
  have hN : t.val < 128 := lt_of_lt_of_eq t.isLt N_0
  by_cases hl : t.val = 127
  · have e : (dats m 0 c).before 11 t d = (dats m 0 c).after 11 t := by
      rw [after0_11, clip_of_ge (by omega)]
      have := held0_11 m c (127 - 31 - 1) (by decide) d
      rwa [show (⟨31 + 1 + (127 - 31 - 1), lt_of_lt_of_eq (by decide) N_0.symm⟩ : Fin cfg0.N) = t from Fin.ext (by show 31 + 1 + (127 - 31 - 1) = t.val; omega)] at this
    rw [e]
    unfold Dat.leavesExact
    rw [idle0_11 t, decide_eq_true h]
    cases (cfg0.win 11).flush t
    · dsimp only; rw [← e]; iintro H; iexists d; iexact H
    · exact .rfl
  · rw [(dats m 0 c).leavesExact_idle 11 t ((idle0_11 t).trans (decide_eq_true h)) (noflush0_11 t (by omega) (by omega))]
    iintro H; iexists d; iexact H

theorem idle0_12 : ∀ t : Fin cfg0.N, cfg0.idle 12 (grid0.coords t) = decide ¬(32 ≤ t.val ∧ t.val ≤ 63) :=
  (by decide +kernel : ∀ t : Fin grid0.N, idle0 12 (grid0.coords t) = decide ¬(32 ≤ t.val ∧ t.val ≤ 63))
theorem noflush0_12 : ∀ t : Fin cfg0.N, t.val < 32 ∨ 63 ≤ t.val → t.val < 127 → (cfg0.win 12).flush t = false :=
  (by decide +kernel : ∀ t : Fin grid0.N, t.val < 32 ∨ 63 ≤ t.val → t.val < 127 → win0_12.flush t = false)

/-- After its stretch the window keeps what the stretch's last point left. -/
theorem held0_12 (c : Dev nD) (n : ℕ) (hn : 63 + 1 + n < 128) (d) :
    (dats m 0 c).before 12 ⟨63 + 1 + n, lt_of_lt_of_eq hn N_0.symm⟩ d = castUp (iblk m c 8 ⟨63, lt_of_lt_of_eq (by decide) N_0.symm⟩) := by
  induction n with
  | zero =>
    rw [(dats m 0 c).before_of_pos 12 _ (by simp) ((cfg0.win 12).fetch_out rfl _), noflush0_12 _ (.inr (by simp)) (by simp), if_neg Bool.false_ne_true]
    unfold Dat.left
    rw [idle0_12]
    exact (after0_12 m c _).trans (congrArg _ (congrArg _ (clip_of_le (by simp))))
  | succ n ih =>
    rw [(dats m 0 c).before_of_pos 12 _ (by simp) ((cfg0.win 12).fetch_out rfl _), noflush0_12 _ (.inr (by dsimp only; omega)) (by dsimp only; omega),
      if_neg Bool.false_ne_true]
    unfold Dat.left
    rw [idle0_12, decide_eq_true (by dsimp only; omega)]
    exact ih (by omega)

theorem leaves0_12_live (c : Dev nD) (t : Fin cfg0.N) (h : 32 ≤ t.val ∧ t.val ≤ 63) :
    (dats m 0 c).leavesExact 12 t = owns (c : Thread nD τ) (ms0_12 t) fullShare (castUp (iblk m c 8 t)) := by
  unfold Dat.leavesExact
  rw [idle0_12 t, decide_eq_false (not_not.mpr h)]
  dsimp only
  rw [after0_12, clip_of_le h.2]

theorem leaves0_12_idle (c : Dev nD) (t : Fin cfg0.N) (h : ¬(32 ≤ t.val ∧ t.val ≤ 63)) (d) :
    owns (c : Thread nD τ) (ms0_12 t) fullShare ((dats m 0 c).before 12 t d) ⊢ (dats m 0 c).leavesExact 12 t := by
  have hN : t.val < 128 := lt_of_lt_of_eq t.isLt N_0
  by_cases hl : t.val = 127
  · have e : (dats m 0 c).before 12 t d = (dats m 0 c).after 12 t := by
      rw [after0_12, clip_of_ge (by omega)]
      have := held0_12 m c (127 - 63 - 1) (by decide) d
      rwa [show (⟨63 + 1 + (127 - 63 - 1), lt_of_lt_of_eq (by decide) N_0.symm⟩ : Fin cfg0.N) = t from Fin.ext (by show 63 + 1 + (127 - 63 - 1) = t.val; omega)] at this
    rw [e]
    unfold Dat.leavesExact
    rw [idle0_12 t, decide_eq_true h]
    cases (cfg0.win 12).flush t
    · dsimp only; rw [← e]; iintro H; iexists d; iexact H
    · exact .rfl
  · rw [(dats m 0 c).leavesExact_idle 12 t ((idle0_12 t).trans (decide_eq_true h)) (noflush0_12 t (by omega) (by omega))]
    iintro H; iexists d; iexact H

theorem idle0_13 : ∀ t : Fin cfg0.N, cfg0.idle 13 (grid0.coords t) = decide ¬(64 ≤ t.val ∧ t.val ≤ 95) :=
  (by decide +kernel : ∀ t : Fin grid0.N, idle0 13 (grid0.coords t) = decide ¬(64 ≤ t.val ∧ t.val ≤ 95))
theorem noflush0_13 : ∀ t : Fin cfg0.N, t.val < 64 ∨ 95 ≤ t.val → t.val < 127 → (cfg0.win 13).flush t = false :=
  (by decide +kernel : ∀ t : Fin grid0.N, t.val < 64 ∨ 95 ≤ t.val → t.val < 127 → win0_13.flush t = false)

/-- After its stretch the window keeps what the stretch's last point left. -/
theorem held0_13 (c : Dev nD) (n : ℕ) (hn : 95 + 1 + n < 128) (d) :
    (dats m 0 c).before 13 ⟨95 + 1 + n, lt_of_lt_of_eq hn N_0.symm⟩ d = castDown (iblk m c 9 ⟨95, lt_of_lt_of_eq (by decide) N_0.symm⟩) := by
  induction n with
  | zero =>
    rw [(dats m 0 c).before_of_pos 13 _ (by simp) ((cfg0.win 13).fetch_out rfl _), noflush0_13 _ (.inr (by simp)) (by simp), if_neg Bool.false_ne_true]
    unfold Dat.left
    rw [idle0_13]
    exact (after0_13 m c _).trans (congrArg _ (congrArg _ (clip_of_le (by simp))))
  | succ n ih =>
    rw [(dats m 0 c).before_of_pos 13 _ (by simp) ((cfg0.win 13).fetch_out rfl _), noflush0_13 _ (.inr (by dsimp only; omega)) (by dsimp only; omega),
      if_neg Bool.false_ne_true]
    unfold Dat.left
    rw [idle0_13, decide_eq_true (by dsimp only; omega)]
    exact ih (by omega)

theorem leaves0_13_live (c : Dev nD) (t : Fin cfg0.N) (h : 64 ≤ t.val ∧ t.val ≤ 95) :
    (dats m 0 c).leavesExact 13 t = owns (c : Thread nD τ) (ms0_13 t) fullShare (castDown (iblk m c 9 t)) := by
  unfold Dat.leavesExact
  rw [idle0_13 t, decide_eq_false (not_not.mpr h)]
  dsimp only
  rw [after0_13, clip_of_le h.2]

theorem leaves0_13_idle (c : Dev nD) (t : Fin cfg0.N) (h : ¬(64 ≤ t.val ∧ t.val ≤ 95)) (d) :
    owns (c : Thread nD τ) (ms0_13 t) fullShare ((dats m 0 c).before 13 t d) ⊢ (dats m 0 c).leavesExact 13 t := by
  have hN : t.val < 128 := lt_of_lt_of_eq t.isLt N_0
  by_cases hl : t.val = 127
  · have e : (dats m 0 c).before 13 t d = (dats m 0 c).after 13 t := by
      rw [after0_13, clip_of_ge (by omega)]
      have := held0_13 m c (127 - 95 - 1) (by decide) d
      rwa [show (⟨95 + 1 + (127 - 95 - 1), lt_of_lt_of_eq (by decide) N_0.symm⟩ : Fin cfg0.N) = t from Fin.ext (by show 95 + 1 + (127 - 95 - 1) = t.val; omega)] at this
    rw [e]
    unfold Dat.leavesExact
    rw [idle0_13 t, decide_eq_true h]
    cases (cfg0.win 13).flush t
    · dsimp only; rw [← e]; iintro H; iexists d; iexact H
    · exact .rfl
  · rw [(dats m 0 c).leavesExact_idle 13 t ((idle0_13 t).trans (decide_eq_true h)) (noflush0_13 t (by omega) (by omega))]
    iintro H; iexists d; iexact H

/-! ## The body, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- An input's buffer is left at its block, the attention's output at the block computed. -/
theorem leaves0_0 (c : Dev nD) (t : Fin cfg0.N) : (dats m 0 c).leavesExact 0 t = owns (c : Thread nD τ) (ms0_0 t) fullShare (iblk m c 0 t) := by
  unfold Dat.leavesExact; rw [liveAt0_0 t]; dsimp only; rw [after0_0]
theorem leaves0_1 (c : Dev nD) (t : Fin cfg0.N) : (dats m 0 c).leavesExact 1 t = owns (c : Thread nD τ) (ms0_1 t) fullShare (iblk m c 1 t) := by
  unfold Dat.leavesExact; rw [liveAt0_1 t]; dsimp only; rw [after0_1]
theorem leaves0_2 (c : Dev nD) (t : Fin cfg0.N) : (dats m 0 c).leavesExact 2 t = owns (c : Thread nD τ) (ms0_2 t) fullShare (iblk m c 2 t) := by
  unfold Dat.leavesExact; rw [liveAt0_2 t]; dsimp only; rw [after0_2]
theorem leaves0_3 (c : Dev nD) (t : Fin cfg0.N) : (dats m 0 c).leavesExact 3 t = owns (c : Thread nD τ) (ms0_3 t) fullShare (iblk m c 3 t) := by
  unfold Dat.leavesExact; rw [liveAt0_3 t]; dsimp only; rw [after0_3]
theorem leaves0_4 (c : Dev nD) (t : Fin cfg0.N) : (dats m 0 c).leavesExact 4 t = owns (c : Thread nD τ) (ms0_4 t) fullShare (iblk m c 4 t) := by
  unfold Dat.leavesExact; rw [liveAt0_4 t]; dsimp only; rw [after0_4]
theorem leaves0_5 (c : Dev nD) (t : Fin cfg0.N) : (dats m 0 c).leavesExact 5 t = owns (c : Thread nD τ) (ms0_5 t) fullShare (iblk m c 5 t) := by
  unfold Dat.leavesExact; rw [liveAt0_5 t]; dsimp only; rw [after0_5]
theorem leaves0_6 (c : Dev nD) (t : Fin cfg0.N) : (dats m 0 c).leavesExact 6 t = owns (c : Thread nD τ) (ms0_6 t) fullShare (iblk m c 6 t) := by
  unfold Dat.leavesExact; rw [liveAt0_6 t]; dsimp only; rw [after0_6]
theorem leaves0_7 (c : Dev nD) (t : Fin cfg0.N) : (dats m 0 c).leavesExact 7 t = owns (c : Thread nD τ) (ms0_7 t) fullShare (iblk m c 7 t) := by
  unfold Dat.leavesExact; rw [liveAt0_7 t]; dsimp only; rw [after0_7]
theorem leaves0_8 (c : Dev nD) (t : Fin cfg0.N) : (dats m 0 c).leavesExact 8 t = owns (c : Thread nD τ) (ms0_8 t) fullShare (iblk m c 8 t) := by
  unfold Dat.leavesExact; rw [liveAt0_8 t]; dsimp only; rw [after0_8]
theorem leaves0_9 (c : Dev nD) (t : Fin cfg0.N) : (dats m 0 c).leavesExact 9 t = owns (c : Thread nD τ) (ms0_9 t) fullShare (iblk m c 9 t) := by
  unfold Dat.leavesExact; rw [liveAt0_9 t]; dsimp only; rw [after0_9]
theorem leaves0_10 (c : Dev nD) (t : Fin cfg0.N) : (dats m 0 c).leavesExact 10 t = owns (c : Thread nD τ) (ms0_10 t) fullShare (latOut (grid0.coords t) (iblk m c 0 t) (iblk m c 1 t) (iblk m c 2 t) (iblk m c 3 t) (iblk m c 4 t) (iblk m c 5 t) (iblk m c 6 t)) := by
  unfold Dat.leavesExact; rw [live0_10 t]; dsimp only; rw [after0_10]

set_option maxHeartbeats 4800000 in
theorem sound_body_A (c : Dev nD) (t : Fin cfg0.N) (h0 : t.val < 32) (h1 : ¬t.val / 32 % 4 = 1) (h2 : ¬t.val / 32 % 4 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  have hN : t.val < 128 := lt_of_lt_of_eq t.isLt N_0
  rw [leaves0_0, leaves0_1, leaves0_2, leaves0_3, leaves0_4, leaves0_5, leaves0_6, leaves0_7, leaves0_8, leaves0_9, leaves0_10]
  rw [leaves0_11_live m c t (by omega)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((latRun_A c (grid0.coords t) _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _ _ _) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply leaves0_12_idle m c t (by omega) _; iexact H12
  iapply leaves0_13_idle m c t (by omega) _; iexact H13

set_option maxHeartbeats 4800000 in
theorem sound_body_B (c : Dev nD) (t : Fin cfg0.N) (h0 : ¬t.val < 32) (h1 : t.val / 32 % 4 = 1) (h2 : ¬t.val / 32 % 4 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  have hN : t.val < 128 := lt_of_lt_of_eq t.isLt N_0
  rw [leaves0_0, leaves0_1, leaves0_2, leaves0_3, leaves0_4, leaves0_5, leaves0_6, leaves0_7, leaves0_8, leaves0_9, leaves0_10]
  rw [leaves0_12_live m c t (by omega)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((latRun_B c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _ _ _) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply leaves0_11_idle m c t (by omega) _; iexact H11
  isplitl [H12]; · iexact H12
  iapply leaves0_13_idle m c t (by omega) _; iexact H13

set_option maxHeartbeats 4800000 in
theorem sound_body_C (c : Dev nD) (t : Fin cfg0.N) (h0 : ¬t.val < 32) (h1 : ¬t.val / 32 % 4 = 1) (h2 : t.val / 32 % 4 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  have hN : t.val < 128 := lt_of_lt_of_eq t.isLt N_0
  rw [leaves0_0, leaves0_1, leaves0_2, leaves0_3, leaves0_4, leaves0_5, leaves0_6, leaves0_7, leaves0_8, leaves0_9, leaves0_10]
  rw [leaves0_13_live m c t (by omega)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((latRun_C c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) _ _ _) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply leaves0_11_idle m c t (by omega) _; iexact H11
  isplitl [H12]; · iapply leaves0_12_idle m c t (by omega) _; iexact H12
  iexact H13

set_option maxHeartbeats 4800000 in
theorem sound_body_D (c : Dev nD) (t : Fin cfg0.N) (h0 : ¬t.val < 32) (h1 : ¬t.val / 32 % 4 = 1) (h2 : ¬t.val / 32 % 4 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  have hN : t.val < 128 := lt_of_lt_of_eq t.isLt N_0
  rw [leaves0_0, leaves0_1, leaves0_2, leaves0_3, leaves0_4, leaves0_5, leaves0_6, leaves0_7, leaves0_8, leaves0_9, leaves0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((latRun_D c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _ _ _) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply leaves0_11_idle m c t (by omega) _; iexact H11
  isplitl [H12]; · iapply leaves0_12_idle m c t (by omega) _; iexact H12
  iapply leaves0_13_idle m c t (by omega) _; iexact H13

theorem sound_body (c : Dev nD) (t : Fin cfg0.N) :
    bodyPre m c t ⊢ wp frame (wpE (defs₀ (F := F)) Variants.none c none) Set.univ (bodyAt0 t) (fun _ => bodyPost m c t) := by
  by_cases h0 : t.val < 32
  · exact sound_body_A m c t h0 (by omega) (by omega)
  · by_cases h1 : t.val / 32 % 4 = 1
    · exact sound_body_B m c t h0 h1 (by omega)
    · by_cases h2 : t.val / 32 % 4 = 2
      · exact sound_body_C m c t h0 h1 h2
      · exact sound_body_D m c t h0 h1 h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the implicit arguments are found by unifying the conclusion with this statement, which unfolds plain definitions in types
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.LatStep.lean ====
/-
The running softmax of the attention kernel over the reals: one chunk of keys scales what was summed so far and adds the
chunk's weights, so that the weighted values over the sum of the weights are those of an ordinary softmax in the end.
-/
module

public import proofs.«01_k».proof.Proof.LatBlk
public import Idealize.ShloMosaic.Lib.Pointwise
public import Mathlib.Analysis.SpecialFunctions.Pow.Real
public import Mathlib.Data.Finset.Fold

@[expose] public section

set_option maxRecDepth 16384

noncomputable section

namespace Cert.KernelIdeal.Gen

open Idealize.ShloMosaic Idealize.ShloMosaic.TcCoe

/-! ## Extended reals that are real -/

/-- A sum of reals, in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) := (EReal.coe_strictMono.monotone.map_max).symm

/-- An extended real that is a real. -/
def IsR (x : EReal) : Prop := ∃ r : ℝ, x = (r : EReal)

theorem isR_max {x y : EReal} (hx : IsR x) (hy : IsR y) : IsR (max x y) := by
  obtain ⟨a, rfl⟩ := hx; obtain ⟨b, rfl⟩ := hy; exact ⟨_, coe_max a b⟩

/-- The greatest of finitely many reals, from minus infinity. -/
theorem isR_fold {n : ℕ} (hn : 0 < n) (f : Fin n → EReal) (h : ∀ i, IsR (f i)) : IsR (Finset.univ.fold max ⊥ f) := by
  have hlt : Finset.univ.fold max ⊥ f < ⊤ :=
    (Finset.fold_max_lt _).mpr ⟨bot_lt_top, fun x _ => by obtain ⟨r, hr⟩ := h x; rw [hr]; exact EReal.coe_lt_top r⟩
  have hgt : ⊥ < Finset.univ.fold max ⊥ f :=
    (Finset.lt_fold_max _).mpr (.inr ⟨⟨0, hn⟩, Finset.mem_univ _, by obtain ⟨r, hr⟩ := h ⟨0, hn⟩; rw [hr]; exact EReal.bot_lt_coe r⟩)
  exact ⟨_, (EReal.coe_toReal hlt.ne hgt.ne').symm⟩

theorem ofBits_bot : Ideal.ofBits .f32 0xFF800000#32 = ⊥ := by simp [Ideal.ofBits, Ideal.ieee]

/-! ## The pieces of a step -/

theorem rowMax_real {x : FVec Ideal S1024x128 .f32} (h : ∀ r c, IsR (x (ix2 r c))) :
    ∃ R : Fin 1024 → ℝ, ∀ r c, rowMax x (ix2 r c) = (R r : EReal) := by
  choose R hR using fun r : Fin 1024 => isR_fold (n := 128) (by decide) (fun c => x (ix2 r c)) (h r)
  refine ⟨R, fun r c => ?_⟩
  rw [← hR r]
  pointwise [rowMax]
  rw [ofBits_bot]

theorem rowSum_apply (x : FVec Ideal S1024x128 .f32) (r : Fin 1024) (c : Fin 128) : rowSum x (ix2 r c) = ∑ k : Fin 128, x (ix2 r k) := by
  pointwise [rowSum]

theorem pow2_coe {p q : FVec Ideal S1024x128 .f32} {i : S1024x128.Idx} {x m : ℝ} (hp : p i = (x : EReal)) (hq : q i = (m : EReal)) :
    pow2 p q i = (((2 : ℝ) ^ (x - m) : ℝ) : EReal) := by
  show Ideal.exp2 (p i - q i) = _
  rw [hp, hq, ← EReal.coe_sub, Ideal.exp2_coe]; rfl

theorem pow2_bot {p q : FVec Ideal S1024x128 .f32} {i : S1024x128.Idx} (hp : p i = ⊥) {m : ℝ} (hq : q i = (m : EReal)) :
    pow2 p q i = ((0 : ℝ) : EReal) := by
  show Ideal.exp2 (p i - q i) = _
  rw [hp, hq, EReal.bot_sub, Ideal.exp2_bot]; rfl

theorem cut16_apply (s : FVec Ideal S1024x2048 .f32) (j : Fin 16) (r : Fin 1024) (c : Fin 128) :
    cut16 s j (ix2 r c) = s (ix2 r ⟨128 * j.val + c.val, by omega⟩) := by
  pointwise [cut16]
theorem cut2_apply (s : FVec Ideal S1024x256 .f32) (j : Fin 2) (r : Fin 1024) (c : Fin 128) :
    cut2 s j (ix2 r c) = s (ix2 r ⟨128 * j.val + c.val, by omega⟩) := by
  pointwise [cut2]

theorem join16_apply (p : Fin 16 → FVec Ideal S1024x128 .f32) (r : Fin 1024) (j : Fin 16) (c : Fin 128) :
    join16 p (ix2 r ⟨128 * j.val + c.val, by omega⟩) = p j (ix2 r c) :=
  concatenate_ofFn_apply (t := S1024x2048) (s₁ := S1024x128) 1 p
    concatenates_S1024x128_S1024x128_S1024x128_S1024x128_S1024x128_S1024x128_S1024x128_S1024x128_S1024x128_S1024x128_S1024x128_S1024x128_S1024x128_S1024x128_S1024x128_S1024x128_S1024x2048_d1
    rfl 128 rfl (ix2 r ⟨128 * j.val + c.val, by omega⟩) j (by show (128 * j.val + c.val) / 128 = _; omega) (ix2 r c)
    (by show c.val = (128 * j.val + c.val) % 128; omega)
    (fun b hb => by fin_cases b; · rfl
                    · exact absurd rfl hb)
theorem join2_apply (p : Fin 2 → FVec Ideal S1024x128 .f32) (r : Fin 1024) (j : Fin 2) (c : Fin 128) :
    join2 p (ix2 r ⟨128 * j.val + c.val, by omega⟩) = p j (ix2 r c) :=
  concatenate_ofFn_apply (t := S1024x256) (s₁ := S1024x128) 1 p concatenates_S1024x128_S1024x128_S1024x256_d1
    rfl 128 rfl (ix2 r ⟨128 * j.val + c.val, by omega⟩) j (by show (128 * j.val + c.val) / 128 = _; omega) (ix2 r c)
    (by show c.val = (128 * j.val + c.val) % 128; omega)
    (fun b hb => by fin_cases b; · rfl
                    · exact absurd rfl hb)

theorem chain16_max {P : Fin 16 → FVec Ideal S1024x128 .f32} {i : S1024x128.Idx} (h : ∀ j, IsR (P j i)) : IsR (chain16 maximumf P i) :=
  isR_max (isR_max (isR_max (isR_max (isR_max (isR_max (isR_max (isR_max (isR_max (isR_max (isR_max (isR_max (isR_max (isR_max (isR_max
    (h 0) (h 1)) (h 2)) (h 3)) (h 4)) (h 5)) (h 6)) (h 7)) (h 8)) (h 9)) (h 10)) (h 11)) (h 12)) (h 13)) (h 14)) (h 15)

theorem chain16_sum (P : Fin 16 → FVec Ideal S1024x128 .f32) (i : S1024x128.Idx) : chain16 addf P i = ∑ j, P j i := by
  simp only [Fin.sum_univ_castSucc, Fin.sum_univ_zero, zero_add]
  rfl

/-- A sum over a block index and a lane is the sum over the keys. -/
theorem sum_blocks (J : ℕ) (f : Fin (J * 128) → ℝ) :
    ∑ c : Fin 128, ∑ j : Fin J, f ⟨128 * j.val + c.val, by omega⟩ = ∑ k, f k := by
  rw [Finset.sum_comm, ← Fintype.sum_prod_type' (f := fun (j : Fin J) (c : Fin 128) => f ⟨128 * j.val + c.val, by omega⟩)]
  refine Fintype.sum_equiv (finProdFinEquiv (m := J) (n := 128)) _ _ fun x => congrArg f (Fin.ext ?_)
  show 128 * x.1.val + x.2.val = x.2.val + 128 * x.1.val
  omega

/-! ## One step -/

/-- What the running maximum, lane sums and weighted values stand for: `Z` the sum of the weights, `N` the weighted values. -/
def Inv (m l a : FVec Ideal S1024x128 .f32) (Z : Fin 1024 → ℝ) (N : Fin 1024 → Fin 128 → ℝ) : Prop :=
  ∃ (M : Fin 1024 → ℝ) (L A : Fin 1024 → Fin 128 → ℝ),
    (∀ r c, m (ix2 r c) = (M r : EReal)) ∧ (∀ r c, l (ix2 r c) = (L r c : EReal)) ∧ (∀ r c, a (ix2 r c) = (A r c : EReal))
    ∧ (∀ r, (∑ c, L r c) * (2 : ℝ) ^ M r = Z r) ∧ ∀ r e, A r e * (2 : ℝ) ^ M r = N r e

theorem two_shift (x m : ℝ) : (2 : ℝ) ^ (x - m) * 2 ^ m = 2 ^ x := by
  rw [← Real.rpow_add (by norm_num), sub_add_cancel]

/-- What a step must establish, over the reals. -/
theorem step_core {J K : ℕ} (hK : J * 128 = K) {m' l' a' : FVec Ideal S1024x128 .f32} {al : Fin 1024 → ℝ} {M' : Fin 1024 → ℝ} {L A : Fin 1024 → Fin 128 → ℝ}
    {Z : Fin 1024 → ℝ} {N : Fin 1024 → Fin 128 → ℝ} {S : Fin 1024 → Fin K → ℝ} {V : Fin K → Fin 128 → ℝ}
    (hm : ∀ r c, m' (ix2 r c) = (M' r : EReal))
    (hl : ∀ r c, l' (ix2 r c) = (al r : EReal) * (L r c : EReal) + ∑ j : Fin J, (((2 : ℝ) ^ (S r ⟨128 * j.val + c.val, by omega⟩ - M' r) : ℝ) : EReal))
    (ha : ∀ r e, a' (ix2 r e) = (al r : EReal) * (A r e : EReal) + ∑ k, (((2 : ℝ) ^ (S r k - M' r) : ℝ) : EReal) * (V k e : EReal))
    (hZ : ∀ r, al r * (∑ c, L r c) * (2 : ℝ) ^ M' r = Z r) (hN : ∀ r e, al r * A r e * (2 : ℝ) ^ M' r = N r e) :
    Inv m' l' a' (fun r => Z r + ∑ k, (2 : ℝ) ^ S r k) (fun r e => N r e + ∑ k, (2 : ℝ) ^ S r k * V k e) := by
  subst hK
  refine ⟨M', fun r c => al r * L r c + ∑ j : Fin J, (2 : ℝ) ^ (S r ⟨128 * j.val + c.val, by omega⟩ - M' r),
    fun r e => al r * A r e + ∑ k, (2 : ℝ) ^ (S r k - M' r) * V k e, hm, fun r c => ?_, fun r e => ?_, fun r => ?_, fun r e => ?_⟩
  · rw [hl, coe_sum, EReal.coe_add, EReal.coe_mul]
  · rw [ha, EReal.coe_add, EReal.coe_mul, ← coe_sum]; simp only [EReal.coe_mul]
  · rw [Finset.sum_add_distrib, ← Finset.mul_sum, sum_blocks J (fun k => (2 : ℝ) ^ (S r k - M' r)), add_mul, hZ, Finset.sum_mul]
    simp only [two_shift]
  · rw [add_mul, hN, Finset.sum_mul]
    congr 1
    refine Finset.sum_congr rfl fun k _ => ?_
    rw [mul_right_comm, two_shift]

/-- A chunk of 2048 keys. -/
theorem step16 {m l a : FVec Ideal S1024x128 .f32} {Z : Fin 1024 → ℝ} {N : Fin 1024 → Fin 128 → ℝ} (h : Inv m l a Z N)
    {s : FVec Ideal S1024x2048 .f32} {S : Fin 1024 → Fin 2048 → ℝ} (hs : ∀ r k, s (ix2 r k) = (S r k : EReal))
    {v : FVec Ideal S2048x128 .bf16} {V : Fin 2048 → Fin 128 → ℝ} (hv : ∀ k e, v (ix2 k e) = (V k e : EReal)) :
    Inv (m16 s m) (l16 s m l) (a16 s v m a) (fun r => Z r + ∑ k, (2 : ℝ) ^ S r k) (fun r e => N r e + ∑ k, (2 : ℝ) ^ S r k * V k e) := by
  obtain ⟨M, L, A, hM, hL, hA, hZ, hN⟩ := h
  obtain ⟨R, hR⟩ := rowMax_real (x := chain16 maximumf (cut16 s)) fun r c => chain16_max fun j => ⟨_, (cut16_apply s j r c).trans (hs r _)⟩
  have hm : ∀ r c, m16 s m (ix2 r c) = ((max (M r) (R r) : ℝ) : EReal) := fun r c => by
    show max (m (ix2 r c)) (rowMax _ (ix2 r c)) = _
    rw [hM, hR, coe_max]
  have hp : ∀ j r c, pow2 (cut16 s j) (m16 s m) (ix2 r c) = (((2 : ℝ) ^ (S r ⟨128 * j.val + c.val, by omega⟩ - max (M r) (R r)) : ℝ) : EReal) :=
    fun j r c => pow2_coe ((cut16_apply s j r c).trans (hs r _)) (hm r c)
  refine step_core (J := 16) rfl (al := fun r => (2 : ℝ) ^ (M r - max (M r) (R r))) (L := L) (A := A) hm (fun r c => ?_) (fun r e => ?_)
    (fun r => ?_) (fun r e => ?_)
  · show pow2 m (m16 s m) (ix2 r c) * l (ix2 r c) + chain16 addf _ (ix2 r c) = _
    rw [pow2_coe (hM r c) (hm r c), hL, chain16_sum]
    simp only [hp]
  · have e2 : a16 s v m a (ix2 r e) = pow2 m (m16 s m) (ix2 r e) * a (ix2 r e)
        + ∑ k : Fin 2048, join16 (fun j => pow2 (cut16 s j) (m16 s m)) (ix2 r k) * v (ix2 k e) := by pointwise [a16]
    rw [e2, pow2_coe (hM r e) (hm r e), hA]
    refine congrArg₂ (· + ·) rfl (Finset.sum_congr rfl fun k _ => ?_)
    obtain ⟨j, c, rfl⟩ : ∃ (j : Fin 16) (c : Fin 128), k = ⟨128 * j.val + c.val, by omega⟩ :=
      ⟨⟨k.val / 128, by omega⟩, ⟨k.val % 128, by omega⟩, Fin.ext (by show k.val = 128 * (k.val / 128) + k.val % 128; omega)⟩
    rw [join16_apply, hp, hv]
  · rw [← hZ, mul_right_comm, two_shift, mul_comm]
  · rw [← hN, mul_right_comm, two_shift, mul_comm]

/-- The first chunk, of 256 keys. -/
theorem step2 {s : FVec Ideal S1024x256 .f32} {S : Fin 1024 → Fin 256 → ℝ} (hs : ∀ r k, s (ix2 r k) = (S r k : EReal))
    {v : FVec Ideal S256x128 .bf16} {V : Fin 256 → Fin 128 → ℝ} (hv : ∀ k e, v (ix2 k e) = (V k e : EReal)) :
    Inv (m2 s mInit) (l2 s mInit zInit) (a2 s v mInit zInit) (fun r => 0 + ∑ k, (2 : ℝ) ^ S r k) (fun r e => 0 + ∑ k, (2 : ℝ) ^ S r k * V k e) := by
  obtain ⟨R, hR⟩ := rowMax_real (x := maximumf (cut2 s 0) (cut2 s 1)) fun r c =>
    isR_max ⟨_, (cut2_apply s 0 r c).trans (hs r _)⟩ ⟨_, (cut2_apply s 1 r c).trans (hs r _)⟩
  have hI : ∀ i, (mInit : FVec Ideal S1024x128 .f32) i = ⊥ := fun i => ofBits_bot
  have hz : ∀ i, (zInit : FVec Ideal S1024x128 .f32) i = ((0 : ℝ) : EReal) := fun i => Ideal.ofBits_zero_f32
  have hm : ∀ r c, m2 s mInit (ix2 r c) = (R r : EReal) := fun r c => by
    show max (mInit (ix2 r c)) (rowMax _ (ix2 r c)) = _
    rw [hI, hR, max_eq_right bot_le]
  have hp : ∀ j r c, pow2 (cut2 s j) (m2 s mInit) (ix2 r c) = (((2 : ℝ) ^ (S r ⟨128 * j.val + c.val, by omega⟩ - R r) : ℝ) : EReal) :=
    fun j r c => pow2_coe ((cut2_apply s j r c).trans (hs r _)) (hm r c)
  refine step_core (J := 2) rfl (al := fun _ => 0) (L := fun _ _ => 0) (A := fun _ _ => 0) hm (fun r c => ?_) (fun r e => ?_)
    (fun r => by simp) (fun r e => by simp)
  · show pow2 mInit (m2 s mInit) (ix2 r c) * zInit (ix2 r c) + (pow2 (cut2 s 0) _ (ix2 r c) + pow2 (cut2 s 1) _ (ix2 r c)) = _
    rw [pow2_bot (hI _) (hm r c), hz, Fin.sum_univ_two, hp, hp]
  · have e2 : a2 s v mInit zInit (ix2 r e) = pow2 mInit (m2 s mInit) (ix2 r e) * zInit (ix2 r e)
        + ∑ k : Fin 256, join2 (fun j => pow2 (cut2 s j) (m2 s mInit)) (ix2 r k) * v (ix2 k e) := by pointwise [a2]
    rw [e2, pow2_bot (hI _) (hm r e), hz]
    refine congrArg₂ (· + ·) rfl (Finset.sum_congr rfl fun k _ => ?_)
    obtain ⟨j, c, rfl⟩ : ∃ (j : Fin 2) (c : Fin 128), k = ⟨128 * j.val + c.val, by omega⟩ :=
      ⟨⟨k.val / 128, by omega⟩, ⟨k.val % 128, by omega⟩, Fin.ext (by show k.val = 128 * (k.val / 128) + k.val % 128; omega)⟩
    rw [join2_apply, hp, hv]

/-! ## The softmax -/

/-- The weighted values over the sum of the weights. -/
theorem inv_div {m l a : FVec Ideal S1024x128 .f32} {Z : Fin 1024 → ℝ} {N : Fin 1024 → Fin 128 → ℝ} (h : Inv m l a Z N)
    (hZ0 : ∀ r, 0 < Z r) (r : Fin 1024) (e : Fin 128) : divf a (rowSum l) (ix2 r e) = ((N r e / Z r : ℝ) : EReal) := by
  obtain ⟨M, L, A, hM, hL, hA, hZ, hN⟩ := h
  show Ideal.div (a (ix2 r e)) (rowSum l (ix2 r e)) = _
  have h2 : (0 : ℝ) < 2 ^ M r := Real.rpow_pos_of_pos (by norm_num) _
  have hne : (∑ c, L r c) ≠ 0 := fun h0 => by have := hZ0 r; rw [← hZ, h0, zero_mul] at this; exact lt_irrefl _ this
  rw [rowSum_apply, hA]
  simp only [hL]
  rw [coe_sum, Ideal.div_coe hne, ← EReal.coe_mul, ← hN, ← hZ]
  congr 1
  field_simp

/-- The attention of one half of the query's lanes, from real scores and values: an ordinary softmax in base two. -/
theorem attend_real {q : FVec Ideal S1024x128 .bf16} {k0 v0 : FVec Ideal S256x128 .bf16} {k1 v1 k2 v2 : FVec Ideal S2048x128 .bf16}
    {S0 : Fin 1024 → Fin 256 → ℝ} {S1 S2 : Fin 1024 → Fin 2048 → ℝ} {V0 : Fin 256 → Fin 128 → ℝ} {V1 V2 : Fin 2048 → Fin 128 → ℝ}
    (h0 : ∀ r k, score2 q k0 (ix2 r k) = (S0 r k : EReal)) (h1 : ∀ r k, score16 q k1 (ix2 r k) = (S1 r k : EReal))
    (h2 : ∀ r k, score16 q k2 (ix2 r k) = (S2 r k : EReal)) (g0 : ∀ k e, v0 (ix2 k e) = (V0 k e : EReal))
    (g1 : ∀ k e, v1 (ix2 k e) = (V1 k e : EReal)) (g2 : ∀ k e, v2 (ix2 k e) = (V2 k e : EReal)) (r : Fin 1024) (e : Fin 128) :
    attend q k0 v0 k1 v1 k2 v2 (ix2 r e)
      = ((((∑ k, (2 : ℝ) ^ S0 r k * V0 k e) + (∑ k, (2 : ℝ) ^ S1 r k * V1 k e) + ∑ k, (2 : ℝ) ^ S2 r k * V2 k e)
          / ((∑ k, (2 : ℝ) ^ S0 r k) + (∑ k, (2 : ℝ) ^ S1 r k) + ∑ k, (2 : ℝ) ^ S2 r k) : ℝ) : EReal) := by
  have H := inv_div (step16 (step16 (step2 h0 g0) h1 g1) h2 g2) (fun r => ?_) r e
  · simp only [zero_add] at H; exact H
  · have p : ∀ x : ℝ, (0 : ℝ) < 2 ^ x := fun x => Real.rpow_pos_of_pos (by norm_num) x
    have a : (0 : ℝ) < ∑ k, (2 : ℝ) ^ S0 r k := Finset.sum_pos (fun k _ => p _) ⟨0, Finset.mem_univ _⟩
    have b : (0 : ℝ) ≤ ∑ k, (2 : ℝ) ^ S1 r k := Finset.sum_nonneg fun k _ => (p _).le
    have c : (0 : ℝ) ≤ ∑ k, (2 : ℝ) ^ S2 r k := Finset.sum_nonneg fun k _ => (p _).le
    linarith

end Cert.KernelIdeal.Gen

end
-- ==== Proof.LatValue.lean ====
/-
The block stored at a grid point, read at an element: the two maps' softmaxes over the reals, their difference, normalised.
-/
module

public import proofs.«01_k».proof.Proof.LatStep

@[expose] public section

set_option maxRecDepth 16384

noncomputable section

namespace Cert.KernelIdeal.Gen

open Idealize.ShloMosaic Idealize.ShloMosaic.TcCoe

theorem firstMap_apply (r : Fin 1024) (x : Fin 128) : firstMap (ix2 r x) = if x.val < 64 then 1#1 else 0#1 := by
  pointwise [firstMap]
  revert x; decide

/-- What the queries are multiplied by: one over the root of the head's width, over the logarithm of two. -/
def qScale : ℝ := (Real.sqrt 64)⁻¹ * (Real.log 2)⁻¹

theorem qScale_eq : qScale = 1 / 8 * (1 / Real.log 2) := by
  rw [qScale, show (64 : ℝ) = 8 ^ 2 by norm_num, Real.sqrt_sq (by norm_num)]; simp

theorem scaled_apply (q : Vec Ideal S1024x128 .f32) (r : Fin 1024) (x : Fin 128) : k0_pay5 q (ix2 r x) = q (ix2 r x) * (qScale : EReal) := by
  pointwise [k0_pay5]
  rfl

theorem select_first (q : Vec Ideal S1024x128 .f32) (r : Fin 1024) (x : Fin 128) :
    (select firstMap (k0_pay5 q) (zeroQ (F := Ideal)) : FVec Ideal S1024x128 .bf16) (ix2 r x)
      = if x.val < 64 then q (ix2 r x) * (qScale : EReal) else ((0 : ℝ) : EReal) := by
  have h : (select firstMap (k0_pay5 q) (zeroQ (F := Ideal)) : FVec Ideal S1024x128 .bf16) (ix2 r x)
      = Scalar.select (firstMap (ix2 r x)) (k0_pay5 q (ix2 r x)) 0 := by pointwise [zeroQ]
  rw [h, firstMap_apply, scaled_apply]
  split <;> rfl
theorem select_second (q : Vec Ideal S1024x128 .f32) (r : Fin 1024) (x : Fin 128) :
    (select firstMap (zeroQ (F := Ideal)) (k0_pay5 q) : FVec Ideal S1024x128 .bf16) (ix2 r x)
      = if x.val < 64 then ((0 : ℝ) : EReal) else q (ix2 r x) * (qScale : EReal) := by
  have h : (select firstMap (zeroQ (F := Ideal)) (k0_pay5 q) : FVec Ideal S1024x128 .bf16) (ix2 r x)
      = Scalar.select (firstMap (ix2 r x)) 0 (k0_pay5 q (ix2 r x)) := by pointwise [zeroQ]
  rw [h, firstMap_apply, scaled_apply]
  split <;> rfl

theorem score2_apply (q : FVec Ideal S1024x128 .bf16) (k : FVec Ideal S256x128 .bf16) (r : Fin 1024) (c : Fin 256) :
    score2 q k (ix2 r c) = ∑ x : Fin 128, q (ix2 r x) * k (ix2 c x) := by pointwise [score2]
theorem score16_apply (q : FVec Ideal S1024x128 .bf16) (k : FVec Ideal S2048x128 .bf16) (r : Fin 1024) (c : Fin 2048) :
    score16 q k (ix2 r c) = ∑ x : Fin 128, q (ix2 r x) * k (ix2 c x) := by pointwise [score16]
theorem cached_apply (x : Vec Ideal S1x256x128 .f32) (k : Fin 256) (e : Fin 128) : cached x (ix2 k e) = x (ix3 0 k e) := by
  pointwise [cached]
theorem sc_apply (x : Vec Ideal S2048x128 .bf16) (k : Fin 2048) (e : Fin 128) : shapeCast S2048x128 x shapeCasts_S2048x128_S2048x128 (ix2 k e) = x (ix2 k e) := by
  pointwise []

/-- The factor of the second map. -/
def lamOf (lp : Fin 4 → Fin 64 → EReal) : EReal :=
  Ideal.exp (∑ x, lp 0 x * lp 1 x) - Ideal.exp (∑ x, lp 2 x * lp 3 x) + Ideal.ofBits .f32 1052116297#32

theorem pay185_186 (lp : Vec Ideal S4x64 .f32) :
    Ideal.exp (k0_pay185 lp (ix2 0 0)) - Ideal.exp (∑ x : Fin 64, k0_pay186 lp (ix2 0 x)) + Ideal.ofBits .f32 1052116297#32 = lamOf fun a x => lp (ix2 a x) := by
  pointwise [k0_pay185, k0_pay186, k0_pay184, lamOf]

/-- A head's normalisation. -/
def headNorm (y : Fin 128 → EReal) (g : EReal) (e : Fin 128) : EReal :=
  y e * Ideal.rsqrt (Ideal.div (∑ x, y x * y x) (Ideal.ofBits .f32 1124073472#32) + Ideal.ofBits .f32 897988541#32)
    * (g * Ideal.ofBits .f32 1059388764#32)

theorem pay1_apply (a b : FVec Ideal S1024x128 .f32) (l : FVec Ideal S1x1 .f32) (l' : FVec Ideal S1x64 .f32) (sg : Vec Ideal S1x128 .f32) (r : Fin 1024) (e : Fin 128) :
    k0_pay1 a b l l' sg (ix2 r e)
      = headNorm (fun x => a (ix2 r x) - (Ideal.exp (l (ix2 0 0)) - Ideal.exp (∑ x : Fin 64, l' (ix2 0 x)) + Ideal.ofBits .f32 1052116297#32) * b (ix2 r x)) (sg (ix2 0 e)) e := by
  pointwise [k0_pay1, headNorm]

/-! ## The block -/

/-- Scores of one map, and its softmax over the three runs of keys. -/
def attR (S0 : Fin 256 → ℝ) (S1 S2 : Fin 2048 → ℝ) (V0 : Fin 256 → ℝ) (V1 V2 : Fin 2048 → ℝ) : ℝ :=
  ((∑ k, (2 : ℝ) ^ S0 k * V0 k) + (∑ k, (2 : ℝ) ^ S1 k * V1 k) + ∑ k, (2 : ℝ) ^ S2 k * V2 k)
    / ((∑ k, (2 : ℝ) ^ S0 k) + (∑ k, (2 : ℝ) ^ S1 k) + ∑ k, (2 : ℝ) ^ S2 k)

def fst (Q : Fin 128 → ℝ) (x : Fin 128) : ℝ := if x.val < 64 then Q x else 0
def snd (Q : Fin 128 → ℝ) (x : Fin 128) : ℝ := if x.val < 64 then 0 else Q x

theorem sum_coe_mul {n : ℕ} {p q : Fin n → EReal} {P Q : Fin n → ℝ} (hp : ∀ x, p x = (P x : EReal)) (hq : ∀ x, q x = (Q x : EReal)) :
    ∑ x, p x * q x = ((∑ x, P x * Q x : ℝ) : EReal) := by
  simp only [hp, hq, ← EReal.coe_mul, coe_sum]

/-- The stored block at an element, from real queries, keys and values. -/
theorem latBlock_real {q : Vec Ideal S1024x128 .f32} {ck cv : Vec Ideal S1x256x128 .f32} {k1 v1 k2 v2 : Vec Ideal S2048x128 .bf16}
    (lp : Vec Ideal S4x64 .f32) (sg : Vec Ideal S1x128 .f32)
    {Q : Fin 1024 → Fin 128 → ℝ} {K0 V0 : Fin 256 → Fin 128 → ℝ} {K1 V1 K2 V2 : Fin 2048 → Fin 128 → ℝ}
    (hq : ∀ r x, q (ix2 r x) * (qScale : EReal) = (Q r x : EReal)) (hck : ∀ k x, ck (ix3 0 k x) = (K0 k x : EReal)) (hcv : ∀ k x, cv (ix3 0 k x) = (V0 k x : EReal))
    (hk1 : ∀ k x, k1 (ix2 k x) = (K1 k x : EReal)) (hv1 : ∀ k x, v1 (ix2 k x) = (V1 k x : EReal))
    (hk2 : ∀ k x, k2 (ix2 k x) = (K2 k x : EReal)) (hv2 : ∀ k x, v2 (ix2 k x) = (V2 k x : EReal)) (r : Fin 1024) (e : Fin 128) :
    latBlock q ck cv k1 v1 k2 v2 lp sg (ix2 r e)
      = headNorm (fun y =>
          (attR (fun k => ∑ x, fst (Q r) x * K0 k x) (fun k => ∑ x, fst (Q r) x * K1 k x) (fun k => ∑ x, fst (Q r) x * K2 k x)
              (fun k => V0 k y) (fun k => V1 k y) (fun k => V2 k y) : EReal)
            - lamOf (fun a x => lp (ix2 a x))
              * (attR (fun k => ∑ x, snd (Q r) x * K0 k x) (fun k => ∑ x, snd (Q r) x * K1 k x) (fun k => ∑ x, snd (Q r) x * K2 k x)
              (fun k => V0 k y) (fun k => V1 k y) (fun k => V2 k y) : EReal)) (sg (ix2 0 e)) e := by
  have f1 : ∀ r x, (select firstMap (k0_pay5 q) (zeroQ (F := Ideal)) : FVec Ideal S1024x128 .bf16) (ix2 r x)
      = (fst (Q r) x : EReal) := fun r x => by rw [select_first, hq, fst]; split <;> rfl
  have f2 : ∀ r x, (select firstMap (zeroQ (F := Ideal)) (k0_pay5 q) : FVec Ideal S1024x128 .bf16) (ix2 r x)
      = (snd (Q r) x : EReal) := fun r x => by rw [select_second, hq, snd]; split <;> rfl
  have A := attend_real (fun r k => (score2_apply _ (cached ck) r k).trans (sum_coe_mul (f1 r) fun x => (cached_apply ck k x).trans (hck k x)))
    (fun r k => (score16_apply _ _ r k).trans (sum_coe_mul (f1 r) fun x => (sc_apply k1 k x).trans (hk1 k x)))
    (fun r k => (score16_apply _ _ r k).trans (sum_coe_mul (f1 r) fun x => (sc_apply k2 k x).trans (hk2 k x)))
    (fun k y => (cached_apply cv k y).trans (hcv k y)) (fun k y => (sc_apply v1 k y).trans (hv1 k y)) (fun k y => (sc_apply v2 k y).trans (hv2 k y)) r
  have B := attend_real (fun r k => (score2_apply _ (cached ck) r k).trans (sum_coe_mul (f2 r) fun x => (cached_apply ck k x).trans (hck k x)))
    (fun r k => (score16_apply _ _ r k).trans (sum_coe_mul (f2 r) fun x => (sc_apply k1 k x).trans (hk1 k x)))
    (fun r k => (score16_apply _ _ r k).trans (sum_coe_mul (f2 r) fun x => (sc_apply k2 k x).trans (hk2 k x)))
    (fun k y => (cached_apply cv k y).trans (hcv k y)) (fun k y => (sc_apply v1 k y).trans (hv1 k y)) (fun k y => (sc_apply v2 k y).trans (hv2 k y)) r
  rw [latBlock, pay1_apply, pay185_186]
  simp only [A, B]
  rfl

end Cert.KernelIdeal.Gen

end
-- ==== Proof.RefRead.lean ====
/-
The reference program read at an element, a few operations at a time.
-/
module

public import proofs.«01_k».proof.Proof.LatValue
public import proofs.«01_k».proof.Proof.Gen.ReferenceIdeal.Read

@[expose] public section

set_option maxRecDepth 16384

noncomputable section

namespace Cert.ReferenceIdeal.Read

open Cert.ReferenceIdeal Cert.ReferenceIdeal.Gen Idealize.ShloMosaic Idealize.ShloMosaic.TcCoe

variable (x0 x1 : FVec Ideal S4x4096x8x2x64 .f32) (x2 : FVec Ideal S4x4096x8x128 .f32) (x3 x4 : FVec Ideal S4x1x256x8x128 .f32)
  (x5 x6 x7 x8 : FVec Ideal S1x64 .f32) (x9 : FVec Ideal S1x128 .f32)

theorem r11 (i : S_.Idx) : val_main_v11 (F := Ideal) x5 x6 x7 x8 i
    = Ideal.exp (∑ x : Fin 64, x5 (ix2 0 x) * x6 (ix2 0 x)) - Ideal.exp (∑ x : Fin 64, x7 (ix2 0 x) * x8 (ix2 0 x)) + Ideal.ofBits .f32 1052116297#32 := by
  pointwise [val_main_v11, val_main_v10, val_main_v9, val_main_v8, val_main_v7, val_main_v6, val_main_v5, val_main_v4, val_main_v3, val_main_v2, val_main_v1, val_main_v0, val_main_cst, val_main_cst_0, val_main_cst_1]
theorem r13 (b : Fin 4) (j : Fin 256) (h : Fin 8) (c : Fin 2) (d : Fin 64) :
    val_main_v13 (F := Ideal) x3 (ix5 b j h c d) = x3 (ix5 b 0 j h ⟨c.val * 64 + d.val, by omega⟩) := by
  pointwise [val_main_v13, val_main_v12]
theorem r15 (b : Fin 4) (j : Fin 256) (h : Fin 8) (e : Fin 128) :
    val_main_v15 (F := Ideal) x4 (ix4 b j h e) = x4 (ix5 b 0 j h e) := by
  pointwise [val_main_v15]
theorem r17 (b : Fin 4) (t : Fin 4096) (h : Fin 8) (c : Fin 2) (j : Fin 4352) :
    val_main_v19 (F := Ideal) x0 x1 x3 (ix5 b h c t j)
      = (∑ d : Fin 64, x0 (ix5 b t h c d) * val_main_v14 (F := Ideal) x1 x3 (ix5 b j h c d)) * Ideal.ofBits .f32 0x3E000000#32 := by
  pointwise [val_main_v19, val_main_v18, val_main_v17, val_main_cst_2]
theorem isR_reduce (y : FVec Ideal S4x8x2x4096x4352 .f32) (H : ∀ i, Cert.KernelIdeal.Gen.IsR (y i)) (v : FVec Ideal S_ .f32)
    (hv : v (Shape.Idx.first h_S_) = ⊥) (i : S4x8x2x4096.Idx) :
    Cert.KernelIdeal.Gen.IsR (Host.reduce (FloatOps.maximumf (F := Ideal) (φ := .f32)) y v reducesTo_S4x8x2x4096x4352_S4x8x2x4096_d4 h_S_ i) := by
  rw [Host.reduce_eq_fold_single (FloatOps.maximumf (F := Ideal) (φ := .f32)) y v reducesTo_S4x8x2x4096x4352_S4x8x2x4096_d4 (by decide), hv]
  exact Cert.KernelIdeal.Gen.isR_fold (n := 4352) (by decide) _ fun k => H _
/-- The greatest score is a real when all scores are. -/
theorem r22 (H : ∀ i, Cert.KernelIdeal.Gen.IsR (val_main_v19 (F := Ideal) x0 x1 x3 i)) (i : S4x8x2x4096.Idx) :
    Cert.KernelIdeal.Gen.IsR (val_main_v22 (F := Ideal) x0 x1 x3 i) := by
  rw [val_main_v22_apply, val_main_v21_apply, val_main_cst_4_apply]
  show Cert.KernelIdeal.Gen.IsR (max (Ideal.ofBits .f32 0xFF800000#32) _)
  rw [Cert.KernelIdeal.Gen.ofBits_bot, max_eq_right bot_le]
  exact isR_reduce _ H _ Cert.KernelIdeal.Gen.ofBits_bot i
theorem r26 (b : Fin 4) (t : Fin 4096) (h : Fin 8) (c : Fin 2) (j : Fin 4352) :
    val_main_v26 (F := Ideal) x0 x1 x3 (ix5 b h c t j)
      = Ideal.exp (val_main_v19 (F := Ideal) x0 x1 x3 (ix5 b h c t j) - val_main_v22 (F := Ideal) x0 x1 x3 (ix4 b h c t)) := by
  pointwise [val_main_v26, val_main_v25, val_main_v24, val_main_v23]
theorem r30 (b : Fin 4) (t : Fin 4096) (h : Fin 8) (c : Fin 2) (j : Fin 4352) :
    val_main_v30 (F := Ideal) x0 x1 x3 (ix5 b h c t j)
      = Ideal.div (val_main_v26 (F := Ideal) x0 x1 x3 (ix5 b h c t j)) (∑ k : Fin 4352, val_main_v26 (F := Ideal) x0 x1 x3 (ix5 b h c t k)) := by
  pointwise [val_main_v30, val_main_v29, val_main_v28, val_main_v27, val_main_cst_5]
theorem mix_div (b : Fin 4) (h : Fin 8) (t : Fin 4096) (j : Fin 4352) : (((b.val * 8 + h.val) * 4096 + t.val) * 4352 + j.val) / 142606336 = b.val
    ∧ (((b.val * 8 + h.val) * 4096 + t.val) * 4352 + j.val) / 17825792 % 8 = h.val ∧ (((b.val * 8 + h.val) * 4096 + t.val) * 4352 + j.val) / 4352 % 4096 = t.val ∧ (((b.val * 8 + h.val) * 4096 + t.val) * 4352 + j.val) % 4352 = j.val := by omega
theorem i32 (b : Fin 4) (t : Fin 4096) (h : Fin 8) (j : Fin 4352) :
    idx_main_v31 (idx_main_v32 (ix4 b h t j)) = ix5 b h 0 t j := by
  obtain ⟨e0, e1, e2, e3⟩ := mix_div b h t j
  exact funext fun a => Fin.ext (by
    match a with
    | ⟨0, _⟩ => exact e0
    | ⟨1, _⟩ => exact e1
    | ⟨2, _⟩ => rfl
    | ⟨3, _⟩ => exact e2
    | ⟨4, _⟩ => exact e3)
theorem i34 (b : Fin 4) (t : Fin 4096) (h : Fin 8) (j : Fin 4352) :
    idx_main_v33 (idx_main_v34 (ix4 b h t j)) = ix5 b h 1 t j := by
  obtain ⟨e0, e1, e2, e3⟩ := mix_div b h t j
  exact funext fun a => Fin.ext (by
    match a with
    | ⟨0, _⟩ => exact e0
    | ⟨1, _⟩ => exact e1
    | ⟨2, _⟩ => rfl
    | ⟨3, _⟩ => exact e2
    | ⟨4, _⟩ => exact e3)
theorem r37 (b : Fin 4) (t : Fin 4096) (h : Fin 8) (j : Fin 4352) :
    val_main_v37 (F := Ideal) x0 x1 x3 x5 x6 x7 x8 (ix4 b h t j)
      = val_main_v30 (F := Ideal) x0 x1 x3 (ix5 b h 0 t j) - val_main_v11 (F := Ideal) x5 x6 x7 x8 ix0 * val_main_v30 (F := Ideal) x0 x1 x3 (ix5 b h 1 t j) := by
  rw [val_main_v37_apply, val_main_v36_apply, val_main_v35_apply, val_main_v34_apply, val_main_v33_apply, val_main_v32_apply, val_main_v31_apply, i32, i34,
    show idx_main_v35 (ix4 b h t j) = ix0 from funext fun a => a.elim0]
  rfl
/-- The keys: the cached rows first. -/
theorem r14 (b : Fin 4) (j : Fin 4352) (h : Fin 8) (c : Fin 2) (d : Fin 64) :
    val_main_v14 (F := Ideal) x1 x3 (ix5 b j h c d)
      = if hj : j.val < 256 then x3 (ix5 b 0 ⟨j.val, hj⟩ h ⟨c.val * 64 + d.val, by omega⟩) else x1 (ix5 b ⟨j.val - 256, by omega⟩ h c d) := by
  unfold val_main_v14
  split
  · rename_i hj
    rw [← r13 x3 b ⟨j.val, hj⟩ h c d]
    generalize val_main_v13 (F := Ideal) x3 = y
    exact concatenate_pair_apply_left 1 y _ concatenates_S4x256x8x2x64_S4x4096x8x2x64_S4x4352x8x2x64_d1 (ix5 b j h c d) rfl (ix5 b ⟨j.val, hj⟩ h c d) (fun a => by fin_cases a <;> rfl)
  · rename_i hj
    generalize val_main_v13 (F := Ideal) x3 = y
    exact concatenate_pair_apply_right 1 y x1 concatenates_S4x256x8x2x64_S4x4096x8x2x64_S4x4352x8x2x64_d1 (ix5 b j h c d) rfl rfl (ix5 b ⟨j.val - 256, by omega⟩ h c d) (fun a ha => by fin_cases a <;> first | rfl | exact absurd rfl ha) (by show j.val - 256 + 256 = j.val; omega)
/-- The values: the cached rows first. -/
theorem r16 (b : Fin 4) (j : Fin 4352) (h : Fin 8) (e : Fin 128) :
    val_main_v16 (F := Ideal) x2 x4 (ix4 b j h e)
      = if hj : j.val < 256 then x4 (ix5 b 0 ⟨j.val, hj⟩ h e) else x2 (ix4 b ⟨j.val - 256, by omega⟩ h e) := by
  unfold val_main_v16
  split
  · rename_i hj
    rw [← r15 x4 b ⟨j.val, hj⟩ h e]
    generalize val_main_v15 (F := Ideal) x4 = y
    exact concatenate_pair_apply_left 1 y _ concatenates_S4x256x8x128_S4x4096x8x128_S4x4352x8x128_d1 (ix4 b j h e) rfl (ix4 b ⟨j.val, hj⟩ h e) (fun a => by fin_cases a <;> rfl)
  · rename_i hj
    generalize val_main_v15 (F := Ideal) x4 = y
    exact concatenate_pair_apply_right 1 y x2 concatenates_S4x256x8x128_S4x4096x8x128_S4x4352x8x128_d1 (ix4 b j h e) rfl rfl (ix4 b ⟨j.val - 256, by omega⟩ h e) (fun a ha => by fin_cases a <;> first | rfl | exact absurd rfl ha) (by show j.val - 256 + 256 = j.val; omega)
/-- The result's rows and columns. -/
theorem r57 (b : Fin 4) (t : Fin 4096) (h : Fin 8) (e : Fin 128) :
    val_main_v57 (F := Ideal) x0 x1 x2 x3 x4 x5 x6 x7 x8 x9 (ix2 ⟨b.val * 4096 + t.val, by omega⟩ ⟨h.val * 128 + e.val, by omega⟩)
      = val_main_v55 (F := Ideal) x0 x1 x2 x3 x4 x5 x6 x7 x8 x9 (ix4 b t h e) := by
  rw [val_main_v57_apply, val_main_v56_apply]
  refine congrArg (val_main_v55 (F := Ideal) x0 x1 x2 x3 x4 x5 x6 x7 x8 x9) (funext fun a => Fin.ext ?_)
  match a with
  | ⟨0, _⟩ => show ((b.val * 4096 + t.val) * 1024 + (h.val * 128 + e.val)) / 4194304 = b.val; omega
  | ⟨1, _⟩ => show ((b.val * 4096 + t.val) * 1024 + (h.val * 128 + e.val)) / 1024 % 4096 = t.val; omega
  | ⟨2, _⟩ => show ((b.val * 4096 + t.val) * 1024 + (h.val * 128 + e.val)) / 128 % 8 = h.val; omega
  | ⟨3, _⟩ => show ((b.val * 4096 + t.val) * 1024 + (h.val * 128 + e.val)) % 128 = e.val; omega
theorem r39 (b : Fin 4) (t : Fin 4096) (h : Fin 8) (e : Fin 128) :
    val_main_v39 (F := Ideal) x0 x1 x2 x3 x4 x5 x6 x7 x8 (ix4 b t h e)
      = ∑ j : Fin 4352, val_main_v16 (F := Ideal) x2 x4 (ix4 b j h e) * val_main_v37 (F := Ideal) x0 x1 x3 x5 x6 x7 x8 (ix4 b h t j) := by
  pointwise [val_main_v39, val_main_v38]
theorem r55 (b : Fin 4) (t : Fin 4096) (h : Fin 8) (e : Fin 128) :
    val_main_v55 (F := Ideal) x0 x1 x2 x3 x4 x5 x6 x7 x8 x9 (ix4 b t h e)
      = Cert.KernelIdeal.Gen.headNorm (fun y => val_main_v39 (F := Ideal) x0 x1 x2 x3 x4 x5 x6 x7 x8 (ix4 b t h y)) (x9 (ix2 0 e)) e := by
  pointwise [val_main_v55, val_main_v54, val_main_v53, val_main_v52, val_main_v51, val_main_v50, val_main_v49, val_main_v48, val_main_v47, val_main_v46, val_main_v45, val_main_v44,
   val_main_v43, val_main_v42, val_main_v41, val_main_v40, val_main_cst_6, val_main_cst_7, val_main_cst_8, val_main_cst_9, Cert.KernelIdeal.Gen.headNorm]
  rw [mul_assoc]

end Cert.ReferenceIdeal.Read
end
-- ==== Proof.RefValue.lean ====
/-
The reference's result over the reals: the two maps' softmaxes over all keys, their difference, normalised.
-/
module

public import proofs.«01_k».proof.Proof.RefRead

@[expose] public section

set_option maxRecDepth 16384

noncomputable section

namespace Cert.Attn

open Idealize.ShloMosaic Idealize.ShloMosaic.TcCoe Cert.KernelIdeal.Gen

/-- The softmax of the scores `s`, applied to the values `v`. -/
def soft (s v : Fin 4352 → ℝ) : ℝ := (∑ j, Real.exp (s j) * v j) / ∑ j, Real.exp (s j)

theorem sum_exp_pos (s : Fin 4352 → ℝ) : 0 < ∑ j, Real.exp (s j) := Finset.sum_pos (fun _ _ => Real.exp_pos _) ⟨0, Finset.mem_univ _⟩

/-- A shift of all scores cancels. -/
theorem soft_shift (s : Fin 4352 → ℝ) (M : ℝ) (j : Fin 4352) :
    Real.exp (s j - M) * (1 / ∑ k, Real.exp (s k - M)) = Real.exp (s j) / ∑ k, Real.exp (s k) := by
  have h := sum_exp_pos s
  have hM := Real.exp_pos M
  simp only [Real.exp_sub, ← Finset.sum_div]
  field_simp

theorem soft_diff (s0 s1 v : Fin 4352 → ℝ) (l : ℝ) :
    ∑ j, v j * (Real.exp (s0 j) / (∑ k, Real.exp (s0 k)) - l * (Real.exp (s1 j) / ∑ k, Real.exp (s1 k))) = soft s0 v - l * soft s1 v := by
  unfold soft
  rw [Finset.sum_div, Finset.sum_div, Finset.mul_sum, ← Finset.sum_sub_distrib]
  refine Finset.sum_congr rfl fun j _ => ?_
  ring

theorem sum4352 (f : Fin 4352 → ℝ) :
    ∑ j, f j = (∑ k : Fin 256, f ⟨k.val, by omega⟩) + (∑ k : Fin 2048, f ⟨256 + k.val, by omega⟩) + ∑ k : Fin 2048, f ⟨2304 + k.val, by omega⟩ := by
  have h1 := Fin.sum_univ_add (a := 2304) (b := 2048) f
  have h2 := Fin.sum_univ_add (a := 256) (b := 2048) (fun i => f (Fin.castAdd 2048 i))
  exact h1.trans (congrArg₂ (· + ·) h2 rfl)

/-- The three runs of keys make one softmax. -/
theorem attR_soft {S0 : Fin 256 → ℝ} {S1 S2 : Fin 2048 → ℝ} {V0 : Fin 256 → ℝ} {V1 V2 : Fin 2048 → ℝ} (s v : Fin 4352 → ℝ)
    (h0 : ∀ k : Fin 256, (2 : ℝ) ^ S0 k = Real.exp (s ⟨k.val, by omega⟩)) (h1 : ∀ k : Fin 2048, (2 : ℝ) ^ S1 k = Real.exp (s ⟨256 + k.val, by omega⟩))
    (h2 : ∀ k : Fin 2048, (2 : ℝ) ^ S2 k = Real.exp (s ⟨2304 + k.val, by omega⟩))
    (g0 : ∀ k : Fin 256, V0 k = v ⟨k.val, by omega⟩) (g1 : ∀ k : Fin 2048, V1 k = v ⟨256 + k.val, by omega⟩)
    (g2 : ∀ k : Fin 2048, V2 k = v ⟨2304 + k.val, by omega⟩) : attR S0 S1 S2 V0 V1 V2 = soft s v := by
  unfold attR soft
  rw [sum4352, sum4352]
  simp only [h0, h1, h2, g0, g1, g2]

/-- The halves of the lanes. -/
theorem sum_fst (Q K : Fin 128 → ℝ) : ∑ x, fst Q x * K x = ∑ d : Fin 64, Q ⟨d.val, by omega⟩ * K ⟨d.val, by omega⟩ := by
  have h := Fin.sum_univ_add (a := 64) (b := 64) (fun x : Fin 128 => fst Q x * K x)
  refine h.trans ?_
  have hz : ∑ i : Fin 64, fst Q (Fin.natAdd 64 i) * K (Fin.natAdd 64 i) = 0 :=
    Finset.sum_eq_zero fun i _ => by rw [fst, if_neg (by show ¬ (64 + i.val < 64); omega), zero_mul]
  rw [hz, add_zero]
  refine Finset.sum_congr rfl fun i _ => ?_
  rw [fst, if_pos (by show i.val < 64; omega)]
  rfl
theorem sum_snd (Q K : Fin 128 → ℝ) : ∑ x, snd Q x * K x = ∑ d : Fin 64, Q ⟨64 + d.val, by omega⟩ * K ⟨64 + d.val, by omega⟩ := by
  have h := Fin.sum_univ_add (a := 64) (b := 64) (fun x : Fin 128 => snd Q x * K x)
  refine h.trans ?_
  have hz : ∑ i : Fin 64, snd Q (Fin.castAdd 64 i) * K (Fin.castAdd 64 i) = 0 :=
    Finset.sum_eq_zero fun i _ => by rw [snd, if_pos (by show i.val < 64; omega), zero_mul]
  rw [hz, zero_add]
  refine Finset.sum_congr rfl fun i _ => ?_
  rw [snd, if_neg (by show ¬ (64 + i.val < 64); omega)]
  rfl

/-- The scale of the queries turns a power of two into an exponential. -/
theorem two_pow_scale (y : ℝ) : (2 : ℝ) ^ (y * ((1 / 8) * (1 / Real.log 2))) = Real.exp (y * (1 / 8)) := by
  rw [Real.rpow_def_of_pos (by norm_num)]
  have : Real.log 2 ≠ 0 := (Real.log_pos (by norm_num)).ne'
  congr 1
  field_simp

theorem ofBits_eighth : Ideal.ofBits .f32 0x3E000000#32 = ((1 / 8 : ℝ) : EReal) := by
  simp [Ideal.ofBits, Ideal.ieee]
  rw [← EReal.coe_mul]
  norm_num

end Cert.Attn

namespace Cert.ReferenceIdeal.Read

open Cert.ReferenceIdeal Cert.ReferenceIdeal.Gen Idealize.ShloMosaic Idealize.ShloMosaic.TcCoe Cert.KernelIdeal.Gen Cert.Attn

variable {x0 x1 : FVec Ideal S4x4096x8x2x64 .f32} {x2 : FVec Ideal S4x4096x8x128 .f32} {x3 x4 : FVec Ideal S4x1x256x8x128 .f32}
  {x5 x6 x7 x8 : FVec Ideal S1x64 .f32} {x9 : FVec Ideal S1x128 .f32}
  {q : Fin 4 → Fin 4096 → Fin 8 → Fin 2 → Fin 64 → ℝ} {K : Fin 4 → Fin 4352 → Fin 8 → Fin 2 → Fin 64 → ℝ} {V : Fin 4 → Fin 4352 → Fin 8 → Fin 128 → ℝ}

/-- The scores. -/
def score (q : Fin 4 → Fin 4096 → Fin 8 → Fin 2 → Fin 64 → ℝ) (K : Fin 4 → Fin 4352 → Fin 8 → Fin 2 → Fin 64 → ℝ)
    (b : Fin 4) (t : Fin 4096) (h : Fin 8) (c : Fin 2) (j : Fin 4352) : ℝ := (∑ d, q b t h c d * K b j h c d) * (1 / 8)

section
variable (hq : ∀ b t h c d, x0 (ix5 b t h c d) = (q b t h c d : EReal))
  (hK : ∀ b j h c d, val_main_v14 (F := Ideal) x1 x3 (ix5 b j h c d) = (K b j h c d : EReal))
include hq hK

theorem score_real (b t h c j) : val_main_v19 (F := Ideal) x0 x1 x3 (ix5 b h c t j) = (score q K b t h c j : EReal) := by
  rw [r17, sum_coe_mul (hq b t h c) (hK b j h c), ofBits_eighth, ← EReal.coe_mul]; rfl

theorem weight_real (b t h c j) : val_main_v30 (F := Ideal) x0 x1 x3 (ix5 b h c t j)
    = ((Real.exp (score q K b t h c j) / ∑ k, Real.exp (score q K b t h c k) : ℝ) : EReal) := by
  obtain ⟨M, hM⟩ := r22 x0 x1 x3 (fun i => by rw [eq_ix5 i]; exact ⟨_, score_real hq hK _ _ _ _ _⟩) (ix4 b h c t)
  have e : ∀ k, val_main_v26 (F := Ideal) x0 x1 x3 (ix5 b h c t k) = ((Real.exp (score q K b t h c k - M) : ℝ) : EReal) := fun k => by
    rw [r26, score_real hq hK, hM, ← EReal.coe_sub, Ideal.exp_coe]
  rw [r30]
  simp only [e]
  rw [coe_sum, Ideal.div_coe (Finset.sum_pos (fun _ _ => Real.exp_pos _) ⟨0, Finset.mem_univ _⟩).ne', ← EReal.coe_mul,
    soft_shift (score q K b t h c) M j]

variable (hV : ∀ b j h e, val_main_v16 (F := Ideal) x2 x4 (ix4 b j h e) = (V b j h e : EReal))
  {l : ℝ} (hl : val_main_v11 (F := Ideal) x5 x6 x7 x8 ix0 = (l : EReal))
include hV hl

theorem mixed_real (b t h e) : val_main_v39 (F := Ideal) x0 x1 x2 x3 x4 x5 x6 x7 x8 (ix4 b t h e)
    = (soft (score q K b t h 0) (fun j => V b j h e) : EReal) - (l : EReal) * (soft (score q K b t h 1) (fun j => V b j h e) : EReal) := by
  rw [r39, ← EReal.coe_mul, ← EReal.coe_sub, ← soft_diff, ← coe_sum]
  refine Finset.sum_congr rfl fun j _ => ?_
  rw [r37, weight_real hq hK, weight_real hq hK, hl, hV, EReal.coe_mul, EReal.coe_sub, EReal.coe_mul]

/-- The result's rows and columns, over the reals. -/
theorem result_real (b : Fin 4) (t : Fin 4096) (h : Fin 8) (e : Fin 128) :
    val_main_v57 (F := Ideal) x0 x1 x2 x3 x4 x5 x6 x7 x8 x9 (ix2 ⟨b.val * 4096 + t.val, by omega⟩ ⟨h.val * 128 + e.val, by omega⟩)
      = headNorm (fun y => (soft (score q K b t h 0) (fun j => V b j h y) : EReal) - (l : EReal) * (soft (score q K b t h 1) (fun j => V b j h y) : EReal))
          (x9 (ix2 0 e)) e := by
  rw [r57, r55]
  simp only [mixed_real hq hK hV hl]
end

end Cert.ReferenceIdeal.Read

end
-- ==== Proof.LatHost.lean ====
/-
The arrays the attention kernel is launched on, read at an element: the program's arguments, reshaped.
-/
module

public import proofs.«01_k».proof.Proof.LatFrame
public import proofs.«01_k».proof.Proof.RefValue
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Idealize.ShloMosaic.Pipeline (Dat)

variable (m : (ℓ : Loc nD τ sig) → Buf (Elt Ideal) ℓ) (c : Dev nD)

/-! ## The blocks' places at a grid point -/

theorem idx : ∀ t : Fin cfg0.N,
    win0_0.index t = ![t.val / 32 * 4 + t.val % 4, t.val / 4 % 8] ∧ win0_1.index t = ![t.val / 32, t.val / 4 % 8]
    ∧ win0_2.index t = ![t.val / 32, t.val / 4 % 8] ∧ win0_3.index t = ![t.val / 32, 0, 0] ∧ win0_4.index t = ![t.val / 32, 0, 0]
    ∧ win0_5.index t = ![0, 0] ∧ win0_6.index t = ![0, 0]
    ∧ win0_7.index t = ![min t.val 31 / 4, 0, min t.val 31 % 4]
    ∧ win0_8.index t = ![min (t.val - 32) 31 / 4, 0, min (t.val - 32) 31 % 4]
    ∧ win0_9.index t = ![min (t.val - 64) 31 / 4, min (t.val - 64) 31 % 4, 0]
    ∧ win0_10.index t = ![t.val / 32 * 4 + t.val % 4, t.val / 4 % 8]
    ∧ win0_11.index t = ![min t.val 31 / 4, 0, min t.val 31 % 4]
    ∧ win0_12.index t = ![min (t.val - 32) 31 / 4, 0, min (t.val - 32) 31 % 4]
    ∧ win0_13.index t = ![min (t.val - 64) 31 / 4, min (t.val - 64) 31 % 4, 0]
    ∧ (grid0.coords t 1).val = t.val / 4 % 8 :=
  (by decide +kernel : ∀ t : Fin grid0.N, _)

/-! ## The reshapes -/

theorem cast_q (x : FVec Ideal S4x4096x8x2x64 .f32) (b : Fin 4) (t : Fin 4096) (h : Fin 8) (a : Fin 2) (d : Fin 64) :
    shapeCast S16384x1024 x shapeCasts_S4x4096x8x2x64_S16384x1024 (ix2 ⟨b.val * 4096 + t.val, by omega⟩ ⟨h.val * 128 + (a.val * 64 + d.val), by omega⟩)
      = x (ix5 b t h a d) :=
  shapeCast_apply _ _ _ _ (by
    rw [Shape.rowMajor_val_five, Shape.rowMajor_val_two]
    show (((b.val * 4096 + t.val) * 8 + h.val) * 2 + a.val) * 64 + d.val = (b.val * 4096 + t.val) * 1024 + (h.val * 128 + (a.val * 64 + d.val))
    omega)
theorem cast_v (x : FVec Ideal S4x4096x8x128 .f32) (b : Fin 4) (t : Fin 4096) (h : Fin 8) (e : Fin 128) :
    shapeCast S16384x1024 x shapeCasts_S4x4096x8x128_S16384x1024 (ix2 ⟨b.val * 4096 + t.val, by omega⟩ ⟨h.val * 128 + e.val, by omega⟩)
      = x (ix4 b t h e) :=
  shapeCast_apply _ _ _ _ (by
    rw [Shape.rowMajor_val_four, Shape.rowMajor_val_two]
    show ((b.val * 4096 + t.val) * 8 + h.val) * 128 + e.val = (b.val * 4096 + t.val) * 1024 + (h.val * 128 + e.val)
    omega)
theorem cast_c (x : FVec Ideal S4x1x256x8x128 .f32) (b : Fin 4) (k : Fin 256) (h : Fin 8) (e : Fin 128) :
    shapeCast S4x2048x128 x shapeCasts_S4x1x256x8x128_S4x2048x128 (ix3 b ⟨k.val * 8 + h.val, by omega⟩ e)
      = x (ix5 b 0 k h e) :=
  shapeCast_apply _ _ _ _ (by
    rw [Shape.rowMajor_val_five, Shape.rowMajor_val_three]
    show (((b.val * 1 + 0) * 256 + k.val) * 8 + h.val) * 128 + e.val = (b.val * 2048 + (k.val * 8 + h.val)) * 128 + e.val
    omega)

/-! ## The arrays -/

theorem V_q : V m c main_v11 = shapeCast S16384x1024 (m ((c : Thread nD τ).loc main_arg0)) shapeCasts_S4x4096x8x2x64_S16384x1024 := by
  entry_read; rfl
theorem V_k : V m c main_v13 = shapeCast S16384x1024 (m ((c : Thread nD τ).loc main_arg1)) shapeCasts_S4x4096x8x2x64_S16384x1024 := by
  entry_read; rfl
theorem V_v : V m c main_v15 = shapeCast S16384x1024 (m ((c : Thread nD τ).loc main_arg2)) shapeCasts_S4x4096x8x128_S16384x1024 := by
  entry_read; rfl
theorem V_ck : V m c main_v16 = shapeCast S4x2048x128 (m ((c : Thread nD τ).loc main_arg3)) shapeCasts_S4x1x256x8x128_S4x2048x128 := by
  entry_read; rfl
theorem V_cv : V m c main_v17 = shapeCast S4x2048x128 (m ((c : Thread nD τ).loc main_arg4)) shapeCasts_S4x1x256x8x128_S4x2048x128 := by
  entry_read; rfl
theorem V_sg (e : Fin 128) : V m c main_v10 (ix2 0 e) = m ((c : Thread nD τ).loc main_arg9) (ix2 0 e) := by
  entry_read; pointwise []
theorem row_eq (y : FVec Ideal S1x64 .f32) (x : Fin 64) :
    broadcastInDim S1x64 ![1] bcast_S64_S1x64_1 (shapeCast S64 y shapeCasts_S1x64_S64) (ix2 0 x) = y (ix2 0 x) := by pointwise []
theorem lp_eq (f0 f1 f2 f3 y5 y6 y7 y8 : FVec Ideal S1x64 .f32) (x : Fin 64) (h0 : f0 (ix2 0 x) = y5 (ix2 0 x)) (h1 : f1 (ix2 0 x) = y6 (ix2 0 x))
    (h2 : f2 (ix2 0 x) = y7 (ix2 0 x)) (h3 : f3 (ix2 0 x) = y8 (ix2 0 x)) (a : Fin 4) :
    concatenate S4x64 0 [⟨S1x64, f0⟩, ⟨S1x64, f1⟩, ⟨S1x64, f2⟩, ⟨S1x64, f3⟩] concatenates_S1x64_S1x64_S1x64_S1x64_S4x64_d0 (ix2 a x)
      = ![y5, y6, y7, y8] a (ix2 0 x) := by
  match a with
  | ⟨0, _⟩ => refine Eq.trans ?_ h0; clear h0 h1 h2 h3; pointwise []
  | ⟨1, _⟩ => refine Eq.trans ?_ h1; clear h0 h1 h2 h3; pointwise []
  | ⟨2, _⟩ => refine Eq.trans ?_ h2; clear h0 h1 h2 h3; pointwise []
  | ⟨3, _⟩ => refine Eq.trans ?_ h3; clear h0 h1 h2 h3; pointwise []
theorem V_lp8 : V m c main_v8 = concatenate S4x64 0 [⟨S1x64, broadcastInDim S1x64 ![1] bcast_S64_S1x64_1 (shapeCast S64 (m ((c : Thread nD τ).loc main_arg5)) shapeCasts_S1x64_S64)⟩,
  ⟨S1x64, broadcastInDim S1x64 ![1] bcast_S64_S1x64_1 (shapeCast S64 (m ((c : Thread nD τ).loc main_arg6)) shapeCasts_S1x64_S64)⟩,
  ⟨S1x64, broadcastInDim S1x64 ![1] bcast_S64_S1x64_1 (shapeCast S64 (m ((c : Thread nD τ).loc main_arg7)) shapeCasts_S1x64_S64)⟩,
  ⟨S1x64, broadcastInDim S1x64 ![1] bcast_S64_S1x64_1 (shapeCast S64 (m ((c : Thread nD τ).loc main_arg8)) shapeCasts_S1x64_S64)⟩] concatenates_S1x64_S1x64_S1x64_S1x64_S4x64_d0 := by
  rfl
theorem V_lp (a : Fin 4) (x : Fin 64) : V m c main_v8 (ix2 a x) = ![m ((c : Thread nD τ).loc main_arg5), m ((c : Thread nD τ).loc main_arg6),
    m ((c : Thread nD τ).loc main_arg7), m ((c : Thread nD τ).loc main_arg8)] a (ix2 0 x) := by
  rw [V_lp8]
  exact lp_eq _ _ _ _ _ _ _ _ x (row_eq _ x) (row_eq _ x) (row_eq _ x) (row_eq _ x) a
theorem V_w1 : V m c main_v18 = shapeCast S8x1024x3584 (m ((c : Thread nD τ).loc main_arg10)) shapeCasts_S1x8x1024x3584_S8x1024x3584 := by
  entry_read; rfl
theorem V_w3 : V m c main_v19 = shapeCast S8x1024x3584 (m ((c : Thread nD τ).loc main_arg11)) shapeCasts_S1x8x1024x3584_S8x1024x3584 := by
  entry_read; rfl
theorem V_w2 : V m c main_v20 = shapeCast S8x3584x1024 (m ((c : Thread nD τ).loc main_arg12)) shapeCasts_S1x8x3584x1024_S8x3584x1024 := by
  entry_read; rfl

end Cert.KernelIdeal.Gen

end
-- ==== Proof.LatFinal.lean ====
/-
What the attention kernel writes: at every grid point the block of the reference's result, and over the whole grid the
reference's four results.
-/
module

public import proofs.«01_k».proof.Proof.LatHost

@[expose] public section

set_option maxRecDepth 16384

noncomputable section

namespace Cert.KernelIdeal.Gen

open Idealize.ShloMosaic Idealize.ShloMosaic.TcCoe Idealize.SL.Sem Cert.Attn Cert.ReferenceIdeal.Read
open Idealize.ShloMosaic.Pipeline (Dat)

/-! ## The loads -/

theorem rectQ_idx (r : Fin 1024) (x : Fin 128) : rectQ.idx (ix2 r x) = ix2 r x := by
  funext a; apply Fin.ext
  match a with
  | ⟨0, _⟩ => show 0 + 1 * r.val = r.val; omega
  | ⟨1, _⟩ => show 0 + 1 * x.val = x.val; omega
theorem rectLo_idx (k : Fin 2048) (x : Fin 128) : rectLo.idx (ix2 k x) = ix2 ⟨k.val, by omega⟩ x := by
  funext a; apply Fin.ext
  match a with
  | ⟨0, _⟩ => show 0 + 1 * k.val = k.val; omega
  | ⟨1, _⟩ => show 0 + 1 * x.val = x.val; omega
theorem rectHi_idx (k : Fin 2048) (x : Fin 128) : rectHi.idx (ix2 k x) = ix2 ⟨2048 + k.val, by omega⟩ x := by
  funext a; apply Fin.ext
  match a with
  | ⟨0, _⟩ => show 2048 + 1 * k.val = 2048 + k.val; omega
  | ⟨1, _⟩ => show 0 + 1 * x.val = x.val; omega
theorem rectC_idx (i : grid0.Coords) (h : Fin 8) (hi : (i 1).val = h.val) (k : Fin 256) (x : Fin 128) :
    (rectC i).idx (ix3 0 k x) = ix3 0 ⟨k.val * 8 + h.val, by omega⟩ x := by
  funext a; apply Fin.ext
  have e : k0_off1 i = ![0, h.val, 0] := (k0_off1_eq i).trans (by rw [hi])
  show k0_off1 i a + (![1, 8, 1] : Fin 3 → ℕ) a * _ = _
  rw [e]
  match a with
  | ⟨0, _⟩ => rfl
  | ⟨1, _⟩ => show h.val + 8 * k.val = k.val * 8 + h.val; omega
  | ⟨2, _⟩ => show 0 + 1 * x.val = x.val; omega
theorem rectL_idx (a : Fin 4) (x : Fin 64) : rectL.idx (ix2 a x) = ix2 a x := by
  funext b; apply Fin.ext
  match b with
  | ⟨0, _⟩ => show 0 + 1 * a.val = a.val; omega
  | ⟨1, _⟩ => show 0 + 1 * x.val = x.val; omega
theorem rectG_idx (x : Fin 128) : rectG.idx (ix2 0 x) = ix2 0 x := by
  funext b; apply Fin.ext
  match b with
  | ⟨0, _⟩ => rfl
  | ⟨1, _⟩ => show 0 + 1 * x.val = x.val; omega

/-! ## The scores -/

theorem pow_score (a b : Fin 64 → ℝ) : (2 : ℝ) ^ (∑ d, a d * qScale * b d) = Real.exp ((∑ d, a d * b d) * (1 / 8)) := by
  rw [← two_pow_scale, ← qScale_eq, Finset.sum_mul]
  exact congrArg _ (Finset.sum_congr rfl fun d _ => by ring)

theorem pow_fst (a : Fin 2 → Fin 64 → ℝ) (b : Fin 2 → Fin 64 → ℝ) :
    (2 : ℝ) ^ (∑ x, fst (fun x => a ⟨x.val / 64, by omega⟩ ⟨x.val % 64, by omega⟩ * qScale) x * b ⟨x.val / 64, by omega⟩ ⟨x.val % 64, by omega⟩)
      = Real.exp ((∑ d, a 0 d * b 0 d) * (1 / 8)) := by
  rw [← pow_score, sum_fst _ (fun x : Fin 128 => b ⟨x.val / 64, by omega⟩ ⟨x.val % 64, by omega⟩)]
  refine congrArg _ (Finset.sum_congr rfl fun d _ => ?_)
  have h0 : (⟨d.val / 64, by omega⟩ : Fin 2) = 0 := Fin.ext (by show d.val / 64 = 0; omega)
  have h1 : (⟨d.val % 64, by omega⟩ : Fin 64) = d := Fin.ext (by show d.val % 64 = d.val; omega)
  show a ⟨d.val / 64, _⟩ ⟨d.val % 64, _⟩ * qScale * b ⟨d.val / 64, _⟩ ⟨d.val % 64, _⟩ = _
  rw [h0, h1]
theorem pow_snd (a : Fin 2 → Fin 64 → ℝ) (b : Fin 2 → Fin 64 → ℝ) :
    (2 : ℝ) ^ (∑ x, snd (fun x => a ⟨x.val / 64, by omega⟩ ⟨x.val % 64, by omega⟩ * qScale) x * b ⟨x.val / 64, by omega⟩ ⟨x.val % 64, by omega⟩)
      = Real.exp ((∑ d, a 1 d * b 1 d) * (1 / 8)) := by
  rw [← pow_score, sum_snd _ (fun x : Fin 128 => b ⟨x.val / 64, by omega⟩ ⟨x.val % 64, by omega⟩)]
  refine congrArg _ (Finset.sum_congr rfl fun d _ => ?_)
  have h0 : (⟨(64 + d.val) / 64, by omega⟩ : Fin 2) = 1 := Fin.ext (by show (64 + d.val) / 64 = 1; omega)
  have h1 : (⟨(64 + d.val) % 64, by omega⟩ : Fin 64) = d := Fin.ext (by show (64 + d.val) % 64 = d.val; omega)
  show a ⟨(64 + d.val) / 64, _⟩ ⟨(64 + d.val) % 64, _⟩ * qScale * b ⟨(64 + d.val) / 64, _⟩ ⟨(64 + d.val) % 64, _⟩ = _
  rw [h0, h1]

/-! ## The block at a point -/

/-- The block stored at a point, from blocks of real queries, keys and values. -/
theorem latOut_real (i : grid0.Coords) (h : Fin 8) (hi : (i 1).val = h.val) {x0 : Vec Ideal S1024x128 .f32} {x1 x2 : Vec Ideal S4096x128 .bf16}
    {x3 x4 : Vec Ideal S1x2048x128 .f32} (x5 : Vec Ideal S4x64 .f32) (x6 : Vec Ideal S1x128 .f32)
    {Q : Fin 1024 → Fin 2 → Fin 64 → ℝ} {K : Fin 4352 → Fin 2 → Fin 64 → ℝ} {W : Fin 4352 → Fin 128 → ℝ}
    (h0 : ∀ r x, x0 (ix2 r x) = (Q r ⟨x.val / 64, by omega⟩ ⟨x.val % 64, by omega⟩ : EReal))
    (h1 : ∀ k x, x1 (ix2 k x) = (K ⟨256 + k.val, by omega⟩ ⟨x.val / 64, by omega⟩ ⟨x.val % 64, by omega⟩ : EReal))
    (h2 : ∀ k x, x2 (ix2 k x) = (W ⟨256 + k.val, by omega⟩ x : EReal))
    (h3 : ∀ (k : Fin 256) x, x3 (ix3 0 ⟨k.val * 8 + h.val, by omega⟩ x) = (K ⟨k.val, by omega⟩ ⟨x.val / 64, by omega⟩ ⟨x.val % 64, by omega⟩ : EReal))
    (h4 : ∀ (k : Fin 256) x, x4 (ix3 0 ⟨k.val * 8 + h.val, by omega⟩ x) = (W ⟨k.val, by omega⟩ x : EReal))
    {l : ℝ} (hl : lamOf (fun a x => x5 (ix2 a x)) = (l : EReal)) (r : Fin 1024) (e : Fin 128) :
    latOut i x0 x1 x2 x3 x4 x5 x6 (ix2 r e)
      = headNorm (fun y => (soft (fun j => (∑ d, Q r 0 d * K j 0 d) * (1 / 8)) (fun j => W j y) : EReal)
          - (l : EReal) * (soft (fun j => (∑ d, Q r 1 d * K j 1 d) * (1 / 8)) (fun j => W j y) : EReal)) (x6 (ix2 0 e)) e := by
  have A := latBlock_real (q := fun j => x0 (rectQ.idx j)) (ck := fun j => x3 ((rectC i).idx j)) (cv := fun j => x4 ((rectC i).idx j))
    (k1 := fun j => x1 (rectLo.idx j)) (v1 := fun j => x2 (rectLo.idx j)) (k2 := fun j => x1 (rectHi.idx j)) (v2 := fun j => x2 (rectHi.idx j))
    (fun j => x5 (rectL.idx j)) (fun j => x6 (rectG.idx j))
    (Q := fun r x => Q r ⟨x.val / 64, by omega⟩ ⟨x.val % 64, by omega⟩ * qScale)
    (K0 := fun k x => K ⟨k.val, by omega⟩ ⟨x.val / 64, by omega⟩ ⟨x.val % 64, by omega⟩) (V0 := fun k x => W ⟨k.val, by omega⟩ x)
    (K1 := fun k x => K ⟨256 + k.val, by omega⟩ ⟨x.val / 64, by omega⟩ ⟨x.val % 64, by omega⟩) (V1 := fun k x => W ⟨256 + k.val, by omega⟩ x)
    (K2 := fun k x => K ⟨2304 + k.val, by omega⟩ ⟨x.val / 64, by omega⟩ ⟨x.val % 64, by omega⟩) (V2 := fun k x => W ⟨2304 + k.val, by omega⟩ x)
    (fun r x => by show x0 (rectQ.idx (ix2 r x)) * _ = _; rw [rectQ_idx, h0, ← EReal.coe_mul])
    (fun k x => (congrArg x3 (rectC_idx i h hi k x)).trans (h3 k x)) (fun k x => (congrArg x4 (rectC_idx i h hi k x)).trans (h4 k x))
    (fun k x => (congrArg x1 (rectLo_idx k x)).trans (h1 _ x)) (fun k x => (congrArg x2 (rectLo_idx k x)).trans (h2 _ x))
    (fun k x => (congrArg x1 (rectHi_idx k x)).trans ((h1 _ x).trans (by
      have e : (⟨256 + (2048 + k.val), by omega⟩ : Fin 4352) = ⟨2304 + k.val, by omega⟩ := Fin.ext (by show 256 + (2048 + k.val) = 2304 + k.val; omega)
      exact congrArg (fun j => ((K j ⟨x.val / 64, by omega⟩ ⟨x.val % 64, by omega⟩ : ℝ) : EReal)) e)))
    (fun k x => (congrArg x2 (rectHi_idx k x)).trans ((h2 _ x).trans (by
      have e : (⟨256 + (2048 + k.val), by omega⟩ : Fin 4352) = ⟨2304 + k.val, by omega⟩ := Fin.ext (by show 256 + (2048 + k.val) = 2304 + k.val; omega)
      exact congrArg (fun j => ((W j x : ℝ) : EReal)) e))) r e
  have L : lamOf (fun a x => x5 (rectL.idx (ix2 a x))) = (l : EReal) := by simp only [rectL_idx]; exact hl
  have S0 : ∀ y, attR _ _ _ _ _ _ = soft (fun j => (∑ d, Q r 0 d * K j 0 d) * (1 / 8)) (fun j => W j y) := fun y =>
    attR_soft _ _ (fun k => pow_fst (Q r) (K ⟨k.val, by omega⟩)) (fun k => pow_fst (Q r) (K ⟨256 + k.val, by omega⟩))
      (fun k => pow_fst (Q r) (K ⟨2304 + k.val, by omega⟩)) (fun _ => rfl) (fun _ => rfl) (fun _ => rfl)
  have S1 : ∀ y, attR _ _ _ _ _ _ = soft (fun j => (∑ d, Q r 1 d * K j 1 d) * (1 / 8)) (fun j => W j y) := fun y =>
    attR_soft _ _ (fun k => pow_snd (Q r) (K ⟨k.val, by omega⟩)) (fun k => pow_snd (Q r) (K ⟨256 + k.val, by omega⟩))
      (fun k => pow_snd (Q r) (K ⟨2304 + k.val, by omega⟩)) (fun _ => rfl) (fun _ => rfl) (fun _ => rfl)
  refine Eq.trans A ?_
  rw [L, rectG_idx]
  refine congrArg (fun f => headNorm f (x6 (ix2 0 e)) e) (funext fun y => ?_)
  rw [S0 y, S1 y]

end Cert.KernelIdeal.Gen

end
-- ==== Proof.LatWhole.lean ====
/-
What the attention kernel leaves in its four results, over the whole grid: the reference's terms.
-/
module

public import proofs.«01_k».proof.Proof.LatFinal

@[expose] public section

set_option maxRecDepth 16384

noncomputable section

namespace Cert.KernelIdeal.Gen

open Idealize.ShloMosaic Idealize.ShloMosaic.TcCoe Idealize.SL.Sem Cert.Attn Cert.ReferenceIdeal.Read
open Idealize.ShloMosaic.Pipeline (Dat)

variable (m : (ℓ : Loc nD τ sig) → Buf (Elt Ideal) ℓ) (c : Dev nD)

/-- The sequence and the head a grid point works on. -/
def bT (t : Fin cfg0.N) : Fin 4 := ⟨t.val / 32, by have h : t.val < 128 := lt_of_lt_of_eq t.isLt N_0; omega⟩
def hT (t : Fin cfg0.N) : Fin 8 := ⟨t.val / 4 % 8, by omega⟩

theorem blk_q (t : Fin cfg0.N) (r : Fin 1024) (x : Fin 128) : iblk m c 0 t (ix2 r x)
    = m ((c : Thread nD τ).loc main_arg0) (ix5 (bT t) ⟨t.val % 4 * 1024 + r.val, by omega⟩ (hT t) ⟨x.val / 64, by omega⟩ ⟨x.val % 64, by omega⟩) := by
  have h := (bT t).isLt
  have h' := (hT t).isLt
  have e : iblk m c 0 t (ix2 r x) = V m c main_v11 (ix2 ⟨(bT t).val * 4096 + (t.val % 4 * 1024 + r.val), by omega⟩
      ⟨(hT t).val * 128 + (x.val / 64 * 64 + x.val % 64), by omega⟩) := by
    unfold bT hT
    blk_ext [iblk, idx t]
  rw [e, V_q]
  exact cast_q _ (bT t) ⟨t.val % 4 * 1024 + r.val, by omega⟩ (hT t) ⟨x.val / 64, by omega⟩ ⟨x.val % 64, by omega⟩

theorem blk_k (t : Fin cfg0.N) (k : Fin 4096) (x : Fin 128) : iblk m c 1 t (ix2 k x)
    = m ((c : Thread nD τ).loc main_arg1) (ix5 (bT t) k (hT t) ⟨x.val / 64, by omega⟩ ⟨x.val % 64, by omega⟩) := by
  have h := (bT t).isLt
  have h' := (hT t).isLt
  have e : iblk m c 1 t (ix2 k x) = V m c main_v13 (ix2 ⟨(bT t).val * 4096 + k.val, by omega⟩
      ⟨(hT t).val * 128 + (x.val / 64 * 64 + x.val % 64), by omega⟩) := by
    unfold bT hT
    blk_ext [iblk, idx t]
  rw [e, V_k]
  exact cast_q _ (bT t) k (hT t) ⟨x.val / 64, by omega⟩ ⟨x.val % 64, by omega⟩

theorem blk_v (t : Fin cfg0.N) (k : Fin 4096) (x : Fin 128) : iblk m c 2 t (ix2 k x)
    = m ((c : Thread nD τ).loc main_arg2) (ix4 (bT t) k (hT t) x) := by
  have h := (bT t).isLt
  have h' := (hT t).isLt
  have e : iblk m c 2 t (ix2 k x) = V m c main_v15 (ix2 ⟨(bT t).val * 4096 + k.val, by omega⟩ ⟨(hT t).val * 128 + x.val, by omega⟩) := by
    unfold bT hT
    blk_ext [iblk, idx t]
  rw [e, V_v]
  exact cast_v _ (bT t) k (hT t) x

theorem blk_ck (t : Fin cfg0.N) (k : Fin 256) (x : Fin 128) : iblk m c 3 t (ix3 0 ⟨k.val * 8 + (hT t).val, by have := (hT t).isLt; omega⟩ x)
    = m ((c : Thread nD τ).loc main_arg3) (ix5 (bT t) 0 k (hT t) x) := by
  have h' := (hT t).isLt
  have e : iblk m c 3 t (ix3 0 ⟨k.val * 8 + (hT t).val, by omega⟩ x) = V m c main_v16 (ix3 (bT t) ⟨k.val * 8 + (hT t).val, by omega⟩ x) := by
    unfold bT
    blk_ext [iblk, idx t]
  rw [e, V_ck]
  exact cast_c _ (bT t) k (hT t) x

theorem blk_cv (t : Fin cfg0.N) (k : Fin 256) (x : Fin 128) : iblk m c 4 t (ix3 0 ⟨k.val * 8 + (hT t).val, by have := (hT t).isLt; omega⟩ x)
    = m ((c : Thread nD τ).loc main_arg4) (ix5 (bT t) 0 k (hT t) x) := by
  have h' := (hT t).isLt
  have e : iblk m c 4 t (ix3 0 ⟨k.val * 8 + (hT t).val, by omega⟩ x) = V m c main_v17 (ix3 (bT t) ⟨k.val * 8 + (hT t).val, by omega⟩ x) := by
    unfold bT
    blk_ext [iblk, idx t]
  rw [e, V_cv]
  exact cast_c _ (bT t) k (hT t) x

theorem blk_lp (t : Fin cfg0.N) (a : Fin 4) (x : Fin 64) : iblk m c 5 t (ix2 a x) = V m c main_v8 (ix2 a x) := by
  blk_ext [iblk, idx t]
theorem blk_sg (t : Fin cfg0.N) (x : Fin 128) : iblk m c 6 t (ix2 0 x) = V m c main_v10 (ix2 0 x) := by
  blk_ext [iblk, idx t]

theorem lam_blk (t : Fin cfg0.N) : lamOf (fun a x => iblk m c 5 t (ix2 a x)) = val_main_v11 (F := Ideal) (m ((c : Thread nD τ).loc main_arg5))
    (m ((c : Thread nD τ).loc main_arg6)) (m ((c : Thread nD τ).loc main_arg7)) (m ((c : Thread nD τ).loc main_arg8)) ix0 := by
  have e : (fun a x => iblk m c 5 t (ix2 a x)) = fun a x => (![m ((c : Thread nD τ).loc main_arg5), m ((c : Thread nD τ).loc main_arg6),
      m ((c : Thread nD τ).loc main_arg7), m ((c : Thread nD τ).loc main_arg8)] : Fin 4 → FVec Ideal S1x64 .f32) a (ix2 0 x) :=
    funext fun a => funext fun x => (blk_lp m c t a x).trans (V_lp m c a x)
  exact (congrArg lamOf e).trans (r11 _ _ _ _ ix0).symm

/-! ## The joined keys and values at their two runs -/

theorem key_new (x1 : FVec Ideal S4x4096x8x2x64 .f32) (x3 : FVec Ideal S4x1x256x8x128 .f32) (b : Fin 4) (k : Fin 4096) (h : Fin 8) (a : Fin 2) (d : Fin 64) :
    x1 (ix5 b k h a d) = val_main_v14 (F := Ideal) x1 x3 (ix5 b ⟨256 + k.val, by omega⟩ h a d) := by
  rw [r14, dif_neg (by show ¬ 256 + k.val < 256; omega)]
  exact congrArg (fun j => x1 (ix5 b j h a d)) (Fin.ext (by show k.val = 256 + k.val - 256; omega))
theorem key_old (x1 : FVec Ideal S4x4096x8x2x64 .f32) (x3 : FVec Ideal S4x1x256x8x128 .f32) (b : Fin 4) (k : Fin 256) (h : Fin 8) (x : Fin 128) :
    x3 (ix5 b 0 k h x) = val_main_v14 (F := Ideal) x1 x3 (ix5 b ⟨k.val, by omega⟩ h ⟨x.val / 64, by omega⟩ ⟨x.val % 64, by omega⟩) := by
  rw [r14, dif_pos k.isLt]
  exact congrArg (fun j => x3 (ix5 b 0 k h j)) (Fin.ext (by show x.val = x.val / 64 * 64 + x.val % 64; omega))
theorem val_new (x2 : FVec Ideal S4x4096x8x128 .f32) (x4 : FVec Ideal S4x1x256x8x128 .f32) (b : Fin 4) (k : Fin 4096) (h : Fin 8) (e : Fin 128) :
    x2 (ix4 b k h e) = val_main_v16 (F := Ideal) x2 x4 (ix4 b ⟨256 + k.val, by omega⟩ h e) := by
  rw [r16, dif_neg (by show ¬ 256 + k.val < 256; omega)]
  exact congrArg (fun j => x2 (ix4 b j h e)) (Fin.ext (by show k.val = 256 + k.val - 256; omega))
theorem val_old (x2 : FVec Ideal S4x4096x8x128 .f32) (x4 : FVec Ideal S4x1x256x8x128 .f32) (b : Fin 4) (k : Fin 256) (h : Fin 8) (e : Fin 128) :
    x4 (ix5 b 0 k h e) = val_main_v16 (F := Ideal) x2 x4 (ix4 b ⟨k.val, by omega⟩ h e) := by
  rw [r16, dif_pos k.isLt]

section
variable {q : Fin 4 → Fin 4096 → Fin 8 → Fin 2 → Fin 64 → ℝ} {K : Fin 4 → Fin 4352 → Fin 8 → Fin 2 → Fin 64 → ℝ} {W : Fin 4 → Fin 4352 → Fin 8 → Fin 128 → ℝ} {l : ℝ}
  (hq : ∀ b t h a d, m ((c : Thread nD τ).loc main_arg0) (ix5 b t h a d) = (q b t h a d : EReal))
  (hK : ∀ b j h a d, val_main_v14 (F := Ideal) (m ((c : Thread nD τ).loc main_arg1)) (m ((c : Thread nD τ).loc main_arg3)) (ix5 b j h a d) = (K b j h a d : EReal))
  (hW : ∀ b j h e, val_main_v16 (F := Ideal) (m ((c : Thread nD τ).loc main_arg2)) (m ((c : Thread nD τ).loc main_arg4)) (ix4 b j h e) = (W b j h e : EReal))
  (hl : val_main_v11 (F := Ideal) (m ((c : Thread nD τ).loc main_arg5)) (m ((c : Thread nD τ).loc main_arg6)) (m ((c : Thread nD τ).loc main_arg7))
    (m ((c : Thread nD τ).loc main_arg8)) ix0 = (l : EReal))
include hq hK hW hl

theorem point (t : Fin cfg0.N) (r : Fin 1024) (e : Fin 128) :
    latOut (grid0.coords t) (iblk m c 0 t) (iblk m c 1 t) (iblk m c 2 t) (iblk m c 3 t) (iblk m c 4 t) (iblk m c 5 t) (iblk m c 6 t) (ix2 r e)
      = val_main_v57 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (ix2 ⟨(bT t).val * 4096 + (t.val % 4 * 1024 + r.val), by have := (bT t).isLt; omega⟩ ⟨(hT t).val * 128 + e.val, by have := (hT t).isLt; omega⟩) := by
  have L : lamOf (fun a x => iblk m c 5 t (ix2 a x)) = (l : EReal) := (lam_blk m c t).trans hl
  have G : iblk m c 6 t (ix2 0 e) = m ((c : Thread nD τ).loc main_arg9) (ix2 0 e) := (blk_sg m c t e).trans (V_sg m c e)
  refine (latOut_real (grid0.coords t) (hT t) (idx t).2.2.2.2.2.2.2.2.2.2.2.2.2.2 (iblk m c 5 t) (iblk m c 6 t)
    (Q := fun r a d => q (bT t) ⟨t.val % 4 * 1024 + r.val, by omega⟩ (hT t) a d) (K := fun j a d => K (bT t) j (hT t) a d) (W := fun j e => W (bT t) j (hT t) e)
    (fun r x => (blk_q m c t r x).trans (hq _ _ _ _ _))
    (fun k x => (blk_k m c t k x).trans ((key_new _ (m ((c : Thread nD τ).loc main_arg3)) _ _ _ _ _).trans (hK _ _ _ _ _)))
    (fun k x => (blk_v m c t k x).trans ((val_new _ (m ((c : Thread nD τ).loc main_arg4)) _ _ _ _).trans (hW _ _ _ _)))
    (fun k x => (blk_ck m c t k x).trans ((key_old (m ((c : Thread nD τ).loc main_arg1)) _ _ _ _ _).trans (hK _ _ _ _ _)))
    (fun k x => (blk_cv m c t k x).trans ((val_old (m ((c : Thread nD τ).loc main_arg2)) _ _ _ _ _).trans (hW _ _ _ _))) L r e).trans ?_
  refine (congrArg (fun g => headNorm _ g e) G).trans ?_
  exact (result_real hq hK hW hl (bT t) ⟨t.val % 4 * 1024 + r.val, by omega⟩ (hT t) e).symm

theorem final10 : (dats m 0 c).arrAt 10 (cfgs 0).N = val_main_v57 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  refine (dats m 0 c).arrAt_eq_of_covers 10 _ (by decide +kernel) fun t hf y => ?_
  rw [after0_10, cast_eq]
  have hy : (y : S1024x128.Idx) = ix2 (y 0) (y 1) := eq_ix2 (n0 := 1024) (n1 := 128) y
  refine (congrArg _ hy).trans ((point m c hq hK hW hl t (y 0) (y 1)).trans (congrArg _ (funext fun a => Fin.ext ?_)))
  have h := Pipeline.Window.rect_emb_val win0_10 t y a
  rw [(idx t).2.2.2.2.2.2.2.2.2.2.1] at h
  refine Eq.trans ?_ h.symm
  match a with
  | ⟨0, _⟩ => show t.val / 32 * 4096 + (t.val % 4 * 1024 + (y 0).val) = (t.val / 32 * 4 + t.val % 4) * 1024 + (y 0).val; omega
  | ⟨1, _⟩ => rfl
end

/-! ## The converted weights -/

theorem castUp_apply (x : Vec Ideal S1x1024x896 .f32) (y : S1x1024x896.Idx) : castUp x y = x y := by
  have e : y = ix3 0 (y 1) (y 2) := by
    funext a
    match a with
    | ⟨0, _⟩ => exact Subsingleton.elim (α := Fin 1) _ _
    | ⟨1, _⟩ => rfl
    | ⟨2, _⟩ => rfl
  rw [e]; generalize y 1 = r; generalize y 2 = k
  pointwise [castUp, k0_pay2]
theorem castDown_apply (x : Vec Ideal S1x896x1024 .f32) (y : S1x896x1024.Idx) : castDown x y = x y := by
  have e : y = ix3 0 (y 1) (y 2) := by
    funext a
    match a with
    | ⟨0, _⟩ => exact Subsingleton.elim (α := Fin 1) _ _
    | ⟨1, _⟩ => rfl
    | ⟨2, _⟩ => rfl
  rw [e]; generalize y 1 = r; generalize y 2 = k
  pointwise [castDown, k0_pay4]

theorem final11 : (dats m 0 c).arrAt 11 (cfgs 0).N = val_main_v59 (F := Ideal) (m ((c : Thread nD τ).loc main_arg10)) := by
  refine Eq.trans (b := V m c main_v18) ?_ (V_w1 m c)
  refine (dats m 0 c).arrAt_eq_of_covers 11 _ (by decide +kernel) fun t hf y => ?_
  rw [after0_11, cast_eq]
  refine (castUp_apply _ _).trans ?_
  have e := (idx (clip 31 (by decide) t)).2.2.2.2.2.2.2.1
  have e' := (idx t).2.2.2.2.2.2.2.2.2.2.2.1
  rw [show min (clip 31 (by decide) t).val 31 = min t.val 31 by show min (min t.val 31) 31 = min t.val 31; omega] at e
  refine congrArg (V m c main_v18) (funext fun a => Fin.ext ?_)
  have h1 := Pipeline.Window.rect_emb_val win0_7 (clip 31 (by decide) t) y a
  have h2 := Pipeline.Window.rect_emb_val win0_11 t y a
  rw [e] at h1; rw [e'] at h2
  exact h1.trans h2.symm
theorem final12 : (dats m 0 c).arrAt 12 (cfgs 0).N = val_main_v61 (F := Ideal) (m ((c : Thread nD τ).loc main_arg11)) := by
  refine Eq.trans (b := V m c main_v19) ?_ (V_w3 m c)
  refine (dats m 0 c).arrAt_eq_of_covers 12 _ (by decide +kernel) fun t hf y => ?_
  rw [after0_12, cast_eq]
  refine (castUp_apply _ _).trans ?_
  have e := (idx (clip 63 (by decide) t)).2.2.2.2.2.2.2.2.1
  have e' := (idx t).2.2.2.2.2.2.2.2.2.2.2.2.1
  rw [show min ((clip 63 (by decide) t).val - 32) 31 = min (t.val - 32) 31 by show min (min t.val 63 - 32) 31 = min (t.val - 32) 31; omega] at e
  refine congrArg (V m c main_v19) (funext fun a => Fin.ext ?_)
  have h1 := Pipeline.Window.rect_emb_val win0_8 (clip 63 (by decide) t) y a
  have h2 := Pipeline.Window.rect_emb_val win0_12 t y a
  rw [e] at h1; rw [e'] at h2
  exact h1.trans h2.symm
theorem final13 : (dats m 0 c).arrAt 13 (cfgs 0).N = val_main_v63 (F := Ideal) (m ((c : Thread nD τ).loc main_arg12)) := by
  refine Eq.trans (b := V m c main_v20) ?_ (V_w2 m c)
  refine (dats m 0 c).arrAt_eq_of_covers 13 _ (by decide +kernel) fun t hf y => ?_
  rw [after0_13, cast_eq]
  refine (castDown_apply _ _).trans ?_
  have e := (idx (clip 95 (by decide) t)).2.2.2.2.2.2.2.2.2.1
  have e' := (idx t).2.2.2.2.2.2.2.2.2.2.2.2.2.1
  rw [show min ((clip 95 (by decide) t).val - 64) 31 = min (t.val - 64) 31 by show min (min t.val 95 - 64) 31 = min (t.val - 64) 31; omega] at e
  refine congrArg (V m c main_v20) (funext fun a => Fin.ext ?_)
  have h1 := Pipeline.Window.rect_emb_val win0_9 (clip 95 (by decide) t) y a
  have h2 := Pipeline.Window.rect_emb_val win0_13 t y a
  rw [e] at h1; rw [e'] at h2
  exact h1.trans h2.symm

end Cert.KernelIdeal.Gen

end
-- ==== Proof.LatPre.lean ====
/-
The precondition `finite`: what it says of the arguments, that their entries are real numbers.
-/
module

public import proofs.«01_k».proof.Defs
public import proofs.«01_k».proof.Proof.LatWhole

@[expose] public section

set_option maxRecDepth 16384

noncomputable section

namespace Cert.Pre_finite

open Idealize.ShloMosaic

/-- The shapes `finite` broadcasts to. -/
theorem facts : Facts := ⟨by decide, by decide, by decide, by decide⟩

/-- Positive infinity. -/
theorem ofBits_inf : Ideal.ofBits .f32 0x7F800000#32 = ⊤ := by
  simp [Ideal.ofBits, Ideal.ieee]

/-- An entry whose absolute value is below infinity is a real number. -/
theorem real_of {s : Shape} (x : FVec Ideal s .f32) (b : S_.BroadcastsInDim s (![] : Fin 0 → Fin s.rank))
    (h : cmpf .olt (Host.absf x) (broadcastInDim s ![] b (constant S_ .f32 0x7F800000#32)) = fun _ => 1#1) (i : s.Idx) :
    ∃ r : ℝ, x i = (r : EReal) := by
  have h' : Ideal.cmp .olt (max (x i) (-(x i))) (Ideal.ofBits .f32 0x7F800000#32) = 1#1 := congrFun h i
  rw [ofBits_inf] at h'
  have h2 : max (x i) (-(x i)) < ⊤ := by
    by_contra hn
    simp [Ideal.cmp, hn] at h'
  generalize x i = y at h2 ⊢
  induction y using EReal.rec with
  | bot => simp at h2
  | top => simp at h2
  | coe r => exact ⟨r, rfl⟩

end Cert.Pre_finite

namespace Cert.KernelIdeal.Gen

open Idealize.ShloMosaic Idealize.ShloMosaic.TcCoe Cert.Attn Cert.ReferenceIdeal.Read

variable [hPre : Cert.Pre_finite.Facts] {m : (ℓ : Loc nD τ sig) → Buf (Elt Ideal) ℓ} (hpre : Cert.Pre_KernelIdeal_finite m) (c : Dev nD)
include hpre

theorem real0 (i) : ∃ r : ℝ, m ((c : Thread nD τ).loc main_arg0) i = (r : EReal) := Cert.Pre_finite.real_of _ _ (hpre c).1 i
theorem real1 (i) : ∃ r : ℝ, m ((c : Thread nD τ).loc main_arg1) i = (r : EReal) := Cert.Pre_finite.real_of _ _ (hpre c).2.1 i
theorem real2 (i) : ∃ r : ℝ, m ((c : Thread nD τ).loc main_arg2) i = (r : EReal) := Cert.Pre_finite.real_of _ _ (hpre c).2.2.1 i
theorem real3 (i) : ∃ r : ℝ, m ((c : Thread nD τ).loc main_arg3) i = (r : EReal) := Cert.Pre_finite.real_of _ _ (hpre c).2.2.2.1 i
theorem real4 (i) : ∃ r : ℝ, m ((c : Thread nD τ).loc main_arg4) i = (r : EReal) := Cert.Pre_finite.real_of _ _ (hpre c).2.2.2.2.1 i
theorem real5 (i) : ∃ r : ℝ, m ((c : Thread nD τ).loc main_arg5) i = (r : EReal) := Cert.Pre_finite.real_of _ _ (hpre c).2.2.2.2.2.1 i
theorem real6 (i) : ∃ r : ℝ, m ((c : Thread nD τ).loc main_arg6) i = (r : EReal) := Cert.Pre_finite.real_of _ _ (hpre c).2.2.2.2.2.2.1 i
theorem real7 (i) : ∃ r : ℝ, m ((c : Thread nD τ).loc main_arg7) i = (r : EReal) := Cert.Pre_finite.real_of _ _ (hpre c).2.2.2.2.2.2.2.1 i
theorem real8 (i) : ∃ r : ℝ, m ((c : Thread nD τ).loc main_arg8) i = (r : EReal) := Cert.Pre_finite.real_of _ _ (hpre c).2.2.2.2.2.2.2.2 i

omit hpre hPre in
/-- The weight of the second map is a real number when the four vectors it is made from are. -/
theorem lam_real {x5 x6 x7 x8 : FVec Ideal S1x64 .f32} (h5 : ∀ i, ∃ r : ℝ, x5 i = (r : EReal)) (h6 : ∀ i, ∃ r : ℝ, x6 i = (r : EReal))
    (h7 : ∀ i, ∃ r : ℝ, x7 i = (r : EReal)) (h8 : ∀ i, ∃ r : ℝ, x8 i = (r : EReal)) :
    ∃ l : ℝ, val_main_v11 (F := Ideal) x5 x6 x7 x8 ix0 = (l : EReal) := by
  choose a ha using h5
  choose b hb using h6
  choose d hd using h7
  choose e he using h8
  obtain ⟨k, hk⟩ : ∃ k : ℝ, Ideal.ofBits .f32 1052116297#32 = (k : EReal) := by
    refine ⟨11928905 * (2 ^ 25)⁻¹, ?_⟩
    simp [Ideal.ofBits, Ideal.ieee, EReal.coe_mul]
  rw [r11, sum_coe_mul (fun x => ha _) (fun x => hb _), sum_coe_mul (fun x => hd _) (fun x => he _), hk, Ideal.exp_coe, Ideal.exp_coe,
    ← EReal.coe_sub, ← EReal.coe_add]
  exact ⟨_, rfl⟩

theorem cat_key_real (b : Fin 4) (j : Fin 4352) (h : Fin 8) (a : Fin 2) (d : Fin 64) :
    ∃ r : ℝ, val_main_v14 (F := Ideal) (m ((c : Thread nD τ).loc main_arg1)) (m ((c : Thread nD τ).loc main_arg3)) (ix5 b j h a d) = (r : EReal) := by
  rw [r14]
  split
  · exact real3 hpre c _
  · exact real1 hpre c _

theorem cat_val_real (b : Fin 4) (j : Fin 4352) (h : Fin 8) (e : Fin 128) :
    ∃ r : ℝ, val_main_v16 (F := Ideal) (m ((c : Thread nD τ).loc main_arg2)) (m ((c : Thread nD τ).loc main_arg4)) (ix4 b j h e) = (r : EReal) := by
  rw [r16]
  split
  · exact real4 hpre c _
  · exact real2 hpre c _

/-- The attention's result from arguments the precondition allows. -/
theorem final10_pre : (dats m 0 c).arrAt 10 (cfgs 0).N = val_main_v57 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  choose q hq using fun b t h a d => real0 hpre c (ix5 b t h a d)
  choose K hK using cat_key_real hpre c
  choose W hW using cat_val_real hpre c
  obtain ⟨l, hl⟩ := lam_real (real5 hpre c) (real6 hpre c) (real7 hpre c) (real8 hpre c)
  exact final10 m c hq hK hW hl

end Cert.KernelIdeal.Gen

end
-- ==== Proof.BitsMoeRun.lean ====
module

public import proofs.«01_k».proof.Proof.BitsMoeBase
public import proofs.«01_k».proof.Proof.Gen.Kernel2.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.PureOps.BitExact
public import Idealize.ShloMosaic.Adequacy
public import Idealize.ShloMosaic.Init

@[expose] public section

set_option maxRecDepth 16384
set_option Elab.async false

noncomputable section

namespace Cert.Kernel2.Gen

open Cert.Kernel2
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! The kernel's body on each control path, on any whole buffers. -/

/-- One staging buffer of the output, through which its contents are stated. -/
abbrev VO0_4 : View sig .tc .vmem S512x1024 .f32 := (Memref.whole cc0_stg4_0 : Memref sig .tc .vmem S512x1024 .f32).view

/-- The four blocks and the two tables as every path finds and leaves them. -/
abbrev held (c : Dev nD) (arg4 : Memref sig .tc .vmem S512x1024 .f32) (arg5 arg6 : Memref sig .tc .vmem S1x1024x1792 .bf16)
    (arg7 : Memref sig .tc .vmem S1x1792x1024 .bf16) (T0 T1 : S110.Idx → BitVec 32) (x0 : S512x1024.Idx → Elt Bits .f32)
    (x1 x2 : S1x1024x1792.Idx → Elt Bits .bf16) (x3 : S1x1792x1024.Idx → Elt Bits .bf16) (R : sProp 𝕄) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (tbM0_0.view.loc (c : Thread nD τ) ↦{fullShare.right} T0) ∗ (tbM0_1.view.loc (c : Thread nD τ) ↦{fullShare.right} T1) ∗ R)

/-- The body on these buffers. -/
abbrev bodyOn (i : grid0.Coords) (arg4 : Memref sig .tc .vmem S512x1024 .f32) (harg4 : arg4.IsWhole)
    (arg5 : Memref sig .tc .vmem S1x1024x1792 .bf16) (harg5 : arg5.IsWhole) (arg6 : Memref sig .tc .vmem S1x1024x1792 .bf16) (harg6 : arg6.IsWhole)
    (arg7 : Memref sig .tc .vmem S1x1792x1024 .bf16) (harg7 : arg7.IsWhole) (arg8 : Memref sig .tc .vmem S512x1024 .f32) (harg8 : arg8.IsWhole) :
    Prog (TpuEff nD τ sig (Elt Bits) Λ₀ .tc) PUnit :=
  cc0_moe_experts i tbM0_0 (Memref.isWhole_whole _) tbM0_1 (Memref.isWhole_whole _) arg4 harg4 arg5 harg5 arg6 harg6 arg7 harg7 arg8 harg8 scM0_0 (Memref.isWhole_whole _) scM0_1 (Memref.isWhole_whole _)

variable (c : Dev nD) (i : grid0.Coords) (arg4 : Memref sig .tc .vmem S512x1024 .f32) (harg4 : arg4.IsWhole)
  (arg5 : Memref sig .tc .vmem S1x1024x1792 .bf16) (harg5 : arg5.IsWhole) (arg6 : Memref sig .tc .vmem S1x1024x1792 .bf16) (harg6 : arg6.IsWhole)
  (arg7 : Memref sig .tc .vmem S1x1792x1024 .bf16) (harg7 : arg7.IsWhole) (arg8 : Memref sig .tc .vmem S512x1024 .f32) (harg8 : arg8.IsWhole)
  (T0 T1 : S110.Idx → BitVec 32) (x0 : S512x1024.Idx → Elt Bits .f32) (x1 x2 : S1x1024x1792.Idx → Elt Bits .bf16) (x3 : S1x1792x1024.Idx → Elt Bits .bf16)

set_option backward.proofsInPublic true in
set_option maxHeartbeats 8000000 in
/-- The first half of a tile with rows: the rows and the first half of their product go to the scratch arrays. -/
noncomputable def kernelRun0_A (hc0 : k0_cond1 i (rd T1 i) = 1#1)
    (k0_h2 : ¬(k0_cond2 i (rd T1 i) = 1#1)) (k0_h3 : ¬(k0_cond3 i (rd T1 i) = 1#1)) :
    Σ' (out0 : Buf (Elt Bits) ((c : Thread nD τ).loc cc0_scratch0)), { out1 : Buf (Elt Bits) ((c : Thread nD τ).loc cc0_scratch1) //
      ∀ (y4 : S512x1024.Idx → Elt Bits .f32) (xa0 : Buf (Elt Bits) ((c : Thread nD τ).loc cc0_scratch0)) (xa1 : Buf (Elt Bits) ((c : Thread nD τ).loc cc0_scratch1)) (K : PUnit → sProp 𝕄),
        held c arg4 arg5 arg6 arg7 T0 T1 x0 x1 x2 x3 iprop(owns (c : Thread nD τ) arg8 fullShare y4 ∗ (scM0_0.view.loc (c : Thread nD τ) ↦{fullShare} xa0) ∗ (scM0_1.view.loc (c : Thread nD τ) ↦{fullShare} xa1)
          ∗ (held c arg4 arg5 arg6 arg7 T0 T1 x0 x1 x2 x3 iprop(owns (c : Thread nD τ) arg8 fullShare y4 ∗ (scM0_0.view.loc (c : Thread nD τ) ↦{fullShare} out0) ∗ (scM0_1.view.loc (c : Thread nD τ) ↦{fullShare} out1)) -∗ K ⟨⟩))
      ⊢ wp frame (wpE (defs₀ (F := Bits)) Variants.none c none) Set.univ (bodyOn i arg4 harg4 arg5 harg5 arg6 harg6 arg7 harg7 arg8 harg8) K } :=
  ⟨_, _, fun y4 xa0 xa1 K => by
    unfold held bodyOn owns
    rw [cc0_moe_experts_eq_skeleton]; unfold cc0_moe_experts_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(k0_cond2 _ _ = _); exact k0_h2) | (guard_target = ¬(k0_cond3 _ _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1⟩

set_option backward.proofsInPublic true in
set_option maxHeartbeats 8000000 in
/-- The second half of a tile with rows: the sum of the two halves goes to the output's block. -/
noncomputable def kernelRun0_B (xa0 : Buf (Elt Bits) ((c : Thread nD τ).loc cc0_scratch0)) (xa1 : Buf (Elt Bits) ((c : Thread nD τ).loc cc0_scratch1)) (hc0 : ¬(k0_cond1 i (rd T1 i) = 1#1))
    (k0_h2 : k0_cond2 i (rd T1 i) = 1#1) (k0_h3 : ¬(k0_cond3 i (rd T1 i) = 1#1)) :
    { out0 : List (View.Piece (Elt Bits) S512x1024 .f32) //
      ∀ (K : PUnit → sProp 𝕄),
        held c arg4 arg5 arg6 arg7 T0 T1 x0 x1 x2 x3 iprop((∃ d, owns (c : Thread nD τ) arg8 fullShare d) ∗ (scM0_0.view.loc (c : Thread nD τ) ↦{fullShare} xa0) ∗ (scM0_1.view.loc (c : Thread nD τ) ↦{fullShare} xa1)
          ∗ (held c arg4 arg5 arg6 arg7 T0 T1 x0 x1 x2 x3 iprop((∃ f, arg8.view.loc (c : Thread nD τ) ↦[arg8.view.set]{fullShare} arg8.view.writes (Elt Bits) f out0) ∗ (scM0_0.view.loc (c : Thread nD τ) ↦{fullShare} xa0) ∗ (scM0_1.view.loc (c : Thread nD τ) ↦{fullShare} xa1)) -∗ K ⟨⟩))
      ⊢ wp frame (wpE (defs₀ (F := Bits)) Variants.none c none) Set.univ (bodyOn i arg4 harg4 arg5 harg5 arg6 harg6 arg7 harg7 arg8 harg8) K } :=
  ⟨_, fun K => by
    unfold held bodyOn owns
    rw [cc0_moe_experts_eq_skeleton]; unfold cc0_moe_experts_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = k0_cond2 _ _ = _; exact k0_h2) | (guard_target = ¬(k0_cond3 _ _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

/-- Its one store covers the block. -/
theorem cover0_B_4 (xa0 : Buf (Elt Bits) ((c : Thread nD τ).loc cc0_scratch0)) (xa1 : Buf (Elt Bits) ((c : Thread nD τ).loc cc0_scratch1)) (hc0 : ¬(k0_cond1 i (rd T1 i) = 1#1))
    (k0_h2 : k0_cond2 i (rd T1 i) = 1#1) (k0_h3 : ¬(k0_cond3 i (rd T1 i) = 1#1)) (y : S512x1024.Idx) :
    ∃ pc ∈ (kernelRun0_B c i arg4 harg4 arg5 harg5 arg6 harg6 arg7 harg7 arg8 harg8 T0 T1 x0 x1 x2 x3 xa0 xa1 hc0 k0_h2 k0_h3).1, y ∈ pc.1.set :=
  View.cover_of_tiledL (kernelRun0_B c i arg4 harg4 arg5 harg5 arg6 harg6 arg7 harg7 arg8 harg8 T0 T1 x0 x1 x2 x3 xa0 xa1 hc0 k0_h2 k0_h3).1 S512x1024.size (by sl_kernel_rfl) y

/-- What it leaves in the output's buffer. -/
def out0_B_4 (xa0 : Buf (Elt Bits) ((c : Thread nD τ).loc cc0_scratch0)) (xa1 : Buf (Elt Bits) ((c : Thread nD τ).loc cc0_scratch1)) (hc0 : ¬(k0_cond1 i (rd T1 i) = 1#1))
    (k0_h2 : k0_cond2 i (rd T1 i) = 1#1) (k0_h3 : ¬(k0_cond3 i (rd T1 i) = 1#1)) : S512x1024.Idx → Elt Bits .f32 :=
  VO0_4.read (Elt Bits) (VO0_4.writes (Elt Bits) VO0_4.junk (kernelRun0_B c i arg4 harg4 arg5 harg5 arg6 harg6 arg7 harg7 arg8 harg8 T0 T1 x0 x1 x2 x3 xa0 xa1 hc0 k0_h2 k0_h3).1)

set_option backward.proofsInPublic true in
set_option maxHeartbeats 8000000 in
/-- The first half of a tile without rows: nothing is stored. -/
theorem kernelRun0_C (hc0 : ¬(k0_cond1 i (rd T1 i) = 1#1))
    (k0_h2 : ¬(k0_cond2 i (rd T1 i) = 1#1)) (k0_h3 : ¬(k0_cond3 i (rd T1 i) = 1#1))
    (y4 : S512x1024.Idx → Elt Bits .f32) (xa0 : Buf (Elt Bits) ((c : Thread nD τ).loc cc0_scratch0)) (xa1 : Buf (Elt Bits) ((c : Thread nD τ).loc cc0_scratch1)) (K : PUnit → sProp 𝕄) :
    held c arg4 arg5 arg6 arg7 T0 T1 x0 x1 x2 x3 iprop(owns (c : Thread nD τ) arg8 fullShare y4 ∗ (scM0_0.view.loc (c : Thread nD τ) ↦{fullShare} xa0) ∗ (scM0_1.view.loc (c : Thread nD τ) ↦{fullShare} xa1)
      ∗ (held c arg4 arg5 arg6 arg7 T0 T1 x0 x1 x2 x3 iprop(owns (c : Thread nD τ) arg8 fullShare y4 ∗ (scM0_0.view.loc (c : Thread nD τ) ↦{fullShare} xa0) ∗ (scM0_1.view.loc (c : Thread nD τ) ↦{fullShare} xa1)) -∗ K ⟨⟩))
      ⊢ wp frame (wpE (defs₀ (F := Bits)) Variants.none c none) Set.univ (bodyOn i arg4 harg4 arg5 harg5 arg6 harg6 arg7 harg7 arg8 harg8) K := by
    unfold held bodyOn owns
    rw [cc0_moe_experts_eq_skeleton]; unfold cc0_moe_experts_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(k0_cond2 _ _ = _); exact k0_h2) | (guard_target = ¬(k0_cond3 _ _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1

set_option backward.proofsInPublic true in
set_option maxHeartbeats 8000000 in
/-- The second half of a tile without rows: zeros go to the output's block. -/
noncomputable def kernelRun0_D (hc0 : ¬(k0_cond1 i (rd T1 i) = 1#1))
    (k0_h2 : ¬(k0_cond2 i (rd T1 i) = 1#1)) (k0_h3 : k0_cond3 i (rd T1 i) = 1#1) :
    { out0 : List (View.Piece (Elt Bits) S512x1024 .f32) //
      ∀ (xa0 : Buf (Elt Bits) ((c : Thread nD τ).loc cc0_scratch0)) (xa1 : Buf (Elt Bits) ((c : Thread nD τ).loc cc0_scratch1)) (K : PUnit → sProp 𝕄),
        held c arg4 arg5 arg6 arg7 T0 T1 x0 x1 x2 x3 iprop((∃ d, owns (c : Thread nD τ) arg8 fullShare d) ∗ (scM0_0.view.loc (c : Thread nD τ) ↦{fullShare} xa0) ∗ (scM0_1.view.loc (c : Thread nD τ) ↦{fullShare} xa1)
          ∗ (held c arg4 arg5 arg6 arg7 T0 T1 x0 x1 x2 x3 iprop((∃ f, arg8.view.loc (c : Thread nD τ) ↦[arg8.view.set]{fullShare} arg8.view.writes (Elt Bits) f out0) ∗ (scM0_0.view.loc (c : Thread nD τ) ↦{fullShare} xa0) ∗ (scM0_1.view.loc (c : Thread nD τ) ↦{fullShare} xa1)) -∗ K ⟨⟩))
      ⊢ wp frame (wpE (defs₀ (F := Bits)) Variants.none c none) Set.univ (bodyOn i arg4 harg4 arg5 harg5 arg6 harg6 arg7 harg7 arg8 harg8) K } :=
  ⟨_, fun xa0 xa1 K => by
    unfold held bodyOn owns
    rw [cc0_moe_experts_eq_skeleton]; unfold cc0_moe_experts_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(k0_cond2 _ _ = _); exact k0_h2) | (guard_target = k0_cond3 _ _ = _; exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

/-- Its one store covers the block. -/
theorem cover0_D_4 (hc0 : ¬(k0_cond1 i (rd T1 i) = 1#1))
    (k0_h2 : ¬(k0_cond2 i (rd T1 i) = 1#1)) (k0_h3 : k0_cond3 i (rd T1 i) = 1#1) (y : S512x1024.Idx) :
    ∃ pc ∈ (kernelRun0_D c i arg4 harg4 arg5 harg5 arg6 harg6 arg7 harg7 arg8 harg8 T0 T1 x0 x1 x2 x3 hc0 k0_h2 k0_h3).1, y ∈ pc.1.set :=
  View.cover_of_tiledL (kernelRun0_D c i arg4 harg4 arg5 harg5 arg6 harg6 arg7 harg7 arg8 harg8 T0 T1 x0 x1 x2 x3 hc0 k0_h2 k0_h3).1 S512x1024.size (by sl_kernel_rfl) y

/-- What it leaves in the output's buffer. -/
def out0_D_4 (hc0 : ¬(k0_cond1 i (rd T1 i) = 1#1))
    (k0_h2 : ¬(k0_cond2 i (rd T1 i) = 1#1)) (k0_h3 : k0_cond3 i (rd T1 i) = 1#1) : S512x1024.Idx → Elt Bits .f32 :=
  VO0_4.read (Elt Bits) (VO0_4.writes (Elt Bits) VO0_4.junk (kernelRun0_D c i arg4 harg4 arg5 harg5 arg6 harg6 arg7 harg7 arg8 harg8 T0 T1 x0 x1 x2 x3 hc0 k0_h2 k0_h3).1)

end Cert.Kernel2.Gen

end
-- ==== Proof.BitsMoeFrame.lean ====
module

public import proofs.«01_k».proof.Proof.BitsMoeRun
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.PureOps.BitExact
public import Idealize.ShloMosaic.Adequacy
public import Idealize.ShloMosaic.Init

@[expose] public section

set_option maxRecDepth 16384
set_option Elab.async false

noncomputable section

namespace Cert.Kernel2.Gen

open Cert.Kernel2
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! The kernel's run over its grid at any tables that name one of the eight experts. -/

variable (ch : Tab) (m : (ℓ : Loc nD τ sig) → Buf (Elt Bits) ℓ) (ρ : Dev nD → PrngReg)

/-- How the rounds' resources sit among the others. -/
abbrev EP : Emb (UR sig nD τ) 𝕄 := emb₁

/-- What the first half of a tile leaves in the scratch arrays. -/
def scrA0 (c : Dev nD) (t : Fin (cfgA ch).N) (q0 : P0_0 ch t) : Buf (Elt Bits) ((c : Thread nD τ).loc cc0_scratch0) :=
  (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) q0 (not1_of_0 ch q0) (not2_of_0 ch q0)).1

def scrA1 (c : Dev nD) (t : Fin (cfgA ch).N) (q0 : P0_0 ch t) : Buf (Elt Bits) ((c : Thread nD τ).loc cc0_scratch1) :=
  (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) q0 (not1_of_0 ch q0) (not2_of_0 ch q0)).2.1

/-- What the second half of a tile with rows leaves in the output's buffer, from the scratch arrays. -/
def outB (c : Dev nD) (t : Fin (cfgA ch).N) (a0 : Buf (Elt Bits) ((c : Thread nD τ).loc cc0_scratch0)) (a1 : Buf (Elt Bits) ((c : Thread nD τ).loc cc0_scratch1))
    (q0 : ¬P0_0 ch t) (q1 : P0_1 ch t) : S512x1024.Idx → Elt Bits .f32 :=
  out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) a0 a1 q0 q1 (not2_of_1 ch q1)

/-- What the second half of a tile without rows leaves there. -/
def outD (c : Dev nD) (t : Fin (cfgA ch).N) (q0 : ¬P0_0 ch t) (q1 : ¬P0_1 ch t) (q2 : P0_2 ch t) : S512x1024.Idx → Elt Bits .f32 :=
  out0_D_4 c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) q0 q1 q2

/-- What one point makes of the output's buffer and the two scratch arrays. -/
def step0 (c : Dev nD) (t : Fin (cfgA ch).N) (prev : (S512x1024.Idx → Elt Bits .f32) × Buf (Elt Bits) ((c : Thread nD τ).loc cc0_scratch0) × Buf (Elt Bits) ((c : Thread nD τ).loc cc0_scratch1)) : (S512x1024.Idx → Elt Bits .f32) × Buf (Elt Bits) ((c : Thread nD τ).loc cc0_scratch0) × Buf (Elt Bits) ((c : Thread nD τ).loc cc0_scratch1) :=
  if q0 : P0_0 ch t then
    ((if (cfgA ch).fresh (4 : Fin 5) t.val then default else prev.1), scrA0 ch m ρ c t q0, scrA1 ch m ρ c t q0)
  else
    if q1 : P0_1 ch t then (outB ch m ρ c t prev.2.1 prev.2.2 q0 q1, prev.2)
    else
      if q2 : P0_2 ch t then (outD ch m ρ c t q0 q1 q2, prev.2)
      else ((if (cfgA ch).fresh (4 : Fin 5) t.val then default else prev.1), prev.2)

/-- The output's buffer and the two scratch arrays after position `n`. -/
def traj0 (c : Dev nD) : (n : ℕ) → n < (cfgA ch).N → (S512x1024.Idx → Elt Bits .f32) × Buf (Elt Bits) ((c : Thread nD τ).loc cc0_scratch0) × Buf (Elt Bits) ((c : Thread nD τ).loc cc0_scratch1)
  | 0, h => step0 ch m ρ c ⟨0, h⟩ (default, default, default)
  | n + 1, h => step0 ch m ρ c ⟨n + 1, h⟩ (traj0 c n (Nat.lt_of_succ_lt h))

/-- What they held BEFORE point `t` (junk before the first). -/
def prev0 (c : Dev nD) (t : Fin (cfgA ch).N) : (S512x1024.Idx → Elt Bits .f32) × Buf (Elt Bits) ((c : Thread nD τ).loc cc0_scratch0) × Buf (Elt Bits) ((c : Thread nD τ).loc cc0_scratch1) :=
  if h : t.val = 0 then (default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point at a tile's first half, with rows. -/
theorem step0_A (c : Dev nD) (t : Fin (cfgA ch).N) (prev : (S512x1024.Idx → Elt Bits .f32) × Buf (Elt Bits) ((c : Thread nD τ).loc cc0_scratch0) × Buf (Elt Bits) ((c : Thread nD τ).loc cc0_scratch1)) (q0 : P0_0 ch t) :
    step0 ch m ρ c t prev = ((if (cfgA ch).fresh (4 : Fin 5) t.val then default else prev.1), scrA0 ch m ρ c t q0, scrA1 ch m ρ c t q0) := by
  unfold step0; simp only [dif_pos q0]

/-- `step0` at a point at a tile's second half, with rows. -/
theorem step0_B (c : Dev nD) (t : Fin (cfgA ch).N) (prev : (S512x1024.Idx → Elt Bits .f32) × Buf (Elt Bits) ((c : Thread nD τ).loc cc0_scratch0) × Buf (Elt Bits) ((c : Thread nD τ).loc cc0_scratch1)) (q0 : ¬P0_0 ch t) (q1 : P0_1 ch t) :
    step0 ch m ρ c t prev = (outB ch m ρ c t prev.2.1 prev.2.2 q0 q1, prev.2) := by
  unfold step0; simp only [dif_neg q0, dif_pos q1]

/-- `step0` at a point at a tile's first half, without rows. -/
theorem step0_C (c : Dev nD) (t : Fin (cfgA ch).N) (prev : (S512x1024.Idx → Elt Bits .f32) × Buf (Elt Bits) ((c : Thread nD τ).loc cc0_scratch0) × Buf (Elt Bits) ((c : Thread nD τ).loc cc0_scratch1)) (q0 : ¬P0_0 ch t) (q1 : ¬P0_1 ch t) (q2 : ¬P0_2 ch t) :
    step0 ch m ρ c t prev = ((if (cfgA ch).fresh (4 : Fin 5) t.val then default else prev.1), prev.2) := by
  unfold step0; simp only [dif_neg q0, dif_neg q1, dif_neg q2]

/-- `step0` at a point at a tile's second half, without rows. -/
theorem step0_D (c : Dev nD) (t : Fin (cfgA ch).N) (prev : (S512x1024.Idx → Elt Bits .f32) × Buf (Elt Bits) ((c : Thread nD τ).loc cc0_scratch0) × Buf (Elt Bits) ((c : Thread nD τ).loc cc0_scratch1)) (q0 : ¬P0_0 ch t) (q1 : ¬P0_1 ch t) (q2 : P0_2 ch t) :
    step0 ch m ρ c t prev = (outD ch m ρ c t q0 q1 q2, prev.2) := by
  unfold step0; simp only [dif_neg q0, dif_neg q1, dif_pos q2]

/-! ## The pipeline's proof data -/

/-- What the tracked buffers held before position `t` of `Fin (N+1)` (the invariant's index). -/
def prev0T (c : Dev nD) (t : Fin ((cfgA ch).N + 1)) : (S512x1024.Idx → Elt Bits .f32) × Buf (Elt Bits) ((c : Thread nD τ).loc cc0_scratch0) × Buf (Elt Bits) ((c : Thread nD τ).loc cc0_scratch1) :=
  if h : t.val = 0 then (default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- What holds before point `t`: each scratch array as the run so far left it once a first half has been computed, and
    the body's halves of the tables. -/
def Phi (m : (ℓ : Loc nD τ sig) → Buf (Elt Bits) ℓ) (ρ : Dev nD → PrngReg) (c : Dev nD) (t : Fin ((cfgA ch).N + 1)) : sProp 𝕄 :=
  iprop((∃ a, ⌜sfresh ch t.val = false → a = (prev0T ch m ρ c t).2.1⌝ ∗ (scM0_0.view.loc (c : Thread nD τ) ↦{fullShare} a)) ∗ (∃ a, ⌜sfresh ch t.val = false → a = (prev0T ch m ρ c t).2.2⌝ ∗ (scM0_1.view.loc (c : Thread nD τ) ↦{fullShare} a)) ∗ (tbM0_0.view.loc (c : Thread nD τ) ↦{fullShare.right} ch.te) ∗ (tbM0_1.view.loc (c : Thread nD τ) ↦{fullShare.right} ch.tv))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block, fetched there or not. -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ :=
  fun t ht hi hf => absurd ((fresh4 ch t).symm.trans hf) (by decide)

/-- Output window 4 holds, when the body runs at `t`: junk if nothing was stored since its last write-back (`Cfg.fresh`),
    else what the point before left. -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _)

set_option maxHeartbeats 4000000 in
/-- The body at point `t` keeps the invariant and leaves the blocks named: one case for each control path. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i4, f4, fr4⟩ := sched0_A ch t q0
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) q0 (not1_of_0 ch q0) (not2_of_0 ch q0)).2.2 _ a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    isplitl [HS1]; · iexact HS1
    iintro ⟨H0, H1, H2, H3, HT0, HT1, H4, HS0, HS1⟩
    isplitl [HS0 HS1 HT0 HT1]
    · isplitl [HS0]
      · iexists _; isplitr; swap
        · iexact HS0
        · ipureintro; intro hn; rfl
      isplitl [HS1]
      · iexists _; isplitr; swap
        · iexact HS1
        · ipureintro; intro hn; rfl
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    first | (iexists d4; iexact H4) | iexact H4
  · by_cases q1 : P0_1 ch t
    · obtain ⟨i4, f4, fr4, sf, sfn⟩ := sched0_B ch t q1
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf]
      iintro ⟨⟨HS0, HS1, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) _ _ q0 q1 (not2_of_1 ch q1)).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro hn; exact absurd hn (by rw [sfn]; decide)
        isplitl [HS1]
        · iexists _; isplitr; swap
          · iexact HS1
          · ipureintro; intro hn; exact absurd hn (by rw [sfn]; decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; unfold outB out0_B_4; exact View.read_writes_of_cover _ _ _ _ _ (cover0_B_4 c _ _ _ _ _ _ _ _ _ _ _ _ _ _ _ _ _ _ _ _ _ _)
    · by_cases q2 : P0_2 ch t
      · obtain ⟨i4, f4, fr4, sfn⟩ := sched0_D ch t q2
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1 q2]
        unfold Phi; simp only [prev0T_castSucc, prev0T_succ, traj0_eq, step0_D ch m ρ c t _ q0 q1 q2, Fin.val_castSucc, Fin.val_succ]
        iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) q0 q1 q2).2 a0 a1 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iintro ⟨H0, H1, H2, H3, HT0, HT1, ⟨%e4, H4⟩, HS0, HS1⟩
        isplitl [HS0 HS1 HT0 HT1]
        · isplitl [HS0]
          · iexists _; isplitr; swap
            · iexact HS0
            · ipureintro; intro hn; exact absurd hn (by rw [sfn]; decide)
          isplitl [HS1]
          · iexists _; isplitr; swap
            · iexact HS1
            · ipureintro; intro hn; exact absurd hn (by rw [sfn]; decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; unfold outD out0_D_4; exact View.read_writes_of_cover _ _ _ _ _ (cover0_D_4 c _ _ _ _ _ _ _ _ _ _ _ _ _ _ _ _ _ _ _ _)
      · obtain ⟨i4, f4, fr4, sfn⟩ := sched0_C ch t q0 q1 q2
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1 q2]
        unfold Phi; simp only [prev0T_castSucc, prev0T_succ, traj0_eq, step0_C ch m ρ c t _ q0 q1 q2, Fin.val_castSucc, Fin.val_succ]
        iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
        iapply (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) q0 q1 q2 _ a0 a1 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        isplitl [HS1]; · iexact HS1
        iintro ⟨H0, H1, H2, H3, HT0, HT1, H4, HS0, HS1⟩
        isplitl [HS0 HS1 HT0 HT1]
        · isplitl [HS0]
          · iexists _; isplitr; swap
            · iexact HS0
            · ipureintro; intro hn; exact absurd hn (by rw [sfn]; decide)
          isplitl [HS1]
          · iexists _; isplitr; swap
            · iexact HS1
            · ipureintro; intro hn; exact absurd hn (by rw [sfn]; decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The body's obligation at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh ch 0 = true from rfl)) Bool.false_ne_true
  isplitl [HS1]
  · iexists a1; isplitr; swap
    · iexact HS1
    · ipureintro; intro h; exact absurd (h.symm.trans (show sfresh ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- From a launch memory that holds these tables every weakly fair execution terminates, and every final state has each
    array at the computed contents and every semaphore counter at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- From a launch memory that holds these tables every weakly fair execution terminates, every argument array ends
    unchanged and every semaphore counter reads zero at every final state. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Kernel2.Gen

end
-- ==== Proof.MoeBase.lean ====
module

public import proofs.«01_k».proof.Proof.Gen.Kernel2Ideal
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.PureOps.BitExact
public import Idealize.ShloMosaic.Adequacy
public import Idealize.ShloMosaic.Init

@[expose] public section

set_option maxRecDepth 16384
set_option Elab.async false

noncomputable section

namespace Cert.Kernel2Ideal.Gen

open Cert.Kernel2Ideal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! The expert product's tables, the pipeline at any tables that name one of the eight experts, and its schedule. -/

/-- The two tables and the two scratch arrays as the kernel is handed them. -/
abbrev tbM0_0 : Memref sig .tc .smem S110 .i32 := Memref.whole main_arg0
abbrev tbM0_1 : Memref sig .tc .smem S110 .i32 := Memref.whole main_arg1
abbrev scM0_0 : Memref sig .tc .vmem S512x1024 .bf16 := Memref.whole cc0_scratch0
abbrev scM0_1 : Memref sig .tc .vmem S512x1024 .f32 := Memref.whole cc0_scratch1

/-- The words of the two tables: each tile's expert, one of the eight, and whether the tile holds rows. -/
structure Tab where
  te : S110.Idx → BitVec 32
  tv : S110.Idx → BitVec 32
  lt : ∀ x, (te x).toNat < 8

/-- The tables' contents. -/
def pfN (ch : Tab) : pre0.Contents (Elt Ideal) := fun | ⟨0, _⟩ => ch.te | ⟨1, _⟩ => ch.tv | ⟨_ + 2, h⟩ => absurd h (by simp)

/-- The launch memory's tables are these. -/
def Pinned (ch : Tab) (m : (ℓ : Loc nD τ sig) → Buf (Elt Ideal) ℓ) : Prop :=
  (∀ c : Dev nD, m ((c : Thread nD τ).loc main_arg0) = ch.te) ∧ (∀ c : Dev nD, m ((c : Thread nD τ).loc main_arg1) = ch.tv)

/-- The word of a table that the body reads at a grid point. -/
abbrev rd (T : S110.Idx → BitVec 32) (i : grid0.Coords) : BitVec 32 :=
  View.readAt (Elt Ideal) (tbM0_1).view (Rect.unit (s := S110) (k0_off1 i) S1.size (k0_off1_inb i)).toLoadRect T (Shape.Idx.first (numel1_S1.symm ▸ Nat.one_pos))

/-- The tile of a grid point as an index of the tables. -/
def tix (i : grid0.Coords) : S110.Idx := fun a => ⟨(i 0).val, by fin_cases a; exact (i 0).isLt⟩

theorem k0_off1_val (i : grid0.Coords) (a : Fin 1) : k0_off1 i a = (i 0).val := by
  rw [k0_off1_eq]; fin_cases a; rfl

theorem emb_tix (i : grid0.Coords) (x : (Rect.unit (s := S110) (k0_off1 i) S1.size (k0_off1_inb i)).shape.Idx) :
    (Rect.unit (s := S110) (k0_off1 i) S1.size (k0_off1_inb i)).emb x = tix i := by
  funext a
  apply Fin.ext
  have hx : (x a).val = 0 := by
    have h1 : (x a).val < S1.size a := (x a).isLt
    have h2 : S1.size a = 1 := by fin_cases a; rfl
    omega
  have hv := Rect.emb_apply (Rect.unit (s := S110) (k0_off1 i) S1.size (k0_off1_inb i)) x a
  rw [hx, Nat.mul_zero, Nat.add_zero] at hv
  exact hv.trans (k0_off1_val i a)

theorem rd_eq (T : S110.Idx → BitVec 32) (i : grid0.Coords) : rd T i = T (tix i) :=
  congrArg T (emb_tix i _)

/-- The first control condition: the tile holds rows and this is its first half. -/
abbrev k0_cond1 (i : grid0.Coords) (v : BitVec 32) : BitVec 1 :=
  Scalar.cmpi .ne (Scalar.extui (Scalar.andi (Scalar.cmpi .eq v 1#32) (Scalar.cmpi .eq (BitVec.ofNat 32 (i 1).val) 0#32))) 0#32

theorem half_cases (i : grid0.Coords) : (i 1).val = 0 ∨ (i 1).val = 1 := by
  have h : (i 1).val < 2 := (i 1).isLt
  omega

theorem eq_one (v : BitVec 32) : Scalar.cmpi .eq v 1#32 = if v = 1#32 then 1#1 else 0#1 := by
  by_cases h : v = 1#32
  · subst h; rfl
  · rw [if_neg h]
    show BitVec.ofBool (v == 1#32) = 0#1
    rw [beq_false_of_ne h]; rfl

theorem cond1_iff (i : grid0.Coords) (v : BitVec 32) : k0_cond1 i v = 1#1 ↔ v = 1#32 ∧ (i 1).val = 0 := by
  unfold k0_cond1; rw [eq_one]
  rcases half_cases i with h | h <;> rw [h] <;> by_cases hv : v = 1#32 <;> simp only [hv, if_true, if_false] <;> decide

theorem cond2_iff (i : grid0.Coords) (v : BitVec 32) : k0_cond2 i v = 1#1 ↔ v = 1#32 ∧ (i 1).val = 1 := by
  simp only [k0_cond2, eq_one]
  rcases half_cases i with h | h <;> rw [h] <;> by_cases hv : v = 1#32 <;> simp only [hv, if_true, if_false] <;> decide

theorem cond3_iff (i : grid0.Coords) (v : BitVec 32) : k0_cond3 i v = 1#1 ↔ v ≠ 1#32 ∧ (i 1).val = 1 := by
  simp only [k0_cond3, eq_one]
  rcases half_cases i with h | h <;> rw [h] <;> by_cases hv : v = 1#32 <;> simp only [hv, if_true, if_false, ne_eq, not_true, not_false_iff] <;> decide

/-! ## The blocks lie inside their arrays -/

/-- The half of the experts' inner columns that a grid point's weight blocks hold. -/
def hf (ch : Tab) (i : grid0.Coords) : ℕ := if ch.tv (tix i) = 1#32 then (i 1).val else 1

theorem hf_lt (ch : Tab) (i : grid0.Coords) : hf ch i < 2 := by
  unfold hf; split
  · exact (i 1).isLt
  · decide

theorem sel_hf (ch : Tab) (i : grid0.Coords) :
    (Scalar.select (Scalar.cmpi .eq (ch.tv (tix i)) 1#32) (BitVec.ofNat 32 (i 1).val) 1#32).toNat = hf ch i := by
  rw [eq_one]; unfold hf
  rcases half_cases i with h | h <;> rw [h] <;> by_cases hv : ch.tv (tix i) = 1#32 <;> simp only [hv, if_true, if_false] <;> rfl

theorem transform_1_eq (ch : Tab) (i : grid0.Coords) :
    cc0_transform_1 k0_off1_inb numel1_S1 (pfN ch) i = ![(ch.te (tix i)).toNat, 0, hf ch i] := by
  rw [← sel_hf ch i, ← emb_tix i (Shape.Idx.first (numel1_S1.symm ▸ Nat.one_pos))]; rfl

theorem transform_2_eq (ch : Tab) (i : grid0.Coords) :
    cc0_transform_2 k0_off1_inb numel1_S1 (pfN ch) i = ![(ch.te (tix i)).toNat, 0, hf ch i] := by
  rw [← sel_hf ch i, ← emb_tix i (Shape.Idx.first (numel1_S1.symm ▸ Nat.one_pos))]; rfl

theorem transform_3_eq (ch : Tab) (i : grid0.Coords) :
    cc0_transform_3 k0_off1_inb numel1_S1 (pfN ch) i = ![(ch.te (tix i)).toNat, hf ch i, 0] := by
  rw [← sel_hf ch i, ← emb_tix i (Shape.Idx.first (numel1_S1.symm ▸ Nat.one_pos))]; rfl

theorem inb_wide (e h : ℕ) (he : e < 8) (hh : h < 2) : ∀ a, (![e, 0, h] a + 1) * S1x1024x1792.size a ≤ S8x1024x3584.size a := by
  intro a; fin_cases a
  · show (e + 1) * 1 ≤ 8; omega
  · show (0 + 1) * 1024 ≤ 1024; omega
  · show (h + 1) * 1792 ≤ 3584; omega

theorem inb_tall (e h : ℕ) (he : e < 8) (hh : h < 2) : ∀ a, (![e, h, 0] a + 1) * S1x1792x1024.size a ≤ S8x3584x1024.size a := by
  intro a; fin_cases a
  · show (e + 1) * 1 ≤ 8; omega
  · show (h + 1) * 1792 ≤ 3584; omega
  · show (0 + 1) * 1024 ≤ 1024; omega

theorem ok_pfN (ch : Tab) : ok0 (F := Ideal) (pfN ch) :=
  ⟨fun i => ⟨by rw [transform_1_eq]; exact inb_wide _ _ (ch.lt _) (hf_lt ch i), .inr (Affine.block_words_dvd (s := S8x1024x3584) (p := EltTy.packing .bf16) (by decide) (by decide))⟩,
   fun i => ⟨by rw [transform_2_eq]; exact inb_wide _ _ (ch.lt _) (hf_lt ch i), .inr (Affine.block_words_dvd (s := S8x1024x3584) (p := EltTy.packing .bf16) (by decide) (by decide))⟩,
   fun i => ⟨by rw [transform_3_eq]; exact inb_tall _ _ (ch.lt _) (hf_lt ch i), .inr (Affine.block_words_dvd (s := S8x3584x1024) (p := EltTy.packing .bf16) (by decide) (by decide))⟩⟩

variable (ch : Tab)

/-- The pipeline at these tables. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-- Point `t`'s coordinates. -/
abbrev crd (t : Fin (cfgA ch).N) : (cfgA ch).grid.Coords := (cfgA ch).grid.coords t

/-- Each window's current staging buffer at point `t`, and that it is whole. -/
abbrev ms0_0 (t : Fin (cfgA ch).N) : Memref sig .tc .vmem S512x1024 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1024x1792 .bf16 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1024x1792 .bf16 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x1792x1024 .bf16 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S512x1024 .f32 := spec0_4.stage ((cfgA ch).slots t (4 : Fin 5))
abbrev hs0_4 (t : Fin (cfgA ch).N) : (ms0_4 ch t).IsWhole := hstage0_4 (((cfgA ch).slots t (4 : Fin 5)).cast nbuf0_4)

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point -/

abbrev P0_0 (t : Fin (cfgA ch).N) : Prop := k0_cond1 (crd ch t) (rd ch.tv (crd ch t)) = 1#1
abbrev P0_1 (t : Fin (cfgA ch).N) : Prop := k0_cond2 (crd ch t) (rd ch.tv (crd ch t)) = 1#1
abbrev P0_2 (t : Fin (cfgA ch).N) : Prop := k0_cond3 (crd ch t) (rd ch.tv (crd ch t)) = 1#1

theorem crd_grid : ∀ t : Fin grid0.N, ((grid0.coords t) 0).val = t.val / 2 ∧ ((grid0.coords t) 1).val = t.val % 2 := by decide +kernel

theorem crd_0 (t : Fin (cfgA ch).N) : ((crd ch t) 0).val = t.val / 2 := (crd_grid t).1
theorem crd_1 (t : Fin (cfgA ch).N) : ((crd ch t) 1).val = t.val % 2 := (crd_grid t).2

theorem P0_0_iff (t : Fin (cfgA ch).N) : P0_0 ch t ↔ ch.tv (tix (crd ch t)) = 1#32 ∧ t.val % 2 = 0 := by
  rw [← crd_1 ch t, ← rd_eq ch.tv (crd ch t)]; exact cond1_iff _ _
theorem P0_1_iff (t : Fin (cfgA ch).N) : P0_1 ch t ↔ ch.tv (tix (crd ch t)) = 1#32 ∧ t.val % 2 = 1 := by
  rw [← crd_1 ch t, ← rd_eq ch.tv (crd ch t)]; exact cond2_iff _ _
theorem P0_2_iff (t : Fin (cfgA ch).N) : P0_2 ch t ↔ ch.tv (tix (crd ch t)) ≠ 1#32 ∧ t.val % 2 = 1 := by
  rw [← crd_1 ch t, ← rd_eq ch.tv (crd ch t)]; exact cond3_iff _ _

theorem not1_of_0 {t : Fin (cfgA ch).N} (q : P0_0 ch t) : ¬P0_1 ch t := fun h => by
  have := ((P0_0_iff ch t).1 q).2; have := ((P0_1_iff ch t).1 h).2; omega
theorem not2_of_0 {t : Fin (cfgA ch).N} (q : P0_0 ch t) : ¬P0_2 ch t := fun h => ((P0_2_iff ch t).1 h).1 ((P0_0_iff ch t).1 q).1
theorem not2_of_1 {t : Fin (cfgA ch).N} (q : P0_1 ch t) : ¬P0_2 ch t := fun h => ((P0_2_iff ch t).1 h).1 ((P0_1_iff ch t).1 q).1

/-- The output's buffer is left alone exactly where neither of its two stores happens. -/
theorem idle4_iff (t : Fin (cfgA ch).N) : (cfgA ch).idle (4 : Fin 5) ((cfgA ch).grid.coords t) = true ↔ ¬P0_1 ch t ∧ ¬P0_2 ch t := by
  have hin : ∀ a, k0_off1 (crd ch t) a + 1 ≤ S110.size a := fun a => by have h := k0_off1_inb (crd ch t) a; fin_cases a; exact h
  have hw : (adm ch).1.atD 1 (k0_off1 (crd ch t)) = rd ch.tv (crd ch t) := by
    rw [rd_eq]
    refine (dif_pos hin).trans ?_
    exact congrArg ch.tv (funext fun a => Fin.ext (k0_off1_val (crd ch t) a))
  show (!(k0_cond2 (crd ch t) ((adm ch).1.atD 1 (k0_off1 (crd ch t))) == 1#1) && !(k0_cond3 (crd ch t) ((adm ch).1.atD 1 (k0_off1 (crd ch t))) == 1#1)) = true ↔ _
  rw [hw]; simp only [Bool.and_eq_true, Bool.not_eq_true', beq_eq_false_iff_ne, ne_eq]

/-- The output's block is written back after the second half of each tile. -/
theorem flush4_grid : ∀ t : Fin grid0.N, (decide (t.val + 1 = grid0.N) || decide (∃ h : t.val + 1 < grid0.N, cc0_transform_4 (grid0.coords ⟨t.val + 1, h⟩) ≠ cc0_transform_4 (grid0.coords t))) = decide (t.val % 2 = 1) := by decide +kernel

theorem flush4_eq (t : Fin (cfgA ch).N) : ((cfgA ch).win (4 : Fin 5)).flush t = decide (t.val % 2 = 1) := flush4_grid t

theorem fresh4 (t : Fin (cfgA ch).N) : (cfgA ch).fresh (4 : Fin 5) t.val = true := by
  refine Pipeline.Cfg.fresh_tab (cfgA ch) (4 : Fin 5) (fun _ => true) rfl (fun t => ?_) t.val (Nat.le_of_lt t.isLt)
  rw [flush4_eq]
  by_cases h : t.val % 2 = 1
  · simp only [h, decide_true, Bool.true_or]
  · have hi : (cfgA ch).idle (4 : Fin 5) ((cfgA ch).grid.coords t) = true :=
      (idle4_iff ch t).2 ⟨fun h1 => h ((P0_1_iff ch t).1 h1).2, fun h2 => h ((P0_2_iff ch t).1 h2).2⟩
    rw [hi]; simp only [Bool.and_true, Bool.or_true]

/-- Whether nothing is said of the scratch arrays before position `n`: they are known right after a tile's first half. -/
def sfresh (n : ℕ) : Bool := if h : 0 < n ∧ n - 1 < (cfgA ch).N then !decide (P0_0 ch ⟨n - 1, h.2⟩) else true

theorem sfresh_succ (t : Fin (cfgA ch).N) : sfresh ch (t.val + 1) = !decide (P0_0 ch t) := by
  unfold sfresh; rw [dif_pos ⟨Nat.succ_pos _, t.isLt⟩]; rfl

theorem tix_prev (t : Fin (cfgA ch).N) (h : t.val % 2 = 1) :
    tix (crd ch ⟨t.val - 1, Nat.lt_of_le_of_lt (Nat.sub_le _ _) t.isLt⟩) = tix (crd ch t) := by
  funext a; apply Fin.ext
  show ((crd ch _) 0).val = ((crd ch t) 0).val
  rw [crd_0, crd_0]; show (t.val - 1) / 2 = t.val / 2; omega

theorem P0_0_prev {t : Fin (cfgA ch).N} (q : P0_1 ch t) : P0_0 ch ⟨t.val - 1, Nat.lt_of_le_of_lt (Nat.sub_le _ _) t.isLt⟩ := by
  obtain ⟨h1, h2⟩ := (P0_1_iff ch t).1 q
  exact (P0_0_iff ch _).2 ⟨by rw [tix_prev ch t h2]; exact h1, by show (t.val - 1) % 2 = 0; omega⟩

theorem sched0_A (t : Fin (cfgA ch).N) (q : P0_0 ch t) :
    (cfgA ch).idle (4 : Fin 5) ((cfgA ch).grid.coords t) = true ∧ ((cfgA ch).win (4 : Fin 5)).flush t = false ∧ (cfgA ch).fresh (4 : Fin 5) t.val = true :=
  ⟨(idle4_iff ch t).2 ⟨not1_of_0 ch q, not2_of_0 ch q⟩, (flush4_eq ch t).trans (decide_eq_false (by have := ((P0_0_iff ch t).1 q).2; omega)), fresh4 ch t⟩

theorem sched0_B (t : Fin (cfgA ch).N) (q : P0_1 ch t) :
    (cfgA ch).idle (4 : Fin 5) ((cfgA ch).grid.coords t) = false ∧ ((cfgA ch).win (4 : Fin 5)).flush t = true ∧ (cfgA ch).fresh (4 : Fin 5) t.val = true
      ∧ sfresh ch t.val = false ∧ sfresh ch (t.val + 1) = true := by
  refine ⟨Bool.eq_false_iff.2 fun h => ((idle4_iff ch t).1 h).1 q, (flush4_eq ch t).trans (decide_eq_true ((P0_1_iff ch t).1 q).2), fresh4 ch t, ?_, ?_⟩
  · have h2 := ((P0_1_iff ch t).1 q).2
    unfold sfresh
    rw [dif_pos ⟨by omega, Nat.lt_of_le_of_lt (Nat.sub_le _ _) t.isLt⟩, decide_eq_true (P0_0_prev ch q)]; rfl
  · rw [sfresh_succ, decide_eq_false (fun h => not1_of_0 ch h q)]; rfl

theorem sched0_D (t : Fin (cfgA ch).N) (q : P0_2 ch t) :
    (cfgA ch).idle (4 : Fin 5) ((cfgA ch).grid.coords t) = false ∧ ((cfgA ch).win (4 : Fin 5)).flush t = true ∧ (cfgA ch).fresh (4 : Fin 5) t.val = true
      ∧ sfresh ch (t.val + 1) = true :=
  ⟨Bool.eq_false_iff.2 fun h => ((idle4_iff ch t).1 h).2 q, (flush4_eq ch t).trans (decide_eq_true ((P0_2_iff ch t).1 q).2), fresh4 ch t,
    by rw [sfresh_succ, decide_eq_false (fun h => not2_of_0 ch h q)]; rfl⟩

theorem sched0_C (t : Fin (cfgA ch).N) (q0 : ¬P0_0 ch t) (q1 : ¬P0_1 ch t) (q2 : ¬P0_2 ch t) :
    (cfgA ch).idle (4 : Fin 5) ((cfgA ch).grid.coords t) = true ∧ ((cfgA ch).win (4 : Fin 5)).flush t = false ∧ (cfgA ch).fresh (4 : Fin 5) t.val = true
      ∧ sfresh ch (t.val + 1) = true := by
  refine ⟨(idle4_iff ch t).2 ⟨q1, q2⟩, (flush4_eq ch t).trans (decide_eq_false fun h => ?_), fresh4 ch t, by rw [sfresh_succ, decide_eq_false q0]; rfl⟩
  by_cases hv : ch.tv (tix (crd ch t)) = 1#32
  · exact q1 ((P0_1_iff ch t).2 ⟨hv, h⟩)
  · exact q2 ((P0_2_iff ch t).2 ⟨hv, h⟩)

end Cert.Kernel2Ideal.Gen

end
-- ==== Proof.MoeRun.lean ====
module

public import proofs.«01_k».proof.Proof.MoeBase
public import proofs.«01_k».proof.Proof.Gen.Kernel2Ideal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.PureOps.BitExact
public import Idealize.ShloMosaic.Adequacy
public import Idealize.ShloMosaic.Init

@[expose] public section

set_option maxRecDepth 16384
set_option Elab.async false

noncomputable section

namespace Cert.Kernel2Ideal.Gen

open Cert.Kernel2Ideal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! The kernel's body on each control path, on any whole buffers. -/

/-- One staging buffer of the output, through which its contents are stated. -/
abbrev VO0_4 : View sig .tc .vmem S512x1024 .f32 := (Memref.whole cc0_stg4_0 : Memref sig .tc .vmem S512x1024 .f32).view

/-- The four blocks and the two tables as every path finds and leaves them. -/
abbrev held (c : Dev nD) (arg4 : Memref sig .tc .vmem S512x1024 .f32) (arg5 arg6 : Memref sig .tc .vmem S1x1024x1792 .bf16)
    (arg7 : Memref sig .tc .vmem S1x1792x1024 .bf16) (T0 T1 : S110.Idx → BitVec 32) (x0 : S512x1024.Idx → Elt Ideal .f32)
    (x1 x2 : S1x1024x1792.Idx → Elt Ideal .bf16) (x3 : S1x1792x1024.Idx → Elt Ideal .bf16) (R : sProp 𝕄) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (tbM0_0.view.loc (c : Thread nD τ) ↦{fullShare.right} T0) ∗ (tbM0_1.view.loc (c : Thread nD τ) ↦{fullShare.right} T1) ∗ R)

/-- The body on these buffers. -/
abbrev bodyOn (i : grid0.Coords) (arg4 : Memref sig .tc .vmem S512x1024 .f32) (harg4 : arg4.IsWhole)
    (arg5 : Memref sig .tc .vmem S1x1024x1792 .bf16) (harg5 : arg5.IsWhole) (arg6 : Memref sig .tc .vmem S1x1024x1792 .bf16) (harg6 : arg6.IsWhole)
    (arg7 : Memref sig .tc .vmem S1x1792x1024 .bf16) (harg7 : arg7.IsWhole) (arg8 : Memref sig .tc .vmem S512x1024 .f32) (harg8 : arg8.IsWhole) :
    Prog (TpuEff nD τ sig (Elt Ideal) Λ₀ .tc) PUnit :=
  cc0_moe_experts i tbM0_0 (Memref.isWhole_whole _) tbM0_1 (Memref.isWhole_whole _) arg4 harg4 arg5 harg5 arg6 harg6 arg7 harg7 arg8 harg8 scM0_0 (Memref.isWhole_whole _) scM0_1 (Memref.isWhole_whole _)

variable (c : Dev nD) (i : grid0.Coords) (arg4 : Memref sig .tc .vmem S512x1024 .f32) (harg4 : arg4.IsWhole)
  (arg5 : Memref sig .tc .vmem S1x1024x1792 .bf16) (harg5 : arg5.IsWhole) (arg6 : Memref sig .tc .vmem S1x1024x1792 .bf16) (harg6 : arg6.IsWhole)
  (arg7 : Memref sig .tc .vmem S1x1792x1024 .bf16) (harg7 : arg7.IsWhole) (arg8 : Memref sig .tc .vmem S512x1024 .f32) (harg8 : arg8.IsWhole)
  (T0 T1 : S110.Idx → BitVec 32) (x0 : S512x1024.Idx → Elt Ideal .f32) (x1 x2 : S1x1024x1792.Idx → Elt Ideal .bf16) (x3 : S1x1792x1024.Idx → Elt Ideal .bf16)

set_option backward.proofsInPublic true in
set_option maxHeartbeats 8000000 in
/-- The first half of a tile with rows: the rows and the first half of their product go to the scratch arrays. -/
noncomputable def kernelRun0_A (hc0 : k0_cond1 i (rd T1 i) = 1#1)
    (k0_h2 : ¬(k0_cond2 i (rd T1 i) = 1#1)) (k0_h3 : ¬(k0_cond3 i (rd T1 i) = 1#1)) :
    Σ' (out0 : Buf (Elt Ideal) ((c : Thread nD τ).loc cc0_scratch0)), { out1 : Buf (Elt Ideal) ((c : Thread nD τ).loc cc0_scratch1) //
      ∀ (y4 : S512x1024.Idx → Elt Ideal .f32) (xa0 : Buf (Elt Ideal) ((c : Thread nD τ).loc cc0_scratch0)) (xa1 : Buf (Elt Ideal) ((c : Thread nD τ).loc cc0_scratch1)) (K : PUnit → sProp 𝕄),
        held c arg4 arg5 arg6 arg7 T0 T1 x0 x1 x2 x3 iprop(owns (c : Thread nD τ) arg8 fullShare y4 ∗ (scM0_0.view.loc (c : Thread nD τ) ↦{fullShare} xa0) ∗ (scM0_1.view.loc (c : Thread nD τ) ↦{fullShare} xa1)
          ∗ (held c arg4 arg5 arg6 arg7 T0 T1 x0 x1 x2 x3 iprop(owns (c : Thread nD τ) arg8 fullShare y4 ∗ (scM0_0.view.loc (c : Thread nD τ) ↦{fullShare} out0) ∗ (scM0_1.view.loc (c : Thread nD τ) ↦{fullShare} out1)) -∗ K ⟨⟩))
      ⊢ wp frame (wpE (defs₀ (F := Ideal)) Variants.none c none) Set.univ (bodyOn i arg4 harg4 arg5 harg5 arg6 harg6 arg7 harg7 arg8 harg8) K } :=
  ⟨_, _, fun y4 xa0 xa1 K => by
    unfold held bodyOn owns
    rw [cc0_moe_experts_eq_skeleton]; unfold cc0_moe_experts_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(k0_cond2 _ _ = _); exact k0_h2) | (guard_target = ¬(k0_cond3 _ _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1⟩

set_option backward.proofsInPublic true in
set_option maxHeartbeats 8000000 in
/-- The second half of a tile with rows: the sum of the two halves goes to the output's block. -/
noncomputable def kernelRun0_B (xa0 : Buf (Elt Ideal) ((c : Thread nD τ).loc cc0_scratch0)) (xa1 : Buf (Elt Ideal) ((c : Thread nD τ).loc cc0_scratch1)) (hc0 : ¬(k0_cond1 i (rd T1 i) = 1#1))
    (k0_h2 : k0_cond2 i (rd T1 i) = 1#1) (k0_h3 : ¬(k0_cond3 i (rd T1 i) = 1#1)) :
    { out0 : List (View.Piece (Elt Ideal) S512x1024 .f32) //
      ∀ (K : PUnit → sProp 𝕄),
        held c arg4 arg5 arg6 arg7 T0 T1 x0 x1 x2 x3 iprop((∃ d, owns (c : Thread nD τ) arg8 fullShare d) ∗ (scM0_0.view.loc (c : Thread nD τ) ↦{fullShare} xa0) ∗ (scM0_1.view.loc (c : Thread nD τ) ↦{fullShare} xa1)
          ∗ (held c arg4 arg5 arg6 arg7 T0 T1 x0 x1 x2 x3 iprop((∃ f, arg8.view.loc (c : Thread nD τ) ↦[arg8.view.set]{fullShare} arg8.view.writes (Elt Ideal) f out0) ∗ (scM0_0.view.loc (c : Thread nD τ) ↦{fullShare} xa0) ∗ (scM0_1.view.loc (c : Thread nD τ) ↦{fullShare} xa1)) -∗ K ⟨⟩))
      ⊢ wp frame (wpE (defs₀ (F := Ideal)) Variants.none c none) Set.univ (bodyOn i arg4 harg4 arg5 harg5 arg6 harg6 arg7 harg7 arg8 harg8) K } :=
  ⟨_, fun K => by
    unfold held bodyOn owns
    rw [cc0_moe_experts_eq_skeleton]; unfold cc0_moe_experts_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = k0_cond2 _ _ = _; exact k0_h2) | (guard_target = ¬(k0_cond3 _ _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

/-- Its one store covers the block. -/
theorem cover0_B_4 (xa0 : Buf (Elt Ideal) ((c : Thread nD τ).loc cc0_scratch0)) (xa1 : Buf (Elt Ideal) ((c : Thread nD τ).loc cc0_scratch1)) (hc0 : ¬(k0_cond1 i (rd T1 i) = 1#1))
    (k0_h2 : k0_cond2 i (rd T1 i) = 1#1) (k0_h3 : ¬(k0_cond3 i (rd T1 i) = 1#1)) (y : S512x1024.Idx) :
    ∃ pc ∈ (kernelRun0_B c i arg4 harg4 arg5 harg5 arg6 harg6 arg7 harg7 arg8 harg8 T0 T1 x0 x1 x2 x3 xa0 xa1 hc0 k0_h2 k0_h3).1, y ∈ pc.1.set :=
  View.cover_of_tiledL (kernelRun0_B c i arg4 harg4 arg5 harg5 arg6 harg6 arg7 harg7 arg8 harg8 T0 T1 x0 x1 x2 x3 xa0 xa1 hc0 k0_h2 k0_h3).1 S512x1024.size (by sl_kernel_rfl) y

/-- What it leaves in the output's buffer. -/
def out0_B_4 (xa0 : Buf (Elt Ideal) ((c : Thread nD τ).loc cc0_scratch0)) (xa1 : Buf (Elt Ideal) ((c : Thread nD τ).loc cc0_scratch1)) (hc0 : ¬(k0_cond1 i (rd T1 i) = 1#1))
    (k0_h2 : k0_cond2 i (rd T1 i) = 1#1) (k0_h3 : ¬(k0_cond3 i (rd T1 i) = 1#1)) : S512x1024.Idx → Elt Ideal .f32 :=
  VO0_4.read (Elt Ideal) (VO0_4.writes (Elt Ideal) VO0_4.junk (kernelRun0_B c i arg4 harg4 arg5 harg5 arg6 harg6 arg7 harg7 arg8 harg8 T0 T1 x0 x1 x2 x3 xa0 xa1 hc0 k0_h2 k0_h3).1)

set_option backward.proofsInPublic true in
set_option maxHeartbeats 8000000 in
/-- The first half of a tile without rows: nothing is stored. -/
theorem kernelRun0_C (hc0 : ¬(k0_cond1 i (rd T1 i) = 1#1))
    (k0_h2 : ¬(k0_cond2 i (rd T1 i) = 1#1)) (k0_h3 : ¬(k0_cond3 i (rd T1 i) = 1#1))
    (y4 : S512x1024.Idx → Elt Ideal .f32) (xa0 : Buf (Elt Ideal) ((c : Thread nD τ).loc cc0_scratch0)) (xa1 : Buf (Elt Ideal) ((c : Thread nD τ).loc cc0_scratch1)) (K : PUnit → sProp 𝕄) :
    held c arg4 arg5 arg6 arg7 T0 T1 x0 x1 x2 x3 iprop(owns (c : Thread nD τ) arg8 fullShare y4 ∗ (scM0_0.view.loc (c : Thread nD τ) ↦{fullShare} xa0) ∗ (scM0_1.view.loc (c : Thread nD τ) ↦{fullShare} xa1)
      ∗ (held c arg4 arg5 arg6 arg7 T0 T1 x0 x1 x2 x3 iprop(owns (c : Thread nD τ) arg8 fullShare y4 ∗ (scM0_0.view.loc (c : Thread nD τ) ↦{fullShare} xa0) ∗ (scM0_1.view.loc (c : Thread nD τ) ↦{fullShare} xa1)) -∗ K ⟨⟩))
      ⊢ wp frame (wpE (defs₀ (F := Ideal)) Variants.none c none) Set.univ (bodyOn i arg4 harg4 arg5 harg5 arg6 harg6 arg7 harg7 arg8 harg8) K := by
    unfold held bodyOn owns
    rw [cc0_moe_experts_eq_skeleton]; unfold cc0_moe_experts_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(k0_cond2 _ _ = _); exact k0_h2) | (guard_target = ¬(k0_cond3 _ _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1

set_option backward.proofsInPublic true in
set_option maxHeartbeats 8000000 in
/-- The second half of a tile without rows: zeros go to the output's block. -/
noncomputable def kernelRun0_D (hc0 : ¬(k0_cond1 i (rd T1 i) = 1#1))
    (k0_h2 : ¬(k0_cond2 i (rd T1 i) = 1#1)) (k0_h3 : k0_cond3 i (rd T1 i) = 1#1) :
    { out0 : List (View.Piece (Elt Ideal) S512x1024 .f32) //
      ∀ (xa0 : Buf (Elt Ideal) ((c : Thread nD τ).loc cc0_scratch0)) (xa1 : Buf (Elt Ideal) ((c : Thread nD τ).loc cc0_scratch1)) (K : PUnit → sProp 𝕄),
        held c arg4 arg5 arg6 arg7 T0 T1 x0 x1 x2 x3 iprop((∃ d, owns (c : Thread nD τ) arg8 fullShare d) ∗ (scM0_0.view.loc (c : Thread nD τ) ↦{fullShare} xa0) ∗ (scM0_1.view.loc (c : Thread nD τ) ↦{fullShare} xa1)
          ∗ (held c arg4 arg5 arg6 arg7 T0 T1 x0 x1 x2 x3 iprop((∃ f, arg8.view.loc (c : Thread nD τ) ↦[arg8.view.set]{fullShare} arg8.view.writes (Elt Ideal) f out0) ∗ (scM0_0.view.loc (c : Thread nD τ) ↦{fullShare} xa0) ∗ (scM0_1.view.loc (c : Thread nD τ) ↦{fullShare} xa1)) -∗ K ⟨⟩))
      ⊢ wp frame (wpE (defs₀ (F := Ideal)) Variants.none c none) Set.univ (bodyOn i arg4 harg4 arg5 harg5 arg6 harg6 arg7 harg7 arg8 harg8) K } :=
  ⟨_, fun xa0 xa1 K => by
    unfold held bodyOn owns
    rw [cc0_moe_experts_eq_skeleton]; unfold cc0_moe_experts_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(k0_cond2 _ _ = _); exact k0_h2) | (guard_target = k0_cond3 _ _ = _; exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

/-- Its one store covers the block. -/
theorem cover0_D_4 (hc0 : ¬(k0_cond1 i (rd T1 i) = 1#1))
    (k0_h2 : ¬(k0_cond2 i (rd T1 i) = 1#1)) (k0_h3 : k0_cond3 i (rd T1 i) = 1#1) (y : S512x1024.Idx) :
    ∃ pc ∈ (kernelRun0_D c i arg4 harg4 arg5 harg5 arg6 harg6 arg7 harg7 arg8 harg8 T0 T1 x0 x1 x2 x3 hc0 k0_h2 k0_h3).1, y ∈ pc.1.set :=
  View.cover_of_tiledL (kernelRun0_D c i arg4 harg4 arg5 harg5 arg6 harg6 arg7 harg7 arg8 harg8 T0 T1 x0 x1 x2 x3 hc0 k0_h2 k0_h3).1 S512x1024.size (by sl_kernel_rfl) y

/-- What it leaves in the output's buffer. -/
def out0_D_4 (hc0 : ¬(k0_cond1 i (rd T1 i) = 1#1))
    (k0_h2 : ¬(k0_cond2 i (rd T1 i) = 1#1)) (k0_h3 : k0_cond3 i (rd T1 i) = 1#1) : S512x1024.Idx → Elt Ideal .f32 :=
  VO0_4.read (Elt Ideal) (VO0_4.writes (Elt Ideal) VO0_4.junk (kernelRun0_D c i arg4 harg4 arg5 harg5 arg6 harg6 arg7 harg7 arg8 harg8 T0 T1 x0 x1 x2 x3 hc0 k0_h2 k0_h3).1)

end Cert.Kernel2Ideal.Gen

end
-- ==== Proof.MoeFrame.lean ====
module

public import proofs.«01_k».proof.Proof.MoeRun
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.PureOps.BitExact
public import Idealize.ShloMosaic.Adequacy
public import Idealize.ShloMosaic.Init

@[expose] public section

set_option maxRecDepth 16384
set_option Elab.async false

noncomputable section

namespace Cert.Kernel2Ideal.Gen

open Cert.Kernel2Ideal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! The kernel's run over its grid at any tables that name one of the eight experts. -/

variable (ch : Tab) (m : (ℓ : Loc nD τ sig) → Buf (Elt Ideal) ℓ) (ρ : Dev nD → PrngReg)

/-- How the rounds' resources sit among the others. -/
abbrev EP : Emb (UR sig nD τ) 𝕄 := emb₁

/-- What the first half of a tile leaves in the scratch arrays. -/
def scrA0 (c : Dev nD) (t : Fin (cfgA ch).N) (q0 : P0_0 ch t) : Buf (Elt Ideal) ((c : Thread nD τ).loc cc0_scratch0) :=
  (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) q0 (not1_of_0 ch q0) (not2_of_0 ch q0)).1

def scrA1 (c : Dev nD) (t : Fin (cfgA ch).N) (q0 : P0_0 ch t) : Buf (Elt Ideal) ((c : Thread nD τ).loc cc0_scratch1) :=
  (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) q0 (not1_of_0 ch q0) (not2_of_0 ch q0)).2.1

/-- What the second half of a tile with rows leaves in the output's buffer, from the scratch arrays. -/
def outB (c : Dev nD) (t : Fin (cfgA ch).N) (a0 : Buf (Elt Ideal) ((c : Thread nD τ).loc cc0_scratch0)) (a1 : Buf (Elt Ideal) ((c : Thread nD τ).loc cc0_scratch1))
    (q0 : ¬P0_0 ch t) (q1 : P0_1 ch t) : S512x1024.Idx → Elt Ideal .f32 :=
  out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) a0 a1 q0 q1 (not2_of_1 ch q1)

/-- What the second half of a tile without rows leaves there. -/
def outD (c : Dev nD) (t : Fin (cfgA ch).N) (q0 : ¬P0_0 ch t) (q1 : ¬P0_1 ch t) (q2 : P0_2 ch t) : S512x1024.Idx → Elt Ideal .f32 :=
  out0_D_4 c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) q0 q1 q2

/-- What one point makes of the output's buffer and the two scratch arrays. -/
def step0 (c : Dev nD) (t : Fin (cfgA ch).N) (prev : (S512x1024.Idx → Elt Ideal .f32) × Buf (Elt Ideal) ((c : Thread nD τ).loc cc0_scratch0) × Buf (Elt Ideal) ((c : Thread nD τ).loc cc0_scratch1)) : (S512x1024.Idx → Elt Ideal .f32) × Buf (Elt Ideal) ((c : Thread nD τ).loc cc0_scratch0) × Buf (Elt Ideal) ((c : Thread nD τ).loc cc0_scratch1) :=
  if q0 : P0_0 ch t then
    ((if (cfgA ch).fresh (4 : Fin 5) t.val then default else prev.1), scrA0 ch m ρ c t q0, scrA1 ch m ρ c t q0)
  else
    if q1 : P0_1 ch t then (outB ch m ρ c t prev.2.1 prev.2.2 q0 q1, prev.2)
    else
      if q2 : P0_2 ch t then (outD ch m ρ c t q0 q1 q2, prev.2)
      else ((if (cfgA ch).fresh (4 : Fin 5) t.val then default else prev.1), prev.2)

/-- The output's buffer and the two scratch arrays after position `n`. -/
def traj0 (c : Dev nD) : (n : ℕ) → n < (cfgA ch).N → (S512x1024.Idx → Elt Ideal .f32) × Buf (Elt Ideal) ((c : Thread nD τ).loc cc0_scratch0) × Buf (Elt Ideal) ((c : Thread nD τ).loc cc0_scratch1)
  | 0, h => step0 ch m ρ c ⟨0, h⟩ (default, default, default)
  | n + 1, h => step0 ch m ρ c ⟨n + 1, h⟩ (traj0 c n (Nat.lt_of_succ_lt h))

/-- What they held BEFORE point `t` (junk before the first). -/
def prev0 (c : Dev nD) (t : Fin (cfgA ch).N) : (S512x1024.Idx → Elt Ideal .f32) × Buf (Elt Ideal) ((c : Thread nD τ).loc cc0_scratch0) × Buf (Elt Ideal) ((c : Thread nD τ).loc cc0_scratch1) :=
  if h : t.val = 0 then (default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point at a tile's first half, with rows. -/
theorem step0_A (c : Dev nD) (t : Fin (cfgA ch).N) (prev : (S512x1024.Idx → Elt Ideal .f32) × Buf (Elt Ideal) ((c : Thread nD τ).loc cc0_scratch0) × Buf (Elt Ideal) ((c : Thread nD τ).loc cc0_scratch1)) (q0 : P0_0 ch t) :
    step0 ch m ρ c t prev = ((if (cfgA ch).fresh (4 : Fin 5) t.val then default else prev.1), scrA0 ch m ρ c t q0, scrA1 ch m ρ c t q0) := by
  unfold step0; simp only [dif_pos q0]

/-- `step0` at a point at a tile's second half, with rows. -/
theorem step0_B (c : Dev nD) (t : Fin (cfgA ch).N) (prev : (S512x1024.Idx → Elt Ideal .f32) × Buf (Elt Ideal) ((c : Thread nD τ).loc cc0_scratch0) × Buf (Elt Ideal) ((c : Thread nD τ).loc cc0_scratch1)) (q0 : ¬P0_0 ch t) (q1 : P0_1 ch t) :
    step0 ch m ρ c t prev = (outB ch m ρ c t prev.2.1 prev.2.2 q0 q1, prev.2) := by
  unfold step0; simp only [dif_neg q0, dif_pos q1]

/-- `step0` at a point at a tile's first half, without rows. -/
theorem step0_C (c : Dev nD) (t : Fin (cfgA ch).N) (prev : (S512x1024.Idx → Elt Ideal .f32) × Buf (Elt Ideal) ((c : Thread nD τ).loc cc0_scratch0) × Buf (Elt Ideal) ((c : Thread nD τ).loc cc0_scratch1)) (q0 : ¬P0_0 ch t) (q1 : ¬P0_1 ch t) (q2 : ¬P0_2 ch t) :
    step0 ch m ρ c t prev = ((if (cfgA ch).fresh (4 : Fin 5) t.val then default else prev.1), prev.2) := by
  unfold step0; simp only [dif_neg q0, dif_neg q1, dif_neg q2]

/-- `step0` at a point at a tile's second half, without rows. -/
theorem step0_D (c : Dev nD) (t : Fin (cfgA ch).N) (prev : (S512x1024.Idx → Elt Ideal .f32) × Buf (Elt Ideal) ((c : Thread nD τ).loc cc0_scratch0) × Buf (Elt Ideal) ((c : Thread nD τ).loc cc0_scratch1)) (q0 : ¬P0_0 ch t) (q1 : ¬P0_1 ch t) (q2 : P0_2 ch t) :
    step0 ch m ρ c t prev = (outD ch m ρ c t q0 q1 q2, prev.2) := by
  unfold step0; simp only [dif_neg q0, dif_neg q1, dif_pos q2]

/-! ## The pipeline's proof data -/

/-- What the tracked buffers held before position `t` of `Fin (N+1)` (the invariant's index). -/
def prev0T (c : Dev nD) (t : Fin ((cfgA ch).N + 1)) : (S512x1024.Idx → Elt Ideal .f32) × Buf (Elt Ideal) ((c : Thread nD τ).loc cc0_scratch0) × Buf (Elt Ideal) ((c : Thread nD τ).loc cc0_scratch1) :=
  if h : t.val = 0 then (default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- What holds before point `t`: each scratch array as the run so far left it once a first half has been computed, and
    the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh ch t.val = false → a = (prev0T ch m ρ c t).2.1⌝ ∗ (scM0_0.view.loc (c : Thread nD τ) ↦{fullShare} a)) ∗ (∃ a, ⌜sfresh ch t.val = false → a = (prev0T ch m ρ c t).2.2⌝ ∗ (scM0_1.view.loc (c : Thread nD τ) ↦{fullShare} a)) ∗ (tbM0_0.view.loc (c : Thread nD τ) ↦{fullShare.right} ch.te) ∗ (tbM0_1.view.loc (c : Thread nD τ) ↦{fullShare.right} ch.tv))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block, fetched there or not. -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ :=
  fun t ht hi hf => absurd ((fresh4 ch t).symm.trans hf) (by decide)

/-- Output window 4 holds, when the body runs at `t`: junk if nothing was stored since its last write-back (`Cfg.fresh`),
    else what the point before left. -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _)

set_option maxHeartbeats 4000000 in
/-- The body at point `t` keeps the invariant and leaves the blocks named: one case for each control path. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i4, f4, fr4⟩ := sched0_A ch t q0
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) q0 (not1_of_0 ch q0) (not2_of_0 ch q0)).2.2 _ a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    isplitl [HS1]; · iexact HS1
    iintro ⟨H0, H1, H2, H3, HT0, HT1, H4, HS0, HS1⟩
    isplitl [HS0 HS1 HT0 HT1]
    · isplitl [HS0]
      · iexists _; isplitr; swap
        · iexact HS0
        · ipureintro; intro hn; rfl
      isplitl [HS1]
      · iexists _; isplitr; swap
        · iexact HS1
        · ipureintro; intro hn; rfl
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    first | (iexists d4; iexact H4) | iexact H4
  · by_cases q1 : P0_1 ch t
    · obtain ⟨i4, f4, fr4, sf, sfn⟩ := sched0_B ch t q1
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf]
      iintro ⟨⟨HS0, HS1, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) _ _ q0 q1 (not2_of_1 ch q1)).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro hn; exact absurd hn (by rw [sfn]; decide)
        isplitl [HS1]
        · iexists _; isplitr; swap
          · iexact HS1
          · ipureintro; intro hn; exact absurd hn (by rw [sfn]; decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; unfold outB out0_B_4; exact View.read_writes_of_cover _ _ _ _ _ (cover0_B_4 c _ _ _ _ _ _ _ _ _ _ _ _ _ _ _ _ _ _ _ _ _ _)
    · by_cases q2 : P0_2 ch t
      · obtain ⟨i4, f4, fr4, sfn⟩ := sched0_D ch t q2
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1 q2]
        unfold Phi; simp only [prev0T_castSucc, prev0T_succ, traj0_eq, step0_D ch m ρ c t _ q0 q1 q2, Fin.val_castSucc, Fin.val_succ]
        iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) q0 q1 q2).2 a0 a1 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iintro ⟨H0, H1, H2, H3, HT0, HT1, ⟨%e4, H4⟩, HS0, HS1⟩
        isplitl [HS0 HS1 HT0 HT1]
        · isplitl [HS0]
          · iexists _; isplitr; swap
            · iexact HS0
            · ipureintro; intro hn; exact absurd hn (by rw [sfn]; decide)
          isplitl [HS1]
          · iexists _; isplitr; swap
            · iexact HS1
            · ipureintro; intro hn; exact absurd hn (by rw [sfn]; decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; unfold outD out0_D_4; exact View.read_writes_of_cover _ _ _ _ _ (cover0_D_4 c _ _ _ _ _ _ _ _ _ _ _ _ _ _ _ _ _ _ _ _)
      · obtain ⟨i4, f4, fr4, sfn⟩ := sched0_C ch t q0 q1 q2
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1 q2]
        unfold Phi; simp only [prev0T_castSucc, prev0T_succ, traj0_eq, step0_C ch m ρ c t _ q0 q1 q2, Fin.val_castSucc, Fin.val_succ]
        iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
        iapply (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tv (iblk ch m ρ c (0 : Fin 5) t) (iblk ch m ρ c (1 : Fin 5) t) (iblk ch m ρ c (2 : Fin 5) t) (iblk ch m ρ c (3 : Fin 5) t) q0 q1 q2 _ a0 a1 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        isplitl [HS1]; · iexact HS1
        iintro ⟨H0, H1, H2, H3, HT0, HT1, H4, HS0, HS1⟩
        isplitl [HS0 HS1 HT0 HT1]
        · isplitl [HS0]
          · iexists _; isplitr; swap
            · iexact HS0
            · ipureintro; intro hn; exact absurd hn (by rw [sfn]; decide)
          isplitl [HS1]
          · iexists _; isplitr; swap
            · iexact HS1
            · ipureintro; intro hn; exact absurd hn (by rw [sfn]; decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The body's obligation at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh ch 0 = true from rfl)) Bool.false_ne_true
  isplitl [HS1]
  · iexists a1; isplitr; swap
    · iexact HS1
    · ipureintro; intro h; exact absurd (h.symm.trans (show sfresh ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- From a launch memory that holds these tables every weakly fair execution terminates, and every final state has each
    array at the computed contents and every semaphore counter at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- From a launch memory that holds these tables every weakly fair execution terminates, every argument array ends
    unchanged and every semaphore counter reads zero at every final state. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Kernel2Ideal.Gen

end
-- ==== Proof.MoeValue.lean ====
/-
What the experts' kernel writes at every grid point: for a tile with rows the product of its two halves, for one without
rows zeros.
-/
module

public import proofs.«01_k».proof.Proof.MoeFrame
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel2Ideal.Gen

open Idealize.ShloMosaic Idealize.ShloMosaic.TcCoe Idealize.ShloMosaic.Tactic Idealize.SL.Sem
open Idealize.ShloMosaic.Pipeline (Dat)

/-! ## Loads and stores of whole buffers -/

/-- A load of a whole buffer reads its contents. -/
theorem load_whole {s : Shape} {e : EltTy} (v : View sig .tc .vmem s e) (X : s.Idx → Elt Ideal e) {off : Fin s.rank → Nat} (h : ∀ a, off a = 0)
    (inb : ∀ a, off a + s.size a ≤ s.size a) : v.readAt (Elt Ideal) (Rect.unit off s.size inb).toLoadRect (v.rep X) = X := by
  funext x
  show v.read (Elt Ideal) (v.rep X) _ = X x
  rw [View.read_rep]
  refine congrArg X (funext fun a => Fin.ext ?_)
  show off a + 1 * (x a).val = (x a).val
  rw [h]; omega

/-- So it does of any contents. -/
theorem loadAt_whole {s : Shape} {e : EltTy} (v : View sig .tc .vmem s e) (f : v.ty.Contents (Elt Ideal)) {off : Fin s.rank → Nat} (h : ∀ a, off a = 0)
    (inb : ∀ a, off a + s.size a ≤ s.size a) : v.readAt (Elt Ideal) (Rect.unit off s.size inb).toLoadRect f = v.read (Elt Ideal) f := by
  funext x
  show v.read (Elt Ideal) f _ = v.read (Elt Ideal) f x
  refine congrArg _ (funext fun a => Fin.ext ?_)
  show off a + 1 * (x a).val = (x a).val
  rw [h]; omega

/-- One store of the whole buffer leaves what it stored. -/
theorem read_one_whole {s : Shape} {e : EltTy} (v : View sig .tc .vmem s e) (f : v.ty.Contents (Elt Ideal)) {off : Fin s.rank → Nat} (h : ∀ a, off a = 0)
    (inb : ∀ a, off a + s.size a ≤ s.size a) (w : s.Idx → Elt Ideal e) : v.read (Elt Ideal) (v.writes (Elt Ideal) f [⟨Rect.unit off s.size inb, w⟩]) = w :=
  (View.read_writes_eq_canon v f _ fun y => ⟨_, List.mem_singleton_self _, View.mem_set_unit_zero (funext h) inb y⟩).trans
    (View.canon_unit_zero (funext h) inb w)

variable (ch : Tab) (m : (ℓ : Loc nD τ sig) → Buf (Elt Ideal) ℓ) (ρ : Dev nD → PrngReg)
/-- The first half of a tile with rows keeps the rows in the first scratch array, -/
theorem scrA0_eq (c : Dev nD) (t : Fin (cfgA ch).N) (q0 : P0_0 ch t) : scM0_0.view.read (Elt Ideal) (scrA0 ch m ρ c t q0) = k0_pay2 (iblk ch m ρ c (0 : Fin 5) t) := by
  unfold scrA0 kernelRun0_A
  dsimp only
  unfold kernelRun0_A.sl.HS0_1
  rw [read_one_whole _ _ (fun a => by fin_cases a <;> rfl)]
  rw [load_whole _ _ (fun a => by fin_cases a <;> rfl)]
/-- and its half of the product in the second. -/
theorem scrA1_eq (c : Dev nD) (t : Fin (cfgA ch).N) (q0 : P0_0 ch t) : scM0_1.view.read (Elt Ideal) (scrA1 ch m ρ c t q0)
  = k0_pay3 (iblk ch m ρ c (0 : Fin 5) t) (iblk ch m ρ c (1 : Fin 5) t) (iblk ch m ρ c (2 : Fin 5) t) (iblk ch m ρ c (3 : Fin 5) t) := by
  unfold scrA1 kernelRun0_A
  dsimp only
  unfold kernelRun0_A.sl.HS1_1
  rw [read_one_whole _ _ (fun a => by fin_cases a <;> rfl)]
  rw [load_whole _ _ (fun a => by fin_cases a <;> rfl), load_whole _ _ (fun a => by fin_cases a <;> rfl), load_whole _ _ (fun a => by fin_cases a <;> rfl), load_whole _ _ (fun a => by fin_cases a <;> rfl)]
/-- The second half adds its own half of the product. -/
theorem outB_eq (c : Dev nD) (t : Fin (cfgA ch).N) (a0 a1 q0 q1) : outB ch m ρ c t a0 a1 q0 q1
   = k0_pay4 (scM0_1.view.read (Elt Ideal) a1) (scM0_0.view.read (Elt Ideal) a0) (iblk ch m ρ c (1 : Fin 5) t) (iblk ch m ρ c (2 : Fin 5) t) (iblk ch m ρ c (3 : Fin 5) t) := by
  unfold outB out0_B_4 kernelRun0_B
  refine (read_one_whole VO0_4 VO0_4.junk (fun a => by fin_cases a <;> rfl) _ _).trans ?_
  rw [load_whole _ _ (fun a => by fin_cases a <;> rfl), load_whole _ _ (fun a => by fin_cases a <;> rfl), load_whole _ _ (fun a => by fin_cases a <;> rfl)]
  rw [loadAt_whole _ _ (fun a => by fin_cases a <;> rfl), loadAt_whole _ _ (fun a => by fin_cases a <;> rfl)]
/-- A tile without rows gets zeros. -/
theorem outD_eq (c : Dev nD) (t : Fin (cfgA ch).N) (q0 q1 q2) : outD ch m ρ c t q0 q1 q2 = k0_pay5 (F := Ideal) := by
  unfold outD out0_D_4 kernelRun0_D
  exact read_one_whole VO0_4 VO0_4.junk (fun a => by fin_cases a <;> rfl) _ _

/-! ## The two halves of an expert's product -/

/-- One inner value: the gated product of a row with one column of each of the two first matrices. -/
def hid (x a b : Fin 1024 → EReal) : EReal :=
  (∑ k, x k * a k) * Ideal.logistic (∑ k, x k * a k) * ∑ k, x k * b k

theorem pay2_apply (x : Vec Ideal S512x1024 .f32) (r : Fin 512) (k : Fin 1024) : k0_pay2 x (ix2 r k) = x (ix2 r k) := by
  pointwise [k0_pay2, k0_pay1]

theorem pay3_apply (x : Vec Ideal S512x1024 .f32) (w1 w3 : Vec Ideal S1x1024x1792 .bf16) (w2 : Vec Ideal S1x1792x1024 .bf16) (r : Fin 512) (n : Fin 1024) :
    k0_pay3 x w1 w3 w2 (ix2 r n)
      = ∑ f : Fin 1792, hid (fun k => x (ix2 r k)) (fun k => w1 (ix3 0 k f)) (fun k => w3 (ix3 0 k f)) * w2 (ix3 0 f n) := by
  unfold hid
  pointwise [k0_pay3, k0_pay1]

theorem pay4_apply (s : Vec Ideal S512x1024 .f32) (x : Vec Ideal S512x1024 .bf16) (w1 w3 : Vec Ideal S1x1024x1792 .bf16) (w2 : Vec Ideal S1x1792x1024 .bf16)
    (r : Fin 512) (n : Fin 1024) :
    k0_pay4 s x w1 w3 w2 (ix2 r n)
      = s (ix2 r n) + ∑ f : Fin 1792, hid (fun k => x (ix2 r k)) (fun k => w1 (ix3 0 k f)) (fun k => w3 (ix3 0 k f)) * w2 (ix3 0 f n) := by
  unfold hid
  pointwise [k0_pay4]

theorem pay5_apply (i : S512x1024.Idx) : k0_pay5 (F := Ideal) i = 0 := by
  pointwise [k0_pay5]

/-- One element of an expert's product: a row through the three matrices. -/
def ffn (x : Fin 1024 → EReal) (w1 w3 : Fin 1024 → Fin 3584 → EReal) (w2 : Fin 3584 → EReal) : EReal :=
  ∑ f, hid x (fun k => w1 k f) (fun k => w3 k f) * w2 f

theorem ffn_halves (x : Fin 1024 → EReal) (w1 w3 : Fin 1024 → Fin 3584 → EReal) (w2 : Fin 3584 → EReal) :
    ffn x w1 w3 w2
      = (∑ f : Fin 1792, hid x (fun k => w1 k ⟨0 * 1792 + f.val, by omega⟩) (fun k => w3 k ⟨0 * 1792 + f.val, by omega⟩) * w2 ⟨0 * 1792 + f.val, by omega⟩)
        + ∑ f : Fin 1792, hid x (fun k => w1 k ⟨1 * 1792 + f.val, by omega⟩) (fun k => w3 k ⟨1 * 1792 + f.val, by omega⟩) * w2 ⟨1 * 1792 + f.val, by omega⟩ := by
  unfold ffn
  refine (Fin.sum_univ_add (a := 1792) (b := 1792) (fun f : Fin 3584 => hid x (fun k => w1 k f) (fun k => w3 k f) * w2 f)).trans ?_
  refine congrArg₂ (· + ·) (Finset.sum_congr rfl fun f _ => ?_) (Finset.sum_congr rfl fun f _ => ?_)
  · have e : (Fin.castAdd 1792 f : Fin 3584) = ⟨0 * 1792 + f.val, by omega⟩ := Fin.ext (by show f.val = 0 * 1792 + f.val; omega)
    rw [e]
  · have e : (Fin.natAdd 1792 f : Fin 3584) = ⟨1 * 1792 + f.val, by omega⟩ := Fin.ext (by show 1792 + f.val = 1 * 1792 + f.val; omega)
    rw [e]

/-! ## The blocks at a point -/

theorem index0 (t : Fin (cfgA ch).N) : ((cfgA ch).win (0 : Fin 5)).index t = ![t.val / 2, 0] :=
  (by decide +kernel : ∀ t : Fin grid0.N, cc0_transform_0 (grid0.coords t) = ![t.val / 2, 0]) t
theorem index4 (t : Fin (cfgA ch).N) : ((cfgA ch).win (4 : Fin 5)).index t = ![t.val / 2, 0] :=
  (by decide +kernel : ∀ t : Fin grid0.N, cc0_transform_4 (grid0.coords t) = ![t.val / 2, 0]) t
theorem index1 (t : Fin (cfgA ch).N) : ((cfgA ch).win (1 : Fin 5)).index t = ![(ch.te (tix (crd ch t))).toNat, 0, hf ch (crd ch t)] := transform_1_eq ch _
theorem index2 (t : Fin (cfgA ch).N) : ((cfgA ch).win (2 : Fin 5)).index t = ![(ch.te (tix (crd ch t))).toNat, 0, hf ch (crd ch t)] := transform_2_eq ch _
theorem index3 (t : Fin (cfgA ch).N) : ((cfgA ch).win (3 : Fin 5)).index t = ![(ch.te (tix (crd ch t))).toNat, hf ch (crd ch t), 0] := transform_3_eq ch _

theorem N_A : (cfgA ch).N = 220 := (by decide +kernel : grid0.N = 220)

theorem blk0 (c : Dev nD) (t : Fin (cfgA ch).N) (i : Fin 110) (hi : t.val / 2 = i.val) (r : Fin 512) (k : Fin 1024) :
    iblk ch m ρ c (0 : Fin 5) t (ix2 r k) = m ((c : Thread nD τ).loc main_arg2) (ix2 ⟨i.val * 512 + r.val, by omega⟩ k) := by
  refine congrArg (m ((c : Thread nD τ).loc main_arg2)) (funext fun a => Fin.ext ?_)
  refine (Pipeline.Window.rect_emb_val ((cfgA ch).win (0 : Fin 5)) t (ix2 r k) a).trans ?_
  rw [index0 ch t]
  match a with
  | ⟨0, _⟩ => show t.val / 2 * 512 + r.val = i.val * 512 + r.val; rw [hi]
  | ⟨1, _⟩ => show 0 * 1024 + k.val = k.val; omega

theorem blk1 (c : Dev nD) (t : Fin (cfgA ch).N) (e : Fin 8) (he : (ch.te (tix (crd ch t))).toNat = e.val) (h : Fin 2) (hh : hf ch (crd ch t) = h.val)
    (k : Fin 1024) (f : Fin 1792) :
    iblk ch m ρ c (1 : Fin 5) t (ix3 0 k f) = m ((c : Thread nD τ).loc main_arg3) (ix3 e k ⟨h.val * 1792 + f.val, by omega⟩) := by
  refine congrArg (m ((c : Thread nD τ).loc main_arg3)) (funext fun a => Fin.ext ?_)
  refine (Pipeline.Window.rect_emb_val ((cfgA ch).win (1 : Fin 5)) t (ix3 0 k f) a).trans ?_
  rw [index1 ch t, he, hh]
  match a with
  | ⟨0, _⟩ => show e.val * 1 + 0 = e.val; omega
  | ⟨1, _⟩ => show 0 * 1024 + k.val = k.val; omega
  | ⟨2, _⟩ => rfl
theorem blk2 (c : Dev nD) (t : Fin (cfgA ch).N) (e : Fin 8) (he : (ch.te (tix (crd ch t))).toNat = e.val) (h : Fin 2) (hh : hf ch (crd ch t) = h.val)
    (k : Fin 1024) (f : Fin 1792) :
    iblk ch m ρ c (2 : Fin 5) t (ix3 0 k f) = m ((c : Thread nD τ).loc main_arg4) (ix3 e k ⟨h.val * 1792 + f.val, by omega⟩) := by
  refine congrArg (m ((c : Thread nD τ).loc main_arg4)) (funext fun a => Fin.ext ?_)
  refine (Pipeline.Window.rect_emb_val ((cfgA ch).win (2 : Fin 5)) t (ix3 0 k f) a).trans ?_
  rw [index2 ch t, he, hh]
  match a with
  | ⟨0, _⟩ => show e.val * 1 + 0 = e.val; omega
  | ⟨1, _⟩ => show 0 * 1024 + k.val = k.val; omega
  | ⟨2, _⟩ => rfl
theorem blk3 (c : Dev nD) (t : Fin (cfgA ch).N) (e : Fin 8) (he : (ch.te (tix (crd ch t))).toNat = e.val) (h : Fin 2) (hh : hf ch (crd ch t) = h.val)
    (f : Fin 1792) (n : Fin 1024) :
    iblk ch m ρ c (3 : Fin 5) t (ix3 0 f n) = m ((c : Thread nD τ).loc main_arg5) (ix3 e ⟨h.val * 1792 + f.val, by omega⟩ n) := by
  refine congrArg (m ((c : Thread nD τ).loc main_arg5)) (funext fun a => Fin.ext ?_)
  refine (Pipeline.Window.rect_emb_val ((cfgA ch).win (3 : Fin 5)) t (ix3 0 f n) a).trans ?_
  rw [index3 ch t, he, hh]
  match a with
  | ⟨0, _⟩ => show e.val * 1 + 0 = e.val; omega
  | ⟨1, _⟩ => rfl
  | ⟨2, _⟩ => show 0 * 1024 + n.val = n.val; omega

/-! ## What a tile's second half leaves in the output's block -/

/-- The point before a second half. -/
abbrev before1 (t : Fin (cfgA ch).N) : Fin (cfgA ch).N := ⟨t.val - 1, Nat.lt_of_le_of_lt (Nat.sub_le _ _) t.isLt⟩

/-- What the first half left in the scratch arrays when the second half starts. -/
theorem scratch_before (c : Dev nD) (t : Fin (cfgA ch).N) (hodd : t.val % 2 = 1) (hp : P0_0 ch (before1 ch t)) :
    (prev0 ch m ρ c t).2 = (scrA0 ch m ρ c (before1 ch t) hp, scrA1 ch m ρ c (before1 ch t) hp) := by
  have hz : t.val ≠ 0 := fun h => by rw [h] at hodd; exact absurd hodd (by decide)
  have hp0 : prev0 ch m ρ c t = traj0 ch m ρ c (before1 ch t).val (before1 ch t).isLt := dif_neg hz
  have hprev := hp0.trans (traj0_eq ch m ρ c (before1 ch t))
  exact congrArg Prod.snd (hprev.trans (step0_A ch m ρ c _ _ hp))

/-- The output's block after a second half, from the blocks of both halves. -/
theorem out_second (c : Dev nD) (t : Fin (cfgA ch).N) (hodd : t.val % 2 = 1) (q0 : ¬P0_0 ch t) (q1 : P0_1 ch t) (hp : P0_0 ch (before1 ch t)) :
    (traj0 ch m ρ c t.val t.isLt).1
      = k0_pay4 (k0_pay3 (iblk ch m ρ c (0 : Fin 5) (before1 ch t)) (iblk ch m ρ c (1 : Fin 5) (before1 ch t)) (iblk ch m ρ c (2 : Fin 5) (before1 ch t)) (iblk ch m ρ c (3 : Fin 5) (before1 ch t)))
          (k0_pay2 (iblk ch m ρ c (0 : Fin 5) (before1 ch t))) (iblk ch m ρ c (1 : Fin 5) t) (iblk ch m ρ c (2 : Fin 5) t) (iblk ch m ρ c (3 : Fin 5) t) := by
  have hs := scratch_before ch m ρ c t hodd hp
  have h1 : (traj0 ch m ρ c t.val t.isLt).1 = outB ch m ρ c t (prev0 ch m ρ c t).2.1 (prev0 ch m ρ c t).2.2 q0 q1 := by
    rw [traj0_eq ch m ρ c t, step0_B ch m ρ c t _ q0 q1]
  have h2 : outB ch m ρ c t (prev0 ch m ρ c t).2.1 (prev0 ch m ρ c t).2.2 q0 q1
      = outB ch m ρ c t (scrA0 ch m ρ c (before1 ch t) hp) (scrA1 ch m ρ c (before1 ch t) hp) q0 q1 := by rw [hs]
  have h3 := outB_eq ch m ρ c t (scrA0 ch m ρ c (before1 ch t) hp) (scrA1 ch m ρ c (before1 ch t) hp) q0 q1
  have e0 := scrA0_eq ch m ρ c (before1 ch t) hp
  have e1 := scrA1_eq ch m ρ c (before1 ch t) hp
  refine h1.trans (h2.trans (h3.trans ?_))
  exact congrArg₂ (fun a b => k0_pay4 a b (iblk ch m ρ c (1 : Fin 5) t) (iblk ch m ρ c (2 : Fin 5) t) (iblk ch m ρ c (3 : Fin 5) t)) e1 e0

/-- A tile with rows: its expert's product. -/
theorem point_valid (c : Dev nD) (t : Fin (cfgA ch).N) (q1 : P0_1 ch t) (i : Fin 110) (hi : t.val / 2 = i.val) (e : Fin 8)
    (he : (ch.te (tix (crd ch t))).toNat = e.val) (r : Fin 512) (n : Fin 1024) :
    (traj0 ch m ρ c t.val t.isLt).1 (ix2 r n)
      = ffn (fun k => m ((c : Thread nD τ).loc main_arg2) (ix2 ⟨i.val * 512 + r.val, by omega⟩ k))
          (fun k f => m ((c : Thread nD τ).loc main_arg3) (ix3 e k f)) (fun k f => m ((c : Thread nD τ).loc main_arg4) (ix3 e k f))
          (fun f => m ((c : Thread nD τ).loc main_arg5) (ix3 e f n)) := by
  obtain ⟨hv, hodd⟩ := (P0_1_iff ch t).1 q1
  have q0 : ¬P0_0 ch t := fun h => not1_of_0 ch h q1
  have hp := P0_0_prev ch q1
  have ht : tix (crd ch (before1 ch t)) = tix (crd ch t) := tix_prev ch t hodd
  have h1 : hf ch (crd ch t) = (1 : Fin 2).val := by unfold hf; rw [if_pos hv, crd_1]; exact hodd
  have h0 : hf ch (crd ch (before1 ch t)) = (0 : Fin 2).val := by
    unfold hf; rw [ht, if_pos hv, crd_1]; show (t.val - 1) % 2 = 0; omega
  have hi' : (before1 ch t).val / 2 = i.val := by show (t.val - 1) / 2 = i.val; omega
  have he' : (ch.te (tix (crd ch (before1 ch t)))).toNat = e.val := by rw [ht]; exact he
  refine (congrFun (out_second ch m ρ c t hodd q0 q1 hp) (ix2 r n)).trans ?_
  refine (pay4_apply _ _ _ _ _ r n).trans ?_
  rw [ffn_halves]
  refine congrArg₂ (· + ·) ((pay3_apply _ _ _ _ r n).trans (Finset.sum_congr rfl fun f _ => ?_)) (Finset.sum_congr rfl fun f _ => ?_)
  · rw [blk3 ch m ρ c _ e he' 0 h0]
    refine congrArg (· * _) (congr (congr (congrArg hid (funext fun k => ?_)) (funext fun k => ?_)) (funext fun k => ?_))
    · exact blk0 ch m ρ c _ i hi' r k
    · exact blk1 ch m ρ c _ e he' 0 h0 k f
    · exact blk2 ch m ρ c _ e he' 0 h0 k f
  · rw [blk3 ch m ρ c _ e he 1 h1]
    refine congrArg (· * _) (congr (congr (congrArg hid (funext fun k => ?_)) (funext fun k => ?_)) (funext fun k => ?_))
    · exact (pay2_apply _ r k).trans (blk0 ch m ρ c _ i hi' r k)
    · exact blk1 ch m ρ c _ e he 1 h1 k f
    · exact blk2 ch m ρ c _ e he 1 h1 k f

/-- A tile without rows: zeros. -/
theorem point_invalid (c : Dev nD) (t : Fin (cfgA ch).N) (q2 : P0_2 ch t) (y : S512x1024.Idx) :
    (traj0 ch m ρ c t.val t.isLt).1 y = 0 := by
  have q0 : ¬P0_0 ch t := fun h => not2_of_0 ch h q2
  have q1 : ¬P0_1 ch t := fun h => not2_of_1 ch h q2
  rw [traj0_eq, step0_D ch m ρ c t _ q0 q1 q2]
  show outD ch m ρ c t q0 q1 q2 y = 0
  rw [outD_eq, pay5_apply]

/-! ## The whole result -/

/-- The expert that a table names for a row's tile. -/
def exOf (te : S110.Idx → BitVec 32) (r : Fin 56320) : Fin 8 := ⟨(te (ix1 ⟨r.val / 512, by omega⟩)).toNat % 8, Nat.mod_lt _ (by decide)⟩

/-- One element of the result: the row's expert's product if its tile holds rows, zero otherwise. -/
def moe (te tv : S110.Idx → BitVec 32) (xs : S56320x1024.Idx → EReal) (w1 w3 : S8x1024x3584.Idx → EReal) (w2 : S8x3584x1024.Idx → EReal)
    (r : Fin 56320) (n : Fin 1024) : EReal :=
  if tv (ix1 ⟨r.val / 512, by omega⟩) = 1#32 then
    ffn (fun k => xs (ix2 r k)) (fun k f => w1 (ix3 (exOf te r) k f)) (fun k f => w3 (ix3 (exOf te r) k f)) (fun f => w2 (ix3 (exOf te r) f n))
  else 0

/-- The output's blocks tile its array. -/
theorem covers4 : ((cfgA ch).win (4 : Fin 5)).Covers := by
  refine Pipeline.Window.covers_of_index_surj _ rfl (fun a => ?_) fun β => ?_
  · match a with
    | ⟨0, _⟩ => show 0 < 512; decide
    | ⟨1, _⟩ => show 0 < 1024; decide
  · have h0 : (β (0 : Fin 2)).val < (56320 + 512 - 1) / 512 := (β (0 : Fin 2)).isLt
    have h1 : (β (1 : Fin 2)).val < (1024 + 1024 - 1) / 1024 := (β (1 : Fin 2)).isLt
    refine ⟨⟨2 * (β (0 : Fin 2)).val, ?_⟩, fun a => ?_⟩
    · rw [show (grid0.N) = 220 from by decide +kernel]; omega
    · rw [index4 ch]
      match a with
      | ⟨0, _⟩ => show 2 * (β (0 : Fin 2)).val / 2 = (β (0 : Fin 2)).val; omega
      | ⟨1, _⟩ => show 0 = (β (1 : Fin 2)).val; omega

theorem tix_ix1 (t : Fin (cfgA ch).N) (i : Fin 110) (hi : t.val / 2 = i.val) : tix (crd ch t) = ix1 i := by
  funext a; apply Fin.ext
  match a with
  | ⟨0, _⟩ => exact (crd_0 ch t).trans hi

/-- The output's block after a tile's second half, by elements. -/
theorem point (c : Dev nD) (t : Fin (cfgA ch).N) (hodd : t.val % 2 = 1) (i : Fin 110) (hi : t.val / 2 = i.val) (r : Fin 512) (n : Fin 1024) :
    (traj0 ch m ρ c t.val t.isLt).1 (ix2 r n)
      = moe ch.te ch.tv (m ((c : Thread nD τ).loc main_arg2)) (m ((c : Thread nD τ).loc main_arg3)) (m ((c : Thread nD τ).loc main_arg4)) (m ((c : Thread nD τ).loc main_arg5))
          ⟨i.val * 512 + r.val, by omega⟩ n := by
  have hx := tix_ix1 ch t i hi
  have hd : (ix1 ⟨(i.val * 512 + r.val) / 512, by omega⟩ : S110.Idx) = ix1 i := congrArg ix1 (Fin.ext (by show (i.val * 512 + r.val) / 512 = i.val; omega))
  unfold moe
  rw [hd]
  by_cases hv : ch.tv (ix1 i) = 1#32
  · rw [if_pos hv]
    refine point_valid ch m ρ c t ((P0_1_iff ch t).2 ⟨by rw [hx]; exact hv, hodd⟩) i hi (exOf ch.te ⟨i.val * 512 + r.val, by omega⟩) ?_ r n
    rw [hx]
    show _ = (ch.te (ix1 ⟨(i.val * 512 + r.val) / 512, by omega⟩)).toNat % 8
    rw [hd]
    exact (Nat.mod_eq_of_lt (ch.lt _)).symm
  · rw [if_neg hv]
    exact point_invalid ch m ρ c t ((P0_2_iff ch t).2 ⟨by rw [hx]; exact hv, hodd⟩) _

/-- The output's array at the end. -/
theorem final4 (c : Dev nD) : (dats ch m ρ 0 c).arrAt (4 : Fin 5) (cfgA ch).N
    = fun y : S56320x1024.Idx => moe ch.te ch.tv (m ((c : Thread nD τ).loc main_arg2)) (m ((c : Thread nD τ).loc main_arg3)) (m ((c : Thread nD τ).loc main_arg4)) (m ((c : Thread nD τ).loc main_arg5)) (y 0) (y 1) := by
  refine (dats ch m ρ 0 c).arrAt_eq_of_covers (4 : Fin 5) _ (covers4 ch) fun t hf y => ?_
  rw [after0_4, cast_eq]
  have hodd : t.val % 2 = 1 := by rw [flush4_eq] at hf; exact of_decide_eq_true hf
  have hN : t.val < 220 := (N_A ch) ▸ t.isLt
  have hy : (y : S512x1024.Idx) = ix2 (y 0) (y 1) := eq_ix2 (n0 := 512) (n1 := 1024) y
  refine (congrArg _ hy).trans ((point ch m ρ c t hodd ⟨t.val / 2, by omega⟩ rfl (y 0) (y 1)).trans ?_)
  have h := Pipeline.Window.rect_emb_val ((cfgA ch).win (4 : Fin 5)) t y
  rw [index4 ch t] at h
  refine congrArg₂ (moe ch.te ch.tv _ _ _ _) (Fin.ext ?_) (Fin.ext ?_)
  · exact (h (0 : Fin 2)).symm
  · refine Eq.trans ?_ (h (1 : Fin 2)).symm
    show (y 1).val = 0 * 1024 + (y 1).val; omega

end Cert.Kernel2Ideal.Gen

end
-- ==== Proof.MoePre.lean ====
/-
The precondition `in_range`: it makes every word of the table of experts one of the eight experts.
-/
module

public import proofs.«01_k».proof.Defs
public import proofs.«01_k».proof.Proof.BitsMoeFrame
public import proofs.«01_k».proof.Proof.MoeValue

@[expose] public section

set_option maxRecDepth 16384

noncomputable section

namespace Cert.Pre_in_range

open Idealize.ShloMosaic

/-- The shape `in_range` broadcasts to. -/
theorem facts : Facts := ⟨by decide⟩

/-- A word that is at least 0 and below 8 as a signed number is below 8 as an unsigned one. -/
theorem lt_of (a : BitVec 32) (h : IntOp.andi (IntOp.cmpi .sge a 0#32) (IntOp.cmpi .slt a 8#32) = 1#1) : a.toNat < 8 := by
  have hb : BitVec.ofBool ((0#32).sle a) &&& BitVec.ofBool (a.slt 8#32) = 1#1 := h
  have h0 : (0#32).sle a = true := by
    cases hc : (0#32).sle a
    · rw [hc] at hb; generalize a.slt 8#32 = z at hb; revert hb; revert z; decide
    · rfl
  have h1 : a.slt 8#32 = true := by
    cases hc : a.slt 8#32
    · rw [hc] at hb; generalize (0#32).sle a = z at hb; revert hb; revert z; decide
    · rfl
  rw [BitVec.sle_iff_toInt_le] at h0
  rw [BitVec.slt_iff_toInt_lt] at h1
  have e0 : (0#32 : BitVec 32).toInt = 0 := by decide
  have e8 : (8#32 : BitVec 32).toInt = 8 := by decide
  rw [e0] at h0; rw [e8] at h1
  rw [BitVec.toInt_eq_toNat_cond] at h0 h1
  have := a.isLt
  split at h0 <;> split at h1 <;> omega

end Cert.Pre_in_range

namespace Cert.Kernel2.Gen

open Idealize.ShloMosaic Idealize.ShloMosaic.TcCoe

variable [hPre : Cert.Pre_in_range.Facts] {m : (ℓ : Loc nD τ sig) → Buf (Elt Bits) ℓ} (hpre : Cert.Pre_Kernel2 m)

/-- The tables as the launch memory holds them. -/
def tabOf : Tab where
  te := m (((0 : Dev nD) : Thread nD τ).loc main_arg0)
  tv := m (((0 : Dev nD) : Thread nD τ).loc main_arg1)
  lt := fun x => Cert.Pre_in_range.lt_of _ (congrFun (hpre 0) x)

theorem pinned : Pinned (tabOf hpre) m :=
  ⟨fun c => by rw [Subsingleton.elim (α := Fin 1) c 0]; rfl, fun c => by rw [Subsingleton.elim (α := Fin 1) c 0]; rfl⟩

end Cert.Kernel2.Gen

namespace Cert.Kernel2Ideal.Gen

open Idealize.ShloMosaic Idealize.ShloMosaic.TcCoe

variable [hPre : Cert.Pre_in_range.Facts] {m : (ℓ : Loc nD τ sig) → Buf (Elt Ideal) ℓ} (hpre : Cert.Pre_Kernel2Ideal m)

/-- The tables as the launch memory holds them. -/
def tabOf : Tab where
  te := m (((0 : Dev nD) : Thread nD τ).loc main_arg0)
  tv := m (((0 : Dev nD) : Thread nD τ).loc main_arg1)
  lt := fun x => Cert.Pre_in_range.lt_of _ (congrFun (hpre 0) x)

theorem pinned : Pinned (tabOf hpre) m :=
  ⟨fun c => by rw [Subsingleton.elim (α := Fin 1) c 0]; rfl, fun c => by rw [Subsingleton.elim (α := Fin 1) c 0]; rfl⟩

end Cert.Kernel2Ideal.Gen

end
-- ==== Proof.MoeRef.lean ====
/-
The experts' reference program read at an element: for every expert its product and its gate, and then their sum.
-/
module

public import proofs.«01_k».proof.Proof.MoeValue
public import proofs.«01_k».proof.Proof.Gen.Reference2Ideal.Read

@[expose] public section

set_option maxRecDepth 16384

noncomputable section

namespace Cert.Reference2Ideal.Read

open Cert.Reference2Ideal Cert.Reference2Ideal.Gen Idealize.ShloMosaic Idealize.ShloMosaic.TcCoe
open Cert.Kernel2Ideal.Gen (hid ffn moe exOf)

variable (x0 x1 : (⟨S110, .i32⟩ : BufTy).Contents (Elt Ideal)) (x2 : FVec Ideal S56320x1024 .f32) (x3 x4 : FVec Ideal S8x1024x3584 .bf16)
  (x5 : FVec Ideal S8x3584x1024 .bf16)

theorem ofBits_one : Ideal.ofBits .f32 0x3F800000#32 = 1 := by
  have h : Ideal.ofBits .f32 0x3F800000#32 = ((8388608 : ℝ) : EReal) * (((2 ^ 23)⁻¹ : ℝ) : EReal) := by simp [Ideal.ofBits, Ideal.ieee]
  rw [h, ← EReal.coe_mul]; norm_num
theorem ofBits_zero : Ideal.ofBits .f32 0x00000000#32 = 0 := by
  simp [Ideal.ofBits, Ideal.ieee]

/-- The gate of a row at expert `e`: one if the row's tile holds rows and names that expert, else zero. -/
def gate (e : BitVec 32) (r : Fin 56320) : EReal :=
  if x1 (ix1 ⟨r.val / 512, by omega⟩) = 1#32 ∧ x0 (ix1 ⟨r.val / 512, by omega⟩) = e then 1 else 0

theorem select_gate (a b e : BitVec 32) :
    Scalar.select (IntOp.andi (IntOp.cmpi .eq a 1#32) (IntOp.cmpi .eq b e)) (Ideal.ofBits .f32 0x3F800000#32) (Ideal.ofBits .f32 0x00000000#32)
      = if a = 1#32 ∧ b = e then 1 else 0 := by
  rw [ofBits_one, ofBits_zero]
  have hc : IntOp.andi (IntOp.cmpi .eq a 1#32) (IntOp.cmpi .eq b e) = BitVec.ofBool (decide (a = 1#32 ∧ b = e)) := by
    show BitVec.ofBool (a == 1#32) &&& BitVec.ofBool (b == e) = _
    have ea : (a == 1#32) = decide (a = 1#32) := rfl
    have eb : (b == e) = decide (b = e) := rfl
    rw [ea, eb]
    by_cases ha : a = 1#32 <;> by_cases hb : b = e <;> simp [ha, hb]
  rw [hc]
  by_cases h : a = 1#32 ∧ b = e
  · rw [if_pos h, decide_eq_true h]; rfl
  · rw [if_neg h, decide_eq_false h]; rfl

theorem silu (s : EReal) :
    Ideal.div (Ideal.ofBits .f32 0x3F800000#32) (Ideal.ofBits .f32 0x3F800000#32 + Ideal.exp (-s)) = Ideal.logistic s := by
  rw [ofBits_one]; rfl

theorem row_expert (r : Fin 56320) : val_main_v1 (F := Ideal) x0 (ix1 r) = x0 (ix1 ⟨r.val / 512, by omega⟩) := by
  pointwise [val_main_v1, val_main_v0]
theorem row_valid (r : Fin 56320) : val_main_v3 (F := Ideal) x1 (ix1 r) = x1 (ix1 ⟨r.val / 512, by omega⟩) := by
  pointwise [val_main_v3, val_main_v2]

/-! ## Expert 0 -/

theorem gate0 (r : Fin 56320) (n : Fin 1024) : val_main_v27 (F := Ideal) x0 x1 (ix2 r n) = gate x0 x1 0#32 r := by
  have h : val_main_v27 (F := Ideal) x0 x1 (ix2 r n) = val_main_v10 (F := Ideal) x0 x1 (ix1 r) := by
    rw [val_main_v27_apply, val_main_v26_apply, val_main_v11_apply]
    exact congrArg _ (eq_ix1 (n0 := 56320) _)
  rw [h, val_main_v10_apply, val_main_v9_apply, val_main_v5_apply, val_main_v8_apply, row_expert, row_valid, val_main_v4_apply, val_main_v7_apply]
  exact select_gate _ _ 0#32
theorem first0 (r : Fin 56320) (f : Fin 3584) : val_main_v15 (F := Ideal) x2 x3 (ix2 r f) = ∑ k, x2 (ix2 r k) * x3 (ix3 0 k f) := by
  pointwise [val_main_v15, val_main_v14, val_main_v13, val_main_v12]
theorem third0 (r : Fin 56320) (f : Fin 3584) : val_main_v20 (F := Ideal) x2 x4 (ix2 r f) = ∑ k, x2 (ix2 r k) * x4 (ix3 0 k f) := by
  pointwise [val_main_v20, val_main_v19, val_main_v18, val_main_v17]
theorem inner0 (r : Fin 56320) (f : Fin 3584) : val_main_v21 (F := Ideal) x2 x3 x4 (ix2 r f)
    = hid (fun k => x2 (ix2 r k)) (fun k => x3 (ix3 0 k f)) (fun k => x4 (ix3 0 k f)) := by
  rw [val_main_v21_apply, val_main_v16_apply, val_main_call1_v5_apply, val_main_call1_v3_apply, val_main_call1_v1_apply, val_main_call1_v0_apply, val_main_call1_v4_apply, val_main_call1_v2_apply, first0, third0]
  exact congrArg (fun y => (∑ k, x2 (ix2 r k) * x3 (ix3 0 k f)) * y * ∑ k, x2 (ix2 r k) * x4 (ix3 0 k f)) (silu _)
theorem second0 (f : Fin 3584) (n : Fin 1024) : val_main_v24 (F := Ideal) x5 (ix2 f n) = x5 (ix3 0 f n) := by
  pointwise [val_main_v24, val_main_v23, val_main_v22]
theorem product0 (r : Fin 56320) (n : Fin 1024) : val_main_v25 (F := Ideal) x2 x3 x4 x5 (ix2 r n)
    = ffn (fun k => x2 (ix2 r k)) (fun k f => x3 (ix3 0 k f)) (fun k f => x4 (ix3 0 k f)) (fun f => x5 (ix3 0 f n)) := by
  refine (val_main_v25_apply x2 x3 x4 x5 _).trans (Finset.sum_congr rfl fun f _ => ?_)
  exact congrArg₂ (· * ·) ((congrArg _ (eq_ix2 (n0 := 56320) (n1 := 3584) _)).trans (inner0 x2 x3 x4 r f))
    ((congrArg _ (eq_ix2 (n0 := 3584) (n1 := 1024) _)).trans (second0 x5 f n))
theorem sum0 (r : Fin 56320) (n : Fin 1024) : val_main_v29 (F := Ideal) x0 x1 x2 x3 x4 x5 (ix2 r n)
    = val_main_v6 (F := Ideal) (ix2 r n) + gate x0 x1 0#32 r * ffn (fun k => x2 (ix2 r k)) (fun k f => x3 (ix3 0 k f)) (fun k f => x4 (ix3 0 k f)) (fun f => x5 (ix3 0 f n)) := by
  rw [val_main_v29_apply, val_main_v28_apply, gate0, product0]; rfl

/-! ## Expert 1 -/

theorem gate1 (r : Fin 56320) (n : Fin 1024) : val_main_v50 (F := Ideal) x0 x1 (ix2 r n) = gate x0 x1 1#32 r := by
  have h : val_main_v50 (F := Ideal) x0 x1 (ix2 r n) = val_main_v33 (F := Ideal) x0 x1 (ix1 r) := by
    rw [val_main_v50_apply, val_main_v49_apply, val_main_v34_apply]
    exact congrArg _ (eq_ix1 (n0 := 56320) _)
  rw [h, val_main_v33_apply, val_main_v32_apply, val_main_v5_apply, val_main_v31_apply, row_expert, row_valid, val_main_v4_apply, val_main_v30_apply]
  exact select_gate _ _ 1#32
theorem first1 (r : Fin 56320) (f : Fin 3584) : val_main_v38 (F := Ideal) x2 x3 (ix2 r f) = ∑ k, x2 (ix2 r k) * x3 (ix3 1 k f) := by
  pointwise [val_main_v38, val_main_v37, val_main_v36, val_main_v35]
theorem third1 (r : Fin 56320) (f : Fin 3584) : val_main_v43 (F := Ideal) x2 x4 (ix2 r f) = ∑ k, x2 (ix2 r k) * x4 (ix3 1 k f) := by
  pointwise [val_main_v43, val_main_v42, val_main_v41, val_main_v40]
theorem inner1 (r : Fin 56320) (f : Fin 3584) : val_main_v44 (F := Ideal) x2 x3 x4 (ix2 r f)
    = hid (fun k => x2 (ix2 r k)) (fun k => x3 (ix3 1 k f)) (fun k => x4 (ix3 1 k f)) := by
  rw [val_main_v44_apply, val_main_v39_apply, val_main_call3_v5_apply, val_main_call3_v3_apply, val_main_call3_v1_apply, val_main_call3_v0_apply, val_main_call3_v4_apply, val_main_call3_v2_apply, first1, third1]
  exact congrArg (fun y => (∑ k, x2 (ix2 r k) * x3 (ix3 1 k f)) * y * ∑ k, x2 (ix2 r k) * x4 (ix3 1 k f)) (silu _)
theorem second1 (f : Fin 3584) (n : Fin 1024) : val_main_v47 (F := Ideal) x5 (ix2 f n) = x5 (ix3 1 f n) := by
  pointwise [val_main_v47, val_main_v46, val_main_v45]
theorem product1 (r : Fin 56320) (n : Fin 1024) : val_main_v48 (F := Ideal) x2 x3 x4 x5 (ix2 r n)
    = ffn (fun k => x2 (ix2 r k)) (fun k f => x3 (ix3 1 k f)) (fun k f => x4 (ix3 1 k f)) (fun f => x5 (ix3 1 f n)) := by
  refine (val_main_v48_apply x2 x3 x4 x5 _).trans (Finset.sum_congr rfl fun f _ => ?_)
  exact congrArg₂ (· * ·) ((congrArg _ (eq_ix2 (n0 := 56320) (n1 := 3584) _)).trans (inner1 x2 x3 x4 r f))
    ((congrArg _ (eq_ix2 (n0 := 3584) (n1 := 1024) _)).trans (second1 x5 f n))
theorem sum1 (r : Fin 56320) (n : Fin 1024) : val_main_v52 (F := Ideal) x0 x1 x2 x3 x4 x5 (ix2 r n)
    = val_main_v29 (F := Ideal) x0 x1 x2 x3 x4 x5 (ix2 r n) + gate x0 x1 1#32 r * ffn (fun k => x2 (ix2 r k)) (fun k f => x3 (ix3 1 k f)) (fun k f => x4 (ix3 1 k f)) (fun f => x5 (ix3 1 f n)) := by
  rw [val_main_v52_apply, val_main_v51_apply, gate1, product1]; rfl

/-! ## Expert 2 -/

theorem gate2 (r : Fin 56320) (n : Fin 1024) : val_main_v73 (F := Ideal) x0 x1 (ix2 r n) = gate x0 x1 2#32 r := by
  have h : val_main_v73 (F := Ideal) x0 x1 (ix2 r n) = val_main_v56 (F := Ideal) x0 x1 (ix1 r) := by
    rw [val_main_v73_apply, val_main_v72_apply, val_main_v57_apply]
    exact congrArg _ (eq_ix1 (n0 := 56320) _)
  rw [h, val_main_v56_apply, val_main_v55_apply, val_main_v5_apply, val_main_v54_apply, row_expert, row_valid, val_main_v4_apply, val_main_v53_apply]
  exact select_gate _ _ 2#32
theorem first2 (r : Fin 56320) (f : Fin 3584) : val_main_v61 (F := Ideal) x2 x3 (ix2 r f) = ∑ k, x2 (ix2 r k) * x3 (ix3 2 k f) := by
  pointwise [val_main_v61, val_main_v60, val_main_v59, val_main_v58]
theorem third2 (r : Fin 56320) (f : Fin 3584) : val_main_v66 (F := Ideal) x2 x4 (ix2 r f) = ∑ k, x2 (ix2 r k) * x4 (ix3 2 k f) := by
  pointwise [val_main_v66, val_main_v65, val_main_v64, val_main_v63]
theorem inner2 (r : Fin 56320) (f : Fin 3584) : val_main_v67 (F := Ideal) x2 x3 x4 (ix2 r f)
    = hid (fun k => x2 (ix2 r k)) (fun k => x3 (ix3 2 k f)) (fun k => x4 (ix3 2 k f)) := by
  rw [val_main_v67_apply, val_main_v62_apply, val_main_call5_v5_apply, val_main_call5_v3_apply, val_main_call5_v1_apply, val_main_call5_v0_apply, val_main_call5_v4_apply, val_main_call5_v2_apply, first2, third2]
  exact congrArg (fun y => (∑ k, x2 (ix2 r k) * x3 (ix3 2 k f)) * y * ∑ k, x2 (ix2 r k) * x4 (ix3 2 k f)) (silu _)
theorem second2 (f : Fin 3584) (n : Fin 1024) : val_main_v70 (F := Ideal) x5 (ix2 f n) = x5 (ix3 2 f n) := by
  pointwise [val_main_v70, val_main_v69, val_main_v68]
theorem product2 (r : Fin 56320) (n : Fin 1024) : val_main_v71 (F := Ideal) x2 x3 x4 x5 (ix2 r n)
    = ffn (fun k => x2 (ix2 r k)) (fun k f => x3 (ix3 2 k f)) (fun k f => x4 (ix3 2 k f)) (fun f => x5 (ix3 2 f n)) := by
  refine (val_main_v71_apply x2 x3 x4 x5 _).trans (Finset.sum_congr rfl fun f _ => ?_)
  exact congrArg₂ (· * ·) ((congrArg _ (eq_ix2 (n0 := 56320) (n1 := 3584) _)).trans (inner2 x2 x3 x4 r f))
    ((congrArg _ (eq_ix2 (n0 := 3584) (n1 := 1024) _)).trans (second2 x5 f n))
theorem sum2 (r : Fin 56320) (n : Fin 1024) : val_main_v75 (F := Ideal) x0 x1 x2 x3 x4 x5 (ix2 r n)
    = val_main_v52 (F := Ideal) x0 x1 x2 x3 x4 x5 (ix2 r n) + gate x0 x1 2#32 r * ffn (fun k => x2 (ix2 r k)) (fun k f => x3 (ix3 2 k f)) (fun k f => x4 (ix3 2 k f)) (fun f => x5 (ix3 2 f n)) := by
  rw [val_main_v75_apply, val_main_v74_apply, gate2, product2]; rfl

/-! ## Expert 3 -/

theorem gate3 (r : Fin 56320) (n : Fin 1024) : val_main_v96 (F := Ideal) x0 x1 (ix2 r n) = gate x0 x1 3#32 r := by
  have h : val_main_v96 (F := Ideal) x0 x1 (ix2 r n) = val_main_v79 (F := Ideal) x0 x1 (ix1 r) := by
    rw [val_main_v96_apply, val_main_v95_apply, val_main_v80_apply]
    exact congrArg _ (eq_ix1 (n0 := 56320) _)
  rw [h, val_main_v79_apply, val_main_v78_apply, val_main_v5_apply, val_main_v77_apply, row_expert, row_valid, val_main_v4_apply, val_main_v76_apply]
  exact select_gate _ _ 3#32
theorem first3 (r : Fin 56320) (f : Fin 3584) : val_main_v84 (F := Ideal) x2 x3 (ix2 r f) = ∑ k, x2 (ix2 r k) * x3 (ix3 3 k f) := by
  pointwise [val_main_v84, val_main_v83, val_main_v82, val_main_v81]
theorem third3 (r : Fin 56320) (f : Fin 3584) : val_main_v89 (F := Ideal) x2 x4 (ix2 r f) = ∑ k, x2 (ix2 r k) * x4 (ix3 3 k f) := by
  pointwise [val_main_v89, val_main_v88, val_main_v87, val_main_v86]
theorem inner3 (r : Fin 56320) (f : Fin 3584) : val_main_v90 (F := Ideal) x2 x3 x4 (ix2 r f)
    = hid (fun k => x2 (ix2 r k)) (fun k => x3 (ix3 3 k f)) (fun k => x4 (ix3 3 k f)) := by
  rw [val_main_v90_apply, val_main_v85_apply, val_main_call7_v5_apply, val_main_call7_v3_apply, val_main_call7_v1_apply, val_main_call7_v0_apply, val_main_call7_v4_apply, val_main_call7_v2_apply, first3, third3]
  exact congrArg (fun y => (∑ k, x2 (ix2 r k) * x3 (ix3 3 k f)) * y * ∑ k, x2 (ix2 r k) * x4 (ix3 3 k f)) (silu _)
theorem second3 (f : Fin 3584) (n : Fin 1024) : val_main_v93 (F := Ideal) x5 (ix2 f n) = x5 (ix3 3 f n) := by
  pointwise [val_main_v93, val_main_v92, val_main_v91]
theorem product3 (r : Fin 56320) (n : Fin 1024) : val_main_v94 (F := Ideal) x2 x3 x4 x5 (ix2 r n)
    = ffn (fun k => x2 (ix2 r k)) (fun k f => x3 (ix3 3 k f)) (fun k f => x4 (ix3 3 k f)) (fun f => x5 (ix3 3 f n)) := by
  refine (val_main_v94_apply x2 x3 x4 x5 _).trans (Finset.sum_congr rfl fun f _ => ?_)
  exact congrArg₂ (· * ·) ((congrArg _ (eq_ix2 (n0 := 56320) (n1 := 3584) _)).trans (inner3 x2 x3 x4 r f))
    ((congrArg _ (eq_ix2 (n0 := 3584) (n1 := 1024) _)).trans (second3 x5 f n))
theorem sum3 (r : Fin 56320) (n : Fin 1024) : val_main_v98 (F := Ideal) x0 x1 x2 x3 x4 x5 (ix2 r n)
    = val_main_v75 (F := Ideal) x0 x1 x2 x3 x4 x5 (ix2 r n) + gate x0 x1 3#32 r * ffn (fun k => x2 (ix2 r k)) (fun k f => x3 (ix3 3 k f)) (fun k f => x4 (ix3 3 k f)) (fun f => x5 (ix3 3 f n)) := by
  rw [val_main_v98_apply, val_main_v97_apply, gate3, product3]; rfl

/-! ## Expert 4 -/

theorem gate4 (r : Fin 56320) (n : Fin 1024) : val_main_v119 (F := Ideal) x0 x1 (ix2 r n) = gate x0 x1 4#32 r := by
  have h : val_main_v119 (F := Ideal) x0 x1 (ix2 r n) = val_main_v102 (F := Ideal) x0 x1 (ix1 r) := by
    rw [val_main_v119_apply, val_main_v118_apply, val_main_v103_apply]
    exact congrArg _ (eq_ix1 (n0 := 56320) _)
  rw [h, val_main_v102_apply, val_main_v101_apply, val_main_v5_apply, val_main_v100_apply, row_expert, row_valid, val_main_v4_apply, val_main_v99_apply]
  exact select_gate _ _ 4#32
theorem first4 (r : Fin 56320) (f : Fin 3584) : val_main_v107 (F := Ideal) x2 x3 (ix2 r f) = ∑ k, x2 (ix2 r k) * x3 (ix3 4 k f) := by
  pointwise [val_main_v107, val_main_v106, val_main_v105, val_main_v104]
theorem third4 (r : Fin 56320) (f : Fin 3584) : val_main_v112 (F := Ideal) x2 x4 (ix2 r f) = ∑ k, x2 (ix2 r k) * x4 (ix3 4 k f) := by
  pointwise [val_main_v112, val_main_v111, val_main_v110, val_main_v109]
theorem inner4 (r : Fin 56320) (f : Fin 3584) : val_main_v113 (F := Ideal) x2 x3 x4 (ix2 r f)
    = hid (fun k => x2 (ix2 r k)) (fun k => x3 (ix3 4 k f)) (fun k => x4 (ix3 4 k f)) := by
  rw [val_main_v113_apply, val_main_v108_apply, val_main_call9_v5_apply, val_main_call9_v3_apply, val_main_call9_v1_apply, val_main_call9_v0_apply, val_main_call9_v4_apply, val_main_call9_v2_apply, first4, third4]
  exact congrArg (fun y => (∑ k, x2 (ix2 r k) * x3 (ix3 4 k f)) * y * ∑ k, x2 (ix2 r k) * x4 (ix3 4 k f)) (silu _)
theorem second4 (f : Fin 3584) (n : Fin 1024) : val_main_v116 (F := Ideal) x5 (ix2 f n) = x5 (ix3 4 f n) := by
  pointwise [val_main_v116, val_main_v115, val_main_v114]
theorem product4 (r : Fin 56320) (n : Fin 1024) : val_main_v117 (F := Ideal) x2 x3 x4 x5 (ix2 r n)
    = ffn (fun k => x2 (ix2 r k)) (fun k f => x3 (ix3 4 k f)) (fun k f => x4 (ix3 4 k f)) (fun f => x5 (ix3 4 f n)) := by
  refine (val_main_v117_apply x2 x3 x4 x5 _).trans (Finset.sum_congr rfl fun f _ => ?_)
  exact congrArg₂ (· * ·) ((congrArg _ (eq_ix2 (n0 := 56320) (n1 := 3584) _)).trans (inner4 x2 x3 x4 r f))
    ((congrArg _ (eq_ix2 (n0 := 3584) (n1 := 1024) _)).trans (second4 x5 f n))
theorem sum4 (r : Fin 56320) (n : Fin 1024) : val_main_v121 (F := Ideal) x0 x1 x2 x3 x4 x5 (ix2 r n)
    = val_main_v98 (F := Ideal) x0 x1 x2 x3 x4 x5 (ix2 r n) + gate x0 x1 4#32 r * ffn (fun k => x2 (ix2 r k)) (fun k f => x3 (ix3 4 k f)) (fun k f => x4 (ix3 4 k f)) (fun f => x5 (ix3 4 f n)) := by
  rw [val_main_v121_apply, val_main_v120_apply, gate4, product4]; rfl

/-! ## Expert 5 -/

theorem gate5 (r : Fin 56320) (n : Fin 1024) : val_main_v142 (F := Ideal) x0 x1 (ix2 r n) = gate x0 x1 5#32 r := by
  have h : val_main_v142 (F := Ideal) x0 x1 (ix2 r n) = val_main_v125 (F := Ideal) x0 x1 (ix1 r) := by
    rw [val_main_v142_apply, val_main_v141_apply, val_main_v126_apply]
    exact congrArg _ (eq_ix1 (n0 := 56320) _)
  rw [h, val_main_v125_apply, val_main_v124_apply, val_main_v5_apply, val_main_v123_apply, row_expert, row_valid, val_main_v4_apply, val_main_v122_apply]
  exact select_gate _ _ 5#32
theorem first5 (r : Fin 56320) (f : Fin 3584) : val_main_v130 (F := Ideal) x2 x3 (ix2 r f) = ∑ k, x2 (ix2 r k) * x3 (ix3 5 k f) := by
  pointwise [val_main_v130, val_main_v129, val_main_v128, val_main_v127]
theorem third5 (r : Fin 56320) (f : Fin 3584) : val_main_v135 (F := Ideal) x2 x4 (ix2 r f) = ∑ k, x2 (ix2 r k) * x4 (ix3 5 k f) := by
  pointwise [val_main_v135, val_main_v134, val_main_v133, val_main_v132]
theorem inner5 (r : Fin 56320) (f : Fin 3584) : val_main_v136 (F := Ideal) x2 x3 x4 (ix2 r f)
    = hid (fun k => x2 (ix2 r k)) (fun k => x3 (ix3 5 k f)) (fun k => x4 (ix3 5 k f)) := by
  rw [val_main_v136_apply, val_main_v131_apply, val_main_call11_v5_apply, val_main_call11_v3_apply, val_main_call11_v1_apply, val_main_call11_v0_apply, val_main_call11_v4_apply, val_main_call11_v2_apply, first5, third5]
  exact congrArg (fun y => (∑ k, x2 (ix2 r k) * x3 (ix3 5 k f)) * y * ∑ k, x2 (ix2 r k) * x4 (ix3 5 k f)) (silu _)
theorem second5 (f : Fin 3584) (n : Fin 1024) : val_main_v139 (F := Ideal) x5 (ix2 f n) = x5 (ix3 5 f n) := by
  pointwise [val_main_v139, val_main_v138, val_main_v137]
theorem product5 (r : Fin 56320) (n : Fin 1024) : val_main_v140 (F := Ideal) x2 x3 x4 x5 (ix2 r n)
    = ffn (fun k => x2 (ix2 r k)) (fun k f => x3 (ix3 5 k f)) (fun k f => x4 (ix3 5 k f)) (fun f => x5 (ix3 5 f n)) := by
  refine (val_main_v140_apply x2 x3 x4 x5 _).trans (Finset.sum_congr rfl fun f _ => ?_)
  exact congrArg₂ (· * ·) ((congrArg _ (eq_ix2 (n0 := 56320) (n1 := 3584) _)).trans (inner5 x2 x3 x4 r f))
    ((congrArg _ (eq_ix2 (n0 := 3584) (n1 := 1024) _)).trans (second5 x5 f n))
theorem sum5 (r : Fin 56320) (n : Fin 1024) : val_main_v144 (F := Ideal) x0 x1 x2 x3 x4 x5 (ix2 r n)
    = val_main_v121 (F := Ideal) x0 x1 x2 x3 x4 x5 (ix2 r n) + gate x0 x1 5#32 r * ffn (fun k => x2 (ix2 r k)) (fun k f => x3 (ix3 5 k f)) (fun k f => x4 (ix3 5 k f)) (fun f => x5 (ix3 5 f n)) := by
  rw [val_main_v144_apply, val_main_v143_apply, gate5, product5]; rfl

/-! ## Expert 6 -/

theorem gate6 (r : Fin 56320) (n : Fin 1024) : val_main_v165 (F := Ideal) x0 x1 (ix2 r n) = gate x0 x1 6#32 r := by
  have h : val_main_v165 (F := Ideal) x0 x1 (ix2 r n) = val_main_v148 (F := Ideal) x0 x1 (ix1 r) := by
    rw [val_main_v165_apply, val_main_v164_apply, val_main_v149_apply]
    exact congrArg _ (eq_ix1 (n0 := 56320) _)
  rw [h, val_main_v148_apply, val_main_v147_apply, val_main_v5_apply, val_main_v146_apply, row_expert, row_valid, val_main_v4_apply, val_main_v145_apply]
  exact select_gate _ _ 6#32
theorem first6 (r : Fin 56320) (f : Fin 3584) : val_main_v153 (F := Ideal) x2 x3 (ix2 r f) = ∑ k, x2 (ix2 r k) * x3 (ix3 6 k f) := by
  pointwise [val_main_v153, val_main_v152, val_main_v151, val_main_v150]
theorem third6 (r : Fin 56320) (f : Fin 3584) : val_main_v158 (F := Ideal) x2 x4 (ix2 r f) = ∑ k, x2 (ix2 r k) * x4 (ix3 6 k f) := by
  pointwise [val_main_v158, val_main_v157, val_main_v156, val_main_v155]
theorem inner6 (r : Fin 56320) (f : Fin 3584) : val_main_v159 (F := Ideal) x2 x3 x4 (ix2 r f)
    = hid (fun k => x2 (ix2 r k)) (fun k => x3 (ix3 6 k f)) (fun k => x4 (ix3 6 k f)) := by
  rw [val_main_v159_apply, val_main_v154_apply, val_main_call13_v5_apply, val_main_call13_v3_apply, val_main_call13_v1_apply, val_main_call13_v0_apply, val_main_call13_v4_apply, val_main_call13_v2_apply, first6, third6]
  exact congrArg (fun y => (∑ k, x2 (ix2 r k) * x3 (ix3 6 k f)) * y * ∑ k, x2 (ix2 r k) * x4 (ix3 6 k f)) (silu _)
theorem second6 (f : Fin 3584) (n : Fin 1024) : val_main_v162 (F := Ideal) x5 (ix2 f n) = x5 (ix3 6 f n) := by
  pointwise [val_main_v162, val_main_v161, val_main_v160]
theorem product6 (r : Fin 56320) (n : Fin 1024) : val_main_v163 (F := Ideal) x2 x3 x4 x5 (ix2 r n)
    = ffn (fun k => x2 (ix2 r k)) (fun k f => x3 (ix3 6 k f)) (fun k f => x4 (ix3 6 k f)) (fun f => x5 (ix3 6 f n)) := by
  refine (val_main_v163_apply x2 x3 x4 x5 _).trans (Finset.sum_congr rfl fun f _ => ?_)
  exact congrArg₂ (· * ·) ((congrArg _ (eq_ix2 (n0 := 56320) (n1 := 3584) _)).trans (inner6 x2 x3 x4 r f))
    ((congrArg _ (eq_ix2 (n0 := 3584) (n1 := 1024) _)).trans (second6 x5 f n))
theorem sum6 (r : Fin 56320) (n : Fin 1024) : val_main_v167 (F := Ideal) x0 x1 x2 x3 x4 x5 (ix2 r n)
    = val_main_v144 (F := Ideal) x0 x1 x2 x3 x4 x5 (ix2 r n) + gate x0 x1 6#32 r * ffn (fun k => x2 (ix2 r k)) (fun k f => x3 (ix3 6 k f)) (fun k f => x4 (ix3 6 k f)) (fun f => x5 (ix3 6 f n)) := by
  rw [val_main_v167_apply, val_main_v166_apply, gate6, product6]; rfl

/-! ## Expert 7 -/

theorem gate7 (r : Fin 56320) (n : Fin 1024) : val_main_v188 (F := Ideal) x0 x1 (ix2 r n) = gate x0 x1 7#32 r := by
  have h : val_main_v188 (F := Ideal) x0 x1 (ix2 r n) = val_main_v171 (F := Ideal) x0 x1 (ix1 r) := by
    rw [val_main_v188_apply, val_main_v187_apply, val_main_v172_apply]
    exact congrArg _ (eq_ix1 (n0 := 56320) _)
  rw [h, val_main_v171_apply, val_main_v170_apply, val_main_v5_apply, val_main_v169_apply, row_expert, row_valid, val_main_v4_apply, val_main_v168_apply]
  exact select_gate _ _ 7#32
theorem first7 (r : Fin 56320) (f : Fin 3584) : val_main_v176 (F := Ideal) x2 x3 (ix2 r f) = ∑ k, x2 (ix2 r k) * x3 (ix3 7 k f) := by
  pointwise [val_main_v176, val_main_v175, val_main_v174, val_main_v173]
theorem third7 (r : Fin 56320) (f : Fin 3584) : val_main_v181 (F := Ideal) x2 x4 (ix2 r f) = ∑ k, x2 (ix2 r k) * x4 (ix3 7 k f) := by
  pointwise [val_main_v181, val_main_v180, val_main_v179, val_main_v178]
theorem inner7 (r : Fin 56320) (f : Fin 3584) : val_main_v182 (F := Ideal) x2 x3 x4 (ix2 r f)
    = hid (fun k => x2 (ix2 r k)) (fun k => x3 (ix3 7 k f)) (fun k => x4 (ix3 7 k f)) := by
  rw [val_main_v182_apply, val_main_v177_apply, val_main_call15_v5_apply, val_main_call15_v3_apply, val_main_call15_v1_apply, val_main_call15_v0_apply, val_main_call15_v4_apply, val_main_call15_v2_apply, first7, third7]
  exact congrArg (fun y => (∑ k, x2 (ix2 r k) * x3 (ix3 7 k f)) * y * ∑ k, x2 (ix2 r k) * x4 (ix3 7 k f)) (silu _)
theorem second7 (f : Fin 3584) (n : Fin 1024) : val_main_v185 (F := Ideal) x5 (ix2 f n) = x5 (ix3 7 f n) := by
  pointwise [val_main_v185, val_main_v184, val_main_v183]
theorem product7 (r : Fin 56320) (n : Fin 1024) : val_main_v186 (F := Ideal) x2 x3 x4 x5 (ix2 r n)
    = ffn (fun k => x2 (ix2 r k)) (fun k f => x3 (ix3 7 k f)) (fun k f => x4 (ix3 7 k f)) (fun f => x5 (ix3 7 f n)) := by
  refine (val_main_v186_apply x2 x3 x4 x5 _).trans (Finset.sum_congr rfl fun f _ => ?_)
  exact congrArg₂ (· * ·) ((congrArg _ (eq_ix2 (n0 := 56320) (n1 := 3584) _)).trans (inner7 x2 x3 x4 r f))
    ((congrArg _ (eq_ix2 (n0 := 3584) (n1 := 1024) _)).trans (second7 x5 f n))
theorem sum7 (r : Fin 56320) (n : Fin 1024) : val_main_v190 (F := Ideal) x0 x1 x2 x3 x4 x5 (ix2 r n)
    = val_main_v167 (F := Ideal) x0 x1 x2 x3 x4 x5 (ix2 r n) + gate x0 x1 7#32 r * ffn (fun k => x2 (ix2 r k)) (fun k f => x3 (ix3 7 k f)) (fun k f => x4 (ix3 7 k f)) (fun f => x5 (ix3 7 f n)) := by
  rw [val_main_v190_apply, val_main_v189_apply, gate7, product7]; rfl

/-! ## The sum -/

theorem start (i : S56320x1024.Idx) : val_main_v6 (F := Ideal) i = 0 := by
  rw [val_main_v6_apply, val_main_cst_apply]; exact ofBits_zero

/-- The reference's result, by elements: of the gates exactly that of the tile's expert is one, if the tile holds rows. -/
theorem result (h : ∀ x, (x0 x).toNat < 8) (r : Fin 56320) (n : Fin 1024) :
    val_main_v190 (F := Ideal) x0 x1 x2 x3 x4 x5 (ix2 r n) = moe x0 x1 x2 x3 x4 x5 r n := by
  rw [sum7, sum6, sum5, sum4, sum3, sum2, sum1, sum0, start]
  unfold moe exOf gate
  have hl := h (ix1 ⟨r.val / 512, by omega⟩)
  by_cases hv : x1 (ix1 ⟨r.val / 512, by omega⟩) = 1#32
  · have he : ∃ e : Fin 8, x0 (ix1 ⟨r.val / 512, by omega⟩) = BitVec.ofNat 32 e.val :=
      ⟨⟨_, hl⟩, by simp⟩
    obtain ⟨e, he⟩ := he
    simp only [hv, he, true_and, if_true]
    fin_cases e <;> simp
  · simp [hv]

/-- So the whole result is the experts' products. -/
theorem result_eq (h : ∀ x, (x0 x).toNat < 8) :
    val_main_v190 (F := Ideal) x0 x1 x2 x3 x4 x5 = fun y : S56320x1024.Idx => moe x0 x1 x2 x3 x4 x5 (y 0) (y 1) := by
  funext y
  exact (congrArg _ (eq_ix2 (n0 := 56320) (n1 := 1024) y)).trans (result x0 x1 x2 x3 x4 x5 h (y 0) (y 1))

end Cert.Reference2Ideal.Read

end
-- ==== Proof.FfnValue.lean ====
/-
What the dense feed-forward's kernel writes at every grid point, and its whole result: a row of either stream through
the modulation, the three matrices and the gated residual.
-/
module

public import proofs.«01_k».proof.Proof.Gen.Kernel3Ideal.Frame
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel3Ideal.Gen

open Idealize.ShloMosaic Idealize.ShloMosaic.TcCoe Idealize.ShloMosaic.Tactic Idealize.SL.Sem
open Idealize.ShloMosaic.Pipeline (Dat)

/-! ## One row -/

/-- One over the root mean square of a row. -/
def rms (x : Fin 1024 → EReal) : EReal :=
  Ideal.rsqrt (Ideal.div (∑ k, x k * x k) (Ideal.ofBits .f32 0x44800000#32) + Ideal.ofBits .f32 0x358637BD#32)

/-- A row normalised, weighted by `g`, scaled by one plus `s` and shifted by `b`. -/
def modu (x g b s : Fin 1024 → EReal) (k : Fin 1024) : EReal :=
  x k * rms x * (g k * (Ideal.ofBits .f32 0x3F800000#32 + s k)) + b k

/-- One inner value: the gated product of a row with one column of each of the two first matrices. -/
def hid (x a b : Fin 1024 → EReal) : EReal :=
  (∑ k, x k * a k) * Ideal.logistic (∑ k, x k * a k) * ∑ k, x k * b k

/-- One element of the result: the row's own element and, by the gate `e`, its element of the three matrices' product. -/
def layer (x g b s e : Fin 1024 → EReal) (w1 w3 : Fin 1024 → Fin 2816 → EReal) (w2 : Fin 2816 → Fin 1024 → EReal) (n : Fin 1024) : EReal :=
  x n + e n * ∑ f, hid (modu x g b s) (fun k => w1 k f) (fun k => w3 k f) * w2 f n

/-! ## The body's values -/

theorem pay3_apply (i : grid0.Coords) (v1 v2 : Vec Ideal S512x1024 .f32) (v4 : Vec Ideal S1x1024 .f32) (v5 v7 : Vec Ideal S1x1x1x1024 .f32)
    (w1 w3 : Vec Ideal S1024x2816 .bf16) (r : Fin 512) (f : Fin 2816) :
    k0_pay3 i v1 v2 v4 v5 v7 w1 w3 (ix2 r f)
      = hid (modu (fun k => k0_pay2 i v1 v2 (ix2 r k)) (fun k => v4 (ix2 0 k)) (fun k => v7 (ix4 0 0 0 k)) (fun k => v5 (ix4 0 0 0 k)))
          (fun k => w1 (ix2 k f)) (fun k => w3 (ix2 k f)) := by
  unfold hid modu rms
  pointwise [k0_pay3]

theorem pay1_apply (x : Vec Ideal S512x1024 .f32) (h : FVec Ideal S512x2816 .f32) (w2 : Vec Ideal S2816x1024 .bf16) (v : Vec Ideal S1x1x1x1024 .f32)
    (r : Fin 512) (n : Fin 1024) :
    k0_pay1 x h w2 v (ix2 r n) = x (ix2 r n) + v (ix4 0 0 0 n) * ∑ f, h (ix2 r f) * w2 (ix2 f n) := by
  pointwise [k0_pay1]

theorem pay2_eq (i : grid0.Coords) (v1 v2 : Vec Ideal S512x1024 .f32) : k0_pay2 i v1 v2 = if (i 0).val < 16 then v1 else v2 := by
  have h : ∀ a : Fin 48, Scalar.cmpi .slt (BitVec.ofNat 32 a.val) 16#32 = if a.val < 16 then 1#1 else 0#1 := by decide +kernel
  show Scalar.select (Scalar.cmpi .slt (BitVec.ofNat 32 (i 0).val) 16#32) v1 v2 = _
  rw [h (i 0)]
  by_cases hi : (i 0).val < 16
  · rw [if_pos hi, if_pos hi]; rfl
  · rw [if_neg hi, if_neg hi]; rfl

/-- A load of row `j` of the six modulation rows. -/
theorem ld_row (X : Vec Ideal S1x1x6x1024 .f32) (j : Fin 6) (inb : ∀ a, (![0, 0, j.val, 0] : Fin 4 → Nat) a + S1x1x1x1024.size a ≤ S1x1x6x1024.size a) (k : Fin 1024) :
    View.ld X (Rect.unit (s := S1x1x6x1024) ![0, 0, j.val, 0] S1x1x1x1024.size inb) (ix4 0 0 0 k) = X (ix4 0 0 j k) := by
  refine congrArg X (funext fun a => Fin.ext ?_)
  match a with
  | ⟨0, _⟩ => rfl
  | ⟨1, _⟩ => rfl
  | ⟨2, _⟩ => show j.val + 1 * 0 = j.val; omega
  | ⟨3, _⟩ => show 0 + 1 * k.val = k.val; omega

/-- What the body leaves in the output's block, by elements. -/
theorem out_apply (i : grid0.Coords) (x0 x1 : Vec Ideal S512x1024 .f32) (x2 : Vec Ideal S1x1x6x1024 .f32) (x3 : Vec Ideal S1x1024 .f32)
    (x4 x5 : Vec Ideal S1024x2816 .bf16) (x6 : Vec Ideal S2816x1024 .bf16) (r : Fin 512) (n : Fin 1024) :
    out0_7 i x0 x1 x2 x3 x4 x5 x6 (ix2 r n)
      = layer (fun k => (if (i 0).val < 16 then x0 else x1) (ix2 r k)) (fun k => x3 (ix2 0 k)) (fun k => x2 (ix4 0 0 3 k)) (fun k => x2 (ix4 0 0 4 k))
          (fun k => x2 (ix4 0 0 5 k)) (fun k f => x4 (ix2 k f)) (fun k f => x5 (ix2 k f)) (fun f n => x6 (ix2 f n)) n := by
  have hz : (![0, 0] : Fin 2 → Nat) = fun _ => 0 := funext fun a => by fin_cases a <;> rfl
  have e0 : View.ld x0 r0_0 = x0 := View.ld_unit_zero hz _ _
  have e1 : View.ld x1 r0_0 = x1 := View.ld_unit_zero hz _ _
  have e3 : View.ld x3 r0_1 = x3 := View.ld_unit_zero hz _ _
  have e4 : View.ld x4 r0_4 = x4 := View.ld_unit_zero hz _ _
  have e5 : View.ld x5 r0_4 = x5 := View.ld_unit_zero hz _ _
  have e6 : View.ld x6 r0_5 = x6 := View.ld_unit_zero hz _ _
  have s3 : (fun k => View.ld x2 r0_3 (ix4 0 0 0 k)) = fun k : Fin 1024 => x2 (ix4 0 0 3 k) := funext fun k => ld_row x2 3 _ k
  have s4 : (fun k => View.ld x2 r0_2 (ix4 0 0 0 k)) = fun k : Fin 1024 => x2 (ix4 0 0 4 k) := funext fun k => ld_row x2 4 _ k
  have s5 : View.ld x2 r0_6 (ix4 0 0 0 n) = x2 (ix4 0 0 5 n) := ld_row x2 5 _ n
  unfold out0_7
  rw [View.canon_unit_zero hz, e0, e1, e3, e4, e5, e6, pay1_apply, s5]
  simp only [pay3_apply]
  rw [s3, s4, pay2_eq]
  rfl

/-! ## The blocks at a point -/

variable (m : (ℓ : Loc nD τ sig) → Buf (Elt Ideal) ℓ)

theorem N0 : cfg0.N = 48 := (by decide +kernel : grid0.N = 48)
theorem crd (t : Fin cfg0.N) : (grid0.coords t 0).val = t.val :=
  (by decide +kernel : ∀ t : Fin grid0.N, (grid0.coords t 0).val = t.val) t

theorem index0 (t : Fin cfg0.N) : (cfg0.win (0 : Fin 8)).index t = ![min t.val 15, 0] :=
  (by decide +kernel : ∀ t : Fin grid0.N, cc0_transform_0 (grid0.coords t) = ![min t.val 15, 0]) t
theorem index1 (t : Fin cfg0.N) : (cfg0.win (1 : Fin 8)).index t = ![t.val - 16, 0] :=
  (by decide +kernel : ∀ t : Fin grid0.N, cc0_transform_1 (grid0.coords t) = ![t.val - 16, 0]) t
theorem index2 (t : Fin cfg0.N) : (cfg0.win (2 : Fin 8)).index t = ![0, if t.val < 16 then 4 else (t.val - 16) / 8, 0, 0] :=
  (by decide +kernel : ∀ t : Fin grid0.N, cc0_transform_2 (grid0.coords t) = ![0, if t.val < 16 then 4 else (t.val - 16) / 8, 0, 0]) t
theorem index7 (t : Fin cfg0.N) : (cfg0.win (7 : Fin 8)).index t = ![t.val, 0] :=
  (by decide +kernel : ∀ t : Fin grid0.N, cc0_transform_7 (grid0.coords t) = ![t.val, 0]) t

theorem blk0 (c : Dev nD) (t : Fin cfg0.N) (h : t.val < 16) (r : Fin 512) (k : Fin 1024) :
    iblk m c (0 : Fin 8) t (ix2 r k) = m ((c : Thread nD τ).loc main_arg0) (ix2 ⟨t.val * 512 + r.val, by omega⟩ k) := by
  refine congrArg (m ((c : Thread nD τ).loc main_arg0)) (funext fun a => Fin.ext ?_)
  refine (Pipeline.Window.rect_emb_val (cfg0.win (0 : Fin 8)) t (ix2 r k) a).trans ?_
  rw [index0 t]
  match a with
  | ⟨0, _⟩ => show min t.val 15 * 512 + r.val = t.val * 512 + r.val; rw [Nat.min_eq_left (by omega)]
  | ⟨1, _⟩ => show 0 * 1024 + k.val = k.val; omega
theorem blk1 (c : Dev nD) (t : Fin cfg0.N) (i : Fin 32) (hi : t.val - 16 = i.val) (r : Fin 512) (k : Fin 1024) :
    iblk m c (1 : Fin 8) t (ix2 r k) = m ((c : Thread nD τ).loc main_arg1) (ix2 ⟨i.val * 512 + r.val, by omega⟩ k) := by
  refine congrArg (m ((c : Thread nD τ).loc main_arg1)) (funext fun a => Fin.ext ?_)
  refine (Pipeline.Window.rect_emb_val (cfg0.win (1 : Fin 8)) t (ix2 r k) a).trans ?_
  rw [index1 t]
  match a with
  | ⟨0, _⟩ => show (t.val - 16) * 512 + r.val = i.val * 512 + r.val; rw [hi]
  | ⟨1, _⟩ => show 0 * 1024 + k.val = k.val; omega
theorem blk2 (c : Dev nD) (t : Fin cfg0.N) (i : Fin 8) (hi : (if t.val < 16 then 4 else (t.val - 16) / 8) = i.val) (j : Fin 6) (k : Fin 1024) :
    iblk m c (2 : Fin 8) t (ix4 0 0 j k) = m ((c : Thread nD τ).loc main_arg2) (ix4 0 i j k) := by
  refine congrArg (m ((c : Thread nD τ).loc main_arg2)) (funext fun a => Fin.ext ?_)
  refine (Pipeline.Window.rect_emb_val (cfg0.win (2 : Fin 8)) t (ix4 0 0 j k) a).trans ?_
  rw [index2 t, hi]
  match a with
  | ⟨0, _⟩ => rfl
  | ⟨1, _⟩ => show i.val * 1 + 0 = i.val; omega
  | ⟨2, _⟩ => show 0 * 6 + j.val = j.val; omega
  | ⟨3, _⟩ => show 0 * 1024 + k.val = k.val; omega
theorem blk3 (c : Dev nD) (t : Fin cfg0.N) (a : Fin 1) (b : Fin 1024) :
    iblk m c (3 : Fin 8) t (ix2 a b) = m ((c : Thread nD τ).loc main_arg3) (ix2 a b) := by
  refine congrArg (m ((c : Thread nD τ).loc main_arg3)) (funext fun x => Fin.ext ?_)
  refine (Pipeline.Window.rect_emb_val (cfg0.win (3 : Fin 8)) t (ix2 a b) x).trans ?_
  match x with
  | ⟨0, _⟩ => show 0 * 1 + a.val = a.val; omega
  | ⟨1, _⟩ => show 0 * 1024 + b.val = b.val; omega
theorem blk4 (c : Dev nD) (t : Fin cfg0.N) (a : Fin 1024) (b : Fin 2816) :
    iblk m c (4 : Fin 8) t (ix2 a b) = m ((c : Thread nD τ).loc main_arg4) (ix2 a b) := by
  refine congrArg (m ((c : Thread nD τ).loc main_arg4)) (funext fun x => Fin.ext ?_)
  refine (Pipeline.Window.rect_emb_val (cfg0.win (4 : Fin 8)) t (ix2 a b) x).trans ?_
  match x with
  | ⟨0, _⟩ => show 0 * 1024 + a.val = a.val; omega
  | ⟨1, _⟩ => show 0 * 2816 + b.val = b.val; omega
theorem blk5 (c : Dev nD) (t : Fin cfg0.N) (a : Fin 1024) (b : Fin 2816) :
    iblk m c (5 : Fin 8) t (ix2 a b) = m ((c : Thread nD τ).loc main_arg5) (ix2 a b) := by
  refine congrArg (m ((c : Thread nD τ).loc main_arg5)) (funext fun x => Fin.ext ?_)
  refine (Pipeline.Window.rect_emb_val (cfg0.win (5 : Fin 8)) t (ix2 a b) x).trans ?_
  match x with
  | ⟨0, _⟩ => show 0 * 1024 + a.val = a.val; omega
  | ⟨1, _⟩ => show 0 * 2816 + b.val = b.val; omega
theorem blk6 (c : Dev nD) (t : Fin cfg0.N) (a : Fin 2816) (b : Fin 1024) :
    iblk m c (6 : Fin 8) t (ix2 a b) = m ((c : Thread nD τ).loc main_arg6) (ix2 a b) := by
  refine congrArg (m ((c : Thread nD τ).loc main_arg6)) (funext fun x => Fin.ext ?_)
  refine (Pipeline.Window.rect_emb_val (cfg0.win (6 : Fin 8)) t (ix2 a b) x).trans ?_
  match x with
  | ⟨0, _⟩ => show 0 * 2816 + a.val = a.val; omega
  | ⟨1, _⟩ => show 0 * 1024 + b.val = b.val; omega

/-! ## The whole result -/

/-- The modulation row of a token: the context's is the fifth, a latent sequence's its own. -/
def mrow (R : Fin 24576) : Fin 8 := if R.val < 8192 then 4 else ⟨(R.val - 8192) / 4096, by omega⟩

/-- One element of the result: the token's row, from the stream it is in, through the layer. -/
def dense (xc : S8192x1024.Idx → EReal) (xl : S16384x1024.Idx → EReal) (md : S2x8x6x1024.Idx → EReal) (g : S1x1024.Idx → EReal)
    (w1 w3 : S1024x2816.Idx → EReal) (w2 : S2816x1024.Idx → EReal) (R : Fin 24576) (n : Fin 1024) : EReal :=
  layer (fun k => if h : R.val < 8192 then xc (ix2 ⟨R.val, h⟩ k) else xl (ix2 ⟨R.val - 8192, by omega⟩ k)) (fun k => g (ix2 0 k))
    (fun k => md (ix4 0 (mrow R) 3 k)) (fun k => md (ix4 0 (mrow R) 4 k)) (fun k => md (ix4 0 (mrow R) 5 k))
    (fun k f => w1 (ix2 k f)) (fun k f => w3 (ix2 k f)) (fun f n => w2 (ix2 f n)) n

/-- The output's block after the body at a point, by elements. -/
theorem point (c : Dev nD) (t : Fin cfg0.N) (i : Fin 48) (hi : t.val = i.val) (r : Fin 512) (n : Fin 1024) :
    out0_7 (grid0.coords t) (iblk m c (0 : Fin 8) t) (iblk m c (1 : Fin 8) t) (iblk m c (2 : Fin 8) t) (iblk m c (3 : Fin 8) t) (iblk m c (4 : Fin 8) t) (iblk m c (5 : Fin 8) t) (iblk m c (6 : Fin 8) t) (ix2 r n)
      = dense (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) ⟨i.val * 512 + r.val, by omega⟩ n := by
  have hr : (if t.val < 16 then 4 else (t.val - 16) / 8) = (mrow ⟨i.val * 512 + r.val, by omega⟩).val := by
    unfold mrow
    by_cases h : t.val < 16
    · rw [if_pos h, if_pos (show i.val * 512 + r.val < 8192 by omega)]; rfl
    · rw [if_neg h, if_neg (show ¬i.val * 512 + r.val < 8192 by omega)]
      show (t.val - 16) / 8 = (i.val * 512 + r.val - 8192) / 4096
      omega
  refine (out_apply _ _ _ _ _ _ _ _ r n).trans ?_
  unfold dense
  refine congrFun (congr (congr (congr (congr (congr (congr (congr (congrArg layer (funext fun k => ?_)) (funext fun k => ?_)) (funext fun k => ?_)) (funext fun k => ?_))
    (funext fun k => ?_)) (funext fun k => funext fun f => ?_)) (funext fun k => funext fun f => ?_)) (funext fun f => funext fun k => ?_)) n
  · rw [crd t]
    by_cases h : t.val < 16
    · rw [if_pos h, dif_pos (show i.val * 512 + r.val < 8192 by omega)]
      refine (blk0 m c t h r k).trans (congrArg (fun a => m ((c : Thread nD τ).loc main_arg0) (ix2 a k)) (Fin.ext ?_))
      show t.val * 512 + r.val = i.val * 512 + r.val; omega
    · rw [if_neg h, dif_neg (show ¬i.val * 512 + r.val < 8192 by omega)]
      refine (blk1 m c t ⟨i.val - 16, by omega⟩ (by show t.val - 16 = i.val - 16; omega) r k).trans (congrArg (fun a => m ((c : Thread nD τ).loc main_arg1) (ix2 a k)) (Fin.ext ?_))
      show (i.val - 16) * 512 + r.val = i.val * 512 + r.val - 8192; omega
  · exact blk3 m c t 0 k
  · exact blk2 m c t _ hr 3 k
  · exact blk2 m c t _ hr 4 k
  · exact blk2 m c t _ hr 5 k
  · exact blk4 m c t k f
  · exact blk5 m c t k f
  · exact blk6 m c t f k

/-- The output's blocks tile its array. -/
theorem covers7 : (cfg0.win (7 : Fin 8)).Covers := by
  refine Pipeline.Window.covers_of_index_surj _ rfl (fun a => ?_) fun β => ?_
  · match a with
    | ⟨0, _⟩ => show 0 < 512; decide
    | ⟨1, _⟩ => show 0 < 1024; decide
  · have h0 : (β (0 : Fin 2)).val < (24576 + 512 - 1) / 512 := (β (0 : Fin 2)).isLt
    have h1 : (β (1 : Fin 2)).val < (1024 + 1024 - 1) / 1024 := (β (1 : Fin 2)).isLt
    refine ⟨⟨(β (0 : Fin 2)).val, ?_⟩, fun a => ?_⟩
    · rw [show (grid0.N) = 48 from by decide +kernel]; omega
    · rw [index7]
      match a with
      | ⟨0, _⟩ => rfl
      | ⟨1, _⟩ => show 0 = (β (1 : Fin 2)).val; omega

/-- The output's array at the end. -/
theorem final7 (c : Dev nD) : (dats m 0 c).arrAt (7 : Fin 8) cfg0.N
    = fun y : S24576x1024.Idx => dense (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (y 0) (y 1) := by
  refine (dats m 0 c).arrAt_eq_of_covers (7 : Fin 8) _ covers7 fun t hf y => ?_
  rw [after0_7, cast_eq]
  have hN : t.val < 48 := N0 ▸ t.isLt
  have hy : (y : S512x1024.Idx) = ix2 (y 0) (y 1) := eq_ix2 (n0 := 512) (n1 := 1024) y
  refine (congrArg _ hy).trans ((point m c t ⟨t.val, hN⟩ rfl (y 0) (y 1)).trans ?_)
  have h := Pipeline.Window.rect_emb_val (cfg0.win (7 : Fin 8)) t y
  rw [index7 t] at h
  refine congrArg₂ (dense _ _ _ _ _ _ _) (Fin.ext ?_) (Fin.ext ?_)
  · exact (h (0 : Fin 2)).symm
  · refine Eq.trans ?_ (h (1 : Fin 2)).symm
    show (y 1).val = 0 * 1024 + (y 1).val; omega

end Cert.Kernel3Ideal.Gen

end
-- ==== Proof.FfnRef.lean ====
/-
The dense feed-forward's reference program read at an element: for each of the two streams the modulated row, its inner
values and the gated residual, and then the two streams one after the other.
-/
module

public import proofs.«01_k».proof.Proof.FfnValue
public import proofs.«01_k».proof.Proof.Gen.Reference3Ideal.Read

@[expose] public section

set_option maxRecDepth 16384

noncomputable section

namespace Cert.Reference3Ideal.Read

open Cert.Reference3Ideal Cert.Reference3Ideal.Gen Idealize.ShloMosaic Idealize.ShloMosaic.TcCoe
open Cert.Kernel3Ideal.Gen (rms modu hid layer dense mrow)

variable (x0 : FVec Ideal S8192x1024 .f32) (x1 : FVec Ideal S16384x1024 .f32) (x2 : FVec Ideal S2x8x6x1024 .f32) (x3 : FVec Ideal S1x1024 .f32)
  (x4 x5 : FVec Ideal S1024x2816 .bf16) (x6 : FVec Ideal S2816x1024 .bf16)

theorem ofBits_one : Ideal.ofBits .f32 0x3F800000#32 = 1 := by
  have h : Ideal.ofBits .f32 0x3F800000#32 = ((8388608 : ℝ) : EReal) * (((2 ^ 23)⁻¹ : ℝ) : EReal) := by simp [Ideal.ofBits, Ideal.ieee]
  rw [h, ← EReal.coe_mul]; norm_num
theorem ofBits_zero : Ideal.ofBits .f32 0x00000000#32 = 0 := by
  simp [Ideal.ofBits, Ideal.ieee]

theorem silu (s : EReal) :
    Ideal.div (Ideal.ofBits .f32 0x3F800000#32) (Ideal.ofBits .f32 0x3F800000#32 + Ideal.exp (-s)) = Ideal.logistic s := by
  rw [ofBits_one]; rfl

/-- The reference weights first and scales then; the order does not matter. -/
theorem modu_eq (x g b s : Fin 1024 → EReal) (k : Fin 1024) :
    x k * rms x * g k * (Ideal.ofBits .f32 0x3F800000#32 + s k) + b k = modu x g b s k := by
  unfold modu; rw [mul_assoc (x k * rms x)]

/-! ## The context -/

theorem rowC (r : Fin 8192) (k : Fin 1024) : val_main_v0 (F := Ideal) x0 (ix3 0 r k) = x0 (ix2 r k) := by
  pointwise [val_main_v0]
theorem scaleC (r : Fin 8192) (k : Fin 1024) : val_main_v22 (F := Ideal) x2 (ix3 0 r k) = Ideal.ofBits .f32 0x3F800000#32 + x2 (ix4 0 4 4 k) := by
  pointwise [val_main_v22, val_main_v21, val_main_v20, val_main_cst_2, val_main_v19, val_main_v18, val_main_v17, val_main_v2, val_main_v1]
theorem shiftC (r : Fin 8192) (k : Fin 1024) : val_main_v27 (F := Ideal) x2 (ix3 0 r k) = x2 (ix4 0 4 3 k) := by
  pointwise [val_main_v27, val_main_v26, val_main_v25, val_main_v24, val_main_v2, val_main_v1]
theorem gateC (r : Fin 8192) (k : Fin 1024) : val_main_v40 (F := Ideal) x2 (ix3 0 r k) = x2 (ix4 0 4 5 k) := by
  pointwise [val_main_v40, val_main_v31, val_main_v30, val_main_v29, val_main_v2, val_main_v1]
theorem weightC (r : Fin 8192) (k : Fin 1024) : val_main_v15 (F := Ideal) x3 (ix3 0 r k) = x3 (ix2 0 k) := by
  pointwise [val_main_v15, val_main_v14, val_main_v13]
theorem squareC (r : Fin 8192) : val_main_v4 (F := Ideal) x0 (ix2 0 r) = ∑ k, x0 (ix2 r k) * x0 (ix2 r k) := by
  rw [val_main_v4_apply, val_main_cst_apply]
  refine (congrArg (· + _) ofBits_zero).trans ((zero_add _).trans (Finset.sum_congr rfl fun k _ => ?_))
  rw [val_main_v3_apply, show val_main_v0 (F := Ideal) x0 (idx_main_v4 (ix2 0 r) k) = x0 (ix2 r k) from (congrArg _ (eq_ix3 (n0 := 1) (n1 := 8192) (n2 := 1024) _)).trans (rowC x0 r k)]
  rfl
theorem normC (r : Fin 8192) (k : Fin 1024) : val_main_v11 (F := Ideal) x0 (ix3 0 r k) = rms (fun k => x0 (ix2 r k)) := by
  rw [val_main_v11_apply, val_main_v10_apply, val_main_v9_apply, val_main_v7_apply, val_main_v5_apply, val_main_v6_apply, val_main_v8_apply, val_main_cst_0_apply, val_main_cst_1_apply]
  refine congrArg (fun y => Ideal.rsqrt (Ideal.div y (Ideal.ofBits .f32 0x44800000#32) + Ideal.ofBits .f32 0x358637BD#32)) ?_
  exact (congrArg _ (eq_ix2 (n0 := 1) (n1 := 8192) _)).trans (squareC x0 r)
theorem modulatedC (r : Fin 8192) (k : Fin 1024) : val_main_v28 (F := Ideal) x0 x2 x3 (ix3 0 r k)
    = modu (fun k => x0 (ix2 r k)) (fun k => x3 (ix2 0 k)) (fun k => x2 (ix4 0 4 3 k)) (fun k => x2 (ix4 0 4 4 k)) k := by
  rw [val_main_v28_apply, val_main_v23_apply, val_main_v16_apply, val_main_v12_apply, rowC, normC, weightC, scaleC, shiftC]
  exact modu_eq (fun k => x0 (ix2 r k)) (fun k => x3 (ix2 0 k)) (fun k => x2 (ix4 0 4 3 k)) (fun k => x2 (ix4 0 4 4 k)) k
theorem firstC (r : Fin 8192) (f : Fin 2816) : val_main_v33 (F := Ideal) x0 x2 x3 x4 (ix3 0 r f)
    = ∑ k, modu (fun k => x0 (ix2 r k)) (fun k => x3 (ix2 0 k)) (fun k => x2 (ix4 0 4 3 k)) (fun k => x2 (ix4 0 4 4 k)) k * x4 (ix2 k f) := by
  refine (val_main_v33_apply x0 x2 x3 x4 _).trans (Finset.sum_congr rfl fun k _ => ?_)
  exact congrArg₂ (· * ·) ((congrArg _ (eq_ix3 (n0 := 1) (n1 := 8192) (n2 := 1024) _)).trans (modulatedC x0 x2 x3 r k))
    (congrArg x4 (eq_ix2 (n0 := 1024) (n1 := 2816) _))
theorem thirdC (r : Fin 8192) (f : Fin 2816) : val_main_v36 (F := Ideal) x0 x2 x3 x5 (ix3 0 r f)
    = ∑ k, modu (fun k => x0 (ix2 r k)) (fun k => x3 (ix2 0 k)) (fun k => x2 (ix4 0 4 3 k)) (fun k => x2 (ix4 0 4 4 k)) k * x5 (ix2 k f) := by
  refine (val_main_v36_apply x0 x2 x3 x5 _).trans (Finset.sum_congr rfl fun k _ => ?_)
  exact congrArg₂ (· * ·) ((congrArg _ (eq_ix3 (n0 := 1) (n1 := 8192) (n2 := 1024) _)).trans (modulatedC x0 x2 x3 r k))
    (congrArg x5 (eq_ix2 (n0 := 1024) (n1 := 2816) _))
theorem innerC (r : Fin 8192) (f : Fin 2816) : val_main_v37 (F := Ideal) x0 x2 x3 x4 x5 (ix3 0 r f)
    = hid (modu (fun k => x0 (ix2 r k)) (fun k => x3 (ix2 0 k)) (fun k => x2 (ix4 0 4 3 k)) (fun k => x2 (ix4 0 4 4 k))) (fun k => x4 (ix2 k f)) (fun k => x5 (ix2 k f)) := by
  rw [val_main_v37_apply, val_main_v34_apply, val_main_call0_v5_apply, val_main_call0_v3_apply, val_main_call0_v1_apply, val_main_call0_v0_apply, val_main_call0_v4_apply, val_main_call0_v2_apply, firstC, thirdC]
  exact congrArg (fun y => (∑ k, modu (fun k => x0 (ix2 r k)) (fun k => x3 (ix2 0 k)) (fun k => x2 (ix4 0 4 3 k)) (fun k => x2 (ix4 0 4 4 k)) k * x4 (ix2 k f)) * y * ∑ k, modu (fun k => x0 (ix2 r k)) (fun k => x3 (ix2 0 k)) (fun k => x2 (ix4 0 4 3 k)) (fun k => x2 (ix4 0 4 4 k)) k * x5 (ix2 k f)) (silu _)
theorem productC (r : Fin 8192) (n : Fin 1024) : val_main_v39 (F := Ideal) x0 x2 x3 x4 x5 x6 (ix3 0 r n)
    = ∑ f, hid (modu (fun k => x0 (ix2 r k)) (fun k => x3 (ix2 0 k)) (fun k => x2 (ix4 0 4 3 k)) (fun k => x2 (ix4 0 4 4 k))) (fun k => x4 (ix2 k f)) (fun k => x5 (ix2 k f)) * x6 (ix2 f n) := by
  refine (val_main_v39_apply x0 x2 x3 x4 x5 x6 _).trans (Finset.sum_congr rfl fun f _ => ?_)
  exact congrArg₂ (· * ·) ((congrArg _ (eq_ix3 (n0 := 1) (n1 := 8192) (n2 := 2816) _)).trans (innerC x0 x2 x3 x4 x5 r f))
    (congrArg x6 (eq_ix2 (n0 := 2816) (n1 := 1024) _))
theorem layerC (r : Fin 8192) (n : Fin 1024) : val_main_v42 (F := Ideal) x0 x2 x3 x4 x5 x6 (ix3 0 r n)
    = layer (fun k => x0 (ix2 r k)) (fun k => x3 (ix2 0 k)) (fun k => x2 (ix4 0 4 3 k)) (fun k => x2 (ix4 0 4 4 k)) (fun k => x2 (ix4 0 4 5 k)) (fun k f => x4 (ix2 k f)) (fun k f => x5 (ix2 k f)) (fun f n => x6 (ix2 f n)) n := by
  rw [val_main_v42_apply, val_main_v41_apply, rowC, gateC, productC]
  rfl

/-! ## The latents -/

theorem rowL (q : Fin 4) (r : Fin 4096) (k : Fin 1024) : val_main_v43 (F := Ideal) x1 (ix3 q r k) = x1 (ix2 ⟨q.val * 4096 + r.val, by omega⟩ k) := by
  pointwise [val_main_v43]
theorem scaleL (q : Fin 4) (r : Fin 4096) (k : Fin 1024) : val_main_v65 (F := Ideal) x2 (ix3 q r k) = Ideal.ofBits .f32 0x3F800000#32 + x2 (ix4 0 ⟨q.val, by omega⟩ 4 k) := by
  pointwise [val_main_v65, val_main_v64, val_main_v63, val_main_cst_6, val_main_v62, val_main_v61, val_main_v60, val_main_v45, val_main_v44]
theorem shiftL (q : Fin 4) (r : Fin 4096) (k : Fin 1024) : val_main_v70 (F := Ideal) x2 (ix3 q r k) = x2 (ix4 0 ⟨q.val, by omega⟩ 3 k) := by
  pointwise [val_main_v70, val_main_v69, val_main_v68, val_main_v67, val_main_v45, val_main_v44]
theorem gateL (q : Fin 4) (r : Fin 4096) (k : Fin 1024) : val_main_v83 (F := Ideal) x2 (ix3 q r k) = x2 (ix4 0 ⟨q.val, by omega⟩ 5 k) := by
  pointwise [val_main_v83, val_main_v74, val_main_v73, val_main_v72, val_main_v45, val_main_v44]
theorem weightL (q : Fin 4) (r : Fin 4096) (k : Fin 1024) : val_main_v58 (F := Ideal) x3 (ix3 q r k) = x3 (ix2 0 k) := by
  pointwise [val_main_v58, val_main_v57, val_main_v56]
theorem squareL (q : Fin 4) (r : Fin 4096) : val_main_v47 (F := Ideal) x1 (ix2 q r) = ∑ k, x1 (ix2 ⟨q.val * 4096 + r.val, by omega⟩ k) * x1 (ix2 ⟨q.val * 4096 + r.val, by omega⟩ k) := by
  rw [val_main_v47_apply, val_main_cst_3_apply]
  refine (congrArg (· + _) ofBits_zero).trans ((zero_add _).trans (Finset.sum_congr rfl fun k _ => ?_))
  rw [val_main_v46_apply, show val_main_v43 (F := Ideal) x1 (idx_main_v47 (ix2 q r) k) = x1 (ix2 ⟨q.val * 4096 + r.val, by omega⟩ k) from (congrArg _ (eq_ix3 (n0 := 4) (n1 := 4096) (n2 := 1024) _)).trans (rowL x1 q r k)]
  rfl
theorem normL (q : Fin 4) (r : Fin 4096) (k : Fin 1024) : val_main_v54 (F := Ideal) x1 (ix3 q r k) = rms (fun k => x1 (ix2 ⟨q.val * 4096 + r.val, by omega⟩ k)) := by
  rw [val_main_v54_apply, val_main_v53_apply, val_main_v52_apply, val_main_v50_apply, val_main_v48_apply, val_main_v49_apply, val_main_v51_apply, val_main_cst_4_apply, val_main_cst_5_apply]
  refine congrArg (fun y => Ideal.rsqrt (Ideal.div y (Ideal.ofBits .f32 0x44800000#32) + Ideal.ofBits .f32 0x358637BD#32)) ?_
  exact (congrArg _ (eq_ix2 (n0 := 4) (n1 := 4096) _)).trans (squareL x1 q r)
theorem modulatedL (q : Fin 4) (r : Fin 4096) (k : Fin 1024) : val_main_v71 (F := Ideal) x1 x2 x3 (ix3 q r k)
    = modu (fun k => x1 (ix2 ⟨q.val * 4096 + r.val, by omega⟩ k)) (fun k => x3 (ix2 0 k)) (fun k => x2 (ix4 0 ⟨q.val, by omega⟩ 3 k)) (fun k => x2 (ix4 0 ⟨q.val, by omega⟩ 4 k)) k := by
  rw [val_main_v71_apply, val_main_v66_apply, val_main_v59_apply, val_main_v55_apply, rowL, normL, weightL, scaleL, shiftL]
  exact modu_eq (fun k => x1 (ix2 ⟨q.val * 4096 + r.val, by omega⟩ k)) (fun k => x3 (ix2 0 k)) (fun k => x2 (ix4 0 ⟨q.val, by omega⟩ 3 k)) (fun k => x2 (ix4 0 ⟨q.val, by omega⟩ 4 k)) k
theorem firstL (q : Fin 4) (r : Fin 4096) (f : Fin 2816) : val_main_v76 (F := Ideal) x1 x2 x3 x4 (ix3 q r f)
    = ∑ k, modu (fun k => x1 (ix2 ⟨q.val * 4096 + r.val, by omega⟩ k)) (fun k => x3 (ix2 0 k)) (fun k => x2 (ix4 0 ⟨q.val, by omega⟩ 3 k)) (fun k => x2 (ix4 0 ⟨q.val, by omega⟩ 4 k)) k * x4 (ix2 k f) := by
  refine (val_main_v76_apply x1 x2 x3 x4 _).trans (Finset.sum_congr rfl fun k _ => ?_)
  exact congrArg₂ (· * ·) ((congrArg _ (eq_ix3 (n0 := 4) (n1 := 4096) (n2 := 1024) _)).trans (modulatedL x1 x2 x3 q r k))
    (congrArg x4 (eq_ix2 (n0 := 1024) (n1 := 2816) _))
theorem thirdL (q : Fin 4) (r : Fin 4096) (f : Fin 2816) : val_main_v79 (F := Ideal) x1 x2 x3 x5 (ix3 q r f)
    = ∑ k, modu (fun k => x1 (ix2 ⟨q.val * 4096 + r.val, by omega⟩ k)) (fun k => x3 (ix2 0 k)) (fun k => x2 (ix4 0 ⟨q.val, by omega⟩ 3 k)) (fun k => x2 (ix4 0 ⟨q.val, by omega⟩ 4 k)) k * x5 (ix2 k f) := by
  refine (val_main_v79_apply x1 x2 x3 x5 _).trans (Finset.sum_congr rfl fun k _ => ?_)
  exact congrArg₂ (· * ·) ((congrArg _ (eq_ix3 (n0 := 4) (n1 := 4096) (n2 := 1024) _)).trans (modulatedL x1 x2 x3 q r k))
    (congrArg x5 (eq_ix2 (n0 := 1024) (n1 := 2816) _))
theorem innerL (q : Fin 4) (r : Fin 4096) (f : Fin 2816) : val_main_v80 (F := Ideal) x1 x2 x3 x4 x5 (ix3 q r f)
    = hid (modu (fun k => x1 (ix2 ⟨q.val * 4096 + r.val, by omega⟩ k)) (fun k => x3 (ix2 0 k)) (fun k => x2 (ix4 0 ⟨q.val, by omega⟩ 3 k)) (fun k => x2 (ix4 0 ⟨q.val, by omega⟩ 4 k))) (fun k => x4 (ix2 k f)) (fun k => x5 (ix2 k f)) := by
  rw [val_main_v80_apply, val_main_v77_apply, val_main_call1_v5_apply, val_main_call1_v3_apply, val_main_call1_v1_apply, val_main_call1_v0_apply, val_main_call1_v4_apply, val_main_call1_v2_apply, firstL, thirdL]
  exact congrArg (fun y => (∑ k, modu (fun k => x1 (ix2 ⟨q.val * 4096 + r.val, by omega⟩ k)) (fun k => x3 (ix2 0 k)) (fun k => x2 (ix4 0 ⟨q.val, by omega⟩ 3 k)) (fun k => x2 (ix4 0 ⟨q.val, by omega⟩ 4 k)) k * x4 (ix2 k f)) * y * ∑ k, modu (fun k => x1 (ix2 ⟨q.val * 4096 + r.val, by omega⟩ k)) (fun k => x3 (ix2 0 k)) (fun k => x2 (ix4 0 ⟨q.val, by omega⟩ 3 k)) (fun k => x2 (ix4 0 ⟨q.val, by omega⟩ 4 k)) k * x5 (ix2 k f)) (silu _)
theorem productL (q : Fin 4) (r : Fin 4096) (n : Fin 1024) : val_main_v82 (F := Ideal) x1 x2 x3 x4 x5 x6 (ix3 q r n)
    = ∑ f, hid (modu (fun k => x1 (ix2 ⟨q.val * 4096 + r.val, by omega⟩ k)) (fun k => x3 (ix2 0 k)) (fun k => x2 (ix4 0 ⟨q.val, by omega⟩ 3 k)) (fun k => x2 (ix4 0 ⟨q.val, by omega⟩ 4 k))) (fun k => x4 (ix2 k f)) (fun k => x5 (ix2 k f)) * x6 (ix2 f n) := by
  refine (val_main_v82_apply x1 x2 x3 x4 x5 x6 _).trans (Finset.sum_congr rfl fun f _ => ?_)
  exact congrArg₂ (· * ·) ((congrArg _ (eq_ix3 (n0 := 4) (n1 := 4096) (n2 := 2816) _)).trans (innerL x1 x2 x3 x4 x5 q r f))
    (congrArg x6 (eq_ix2 (n0 := 2816) (n1 := 1024) _))
theorem layerL (q : Fin 4) (r : Fin 4096) (n : Fin 1024) : val_main_v85 (F := Ideal) x1 x2 x3 x4 x5 x6 (ix3 q r n)
    = layer (fun k => x1 (ix2 ⟨q.val * 4096 + r.val, by omega⟩ k)) (fun k => x3 (ix2 0 k)) (fun k => x2 (ix4 0 ⟨q.val, by omega⟩ 3 k)) (fun k => x2 (ix4 0 ⟨q.val, by omega⟩ 4 k)) (fun k => x2 (ix4 0 ⟨q.val, by omega⟩ 5 k)) (fun k f => x4 (ix2 k f)) (fun k f => x5 (ix2 k f)) (fun f n => x6 (ix2 f n)) n := by
  rw [val_main_v85_apply, val_main_v84_apply, rowL, gateL, productL]
  rfl

/-! ## The whole result -/

theorem result (R : Fin 24576) (n : Fin 1024) : val_main_v88 (F := Ideal) x0 x1 x2 x3 x4 x5 x6 (ix2 R n) = dense x0 x1 x2 x3 x4 x5 x6 R n := by
  unfold val_main_v88 dense
  by_cases h : R.val < 8192
  · have hm : mrow R = 4 := if_pos h
    refine (concatenate_pair_apply_left (s₁ := S8192x1024) (s₂ := S16384x1024) 0 _ _ _ (ix2 R n) rfl (ix2 ⟨R.val, h⟩ n) (fun b => by match b with | ⟨0, _⟩ => rfl | ⟨1, _⟩ => rfl)).trans ?_
    have e : val_main_v86 (F := Ideal) x0 x2 x3 x4 x5 x6 (ix2 ⟨R.val, h⟩ n) = val_main_v42 (F := Ideal) x0 x2 x3 x4 x5 x6 (ix3 0 ⟨R.val, h⟩ n) := by
      pointwise [val_main_v86]
    rw [e, layerC, hm]
    refine congrArg (fun x => layer x _ _ _ _ _ _ _ n) (funext fun k => ?_)
    rw [dif_pos h]
  · have hm : mrow R = ⟨(R.val - 8192) / 4096, by omega⟩ := if_neg h
    refine (concatenate_pair_apply_right (s₁ := S8192x1024) (s₂ := S16384x1024) 0 _ _ _ (ix2 R n) rfl rfl (ix2 ⟨R.val - 8192, by omega⟩ n)
      (fun b hb => by match b with | ⟨0, _⟩ => exact absurd rfl hb | ⟨1, _⟩ => rfl) (by show R.val - 8192 + 8192 = R.val; omega)).trans ?_
    have e : val_main_v87 (F := Ideal) x1 x2 x3 x4 x5 x6 (ix2 ⟨R.val - 8192, by omega⟩ n)
        = val_main_v85 (F := Ideal) x1 x2 x3 x4 x5 x6 (ix3 ⟨(R.val - 8192) / 4096, by omega⟩ ⟨(R.val - 8192) % 4096, by omega⟩ n) := by
      pointwise [val_main_v87]
    rw [e, layerL, hm]
    refine congrArg (fun x => layer x _ _ _ _ _ _ _ n) (funext fun k => ?_)
    rw [dif_neg h]
    exact congrArg (fun a => x1 (ix2 a k)) (Fin.ext (by show (R.val - 8192) / 4096 * 4096 + (R.val - 8192) % 4096 = R.val - 8192; omega))

theorem result_eq : val_main_v88 (F := Ideal) x0 x1 x2 x3 x4 x5 x6 = fun y : S24576x1024.Idx => dense x0 x1 x2 x3 x4 x5 x6 (y 0) (y 1) :=
  funext fun y => (congrArg _ (eq_ix2 (n0 := 24576) (n1 := 1024) y)).trans (result x0 x1 x2 x3 x4 x5 x6 (y 0) (y 1))

end Cert.Reference3Ideal.Read

end
-- ==== Proof.QkvCtxValue.lean ====
/-
What the kernel of the context's queries, keys and values writes at every grid point, and its whole results: a row through the
modulation and the projection and the scale of the queries.
-/
module

public import proofs.«01_k».proof.Proof.Gen.Kernel4Ideal.Frame
public import proofs.«01_k».proof.Proof.FfnValue
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel4Ideal.Gen

open Idealize.ShloMosaic Idealize.ShloMosaic.TcCoe Idealize.ShloMosaic.Tactic Idealize.SL.Sem
open Idealize.ShloMosaic.Pipeline (Dat)
open Cert.Kernel3Ideal.Gen (rms modu)

/-- The scale of the queries, for a softmax in powers of two. -/
def qs : EReal := (((Real.sqrt 64)⁻¹ * (Real.log 2)⁻¹ : ℝ) : EReal)

/-- One element of a row's projection. -/
def proj (x g b s : Fin 1024 → EReal) (w : Fin 1024 → EReal) : EReal := ∑ k, modu x g b s k * w k

/-! ## The body's values -/

theorem dot_apply (v0 : Vec Ideal S512x1024 .f32) (v1 : Vec Ideal S1x1024 .f32) (v2 v4 : Vec Ideal S1x1x1x1024 .f32) (w : Vec Ideal S1024x3072 .bf16)
    (r : Fin 512) (j : Fin 3072) :
    k0_pay2 v0 v1 v2 v4 w (ix2 r j)
      = proj (fun k => v0 (ix2 r k)) (fun k => v1 (ix2 0 k)) (fun k => v4 (ix4 0 0 0 k)) (fun k => v2 (ix4 0 0 0 k)) (fun k => w (ix2 k j)) := by
  unfold proj modu rms
  pointwise [k0_pay2]

/-- A load of row `j` of the six modulation rows. -/
theorem ld_row (X : Vec Ideal S1x1x6x1024 .f32) (j : Fin 6) (inb : ∀ a, (![0, 0, j.val, 0] : Fin 4 → Nat) a + S1x1x1x1024.size a ≤ S1x1x6x1024.size a) (k : Fin 1024) :
    View.ld X (Rect.unit (s := S1x1x6x1024) ![0, 0, j.val, 0] S1x1x1x1024.size inb) (ix4 0 0 0 k) = X (ix4 0 0 j k) := by
  refine congrArg X (funext fun a => Fin.ext ?_)
  match a with
  | ⟨0, _⟩ => rfl
  | ⟨1, _⟩ => rfl
  | ⟨2, _⟩ => show j.val + 1 * 0 = j.val; omega
  | ⟨3, _⟩ => show 0 + 1 * k.val = k.val; omega

theorem zero2 : (![0, 0] : Fin 2 → Nat) = fun _ => 0 := funext fun a => by fin_cases a <;> rfl

/-- The projection of a block, by elements. -/
theorem pr_apply (x0 : Vec Ideal S512x1024 .f32) (x1 : Vec Ideal S1x1x6x1024 .f32) (x2 : Vec Ideal S1x1024 .f32) (x3 : Vec Ideal S1024x3072 .bf16) (r : Fin 512) (j : Fin 3072) :
    k0_pay2 (View.ld x0 r0_0) (View.ld x2 r0_1) (View.ld x1 r0_2) (View.ld x1 r0_3) (View.ld x3 r0_4) (ix2 r j)
      = proj (fun k => x0 (ix2 r k)) (fun k => x2 (ix2 0 k)) (fun k => x1 (ix4 0 0 0 k)) (fun k => x1 (ix4 0 0 1 k)) (fun k => x3 (ix2 k j)) := by
  have e0 : View.ld x0 r0_0 = x0 := View.ld_unit_zero zero2 _ _
  have e2 : View.ld x2 r0_1 = x2 := View.ld_unit_zero zero2 _ _
  have e3 : View.ld x3 r0_4 = x3 := View.ld_unit_zero zero2 _ _
  have s0 : (fun k => View.ld x1 r0_3 (ix4 0 0 0 k)) = fun k : Fin 1024 => x1 (ix4 0 0 0 k) := funext fun k => ld_row x1 0 _ k
  have s1 : (fun k => View.ld x1 r0_2 (ix4 0 0 0 k)) = fun k : Fin 1024 => x1 (ix4 0 0 1 k) := funext fun k => ld_row x1 1 _ k
  rw [e0, e2, e3, dot_apply, s0, s1]

theorem out4_apply (x0 : Vec Ideal S512x1024 .f32) (x1 : Vec Ideal S1x1x6x1024 .f32) (x2 : Vec Ideal S1x1024 .f32) (x3 : Vec Ideal S1024x3072 .bf16) (r : Fin 512) (n : Fin 1024) :
    out0_4 x0 x1 x2 x3 (ix2 r n) = proj (fun k => x0 (ix2 r k)) (fun k => x2 (ix2 0 k)) (fun k => x1 (ix4 0 0 0 k)) (fun k => x1 (ix4 0 0 1 k)) (fun k => x3 (ix2 k ⟨0 + n.val, by omega⟩)) * qs := by
  unfold out0_4
  rw [View.canon_unit_zero zero2]
  unfold k0_pay5
  rw [← pr_apply]
  generalize k0_pay2 (View.ld x0 r0_0) (View.ld x2 r0_1) (View.ld x1 r0_2) (View.ld x1 r0_3) (View.ld x3 r0_4) = y
  pointwise []
  rfl

theorem out5_apply (x0 : Vec Ideal S512x1024 .f32) (x1 : Vec Ideal S1x1x6x1024 .f32) (x2 : Vec Ideal S1x1024 .f32) (x3 : Vec Ideal S1024x3072 .bf16) (r : Fin 512) (n : Fin 1024) :
    out0_5 x0 x1 x2 x3 (ix2 r n) = proj (fun k => x0 (ix2 r k)) (fun k => x2 (ix2 0 k)) (fun k => x1 (ix4 0 0 0 k)) (fun k => x1 (ix4 0 0 1 k)) (fun k => x3 (ix2 k ⟨1024 + n.val, by omega⟩)) := by
  unfold out0_5
  rw [View.canon_unit_zero zero2]
  unfold k0_pay6 k0_pay3
  rw [← pr_apply]
  generalize k0_pay2 (View.ld x0 r0_0) (View.ld x2 r0_1) (View.ld x1 r0_2) (View.ld x1 r0_3) (View.ld x3 r0_4) = y
  pointwise []

theorem out6_apply (x0 : Vec Ideal S512x1024 .f32) (x1 : Vec Ideal S1x1x6x1024 .f32) (x2 : Vec Ideal S1x1024 .f32) (x3 : Vec Ideal S1024x3072 .bf16) (r : Fin 512) (n : Fin 1024) :
    out0_6 x0 x1 x2 x3 (ix2 r n) = proj (fun k => x0 (ix2 r k)) (fun k => x2 (ix2 0 k)) (fun k => x1 (ix4 0 0 0 k)) (fun k => x1 (ix4 0 0 1 k)) (fun k => x3 (ix2 k ⟨2048 + n.val, by omega⟩)) := by
  unfold out0_6
  rw [View.canon_unit_zero zero2]
  unfold k0_pay1 k0_pay7 k0_pay4
  rw [← pr_apply]
  generalize k0_pay2 (View.ld x0 r0_0) (View.ld x2 r0_1) (View.ld x1 r0_2) (View.ld x1 r0_3) (View.ld x3 r0_4) = y
  pointwise []

theorem out7_apply (x0 : Vec Ideal S512x1024 .f32) (x1 : Vec Ideal S1x1x6x1024 .f32) (x2 : Vec Ideal S1x1024 .f32) (x3 : Vec Ideal S1024x3072 .bf16) (r : Fin 512) (n : Fin 1024) :
    out0_7 x0 x1 x2 x3 (ix2 r n) = proj (fun k => x0 (ix2 r k)) (fun k => x2 (ix2 0 k)) (fun k => x1 (ix4 0 0 0 k)) (fun k => x1 (ix4 0 0 1 k)) (fun k => x3 (ix2 k ⟨1024 + n.val, by omega⟩)) := by
  unfold out0_7
  rw [View.canon_unit_zero zero2]
  unfold k0_pay3
  rw [← pr_apply]
  generalize k0_pay2 (View.ld x0 r0_0) (View.ld x2 r0_1) (View.ld x1 r0_2) (View.ld x1 r0_3) (View.ld x3 r0_4) = y
  pointwise []

theorem out8_apply (x0 : Vec Ideal S512x1024 .f32) (x1 : Vec Ideal S1x1x6x1024 .f32) (x2 : Vec Ideal S1x1024 .f32) (x3 : Vec Ideal S1024x3072 .bf16) (r : Fin 512) (n : Fin 1024) :
    out0_8 x0 x1 x2 x3 (ix2 r n) = proj (fun k => x0 (ix2 r k)) (fun k => x2 (ix2 0 k)) (fun k => x1 (ix4 0 0 0 k)) (fun k => x1 (ix4 0 0 1 k)) (fun k => x3 (ix2 k ⟨2048 + n.val, by omega⟩)) := by
  unfold out0_8
  rw [View.canon_unit_zero zero2]
  unfold k0_pay7 k0_pay4
  rw [← pr_apply]
  generalize k0_pay2 (View.ld x0 r0_0) (View.ld x2 r0_1) (View.ld x1 r0_2) (View.ld x1 r0_3) (View.ld x3 r0_4) = y
  pointwise []

/-! ## The blocks at a point -/

variable (m : (ℓ : Loc nD τ sig) → Buf (Elt Ideal) ℓ)

theorem N0 : cfg0.N = 16 := (by decide +kernel : grid0.N = 16)
theorem index0 (t : Fin cfg0.N) : (cfg0.win (0 : Fin 9)).index t = ![t.val, 0] :=
  (by decide +kernel : ∀ t : Fin grid0.N, cc0_transform_0 (grid0.coords t) = ![t.val, 0]) t
theorem index1 (t : Fin cfg0.N) : (cfg0.win (1 : Fin 9)).index t = ![1, 4, 0, 0] :=
  (by decide +kernel : ∀ t : Fin grid0.N, cc0_transform_1 (grid0.coords t) = ![1, 4, 0, 0]) t
theorem index4 (t : Fin cfg0.N) : (cfg0.win (4 : Fin 9)).index t = ![t.val, 0] :=
  (by decide +kernel : ∀ t : Fin grid0.N, cc0_transform_4 (grid0.coords t) = ![t.val, 0]) t
theorem index5 (t : Fin cfg0.N) : (cfg0.win (5 : Fin 9)).index t = ![t.val, 0] :=
  (by decide +kernel : ∀ t : Fin grid0.N, cc0_transform_5 (grid0.coords t) = ![t.val, 0]) t
theorem index6 (t : Fin cfg0.N) : (cfg0.win (6 : Fin 9)).index t = ![t.val, 0] :=
  (by decide +kernel : ∀ t : Fin grid0.N, cc0_transform_6 (grid0.coords t) = ![t.val, 0]) t
theorem index7 (t : Fin cfg0.N) : (cfg0.win (7 : Fin 9)).index t = ![t.val, 0] :=
  (by decide +kernel : ∀ t : Fin grid0.N, cc0_transform_7 (grid0.coords t) = ![t.val, 0]) t
theorem index8 (t : Fin cfg0.N) : (cfg0.win (8 : Fin 9)).index t = ![t.val, 0] :=
  (by decide +kernel : ∀ t : Fin grid0.N, cc0_transform_8 (grid0.coords t) = ![t.val, 0]) t

theorem blk0 (c : Dev nD) (t : Fin cfg0.N) (i : Fin 16) (hi : t.val = i.val) (r : Fin 512) (k : Fin 1024) :
    iblk m c (0 : Fin 9) t (ix2 r k) = m ((c : Thread nD τ).loc main_arg0) (ix2 ⟨i.val * 512 + r.val, by omega⟩ k) := by
  refine congrArg (m ((c : Thread nD τ).loc main_arg0)) (funext fun a => Fin.ext ?_)
  refine (Pipeline.Window.rect_emb_val (cfg0.win (0 : Fin 9)) t (ix2 r k) a).trans ?_
  rw [index0 t]
  match a with
  | ⟨0, _⟩ => show (t.val) * 512 + r.val = i.val * 512 + r.val; omega
  | ⟨1, _⟩ => show 0 * 1024 + k.val = k.val; omega
theorem blk1 (c : Dev nD) (t : Fin cfg0.N) (i : Fin 8) (hi : 4 = i.val) (j : Fin 6) (k : Fin 1024) :
    iblk m c (1 : Fin 9) t (ix4 0 0 j k) = m ((c : Thread nD τ).loc main_arg1) (ix4 1 i j k) := by
  refine congrArg (m ((c : Thread nD τ).loc main_arg1)) (funext fun a => Fin.ext ?_)
  refine (Pipeline.Window.rect_emb_val (cfg0.win (1 : Fin 9)) t (ix4 0 0 j k) a).trans ?_
  rw [index1 t, hi]
  match a with
  | ⟨0, _⟩ => rfl
  | ⟨1, _⟩ => show i.val * 1 + 0 = i.val; omega
  | ⟨2, _⟩ => show 0 * 6 + j.val = j.val; omega
  | ⟨3, _⟩ => show 0 * 1024 + k.val = k.val; omega
theorem blk2 (c : Dev nD) (t : Fin cfg0.N) (a : Fin 1) (b : Fin 1024) :
    iblk m c (2 : Fin 9) t (ix2 a b) = m ((c : Thread nD τ).loc main_arg2) (ix2 a b) := by
  refine congrArg (m ((c : Thread nD τ).loc main_arg2)) (funext fun x => Fin.ext ?_)
  refine (Pipeline.Window.rect_emb_val (cfg0.win (2 : Fin 9)) t (ix2 a b) x).trans ?_
  match x with
  | ⟨0, _⟩ => show 0 * 1 + a.val = a.val; omega
  | ⟨1, _⟩ => show 0 * 1024 + b.val = b.val; omega
theorem blk3 (c : Dev nD) (t : Fin cfg0.N) (a : Fin 1024) (b : Fin 3072) :
    iblk m c (3 : Fin 9) t (ix2 a b) = m ((c : Thread nD τ).loc main_arg3) (ix2 a b) := by
  refine congrArg (m ((c : Thread nD τ).loc main_arg3)) (funext fun x => Fin.ext ?_)
  refine (Pipeline.Window.rect_emb_val (cfg0.win (3 : Fin 9)) t (ix2 a b) x).trans ?_
  match x with
  | ⟨0, _⟩ => show 0 * 1024 + a.val = a.val; omega
  | ⟨1, _⟩ => show 0 * 3072 + b.val = b.val; omega

/-! ## The whole results -/

/-- One element of a token's projection, the token counted among the context's. -/
def token (x : S24576x1024.Idx → EReal) (md : S2x8x6x1024.Idx → EReal) (g : S1x1024.Idx → EReal) (w : S1024x3072.Idx → EReal) (R : Fin 8192) (j : Fin 3072) : EReal :=
  proj (fun k => x (ix2 ⟨R.val, by omega⟩ k)) (fun k => g (ix2 0 k)) (fun k => md (ix4 1 4 0 k)) (fun k => md (ix4 1 4 1 k)) (fun k => w (ix2 k j))

/-- The projection of the blocks at a point. -/
theorem point (c : Dev nD) (t : Fin cfg0.N) (i : Fin 16) (hi : t.val = i.val) (r : Fin 512) (j : Fin 3072) :
    proj (fun k => iblk m c (0 : Fin 9) t (ix2 r k)) (fun k => iblk m c (2 : Fin 9) t (ix2 0 k)) (fun k => iblk m c (1 : Fin 9) t (ix4 0 0 0 k))
        (fun k => iblk m c (1 : Fin 9) t (ix4 0 0 1 k)) (fun k => iblk m c (3 : Fin 9) t (ix2 k j))
      = token (m ((c : Thread nD τ).loc main_arg0)) (m ((c : Thread nD τ).loc main_arg1)) (m ((c : Thread nD τ).loc main_arg2)) (m ((c : Thread nD τ).loc main_arg3)) ⟨i.val * 512 + r.val, by omega⟩ j := by
  unfold token
  refine congr (congr (congr (congr (congrArg proj (funext fun k => ?_)) (funext fun k => ?_)) (funext fun k => ?_)) (funext fun k => ?_)) (funext fun k => ?_)
  · exact blk0 m c t i hi r k
  · exact blk2 m c t 0 k
  · exact blk1 m c t _ rfl 0 k
  · exact blk1 m c t _ rfl 1 k
  · exact blk3 m c t k j

theorem point4 (c : Dev nD) (t : Fin cfg0.N) (i : Fin 16) (hi : t.val = i.val) (r : Fin 512) (n : Fin 1024) :
    out0_4 (iblk m c (0 : Fin 9) t) (iblk m c (1 : Fin 9) t) (iblk m c (2 : Fin 9) t) (iblk m c (3 : Fin 9) t) (ix2 r n)
      = (fun (R : Fin 8192) (n : Fin 1024) => token (m ((c : Thread nD τ).loc main_arg0)) (m ((c : Thread nD τ).loc main_arg1)) (m ((c : Thread nD τ).loc main_arg2)) (m ((c : Thread nD τ).loc main_arg3)) R ⟨0 + n.val, by omega⟩ * qs) ⟨i.val * 512 + r.val, by omega⟩ n := by
  refine (out4_apply _ _ _ _ r n).trans ?_
  exact congrArg (· * qs) (point m c t i hi r ⟨0 + n.val, by omega⟩)
theorem covers4 : (cfg0.win (4 : Fin 9)).Covers := by
  refine Pipeline.Window.covers_of_index_surj _ rfl (fun a => ?_) fun β => ?_
  · match a with
    | ⟨0, _⟩ => show 0 < 512; decide
    | ⟨1, _⟩ => show 0 < 1024; decide
  · have h0 : (β (0 : Fin 2)).val < (8192 + 512 - 1) / 512 := (β (0 : Fin 2)).isLt
    have h1 : (β (1 : Fin 2)).val < (1024 + 1024 - 1) / 1024 := (β (1 : Fin 2)).isLt
    refine ⟨⟨(β (0 : Fin 2)).val, ?_⟩, fun a => ?_⟩
    · rw [show (grid0.N) = 16 from by decide +kernel]; omega
    · rw [index4]
      match a with
      | ⟨0, _⟩ => rfl
      | ⟨1, _⟩ => show 0 = (β (1 : Fin 2)).val; omega
theorem final4 (c : Dev nD) : (dats m 0 c).arrAt (4 : Fin 9) cfg0.N
    = fun y : S8192x1024.Idx => (fun (R : Fin 8192) (n : Fin 1024) => token (m ((c : Thread nD τ).loc main_arg0)) (m ((c : Thread nD τ).loc main_arg1)) (m ((c : Thread nD τ).loc main_arg2)) (m ((c : Thread nD τ).loc main_arg3)) R ⟨0 + n.val, by omega⟩ * qs) (y 0) (y 1) := by
  refine (dats m 0 c).arrAt_eq_of_covers (4 : Fin 9) _ covers4 fun t hf y => ?_
  rw [after0_4, cast_eq]
  have hN : t.val < 16 := N0 ▸ t.isLt
  have hy : (y : S512x1024.Idx) = ix2 (y 0) (y 1) := eq_ix2 (n0 := 512) (n1 := 1024) y
  refine (congrArg _ hy).trans ((point4 m c t ⟨t.val, hN⟩ rfl (y 0) (y 1)).trans ?_)
  have h := Pipeline.Window.rect_emb_val (cfg0.win (4 : Fin 9)) t y
  rw [index4 t] at h
  refine congrArg₂ (fun (R : Fin 8192) (n : Fin 1024) => token (m ((c : Thread nD τ).loc main_arg0)) (m ((c : Thread nD τ).loc main_arg1)) (m ((c : Thread nD τ).loc main_arg2)) (m ((c : Thread nD τ).loc main_arg3)) R ⟨0 + n.val, by omega⟩ * qs) (Fin.ext ?_) (Fin.ext ?_)
  · exact (h (0 : Fin 2)).symm
  · refine Eq.trans ?_ (h (1 : Fin 2)).symm
    show (y 1).val = 0 * 1024 + (y 1).val; omega

theorem point5 (c : Dev nD) (t : Fin cfg0.N) (i : Fin 16) (hi : t.val = i.val) (r : Fin 512) (n : Fin 1024) :
    out0_5 (iblk m c (0 : Fin 9) t) (iblk m c (1 : Fin 9) t) (iblk m c (2 : Fin 9) t) (iblk m c (3 : Fin 9) t) (ix2 r n)
      = (fun (R : Fin 8192) (n : Fin 1024) => token (m ((c : Thread nD τ).loc main_arg0)) (m ((c : Thread nD τ).loc main_arg1)) (m ((c : Thread nD τ).loc main_arg2)) (m ((c : Thread nD τ).loc main_arg3)) R ⟨1024 + n.val, by omega⟩) ⟨i.val * 512 + r.val, by omega⟩ n := by
  refine (out5_apply _ _ _ _ r n).trans ?_
  exact point m c t i hi r ⟨1024 + n.val, by omega⟩
theorem covers5 : (cfg0.win (5 : Fin 9)).Covers := by
  refine Pipeline.Window.covers_of_index_surj _ rfl (fun a => ?_) fun β => ?_
  · match a with
    | ⟨0, _⟩ => show 0 < 512; decide
    | ⟨1, _⟩ => show 0 < 1024; decide
  · have h0 : (β (0 : Fin 2)).val < (8192 + 512 - 1) / 512 := (β (0 : Fin 2)).isLt
    have h1 : (β (1 : Fin 2)).val < (1024 + 1024 - 1) / 1024 := (β (1 : Fin 2)).isLt
    refine ⟨⟨(β (0 : Fin 2)).val, ?_⟩, fun a => ?_⟩
    · rw [show (grid0.N) = 16 from by decide +kernel]; omega
    · rw [index5]
      match a with
      | ⟨0, _⟩ => rfl
      | ⟨1, _⟩ => show 0 = (β (1 : Fin 2)).val; omega
theorem final5 (c : Dev nD) : (dats m 0 c).arrAt (5 : Fin 9) cfg0.N
    = fun y : S8192x1024.Idx => (fun (R : Fin 8192) (n : Fin 1024) => token (m ((c : Thread nD τ).loc main_arg0)) (m ((c : Thread nD τ).loc main_arg1)) (m ((c : Thread nD τ).loc main_arg2)) (m ((c : Thread nD τ).loc main_arg3)) R ⟨1024 + n.val, by omega⟩) (y 0) (y 1) := by
  refine (dats m 0 c).arrAt_eq_of_covers (5 : Fin 9) _ covers5 fun t hf y => ?_
  rw [after0_5, cast_eq]
  have hN : t.val < 16 := N0 ▸ t.isLt
  have hy : (y : S512x1024.Idx) = ix2 (y 0) (y 1) := eq_ix2 (n0 := 512) (n1 := 1024) y
  refine (congrArg _ hy).trans ((point5 m c t ⟨t.val, hN⟩ rfl (y 0) (y 1)).trans ?_)
  have h := Pipeline.Window.rect_emb_val (cfg0.win (5 : Fin 9)) t y
  rw [index5 t] at h
  refine congrArg₂ (fun (R : Fin 8192) (n : Fin 1024) => token (m ((c : Thread nD τ).loc main_arg0)) (m ((c : Thread nD τ).loc main_arg1)) (m ((c : Thread nD τ).loc main_arg2)) (m ((c : Thread nD τ).loc main_arg3)) R ⟨1024 + n.val, by omega⟩) (Fin.ext ?_) (Fin.ext ?_)
  · exact (h (0 : Fin 2)).symm
  · refine Eq.trans ?_ (h (1 : Fin 2)).symm
    show (y 1).val = 0 * 1024 + (y 1).val; omega

theorem point6 (c : Dev nD) (t : Fin cfg0.N) (i : Fin 16) (hi : t.val = i.val) (r : Fin 512) (n : Fin 1024) :
    out0_6 (iblk m c (0 : Fin 9) t) (iblk m c (1 : Fin 9) t) (iblk m c (2 : Fin 9) t) (iblk m c (3 : Fin 9) t) (ix2 r n)
      = (fun (R : Fin 8192) (n : Fin 1024) => token (m ((c : Thread nD τ).loc main_arg0)) (m ((c : Thread nD τ).loc main_arg1)) (m ((c : Thread nD τ).loc main_arg2)) (m ((c : Thread nD τ).loc main_arg3)) R ⟨2048 + n.val, by omega⟩) ⟨i.val * 512 + r.val, by omega⟩ n := by
  refine (out6_apply _ _ _ _ r n).trans ?_
  exact point m c t i hi r ⟨2048 + n.val, by omega⟩
theorem covers6 : (cfg0.win (6 : Fin 9)).Covers := by
  refine Pipeline.Window.covers_of_index_surj _ rfl (fun a => ?_) fun β => ?_
  · match a with
    | ⟨0, _⟩ => show 0 < 512; decide
    | ⟨1, _⟩ => show 0 < 1024; decide
  · have h0 : (β (0 : Fin 2)).val < (8192 + 512 - 1) / 512 := (β (0 : Fin 2)).isLt
    have h1 : (β (1 : Fin 2)).val < (1024 + 1024 - 1) / 1024 := (β (1 : Fin 2)).isLt
    refine ⟨⟨(β (0 : Fin 2)).val, ?_⟩, fun a => ?_⟩
    · rw [show (grid0.N) = 16 from by decide +kernel]; omega
    · rw [index6]
      match a with
      | ⟨0, _⟩ => rfl
      | ⟨1, _⟩ => show 0 = (β (1 : Fin 2)).val; omega
theorem final6 (c : Dev nD) : (dats m 0 c).arrAt (6 : Fin 9) cfg0.N
    = fun y : S8192x1024.Idx => (fun (R : Fin 8192) (n : Fin 1024) => token (m ((c : Thread nD τ).loc main_arg0)) (m ((c : Thread nD τ).loc main_arg1)) (m ((c : Thread nD τ).loc main_arg2)) (m ((c : Thread nD τ).loc main_arg3)) R ⟨2048 + n.val, by omega⟩) (y 0) (y 1) := by
  refine (dats m 0 c).arrAt_eq_of_covers (6 : Fin 9) _ covers6 fun t hf y => ?_
  rw [after0_6, cast_eq]
  have hN : t.val < 16 := N0 ▸ t.isLt
  have hy : (y : S512x1024.Idx) = ix2 (y 0) (y 1) := eq_ix2 (n0 := 512) (n1 := 1024) y
  refine (congrArg _ hy).trans ((point6 m c t ⟨t.val, hN⟩ rfl (y 0) (y 1)).trans ?_)
  have h := Pipeline.Window.rect_emb_val (cfg0.win (6 : Fin 9)) t y
  rw [index6 t] at h
  refine congrArg₂ (fun (R : Fin 8192) (n : Fin 1024) => token (m ((c : Thread nD τ).loc main_arg0)) (m ((c : Thread nD τ).loc main_arg1)) (m ((c : Thread nD τ).loc main_arg2)) (m ((c : Thread nD τ).loc main_arg3)) R ⟨2048 + n.val, by omega⟩) (Fin.ext ?_) (Fin.ext ?_)
  · exact (h (0 : Fin 2)).symm
  · refine Eq.trans ?_ (h (1 : Fin 2)).symm
    show (y 1).val = 0 * 1024 + (y 1).val; omega

theorem point7 (c : Dev nD) (t : Fin cfg0.N) (i : Fin 16) (hi : t.val = i.val) (r : Fin 512) (n : Fin 1024) :
    out0_7 (iblk m c (0 : Fin 9) t) (iblk m c (1 : Fin 9) t) (iblk m c (2 : Fin 9) t) (iblk m c (3 : Fin 9) t) (ix2 r n)
      = (fun (R : Fin 8192) (n : Fin 1024) => token (m ((c : Thread nD τ).loc main_arg0)) (m ((c : Thread nD τ).loc main_arg1)) (m ((c : Thread nD τ).loc main_arg2)) (m ((c : Thread nD τ).loc main_arg3)) R ⟨1024 + n.val, by omega⟩) ⟨i.val * 512 + r.val, by omega⟩ n := by
  refine (out7_apply _ _ _ _ r n).trans ?_
  exact point m c t i hi r ⟨1024 + n.val, by omega⟩
theorem covers7 : (cfg0.win (7 : Fin 9)).Covers := by
  refine Pipeline.Window.covers_of_index_surj _ rfl (fun a => ?_) fun β => ?_
  · match a with
    | ⟨0, _⟩ => show 0 < 512; decide
    | ⟨1, _⟩ => show 0 < 1024; decide
  · have h0 : (β (0 : Fin 2)).val < (8192 + 512 - 1) / 512 := (β (0 : Fin 2)).isLt
    have h1 : (β (1 : Fin 2)).val < (1024 + 1024 - 1) / 1024 := (β (1 : Fin 2)).isLt
    refine ⟨⟨(β (0 : Fin 2)).val, ?_⟩, fun a => ?_⟩
    · rw [show (grid0.N) = 16 from by decide +kernel]; omega
    · rw [index7]
      match a with
      | ⟨0, _⟩ => rfl
      | ⟨1, _⟩ => show 0 = (β (1 : Fin 2)).val; omega
theorem final7 (c : Dev nD) : (dats m 0 c).arrAt (7 : Fin 9) cfg0.N
    = fun y : S8192x1024.Idx => (fun (R : Fin 8192) (n : Fin 1024) => token (m ((c : Thread nD τ).loc main_arg0)) (m ((c : Thread nD τ).loc main_arg1)) (m ((c : Thread nD τ).loc main_arg2)) (m ((c : Thread nD τ).loc main_arg3)) R ⟨1024 + n.val, by omega⟩) (y 0) (y 1) := by
  refine (dats m 0 c).arrAt_eq_of_covers (7 : Fin 9) _ covers7 fun t hf y => ?_
  rw [after0_7, cast_eq]
  have hN : t.val < 16 := N0 ▸ t.isLt
  have hy : (y : S512x1024.Idx) = ix2 (y 0) (y 1) := eq_ix2 (n0 := 512) (n1 := 1024) y
  refine (congrArg _ hy).trans ((point7 m c t ⟨t.val, hN⟩ rfl (y 0) (y 1)).trans ?_)
  have h := Pipeline.Window.rect_emb_val (cfg0.win (7 : Fin 9)) t y
  rw [index7 t] at h
  refine congrArg₂ (fun (R : Fin 8192) (n : Fin 1024) => token (m ((c : Thread nD τ).loc main_arg0)) (m ((c : Thread nD τ).loc main_arg1)) (m ((c : Thread nD τ).loc main_arg2)) (m ((c : Thread nD τ).loc main_arg3)) R ⟨1024 + n.val, by omega⟩) (Fin.ext ?_) (Fin.ext ?_)
  · exact (h (0 : Fin 2)).symm
  · refine Eq.trans ?_ (h (1 : Fin 2)).symm
    show (y 1).val = 0 * 1024 + (y 1).val; omega

theorem point8 (c : Dev nD) (t : Fin cfg0.N) (i : Fin 16) (hi : t.val = i.val) (r : Fin 512) (n : Fin 1024) :
    out0_8 (iblk m c (0 : Fin 9) t) (iblk m c (1 : Fin 9) t) (iblk m c (2 : Fin 9) t) (iblk m c (3 : Fin 9) t) (ix2 r n)
      = (fun (R : Fin 8192) (n : Fin 1024) => token (m ((c : Thread nD τ).loc main_arg0)) (m ((c : Thread nD τ).loc main_arg1)) (m ((c : Thread nD τ).loc main_arg2)) (m ((c : Thread nD τ).loc main_arg3)) R ⟨2048 + n.val, by omega⟩) ⟨i.val * 512 + r.val, by omega⟩ n := by
  refine (out8_apply _ _ _ _ r n).trans ?_
  exact point m c t i hi r ⟨2048 + n.val, by omega⟩
theorem covers8 : (cfg0.win (8 : Fin 9)).Covers := by
  refine Pipeline.Window.covers_of_index_surj _ rfl (fun a => ?_) fun β => ?_
  · match a with
    | ⟨0, _⟩ => show 0 < 512; decide
    | ⟨1, _⟩ => show 0 < 1024; decide
  · have h0 : (β (0 : Fin 2)).val < (8192 + 512 - 1) / 512 := (β (0 : Fin 2)).isLt
    have h1 : (β (1 : Fin 2)).val < (1024 + 1024 - 1) / 1024 := (β (1 : Fin 2)).isLt
    refine ⟨⟨(β (0 : Fin 2)).val, ?_⟩, fun a => ?_⟩
    · rw [show (grid0.N) = 16 from by decide +kernel]; omega
    · rw [index8]
      match a with
      | ⟨0, _⟩ => rfl
      | ⟨1, _⟩ => show 0 = (β (1 : Fin 2)).val; omega
theorem final8 (c : Dev nD) : (dats m 0 c).arrAt (8 : Fin 9) cfg0.N
    = fun y : S8192x1024.Idx => (fun (R : Fin 8192) (n : Fin 1024) => token (m ((c : Thread nD τ).loc main_arg0)) (m ((c : Thread nD τ).loc main_arg1)) (m ((c : Thread nD τ).loc main_arg2)) (m ((c : Thread nD τ).loc main_arg3)) R ⟨2048 + n.val, by omega⟩) (y 0) (y 1) := by
  refine (dats m 0 c).arrAt_eq_of_covers (8 : Fin 9) _ covers8 fun t hf y => ?_
  rw [after0_8, cast_eq]
  have hN : t.val < 16 := N0 ▸ t.isLt
  have hy : (y : S512x1024.Idx) = ix2 (y 0) (y 1) := eq_ix2 (n0 := 512) (n1 := 1024) y
  refine (congrArg _ hy).trans ((point8 m c t ⟨t.val, hN⟩ rfl (y 0) (y 1)).trans ?_)
  have h := Pipeline.Window.rect_emb_val (cfg0.win (8 : Fin 9)) t y
  rw [index8 t] at h
  refine congrArg₂ (fun (R : Fin 8192) (n : Fin 1024) => token (m ((c : Thread nD τ).loc main_arg0)) (m ((c : Thread nD τ).loc main_arg1)) (m ((c : Thread nD τ).loc main_arg2)) (m ((c : Thread nD τ).loc main_arg3)) R ⟨2048 + n.val, by omega⟩) (Fin.ext ?_) (Fin.ext ?_)
  · exact (h (0 : Fin 2)).symm
  · refine Eq.trans ?_ (h (1 : Fin 2)).symm
    show (y 1).val = 0 * 1024 + (y 1).val; omega

end Cert.Kernel4Ideal.Gen

end
-- ==== Proof.QkvCtxRef.lean ====
/-
The reference of the context's queries, keys and values read at an element: the modulated row, its projection, the
queries' scale.
-/
module

public import proofs.«01_k».proof.Proof.QkvCtxValue
public import proofs.«01_k».proof.Proof.FfnRef
public import proofs.«01_k».proof.Proof.Gen.Reference4Ideal.Read

@[expose] public section

set_option maxRecDepth 16384

noncomputable section

namespace Cert.Reference4Ideal.Read

open Cert.Reference4Ideal Cert.Reference4Ideal.Gen Idealize.ShloMosaic Idealize.ShloMosaic.TcCoe
open Cert.Kernel3Ideal.Gen (rms modu)
open Cert.Reference3Ideal.Read (ofBits_zero modu_eq)
open Cert.Kernel4Ideal.Gen (proj token qs)

variable (x0 : FVec Ideal S24576x1024 .f32) (x1 : FVec Ideal S2x8x6x1024 .f32) (x2 : FVec Ideal S1x1024 .f32) (x3 : FVec Ideal S1024x3072 .bf16)

theorem ofBits_64 : Ideal.ofBits .f32 0x42800000#32 = ((64 : ℝ) : EReal) := by
  have h : Ideal.ofBits .f32 0x42800000#32 = ((8388608 : ℝ) : EReal) * (((2 ^ 17)⁻¹ : ℝ) : EReal) := by simp [Ideal.ofBits, Ideal.ieee]
  rw [h, ← EReal.coe_mul]; norm_num
theorem ofBits_2 : Ideal.ofBits .f32 0x40000000#32 = ((2 : ℝ) : EReal) := by
  have h : Ideal.ofBits .f32 0x40000000#32 = ((8388608 : ℝ) : EReal) * (((2 ^ 22)⁻¹ : ℝ) : EReal) := by simp [Ideal.ofBits, Ideal.ieee]
  rw [h, ← EReal.coe_mul]; norm_num

/-- Division by the root of 64 times the logarithm of 2 is the product with the queries' scale. -/
theorem div_scale (x : EReal) :
    Ideal.div x (Ideal.sqrt (Ideal.ofBits .f32 0x42800000#32) * Ideal.log (Ideal.ofBits .f32 0x40000000#32)) = x * qs := by
  have hl : Real.log 2 ≠ 0 := (Real.log_pos (by norm_num)).ne'
  have h8 : Real.sqrt 64 ≠ 0 := (Real.sqrt_pos.mpr (by norm_num)).ne'
  rw [ofBits_64, ofBits_2, Ideal.sqrt_coe, if_neg (by norm_num), Ideal.log_coe, if_neg (by norm_num), ← EReal.coe_mul,
    Ideal.div_coe (mul_ne_zero h8 hl)]
  refine congrArg (fun y : ℝ => x * (y : EReal)) ?_
  rw [one_div, mul_inv]

theorem row (r : Fin 8192) (k : Fin 1024) : val_main_v0 (F := Ideal) x0 (ix2 r k) = x0 (ix2 ⟨r.val, by omega⟩ k) := by
  pointwise [val_main_v0]
theorem scale (r : Fin 8192) (k : Fin 1024) : val_main_v20 (F := Ideal) x1 (ix2 r k) = Ideal.ofBits .f32 0x3F800000#32 + x1 (ix4 1 4 1 k) := by
  pointwise [val_main_v20, val_main_v19, val_main_v18, val_main_cst_2, val_main_v17, val_main_v16, val_main_v15]
theorem shift (r : Fin 8192) (k : Fin 1024) : val_main_v25 (F := Ideal) x1 (ix2 r k) = x1 (ix4 1 4 0 k) := by
  pointwise [val_main_v25, val_main_v24, val_main_v23, val_main_v22]
theorem weight (r : Fin 8192) (k : Fin 1024) : val_main_v13 (F := Ideal) x2 (ix2 r k) = x2 (ix2 0 k) := by
  pointwise [val_main_v13, val_main_v12, val_main_v11]
theorem square (r : Fin 8192) : val_main_v2 (F := Ideal) x0 (ix1 r) = ∑ k, x0 (ix2 ⟨r.val, by omega⟩ k) * x0 (ix2 ⟨r.val, by omega⟩ k) := by
  rw [val_main_v2_apply, val_main_cst_apply]
  refine (congrArg (· + _) ofBits_zero).trans ((zero_add _).trans (Finset.sum_congr rfl fun k _ => ?_))
  rw [val_main_v1_apply, show val_main_v0 (F := Ideal) x0 (idx_main_v2 (ix1 r) k) = x0 (ix2 ⟨r.val, by omega⟩ k) from (congrArg _ (eq_ix2 (n0 := 8192) (n1 := 1024) _)).trans (row x0 r k)]
  rfl
theorem norm (r : Fin 8192) (k : Fin 1024) : val_main_v9 (F := Ideal) x0 (ix2 r k) = rms (fun k => x0 (ix2 ⟨r.val, by omega⟩ k)) := by
  rw [val_main_v9_apply, val_main_v8_apply, val_main_v7_apply, val_main_v5_apply, val_main_v3_apply, val_main_v4_apply, val_main_v6_apply, val_main_cst_0_apply, val_main_cst_1_apply]
  refine congrArg (fun y => Ideal.rsqrt (Ideal.div y (Ideal.ofBits .f32 0x44800000#32) + Ideal.ofBits .f32 0x358637BD#32)) ?_
  refine (congrArg _ (funext fun a => ?_)).trans (square x0 r)
  match a with
  | ⟨0, _⟩ => rfl
theorem modulated (r : Fin 8192) (k : Fin 1024) : val_main_v26 (F := Ideal) x0 x1 x2 (ix2 r k)
    = modu (fun k => x0 (ix2 ⟨r.val, by omega⟩ k)) (fun k => x2 (ix2 0 k)) (fun k => x1 (ix4 1 4 0 k)) (fun k => x1 (ix4 1 4 1 k)) k := by
  rw [val_main_v26_apply, val_main_v21_apply, val_main_v14_apply, val_main_v10_apply, row, norm, weight, scale, shift]
  exact modu_eq (fun k => x0 (ix2 ⟨r.val, by omega⟩ k)) (fun k => x2 (ix2 0 k)) (fun k => x1 (ix4 1 4 0 k)) (fun k => x1 (ix4 1 4 1 k)) k
theorem projected (r : Fin 8192) (j : Fin 3072) : val_main_v28 (F := Ideal) x0 x1 x2 x3 (ix2 r j) = token x0 x1 x2 x3 r j := by
  refine (val_main_v28_apply x0 x1 x2 x3 _).trans ?_
  unfold token proj
  refine Finset.sum_congr rfl fun k _ => ?_
  exact congrArg₂ (· * ·) ((congrArg _ (eq_ix2 (n0 := 8192) (n1 := 1024) _)).trans (modulated x0 x1 x2 r k))
    (congrArg x3 (eq_ix2 (n0 := 1024) (n1 := 3072) _))
theorem part0 (r : Fin 8192) (n : Fin 1024) : val_main_v29 (F := Ideal) x0 x1 x2 x3 (ix2 r n) = token x0 x1 x2 x3 r ⟨0 + n.val, by omega⟩ := by
  rw [val_main_v29_apply]
  refine (congrArg _ (funext fun a => Fin.ext ?_)).trans (projected x0 x1 x2 x3 r ⟨0 + n.val, by omega⟩)
  match a with
  | ⟨0, _⟩ => rfl
  | ⟨1, _⟩ => show n.val = 0 + n.val; omega
theorem part1 (r : Fin 8192) (n : Fin 1024) : val_main_v30 (F := Ideal) x0 x1 x2 x3 (ix2 r n) = token x0 x1 x2 x3 r ⟨1024 + n.val, by omega⟩ := by
  rw [val_main_v30_apply]
  refine (congrArg _ (funext fun a => Fin.ext ?_)).trans (projected x0 x1 x2 x3 r ⟨1024 + n.val, by omega⟩)
  match a with
  | ⟨0, _⟩ => rfl
  | ⟨1, _⟩ => rfl
theorem part2 (r : Fin 8192) (n : Fin 1024) : val_main_v31 (F := Ideal) x0 x1 x2 x3 (ix2 r n) = token x0 x1 x2 x3 r ⟨2048 + n.val, by omega⟩ := by
  rw [val_main_v31_apply]
  refine (congrArg _ (funext fun a => Fin.ext ?_)).trans (projected x0 x1 x2 x3 r ⟨2048 + n.val, by omega⟩)
  match a with
  | ⟨0, _⟩ => rfl
  | ⟨1, _⟩ => rfl
theorem queries (r : Fin 8192) (n : Fin 1024) : val_main_v38 (F := Ideal) x0 x1 x2 x3 (ix2 r n) = token x0 x1 x2 x3 r ⟨0 + n.val, by omega⟩ * qs := by
  rw [val_main_v38_apply, val_main_v37_apply, val_main_v36_apply, val_main_v35_apply, val_main_v34_apply, val_main_v33_apply, val_main_v32_apply, val_main_cst_3_apply, val_main_cst_4_apply, part0]
  exact div_scale _

/-! ## The whole results -/

theorem result38 : val_main_v38 (F := Ideal) x0 x1 x2 x3
    = fun y : S8192x1024.Idx => (fun (R : Fin 8192) (n : Fin 1024) => token x0 x1 x2 x3 R ⟨0 + n.val, by omega⟩ * qs) (y 0) (y 1) :=
  funext fun y => (congrArg _ (eq_ix2 (n0 := 8192) (n1 := 1024) y)).trans (queries x0 x1 x2 x3 (y 0) (y 1))
theorem result39 : val_main_v39 (F := Ideal) x0 x1 x2 x3
    = fun y : S8192x1024.Idx => (fun (R : Fin 8192) (n : Fin 1024) => token x0 x1 x2 x3 R ⟨1024 + n.val, by omega⟩) (y 0) (y 1) :=
  funext fun y => (congrArg _ (eq_ix2 (n0 := 8192) (n1 := 1024) y)).trans (part1 x0 x1 x2 x3 (y 0) (y 1))
theorem result40 : val_main_v40 (F := Ideal) x0 x1 x2 x3
    = fun y : S8192x1024.Idx => (fun (R : Fin 8192) (n : Fin 1024) => token x0 x1 x2 x3 R ⟨2048 + n.val, by omega⟩) (y 0) (y 1) :=
  funext fun y => (congrArg _ (eq_ix2 (n0 := 8192) (n1 := 1024) y)).trans (part2 x0 x1 x2 x3 (y 0) (y 1))
theorem result30 : val_main_v30 (F := Ideal) x0 x1 x2 x3
    = fun y : S8192x1024.Idx => (fun (R : Fin 8192) (n : Fin 1024) => token x0 x1 x2 x3 R ⟨1024 + n.val, by omega⟩) (y 0) (y 1) :=
  funext fun y => (congrArg _ (eq_ix2 (n0 := 8192) (n1 := 1024) y)).trans (part1 x0 x1 x2 x3 (y 0) (y 1))
theorem result31 : val_main_v31 (F := Ideal) x0 x1 x2 x3
    = fun y : S8192x1024.Idx => (fun (R : Fin 8192) (n : Fin 1024) => token x0 x1 x2 x3 R ⟨2048 + n.val, by omega⟩) (y 0) (y 1) :=
  funext fun y => (congrArg _ (eq_ix2 (n0 := 8192) (n1 := 1024) y)).trans (part2 x0 x1 x2 x3 (y 0) (y 1))

end Cert.Reference4Ideal.Read

end
-- ==== Proof.QkvLatValue.lean ====
/-
What the kernel of the latents' queries, keys and values writes at every grid point, and its whole results: a row through the
modulation and the projection, the queries and the keys turned by their positions, and the scale of the queries.
-/
module

public import proofs.«01_k».proof.Proof.Gen.Kernel5Ideal.Frame
public import proofs.«01_k».proof.Proof.QkvCtxValue
public import Idealize.ShloMosaic.Lib.KernelVsHost
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel5Ideal.Gen

open Idealize.ShloMosaic Idealize.ShloMosaic.TcCoe Idealize.ShloMosaic.Tactic Idealize.SL.Sem
open Idealize.ShloMosaic.Pipeline (Dat)
open Cert.Kernel3Ideal.Gen (rms modu)
open Cert.Kernel4Ideal.Gen (proj qs)

/-! ## The body's values -/

theorem dot_apply (v0 : Vec Ideal S512x1024 .f32) (v1 : Vec Ideal S1x1024 .f32) (v2 v4 : Vec Ideal S1x1x1x1024 .f32) (w : Vec Ideal S1024x3072 .bf16)
    (r : Fin 512) (j : Fin 3072) :
    k0_pay3 v0 v1 v2 v4 w (ix2 r j)
      = proj (fun k => v0 (ix2 r k)) (fun k => v1 (ix2 0 k)) (fun k => v4 (ix4 0 0 0 k)) (fun k => v2 (ix4 0 0 0 k)) (fun k => w (ix2 k j)) := by
  unfold proj modu rms
  pointwise [k0_pay3]

/-- A load of row `j` of the six modulation rows. -/
theorem ld_row (X : Vec Ideal S1x1x6x1024 .f32) (j : Fin 6) (inb : ∀ a, (![0, 0, j.val, 0] : Fin 4 → Nat) a + S1x1x1x1024.size a ≤ S1x1x6x1024.size a) (k : Fin 1024) :
    View.ld X (Rect.unit (s := S1x1x6x1024) ![0, 0, j.val, 0] S1x1x1x1024.size inb) (ix4 0 0 0 k) = X (ix4 0 0 j k) := by
  refine congrArg X (funext fun a => Fin.ext ?_)
  match a with
  | ⟨0, _⟩ => rfl
  | ⟨1, _⟩ => rfl
  | ⟨2, _⟩ => show j.val + 1 * 0 = j.val; omega
  | ⟨3, _⟩ => show 0 + 1 * k.val = k.val; omega

theorem zero2 : (![0, 0] : Fin 2 → Nat) = fun _ => 0 := funext fun a => by fin_cases a <;> rfl

/-- The projection of a block, by elements. -/
theorem pr_apply (x0 : Vec Ideal S512x1024 .f32) (x1 : Vec Ideal S1x1x6x1024 .f32) (x2 : Vec Ideal S1x1024 .f32) (x3 : Vec Ideal S1024x3072 .bf16) (r : Fin 512) (j : Fin 3072) :
    k0_pay3 (View.ld x0 r0_0) (View.ld x2 r0_1) (View.ld x1 r0_2) (View.ld x1 r0_3) (View.ld x3 r0_4) (ix2 r j)
      = proj (fun k => x0 (ix2 r k)) (fun k => x2 (ix2 0 k)) (fun k => x1 (ix4 0 0 0 k)) (fun k => x1 (ix4 0 0 1 k)) (fun k => x3 (ix2 k j)) := by
  have e0 : View.ld x0 r0_0 = x0 := View.ld_unit_zero zero2 _ _
  have e2 : View.ld x2 r0_1 = x2 := View.ld_unit_zero zero2 _ _
  have e3 : View.ld x3 r0_4 = x3 := View.ld_unit_zero zero2 _ _
  have s0 : (fun k => View.ld x1 r0_3 (ix4 0 0 0 k)) = fun k : Fin 1024 => x1 (ix4 0 0 0 k) := funext fun k => ld_row x1 0 _ k
  have s1 : (fun k => View.ld x1 r0_2 (ix4 0 0 0 k)) = fun k : Fin 1024 => x1 (ix4 0 0 1 k) := funext fun k => ld_row x1 1 _ k
  rw [e0, e2, e3, dot_apply, s0, s1]

/-! ## The turn by position -/

/-- The other dimension of a pair: the halves of every 32 dimensions are paired, 16 apart. -/
def partner (n : Nat) : Nat := if n % 32 < 16 then n + 16 else n - 16

theorem partner_lt {n N : Nat} (h : n < N) (hN : N % 32 = 0) : partner n < N := by
  unfold partner; split <;> omega

theorem partner_add (h n : Nat) : partner (128 * h + n) = 128 * h + partner n := by
  unfold partner
  rw [show (128 * h + n) % 32 = n % 32 by omega]
  split <;> omega

/-- One element turned: the 1024 columns from `o` on of a row of the projection, every 128 of them by the position's rows of the two tables. -/
def turn (p : Fin 3072 → EReal) (co si : Fin 128 → EReal) (o : Nat) (ho : o + 1024 ≤ 3072) (n : Fin 1024) : EReal :=
  p ⟨o + n.val, by omega⟩ * co ⟨n.val % 128, by omega⟩
    + p ⟨o + partner n.val, by have := partner_lt n.isLt (by norm_num); omega⟩ * si ⟨n.val % 128, by omega⟩

/-- The mask: the first of each pair. -/
theorem mask_apply (r : Fin 512) (l : Fin 128) : k0_pay4 (ix2 r l) = if l.val % 32 < 16 then 1#1 else 0#1 := by
  have e : k0_pay4 (ix2 r l) = Scalar.cmpi .slt (Scalar.andi (BitVec.ofNat 32 l.val) 31#32) 16#32 := by
    pointwise [k0_pay4]
    rfl
  rw [e]
  clear e
  revert l; decide +kernel

/-- A head's columns turned. -/
theorem head_apply (z : FVec Ideal S512x128 .f32) (co si : FVec Ideal S512x128 .f32) (r : Fin 512) (l : Fin 128) :
    addf (mulf z co) (mulf (select (k0_pay4) (dynamicRotate 1 112#32 none z rotates_S512x128_d1) (dynamicRotate 1 16#32 none z rotates_S512x128_d1)) si) (ix2 r l)
      = z (ix2 r l) * co (ix2 r l) + z (ix2 r ⟨partner l.val, partner_lt l.isLt (by norm_num)⟩) * si (ix2 r l) := by
  refine congrArg (fun x => z (ix2 r l) * co (ix2 r l) + x * si (ix2 r l)) ?_
  have a : dynamicRotate 1 112#32 none z rotates_S512x128_d1 (ix2 r l) = z (ix2 r ⟨(l.val + 16) % 128, by omega⟩) := by
    refine dynamicRotate_apply 1 112#32 z rotates_S512x128_d1 _ _ fun b => ?_
    match b with
    | ⟨0, _⟩ => rfl
    | ⟨1, _⟩ => show (l.val + 16) % 128 = (l.val + 128 - 112 % 128) % 128; omega
  have b : dynamicRotate 1 16#32 none z rotates_S512x128_d1 (ix2 r l) = z (ix2 r ⟨(l.val + 112) % 128, by omega⟩) := by
    refine dynamicRotate_apply 1 16#32 z rotates_S512x128_d1 _ _ fun b => ?_
    match b with
    | ⟨0, _⟩ => rfl
    | ⟨1, _⟩ => show (l.val + 112) % 128 = (l.val + 128 - 16 % 128) % 128; omega
  show Scalar.select (k0_pay4 (ix2 r l)) (dynamicRotate 1 112#32 none z rotates_S512x128_d1 (ix2 r l)) (dynamicRotate 1 16#32 none z rotates_S512x128_d1 (ix2 r l)) = _
  rw [mask_apply, a, b]
  by_cases h : l.val % 32 < 16
  · rw [if_pos h]
    refine (if_pos rfl).trans ?_
    exact congrArg (fun q => z (ix2 r q)) (Fin.ext (by show (l.val + 16) % 128 = partner l.val; unfold partner; rw [if_pos h]; omega))
  · rw [if_neg h]
    refine (if_neg (by decide)).trans ?_
    exact congrArg (fun q => z (ix2 r q)) (Fin.ext (by show (l.val + 112) % 128 = partner l.val; unfold partner; rw [if_neg h]; omega))

/-- The same at the head's place among the 1024 columns. -/
theorem head_turn (y : FVec Ideal S512x3072 .f32) (co si : FVec Ideal S512x128 .f32) (o h : Nat) (ho : o + 1024 ≤ 3072) (hh : h < 8)
    (hs : S512x3072.Slices ![0, o + 128 * h] S512x128) (r : Fin 512) (l : Fin 128) :
    addf (mulf (extractStridedSlice S512x128 ![0, o + 128 * h] y hs) co) (mulf (select (k0_pay4)
        (dynamicRotate 1 112#32 none (extractStridedSlice S512x128 ![0, o + 128 * h] y hs) rotates_S512x128_d1)
        (dynamicRotate 1 16#32 none (extractStridedSlice S512x128 ![0, o + 128 * h] y hs) rotates_S512x128_d1)) si) (ix2 r l)
      = turn (fun j => y (ix2 r j)) (fun l => co (ix2 r l)) (fun l => si (ix2 r l)) o ho ⟨128 * h + l.val, by omega⟩ := by
  have e (q : Fin 128) : extractStridedSlice S512x128 ![0, o + 128 * h] y hs (ix2 r q) = y (ix2 r ⟨o + (128 * h + q.val), by omega⟩) := by
    refine extractStridedSlice_apply _ y hs _ _ fun b => ?_
    match b with
    | ⟨0, _⟩ => show r.val = 0 + r.val; omega
    | ⟨1, _⟩ => show o + (128 * h + q.val) = o + 128 * h + q.val; omega
  rw [head_apply, e, e]
  have hl : (⟨(128 * h + l.val) % 128, by omega⟩ : Fin 128) = l := Fin.ext (by show (128 * h + l.val) % 128 = l.val; omega)
  unfold turn
  show _ = y (ix2 r ⟨o + (128 * h + l.val), _⟩) * co (ix2 r ⟨(128 * h + l.val) % 128, _⟩) + y (ix2 r ⟨o + partner (128 * h + l.val), _⟩) * si (ix2 r ⟨(128 * h + l.val) % 128, _⟩)
  rw [hl]
  refine congrArg (fun q => _ + y (ix2 r q) * _) (Fin.ext ?_)
  show o + (128 * h + partner l.val) = o + partner (128 * h + l.val)
  rw [partner_add]

/-- The rectangle of a head's columns. -/
theorem head_emb (h : Nat) (hh : h < 8) (inb : ∀ a, (![0, 128 * h] : Fin 2 → Nat) a + S512x128.size a ≤ S512x1024.size a) (r : Fin 512) (l : Fin 128) :
    (Rect.unit (s := S512x1024) ![0, 128 * h] S512x128.size inb).emb (ix2 r l) = ix2 r ⟨128 * h + l.val, by omega⟩ := by
  refine funext fun a => Fin.ext ?_
  match a with
  | ⟨0, _⟩ => show 0 + 1 * r.val = r.val; omega
  | ⟨1, _⟩ => show 128 * h + 1 * l.val = 128 * h + l.val; omega

variable (x0 : Vec Ideal S512x1024 .f32) (x1 : Vec Ideal S1x1x6x1024 .f32) (x2 : Vec Ideal S1x1024 .f32) (x3 : Vec Ideal S1024x3072 .bf16)
  (x4 x5 : Vec Ideal S512x128 .f32)

theorem load4 : View.ld x4 r0_5 = x4 := View.ld_unit_zero zero2 _ _

/-- A row of the projection of the blocks. -/
def prow (r : Fin 512) (j : Fin 3072) : EReal :=
  proj (fun k => x0 (ix2 r k)) (fun k => x2 (ix2 0 k)) (fun k => x1 (ix4 0 0 0 k)) (fun k => x1 (ix4 0 0 1 k)) (fun k => x3 (ix2 k j))

theorem y_apply (r : Fin 512) (j : Fin 3072) : k0_pay25 x0 x1 x2 x3 x4 x5 (ix2 r j) = prow x0 x1 x2 x3 r j := pr_apply x0 x1 x2 x3 r j

/-- Agreement of a head's piece with the whole block, from its elements. -/
theorem piece_eq (G : S512x1024.Idx → EReal) (v : FVec Ideal S512x128 .bf16) (h : Nat) (hh : h < 8)
    (off : Fin 2 → Nat) (ho : off = ![0, 128 * h]) (inb : ∀ a, off a + S512x128.size a ≤ S512x1024.size a)
    (hv : ∀ (r : Fin 512) (l : Fin 128), v (ix2 r l) = G (ix2 r ⟨128 * h + l.val, by omega⟩)) (x : S512x128.Idx) :
    v x = G ((Rect.unit (s := S512x1024) off S512x128.size inb).emb x) := by
  subst ho
  obtain ⟨r, l, rfl⟩ : ∃ (r : Fin 512) (l : Fin 128), x = ix2 r l := ⟨x 0, x 1, eq_ix2 (n0 := 512) (n1 := 128) x⟩
  exact (hv r l).trans (congrArg G (head_emb h hh inb r l).symm)

/-! ### Output 6 -/

/-- The whole block. -/
def blockOf6 (i : S512x1024.Idx) : EReal :=
  (fun (r : Fin 512) (n : Fin 1024) => turn (prow x0 x1 x2 x3 r) (fun l => x4 (ix2 r l)) (fun l => x5 (ix2 r l)) 0 (by norm_num) n * qs) (i 0) (i 1)
theorem piece6_0 (r : Fin 512) (l : Fin 128) :
    (k0_pay6 (View.ld x4 r0_5) (View.ld x5 r0_5) (k0_pay26 x0 x1 x2 x3 x4 x5) (k0_pay5 (View.ld x0 r0_0) (View.ld x2 r0_1) (View.ld x1 r0_2) (View.ld x1 r0_3) (View.ld x3 r0_4)) : FVec Ideal S512x128 .bf16) (ix2 r l) = blockOf6 x0 x1 x2 x3 x4 x5 (ix2 r ⟨128 * 0 + l.val, by omega⟩) := by
  refine (congrArg (· * qs) (head_turn (k0_pay25 x0 x1 x2 x3 x4 x5) (View.ld x4 r0_5) (View.ld x5 r0_5) 0 0 (by norm_num) (by norm_num) slices_S512x3072_o0_0_S512x128 r l)).trans ?_
  rw [load4, load4, show (fun j => k0_pay25 x0 x1 x2 x3 x4 x5 (ix2 r j)) = prow x0 x1 x2 x3 r from funext fun j => y_apply x0 x1 x2 x3 x4 x5 r j]
  rfl
theorem piece6_1 (r : Fin 512) (l : Fin 128) :
    (k0_pay8 (k0_pay25 x0 x1 x2 x3 x4 x5) (View.ld x4 r0_5) (View.ld x5 r0_5) (k0_pay26 x0 x1 x2 x3 x4 x5) : FVec Ideal S512x128 .bf16) (ix2 r l) = blockOf6 x0 x1 x2 x3 x4 x5 (ix2 r ⟨128 * 1 + l.val, by omega⟩) := by
  refine (congrArg (· * qs) (head_turn (k0_pay25 x0 x1 x2 x3 x4 x5) (View.ld x4 r0_5) (View.ld x5 r0_5) 0 1 (by norm_num) (by norm_num) slices_S512x3072_o0_128_S512x128 r l)).trans ?_
  rw [load4, load4, show (fun j => k0_pay25 x0 x1 x2 x3 x4 x5 (ix2 r j)) = prow x0 x1 x2 x3 r from funext fun j => y_apply x0 x1 x2 x3 x4 x5 r j]
  rfl
theorem piece6_2 (r : Fin 512) (l : Fin 128) :
    (k0_pay10 (k0_pay25 x0 x1 x2 x3 x4 x5) (View.ld x4 r0_5) (View.ld x5 r0_5) (k0_pay26 x0 x1 x2 x3 x4 x5) : FVec Ideal S512x128 .bf16) (ix2 r l) = blockOf6 x0 x1 x2 x3 x4 x5 (ix2 r ⟨128 * 2 + l.val, by omega⟩) := by
  refine (congrArg (· * qs) (head_turn (k0_pay25 x0 x1 x2 x3 x4 x5) (View.ld x4 r0_5) (View.ld x5 r0_5) 0 2 (by norm_num) (by norm_num) slices_S512x3072_o0_256_S512x128 r l)).trans ?_
  rw [load4, load4, show (fun j => k0_pay25 x0 x1 x2 x3 x4 x5 (ix2 r j)) = prow x0 x1 x2 x3 r from funext fun j => y_apply x0 x1 x2 x3 x4 x5 r j]
  rfl
theorem piece6_3 (r : Fin 512) (l : Fin 128) :
    (k0_pay12 (k0_pay25 x0 x1 x2 x3 x4 x5) (View.ld x4 r0_5) (View.ld x5 r0_5) (k0_pay26 x0 x1 x2 x3 x4 x5) : FVec Ideal S512x128 .bf16) (ix2 r l) = blockOf6 x0 x1 x2 x3 x4 x5 (ix2 r ⟨128 * 3 + l.val, by omega⟩) := by
  refine (congrArg (· * qs) (head_turn (k0_pay25 x0 x1 x2 x3 x4 x5) (View.ld x4 r0_5) (View.ld x5 r0_5) 0 3 (by norm_num) (by norm_num) slices_S512x3072_o0_384_S512x128 r l)).trans ?_
  rw [load4, load4, show (fun j => k0_pay25 x0 x1 x2 x3 x4 x5 (ix2 r j)) = prow x0 x1 x2 x3 r from funext fun j => y_apply x0 x1 x2 x3 x4 x5 r j]
  rfl
theorem piece6_4 (r : Fin 512) (l : Fin 128) :
    (k0_pay14 (k0_pay25 x0 x1 x2 x3 x4 x5) (View.ld x4 r0_5) (View.ld x5 r0_5) (k0_pay26 x0 x1 x2 x3 x4 x5) : FVec Ideal S512x128 .bf16) (ix2 r l) = blockOf6 x0 x1 x2 x3 x4 x5 (ix2 r ⟨128 * 4 + l.val, by omega⟩) := by
  refine (congrArg (· * qs) (head_turn (k0_pay25 x0 x1 x2 x3 x4 x5) (View.ld x4 r0_5) (View.ld x5 r0_5) 0 4 (by norm_num) (by norm_num) slices_S512x3072_o0_512_S512x128 r l)).trans ?_
  rw [load4, load4, show (fun j => k0_pay25 x0 x1 x2 x3 x4 x5 (ix2 r j)) = prow x0 x1 x2 x3 r from funext fun j => y_apply x0 x1 x2 x3 x4 x5 r j]
  rfl
theorem piece6_5 (r : Fin 512) (l : Fin 128) :
    (k0_pay16 (k0_pay25 x0 x1 x2 x3 x4 x5) (View.ld x4 r0_5) (View.ld x5 r0_5) (k0_pay26 x0 x1 x2 x3 x4 x5) : FVec Ideal S512x128 .bf16) (ix2 r l) = blockOf6 x0 x1 x2 x3 x4 x5 (ix2 r ⟨128 * 5 + l.val, by omega⟩) := by
  refine (congrArg (· * qs) (head_turn (k0_pay25 x0 x1 x2 x3 x4 x5) (View.ld x4 r0_5) (View.ld x5 r0_5) 0 5 (by norm_num) (by norm_num) slices_S512x3072_o0_640_S512x128 r l)).trans ?_
  rw [load4, load4, show (fun j => k0_pay25 x0 x1 x2 x3 x4 x5 (ix2 r j)) = prow x0 x1 x2 x3 r from funext fun j => y_apply x0 x1 x2 x3 x4 x5 r j]
  rfl
theorem piece6_6 (r : Fin 512) (l : Fin 128) :
    (k0_pay19 (k0_pay25 x0 x1 x2 x3 x4 x5) (View.ld x4 r0_5) (View.ld x5 r0_5) (k0_pay26 x0 x1 x2 x3 x4 x5) : FVec Ideal S512x128 .bf16) (ix2 r l) = blockOf6 x0 x1 x2 x3 x4 x5 (ix2 r ⟨128 * 6 + l.val, by omega⟩) := by
  refine (congrArg (· * qs) (head_turn (k0_pay25 x0 x1 x2 x3 x4 x5) (View.ld x4 r0_5) (View.ld x5 r0_5) 0 6 (by norm_num) (by norm_num) slices_S512x3072_o0_768_S512x128 r l)).trans ?_
  rw [load4, load4, show (fun j => k0_pay25 x0 x1 x2 x3 x4 x5 (ix2 r j)) = prow x0 x1 x2 x3 r from funext fun j => y_apply x0 x1 x2 x3 x4 x5 r j]
  rfl
theorem piece6_7 (r : Fin 512) (l : Fin 128) :
    (k0_pay21 (k0_pay25 x0 x1 x2 x3 x4 x5) (View.ld x4 r0_5) (View.ld x5 r0_5) (k0_pay26 x0 x1 x2 x3 x4 x5) : FVec Ideal S512x128 .bf16) (ix2 r l) = blockOf6 x0 x1 x2 x3 x4 x5 (ix2 r ⟨128 * 7 + l.val, by omega⟩) := by
  refine (congrArg (· * qs) (head_turn (k0_pay25 x0 x1 x2 x3 x4 x5) (View.ld x4 r0_5) (View.ld x5 r0_5) 0 7 (by norm_num) (by norm_num) slices_S512x3072_o0_896_S512x128 r l)).trans ?_
  rw [load4, load4, show (fun j => k0_pay25 x0 x1 x2 x3 x4 x5 (ix2 r j)) = prow x0 x1 x2 x3 r from funext fun j => y_apply x0 x1 x2 x3 x4 x5 r j]
  rfl

theorem out6_apply (r : Fin 512) (n : Fin 1024) :
    out0_6 x0 x1 x2 x3 x4 x5 (ix2 r n) = turn (prow x0 x1 x2 x3 r) (fun l => x4 (ix2 r l)) (fun l => x5 (ix2 r l)) 0 (by norm_num) n * qs := by
  unfold out0_6
  refine (View.canon_apply_of_pieces (blockOf6 x0 x1 x2 x3 x4 x5) _ ?_ (ix2 r n) (cover0_6 _ _ _ _ _ _ _ _ (ix2 r n))).trans rfl
  intro p hp
  simp only [List.mem_cons, List.not_mem_nil, or_false] at hp
  rcases hp with rfl | rfl | rfl | rfl | rfl | rfl | rfl | rfl
  · exact fun x => piece_eq (blockOf6 x0 x1 x2 x3 x4 x5) _ 7 (by norm_num) _ rfl inb_S512x1024_S512x128_0_896 (piece6_7 x0 x1 x2 x3 x4 x5) x
  · exact fun x => piece_eq (blockOf6 x0 x1 x2 x3 x4 x5) _ 6 (by norm_num) _ rfl inb_S512x1024_S512x128_0_768 (piece6_6 x0 x1 x2 x3 x4 x5) x
  · exact fun x => piece_eq (blockOf6 x0 x1 x2 x3 x4 x5) _ 5 (by norm_num) _ rfl inb_S512x1024_S512x128_0_640 (piece6_5 x0 x1 x2 x3 x4 x5) x
  · exact fun x => piece_eq (blockOf6 x0 x1 x2 x3 x4 x5) _ 4 (by norm_num) _ rfl inb_S512x1024_S512x128_0_512 (piece6_4 x0 x1 x2 x3 x4 x5) x
  · exact fun x => piece_eq (blockOf6 x0 x1 x2 x3 x4 x5) _ 3 (by norm_num) _ rfl inb_S512x1024_S512x128_0_384 (piece6_3 x0 x1 x2 x3 x4 x5) x
  · exact fun x => piece_eq (blockOf6 x0 x1 x2 x3 x4 x5) _ 2 (by norm_num) _ rfl inb_S512x1024_S512x128_0_256 (piece6_2 x0 x1 x2 x3 x4 x5) x
  · exact fun x => piece_eq (blockOf6 x0 x1 x2 x3 x4 x5) _ 1 (by norm_num) _ rfl inb_S512x1024_S512x128_0_128 (piece6_1 x0 x1 x2 x3 x4 x5) x
  · exact fun x => piece_eq (blockOf6 x0 x1 x2 x3 x4 x5) _ 0 (by norm_num) _ rfl inb_S512x1024_S512x128_0_0 (piece6_0 x0 x1 x2 x3 x4 x5) x

/-! ### Output 7 -/

/-- The whole block. -/
def blockOf7 (i : S512x1024.Idx) : EReal :=
  (fun (r : Fin 512) (n : Fin 1024) => turn (prow x0 x1 x2 x3 r) (fun l => x4 (ix2 r l)) (fun l => x5 (ix2 r l)) 1024 (by norm_num) n) (i 0) (i 1)
theorem piece7_0 (r : Fin 512) (l : Fin 128) :
    (k0_pay7 (k0_pay25 x0 x1 x2 x3 x4 x5) (View.ld x4 r0_5) (View.ld x5 r0_5) (k0_pay26 x0 x1 x2 x3 x4 x5) : FVec Ideal S512x128 .bf16) (ix2 r l) = blockOf7 x0 x1 x2 x3 x4 x5 (ix2 r ⟨128 * 0 + l.val, by omega⟩) := by
  refine (head_turn (k0_pay25 x0 x1 x2 x3 x4 x5) (View.ld x4 r0_5) (View.ld x5 r0_5) 1024 0 (by norm_num) (by norm_num) slices_S512x3072_o0_1024_S512x128 r l).trans ?_
  rw [load4, load4, show (fun j => k0_pay25 x0 x1 x2 x3 x4 x5 (ix2 r j)) = prow x0 x1 x2 x3 r from funext fun j => y_apply x0 x1 x2 x3 x4 x5 r j]
  rfl
theorem piece7_1 (r : Fin 512) (l : Fin 128) :
    (k0_pay9 (k0_pay25 x0 x1 x2 x3 x4 x5) (View.ld x4 r0_5) (View.ld x5 r0_5) (k0_pay26 x0 x1 x2 x3 x4 x5) : FVec Ideal S512x128 .bf16) (ix2 r l) = blockOf7 x0 x1 x2 x3 x4 x5 (ix2 r ⟨128 * 1 + l.val, by omega⟩) := by
  refine (head_turn (k0_pay25 x0 x1 x2 x3 x4 x5) (View.ld x4 r0_5) (View.ld x5 r0_5) 1024 1 (by norm_num) (by norm_num) slices_S512x3072_o0_1152_S512x128 r l).trans ?_
  rw [load4, load4, show (fun j => k0_pay25 x0 x1 x2 x3 x4 x5 (ix2 r j)) = prow x0 x1 x2 x3 r from funext fun j => y_apply x0 x1 x2 x3 x4 x5 r j]
  rfl
theorem piece7_2 (r : Fin 512) (l : Fin 128) :
    (k0_pay11 (k0_pay25 x0 x1 x2 x3 x4 x5) (View.ld x4 r0_5) (View.ld x5 r0_5) (k0_pay26 x0 x1 x2 x3 x4 x5) : FVec Ideal S512x128 .bf16) (ix2 r l) = blockOf7 x0 x1 x2 x3 x4 x5 (ix2 r ⟨128 * 2 + l.val, by omega⟩) := by
  refine (head_turn (k0_pay25 x0 x1 x2 x3 x4 x5) (View.ld x4 r0_5) (View.ld x5 r0_5) 1024 2 (by norm_num) (by norm_num) slices_S512x3072_o0_1280_S512x128 r l).trans ?_
  rw [load4, load4, show (fun j => k0_pay25 x0 x1 x2 x3 x4 x5 (ix2 r j)) = prow x0 x1 x2 x3 r from funext fun j => y_apply x0 x1 x2 x3 x4 x5 r j]
  rfl
theorem piece7_3 (r : Fin 512) (l : Fin 128) :
    (k0_pay13 (k0_pay25 x0 x1 x2 x3 x4 x5) (View.ld x4 r0_5) (View.ld x5 r0_5) (k0_pay26 x0 x1 x2 x3 x4 x5) : FVec Ideal S512x128 .bf16) (ix2 r l) = blockOf7 x0 x1 x2 x3 x4 x5 (ix2 r ⟨128 * 3 + l.val, by omega⟩) := by
  refine (head_turn (k0_pay25 x0 x1 x2 x3 x4 x5) (View.ld x4 r0_5) (View.ld x5 r0_5) 1024 3 (by norm_num) (by norm_num) slices_S512x3072_o0_1408_S512x128 r l).trans ?_
  rw [load4, load4, show (fun j => k0_pay25 x0 x1 x2 x3 x4 x5 (ix2 r j)) = prow x0 x1 x2 x3 r from funext fun j => y_apply x0 x1 x2 x3 x4 x5 r j]
  rfl
theorem piece7_4 (r : Fin 512) (l : Fin 128) :
    (k0_pay15 (k0_pay25 x0 x1 x2 x3 x4 x5) (View.ld x4 r0_5) (View.ld x5 r0_5) (k0_pay26 x0 x1 x2 x3 x4 x5) : FVec Ideal S512x128 .bf16) (ix2 r l) = blockOf7 x0 x1 x2 x3 x4 x5 (ix2 r ⟨128 * 4 + l.val, by omega⟩) := by
  refine (head_turn (k0_pay25 x0 x1 x2 x3 x4 x5) (View.ld x4 r0_5) (View.ld x5 r0_5) 1024 4 (by norm_num) (by norm_num) slices_S512x3072_o0_1536_S512x128 r l).trans ?_
  rw [load4, load4, show (fun j => k0_pay25 x0 x1 x2 x3 x4 x5 (ix2 r j)) = prow x0 x1 x2 x3 r from funext fun j => y_apply x0 x1 x2 x3 x4 x5 r j]
  rfl
theorem piece7_5 (r : Fin 512) (l : Fin 128) :
    (k0_pay18 (k0_pay17 (k0_pay25 x0 x1 x2 x3 x4 x5) (View.ld x4 r0_5) (View.ld x5 r0_5) (k0_pay26 x0 x1 x2 x3 x4 x5)) : FVec Ideal S512x128 .bf16) (ix2 r l) = blockOf7 x0 x1 x2 x3 x4 x5 (ix2 r ⟨128 * 5 + l.val, by omega⟩) := by
  refine (head_turn (k0_pay25 x0 x1 x2 x3 x4 x5) (View.ld x4 r0_5) (View.ld x5 r0_5) 1024 5 (by norm_num) (by norm_num) slices_S512x3072_o0_1664_S512x128 r l).trans ?_
  rw [load4, load4, show (fun j => k0_pay25 x0 x1 x2 x3 x4 x5 (ix2 r j)) = prow x0 x1 x2 x3 r from funext fun j => y_apply x0 x1 x2 x3 x4 x5 r j]
  rfl
theorem piece7_6 (r : Fin 512) (l : Fin 128) :
    (k0_pay20 (k0_pay25 x0 x1 x2 x3 x4 x5) (View.ld x4 r0_5) (View.ld x5 r0_5) (k0_pay26 x0 x1 x2 x3 x4 x5) : FVec Ideal S512x128 .bf16) (ix2 r l) = blockOf7 x0 x1 x2 x3 x4 x5 (ix2 r ⟨128 * 6 + l.val, by omega⟩) := by
  refine (head_turn (k0_pay25 x0 x1 x2 x3 x4 x5) (View.ld x4 r0_5) (View.ld x5 r0_5) 1024 6 (by norm_num) (by norm_num) slices_S512x3072_o0_1792_S512x128 r l).trans ?_
  rw [load4, load4, show (fun j => k0_pay25 x0 x1 x2 x3 x4 x5 (ix2 r j)) = prow x0 x1 x2 x3 r from funext fun j => y_apply x0 x1 x2 x3 x4 x5 r j]
  rfl
theorem piece7_7 (r : Fin 512) (l : Fin 128) :
    (k0_pay1 (View.ld x5 r0_5) (k0_pay23 (k0_pay25 x0 x1 x2 x3 x4 x5) (k0_pay26 x0 x1 x2 x3 x4 x5)) (k0_pay24 (k0_pay25 x0 x1 x2 x3 x4 x5) (View.ld x4 r0_5)) : FVec Ideal S512x128 .bf16) (ix2 r l) = blockOf7 x0 x1 x2 x3 x4 x5 (ix2 r ⟨128 * 7 + l.val, by omega⟩) := by
  refine (head_turn (k0_pay25 x0 x1 x2 x3 x4 x5) (View.ld x4 r0_5) (View.ld x5 r0_5) 1024 7 (by norm_num) (by norm_num) slices_S512x3072_o0_1920_S512x128 r l).trans ?_
  rw [load4, load4, show (fun j => k0_pay25 x0 x1 x2 x3 x4 x5 (ix2 r j)) = prow x0 x1 x2 x3 r from funext fun j => y_apply x0 x1 x2 x3 x4 x5 r j]
  rfl

theorem out7_apply (r : Fin 512) (n : Fin 1024) :
    out0_7 x0 x1 x2 x3 x4 x5 (ix2 r n) = turn (prow x0 x1 x2 x3 r) (fun l => x4 (ix2 r l)) (fun l => x5 (ix2 r l)) 1024 (by norm_num) n := by
  unfold out0_7
  refine (View.canon_apply_of_pieces (blockOf7 x0 x1 x2 x3 x4 x5) _ ?_ (ix2 r n) (cover0_7 _ _ _ _ _ _ _ _ (ix2 r n))).trans rfl
  intro p hp
  simp only [List.mem_cons, List.not_mem_nil, or_false] at hp
  rcases hp with rfl | rfl | rfl | rfl | rfl | rfl | rfl | rfl
  · exact fun x => piece_eq (blockOf7 x0 x1 x2 x3 x4 x5) _ 7 (by norm_num) _ rfl inb_S512x1024_S512x128_0_896 (piece7_7 x0 x1 x2 x3 x4 x5) x
  · exact fun x => piece_eq (blockOf7 x0 x1 x2 x3 x4 x5) _ 6 (by norm_num) _ rfl inb_S512x1024_S512x128_0_768 (piece7_6 x0 x1 x2 x3 x4 x5) x
  · exact fun x => piece_eq (blockOf7 x0 x1 x2 x3 x4 x5) _ 5 (by norm_num) _ rfl inb_S512x1024_S512x128_0_640 (piece7_5 x0 x1 x2 x3 x4 x5) x
  · exact fun x => piece_eq (blockOf7 x0 x1 x2 x3 x4 x5) _ 4 (by norm_num) _ rfl inb_S512x1024_S512x128_0_512 (piece7_4 x0 x1 x2 x3 x4 x5) x
  · exact fun x => piece_eq (blockOf7 x0 x1 x2 x3 x4 x5) _ 3 (by norm_num) _ rfl inb_S512x1024_S512x128_0_384 (piece7_3 x0 x1 x2 x3 x4 x5) x
  · exact fun x => piece_eq (blockOf7 x0 x1 x2 x3 x4 x5) _ 2 (by norm_num) _ rfl inb_S512x1024_S512x128_0_256 (piece7_2 x0 x1 x2 x3 x4 x5) x
  · exact fun x => piece_eq (blockOf7 x0 x1 x2 x3 x4 x5) _ 1 (by norm_num) _ rfl inb_S512x1024_S512x128_0_128 (piece7_1 x0 x1 x2 x3 x4 x5) x
  · exact fun x => piece_eq (blockOf7 x0 x1 x2 x3 x4 x5) _ 0 (by norm_num) _ rfl inb_S512x1024_S512x128_0_0 (piece7_0 x0 x1 x2 x3 x4 x5) x

theorem out8_apply (r : Fin 512) (n : Fin 1024) :
    out0_8 x0 x1 x2 x3 x4 x5 (ix2 r n) = prow x0 x1 x2 x3 r ⟨2048 + n.val, by omega⟩ := by
  unfold out0_8
  rw [View.canon_unit_zero zero2, ← y_apply x0 x1 x2 x3 x4 x5]
  unfold k0_pay2
  generalize k0_pay25 x0 x1 x2 x3 x4 x5 = y
  pointwise []

/-! ## The blocks at a point -/

variable (m : (ℓ : Loc nD τ sig) → Buf (Elt Ideal) ℓ)

theorem N0 : cfg0.N = 32 := (by decide +kernel : grid0.N = 32)
theorem index0 (t : Fin cfg0.N) : (cfg0.win (0 : Fin 9)).index t = ![t.val + 16, 0] :=
  (by decide +kernel : ∀ t : Fin grid0.N, cc0_transform_0 (grid0.coords t) = ![t.val + 16, 0]) t
theorem index1 (t : Fin cfg0.N) : (cfg0.win (1 : Fin 9)).index t = ![1, t.val / 8, 0, 0] :=
  (by decide +kernel : ∀ t : Fin grid0.N, cc0_transform_1 (grid0.coords t) = ![1, t.val / 8, 0, 0]) t
theorem index4 (t : Fin cfg0.N) : (cfg0.win (4 : Fin 9)).index t = ![t.val % 8, 0] :=
  (by decide +kernel : ∀ t : Fin grid0.N, cc0_transform_4 (grid0.coords t) = ![t.val % 8, 0]) t
theorem index5 (t : Fin cfg0.N) : (cfg0.win (5 : Fin 9)).index t = ![t.val % 8, 0] :=
  (by decide +kernel : ∀ t : Fin grid0.N, cc0_transform_5 (grid0.coords t) = ![t.val % 8, 0]) t
theorem index6 (t : Fin cfg0.N) : (cfg0.win (6 : Fin 9)).index t = ![t.val, 0] :=
  (by decide +kernel : ∀ t : Fin grid0.N, cc0_transform_6 (grid0.coords t) = ![t.val, 0]) t
theorem index7 (t : Fin cfg0.N) : (cfg0.win (7 : Fin 9)).index t = ![t.val, 0] :=
  (by decide +kernel : ∀ t : Fin grid0.N, cc0_transform_7 (grid0.coords t) = ![t.val, 0]) t
theorem index8 (t : Fin cfg0.N) : (cfg0.win (8 : Fin 9)).index t = ![t.val, 0] :=
  (by decide +kernel : ∀ t : Fin grid0.N, cc0_transform_8 (grid0.coords t) = ![t.val, 0]) t

theorem blk0 (c : Dev nD) (t : Fin cfg0.N) (i : Fin 32) (hi : t.val = i.val) (r : Fin 512) (k : Fin 1024) :
    iblk m c (0 : Fin 9) t (ix2 r k) = m ((c : Thread nD τ).loc main_arg0) (ix2 ⟨8192 + (i.val * 512 + r.val), by omega⟩ k) := by
  refine congrArg (m ((c : Thread nD τ).loc main_arg0)) (funext fun a => Fin.ext ?_)
  refine (Pipeline.Window.rect_emb_val (cfg0.win (0 : Fin 9)) t (ix2 r k) a).trans ?_
  rw [index0 t]
  match a with
  | ⟨0, _⟩ => show (t.val + 16) * 512 + r.val = 8192 + (i.val * 512 + r.val); omega
  | ⟨1, _⟩ => show 0 * 1024 + k.val = k.val; omega
theorem blk1 (c : Dev nD) (t : Fin cfg0.N) (i : Fin 8) (hi : t.val / 8 = i.val) (j : Fin 6) (k : Fin 1024) :
    iblk m c (1 : Fin 9) t (ix4 0 0 j k) = m ((c : Thread nD τ).loc main_arg1) (ix4 1 i j k) := by
  refine congrArg (m ((c : Thread nD τ).loc main_arg1)) (funext fun a => Fin.ext ?_)
  refine (Pipeline.Window.rect_emb_val (cfg0.win (1 : Fin 9)) t (ix4 0 0 j k) a).trans ?_
  rw [index1 t, hi]
  match a with
  | ⟨0, _⟩ => rfl
  | ⟨1, _⟩ => show i.val * 1 + 0 = i.val; omega
  | ⟨2, _⟩ => show 0 * 6 + j.val = j.val; omega
  | ⟨3, _⟩ => show 0 * 1024 + k.val = k.val; omega
theorem blk2 (c : Dev nD) (t : Fin cfg0.N) (a : Fin 1) (b : Fin 1024) :
    iblk m c (2 : Fin 9) t (ix2 a b) = m ((c : Thread nD τ).loc main_arg2) (ix2 a b) := by
  refine congrArg (m ((c : Thread nD τ).loc main_arg2)) (funext fun x => Fin.ext ?_)
  refine (Pipeline.Window.rect_emb_val (cfg0.win (2 : Fin 9)) t (ix2 a b) x).trans ?_
  match x with
  | ⟨0, _⟩ => show 0 * 1 + a.val = a.val; omega
  | ⟨1, _⟩ => show 0 * 1024 + b.val = b.val; omega
theorem blk3 (c : Dev nD) (t : Fin cfg0.N) (a : Fin 1024) (b : Fin 3072) :
    iblk m c (3 : Fin 9) t (ix2 a b) = m ((c : Thread nD τ).loc main_arg3) (ix2 a b) := by
  refine congrArg (m ((c : Thread nD τ).loc main_arg3)) (funext fun x => Fin.ext ?_)
  refine (Pipeline.Window.rect_emb_val (cfg0.win (3 : Fin 9)) t (ix2 a b) x).trans ?_
  match x with
  | ⟨0, _⟩ => show 0 * 1024 + a.val = a.val; omega
  | ⟨1, _⟩ => show 0 * 3072 + b.val = b.val; omega
theorem blk4 (c : Dev nD) (t : Fin cfg0.N) (i : Fin 32) (hi : t.val = i.val) (r : Fin 512) (l : Fin 128) :
    iblk m c (4 : Fin 9) t (ix2 r l) = m ((c : Thread nD τ).loc main_arg4) (ix2 ⟨(i.val * 512 + r.val) % 4096, by omega⟩ l) := by
  refine congrArg (m ((c : Thread nD τ).loc main_arg4)) (funext fun a => Fin.ext ?_)
  refine (Pipeline.Window.rect_emb_val (cfg0.win (4 : Fin 9)) t (ix2 r l) a).trans ?_
  rw [index4 t]
  match a with
  | ⟨0, _⟩ => show t.val % 8 * 512 + r.val = (i.val * 512 + r.val) % 4096; omega
  | ⟨1, _⟩ => show 0 * 128 + l.val = l.val; omega
theorem blk5 (c : Dev nD) (t : Fin cfg0.N) (i : Fin 32) (hi : t.val = i.val) (r : Fin 512) (l : Fin 128) :
    iblk m c (5 : Fin 9) t (ix2 r l) = m ((c : Thread nD τ).loc main_arg5) (ix2 ⟨(i.val * 512 + r.val) % 4096, by omega⟩ l) := by
  refine congrArg (m ((c : Thread nD τ).loc main_arg5)) (funext fun a => Fin.ext ?_)
  refine (Pipeline.Window.rect_emb_val (cfg0.win (5 : Fin 9)) t (ix2 r l) a).trans ?_
  rw [index5 t]
  match a with
  | ⟨0, _⟩ => show t.val % 8 * 512 + r.val = (i.val * 512 + r.val) % 4096; omega
  | ⟨1, _⟩ => show 0 * 128 + l.val = l.val; omega

/-! ## The whole results -/

/-- One element of a token's projection, the token counted among the latents. -/
def token (x : S24576x1024.Idx → EReal) (md : S2x8x6x1024.Idx → EReal) (g : S1x1024.Idx → EReal) (w : S1024x3072.Idx → EReal) (R : Fin 16384) (j : Fin 3072) : EReal :=
  proj (fun k => x (ix2 ⟨8192 + R.val, by omega⟩ k)) (fun k => g (ix2 0 k)) (fun k => md (ix4 1 ⟨R.val / 4096, by omega⟩ 0 k)) (fun k => md (ix4 1 ⟨R.val / 4096, by omega⟩ 1 k)) (fun k => w (ix2 k j))

/-- The projection of the blocks at a point. -/
theorem point (c : Dev nD) (t : Fin cfg0.N) (i : Fin 32) (hi : t.val = i.val) (r : Fin 512) (j : Fin 3072) :
    proj (fun k => iblk m c (0 : Fin 9) t (ix2 r k)) (fun k => iblk m c (2 : Fin 9) t (ix2 0 k)) (fun k => iblk m c (1 : Fin 9) t (ix4 0 0 0 k))
        (fun k => iblk m c (1 : Fin 9) t (ix4 0 0 1 k)) (fun k => iblk m c (3 : Fin 9) t (ix2 k j))
      = token (m ((c : Thread nD τ).loc main_arg0)) (m ((c : Thread nD τ).loc main_arg1)) (m ((c : Thread nD τ).loc main_arg2)) (m ((c : Thread nD τ).loc main_arg3)) ⟨i.val * 512 + r.val, by omega⟩ j := by
  unfold token
  refine congr (congr (congr (congr (congrArg proj (funext fun k => ?_)) (funext fun k => ?_)) (funext fun k => ?_)) (funext fun k => ?_)) (funext fun k => ?_)
  · exact blk0 m c t i hi r k
  · exact blk2 m c t 0 k
  · exact blk1 m c t _ (by show t.val / 8 = (i.val * 512 + r.val) / 4096; omega) 0 k
  · exact blk1 m c t _ (by show t.val / 8 = (i.val * 512 + r.val) / 4096; omega) 1 k
  · exact blk3 m c t k j

theorem point6 (c : Dev nD) (t : Fin cfg0.N) (i : Fin 32) (hi : t.val = i.val) (r : Fin 512) (n : Fin 1024) :
    out0_6 (iblk m c (0 : Fin 9) t) (iblk m c (1 : Fin 9) t) (iblk m c (2 : Fin 9) t) (iblk m c (3 : Fin 9) t) (iblk m c (4 : Fin 9) t) (iblk m c (5 : Fin 9) t) (ix2 r n)
      = (fun (R : Fin 16384) (n : Fin 1024) => turn (token (m ((c : Thread nD τ).loc main_arg0)) (m ((c : Thread nD τ).loc main_arg1)) (m ((c : Thread nD τ).loc main_arg2)) (m ((c : Thread nD τ).loc main_arg3)) R) (fun l => (m ((c : Thread nD τ).loc main_arg4)) (ix2 ⟨R.val % 4096, by omega⟩ l)) (fun l => (m ((c : Thread nD τ).loc main_arg5)) (ix2 ⟨R.val % 4096, by omega⟩ l)) 0 (by norm_num) n * qs) ⟨i.val * 512 + r.val, by omega⟩ n := by
  refine (out6_apply _ _ _ _ _ _ r n).trans ?_
  rw [show prow (iblk m c (0 : Fin 9) t) (iblk m c (1 : Fin 9) t) (iblk m c (2 : Fin 9) t) (iblk m c (3 : Fin 9) t) r = token (m ((c : Thread nD τ).loc main_arg0)) (m ((c : Thread nD τ).loc main_arg1)) (m ((c : Thread nD τ).loc main_arg2)) (m ((c : Thread nD τ).loc main_arg3)) ⟨i.val * 512 + r.val, by omega⟩ from funext fun j => point m c t i hi r j,
    show (fun l => iblk m c (4 : Fin 9) t (ix2 r l)) = fun l : Fin 128 => (m ((c : Thread nD τ).loc main_arg4)) (ix2 ⟨(i.val * 512 + r.val) % 4096, by omega⟩ l) from funext fun l => blk4 m c t i hi r l,
    show (fun l => iblk m c (5 : Fin 9) t (ix2 r l)) = fun l : Fin 128 => (m ((c : Thread nD τ).loc main_arg5)) (ix2 ⟨(i.val * 512 + r.val) % 4096, by omega⟩ l) from funext fun l => blk5 m c t i hi r l]
theorem covers6 : (cfg0.win (6 : Fin 9)).Covers := by
  refine Pipeline.Window.covers_of_index_surj _ rfl (fun a => ?_) fun β => ?_
  · match a with
    | ⟨0, _⟩ => show 0 < 512; decide
    | ⟨1, _⟩ => show 0 < 1024; decide
  · have h0 : (β (0 : Fin 2)).val < (16384 + 512 - 1) / 512 := (β (0 : Fin 2)).isLt
    have h1 : (β (1 : Fin 2)).val < (1024 + 1024 - 1) / 1024 := (β (1 : Fin 2)).isLt
    refine ⟨⟨(β (0 : Fin 2)).val, ?_⟩, fun a => ?_⟩
    · rw [show (grid0.N) = 32 from by decide +kernel]; omega
    · rw [index6]
      match a with
      | ⟨0, _⟩ => rfl
      | ⟨1, _⟩ => show 0 = (β (1 : Fin 2)).val; omega
theorem final6 (c : Dev nD) : (dats m 0 c).arrAt (6 : Fin 9) cfg0.N
    = fun y : S16384x1024.Idx => (fun (R : Fin 16384) (n : Fin 1024) => turn (token (m ((c : Thread nD τ).loc main_arg0)) (m ((c : Thread nD τ).loc main_arg1)) (m ((c : Thread nD τ).loc main_arg2)) (m ((c : Thread nD τ).loc main_arg3)) R) (fun l => (m ((c : Thread nD τ).loc main_arg4)) (ix2 ⟨R.val % 4096, by omega⟩ l)) (fun l => (m ((c : Thread nD τ).loc main_arg5)) (ix2 ⟨R.val % 4096, by omega⟩ l)) 0 (by norm_num) n * qs) (y 0) (y 1) := by
  refine (dats m 0 c).arrAt_eq_of_covers (6 : Fin 9) _ covers6 fun t hf y => ?_
  rw [after0_6, cast_eq]
  have hN : t.val < 32 := N0 ▸ t.isLt
  have hy : (y : S512x1024.Idx) = ix2 (y 0) (y 1) := eq_ix2 (n0 := 512) (n1 := 1024) y
  refine (congrArg _ hy).trans ((point6 m c t ⟨t.val, hN⟩ rfl (y 0) (y 1)).trans ?_)
  have h := Pipeline.Window.rect_emb_val (cfg0.win (6 : Fin 9)) t y
  rw [index6 t] at h
  refine congrArg₂ (fun (R : Fin 16384) (n : Fin 1024) => turn (token (m ((c : Thread nD τ).loc main_arg0)) (m ((c : Thread nD τ).loc main_arg1)) (m ((c : Thread nD τ).loc main_arg2)) (m ((c : Thread nD τ).loc main_arg3)) R) (fun l => (m ((c : Thread nD τ).loc main_arg4)) (ix2 ⟨R.val % 4096, by omega⟩ l)) (fun l => (m ((c : Thread nD τ).loc main_arg5)) (ix2 ⟨R.val % 4096, by omega⟩ l)) 0 (by norm_num) n * qs) (Fin.ext ?_) (Fin.ext ?_)
  · exact (h (0 : Fin 2)).symm
  · refine Eq.trans ?_ (h (1 : Fin 2)).symm
    show (y 1).val = 0 * 1024 + (y 1).val; omega

theorem point7 (c : Dev nD) (t : Fin cfg0.N) (i : Fin 32) (hi : t.val = i.val) (r : Fin 512) (n : Fin 1024) :
    out0_7 (iblk m c (0 : Fin 9) t) (iblk m c (1 : Fin 9) t) (iblk m c (2 : Fin 9) t) (iblk m c (3 : Fin 9) t) (iblk m c (4 : Fin 9) t) (iblk m c (5 : Fin 9) t) (ix2 r n)
      = (fun (R : Fin 16384) (n : Fin 1024) => turn (token (m ((c : Thread nD τ).loc main_arg0)) (m ((c : Thread nD τ).loc main_arg1)) (m ((c : Thread nD τ).loc main_arg2)) (m ((c : Thread nD τ).loc main_arg3)) R) (fun l => (m ((c : Thread nD τ).loc main_arg4)) (ix2 ⟨R.val % 4096, by omega⟩ l)) (fun l => (m ((c : Thread nD τ).loc main_arg5)) (ix2 ⟨R.val % 4096, by omega⟩ l)) 1024 (by norm_num) n) ⟨i.val * 512 + r.val, by omega⟩ n := by
  refine (out7_apply _ _ _ _ _ _ r n).trans ?_
  rw [show prow (iblk m c (0 : Fin 9) t) (iblk m c (1 : Fin 9) t) (iblk m c (2 : Fin 9) t) (iblk m c (3 : Fin 9) t) r = token (m ((c : Thread nD τ).loc main_arg0)) (m ((c : Thread nD τ).loc main_arg1)) (m ((c : Thread nD τ).loc main_arg2)) (m ((c : Thread nD τ).loc main_arg3)) ⟨i.val * 512 + r.val, by omega⟩ from funext fun j => point m c t i hi r j,
    show (fun l => iblk m c (4 : Fin 9) t (ix2 r l)) = fun l : Fin 128 => (m ((c : Thread nD τ).loc main_arg4)) (ix2 ⟨(i.val * 512 + r.val) % 4096, by omega⟩ l) from funext fun l => blk4 m c t i hi r l,
    show (fun l => iblk m c (5 : Fin 9) t (ix2 r l)) = fun l : Fin 128 => (m ((c : Thread nD τ).loc main_arg5)) (ix2 ⟨(i.val * 512 + r.val) % 4096, by omega⟩ l) from funext fun l => blk5 m c t i hi r l]
theorem covers7 : (cfg0.win (7 : Fin 9)).Covers := by
  refine Pipeline.Window.covers_of_index_surj _ rfl (fun a => ?_) fun β => ?_
  · match a with
    | ⟨0, _⟩ => show 0 < 512; decide
    | ⟨1, _⟩ => show 0 < 1024; decide
  · have h0 : (β (0 : Fin 2)).val < (16384 + 512 - 1) / 512 := (β (0 : Fin 2)).isLt
    have h1 : (β (1 : Fin 2)).val < (1024 + 1024 - 1) / 1024 := (β (1 : Fin 2)).isLt
    refine ⟨⟨(β (0 : Fin 2)).val, ?_⟩, fun a => ?_⟩
    · rw [show (grid0.N) = 32 from by decide +kernel]; omega
    · rw [index7]
      match a with
      | ⟨0, _⟩ => rfl
      | ⟨1, _⟩ => show 0 = (β (1 : Fin 2)).val; omega
theorem final7 (c : Dev nD) : (dats m 0 c).arrAt (7 : Fin 9) cfg0.N
    = fun y : S16384x1024.Idx => (fun (R : Fin 16384) (n : Fin 1024) => turn (token (m ((c : Thread nD τ).loc main_arg0)) (m ((c : Thread nD τ).loc main_arg1)) (m ((c : Thread nD τ).loc main_arg2)) (m ((c : Thread nD τ).loc main_arg3)) R) (fun l => (m ((c : Thread nD τ).loc main_arg4)) (ix2 ⟨R.val % 4096, by omega⟩ l)) (fun l => (m ((c : Thread nD τ).loc main_arg5)) (ix2 ⟨R.val % 4096, by omega⟩ l)) 1024 (by norm_num) n) (y 0) (y 1) := by
  refine (dats m 0 c).arrAt_eq_of_covers (7 : Fin 9) _ covers7 fun t hf y => ?_
  rw [after0_7, cast_eq]
  have hN : t.val < 32 := N0 ▸ t.isLt
  have hy : (y : S512x1024.Idx) = ix2 (y 0) (y 1) := eq_ix2 (n0 := 512) (n1 := 1024) y
  refine (congrArg _ hy).trans ((point7 m c t ⟨t.val, hN⟩ rfl (y 0) (y 1)).trans ?_)
  have h := Pipeline.Window.rect_emb_val (cfg0.win (7 : Fin 9)) t y
  rw [index7 t] at h
  refine congrArg₂ (fun (R : Fin 16384) (n : Fin 1024) => turn (token (m ((c : Thread nD τ).loc main_arg0)) (m ((c : Thread nD τ).loc main_arg1)) (m ((c : Thread nD τ).loc main_arg2)) (m ((c : Thread nD τ).loc main_arg3)) R) (fun l => (m ((c : Thread nD τ).loc main_arg4)) (ix2 ⟨R.val % 4096, by omega⟩ l)) (fun l => (m ((c : Thread nD τ).loc main_arg5)) (ix2 ⟨R.val % 4096, by omega⟩ l)) 1024 (by norm_num) n) (Fin.ext ?_) (Fin.ext ?_)
  · exact (h (0 : Fin 2)).symm
  · refine Eq.trans ?_ (h (1 : Fin 2)).symm
    show (y 1).val = 0 * 1024 + (y 1).val; omega

theorem point8 (c : Dev nD) (t : Fin cfg0.N) (i : Fin 32) (hi : t.val = i.val) (r : Fin 512) (n : Fin 1024) :
    out0_8 (iblk m c (0 : Fin 9) t) (iblk m c (1 : Fin 9) t) (iblk m c (2 : Fin 9) t) (iblk m c (3 : Fin 9) t) (iblk m c (4 : Fin 9) t) (iblk m c (5 : Fin 9) t) (ix2 r n)
      = (fun (R : Fin 16384) (n : Fin 1024) => token (m ((c : Thread nD τ).loc main_arg0)) (m ((c : Thread nD τ).loc main_arg1)) (m ((c : Thread nD τ).loc main_arg2)) (m ((c : Thread nD τ).loc main_arg3)) R ⟨2048 + n.val, by omega⟩) ⟨i.val * 512 + r.val, by omega⟩ n := by
  refine (out8_apply _ _ _ _ _ _ r n).trans ?_
  exact point m c t i hi r ⟨2048 + n.val, by omega⟩
theorem covers8 : (cfg0.win (8 : Fin 9)).Covers := by
  refine Pipeline.Window.covers_of_index_surj _ rfl (fun a => ?_) fun β => ?_
  · match a with
    | ⟨0, _⟩ => show 0 < 512; decide
    | ⟨1, _⟩ => show 0 < 1024; decide
  · have h0 : (β (0 : Fin 2)).val < (16384 + 512 - 1) / 512 := (β (0 : Fin 2)).isLt
    have h1 : (β (1 : Fin 2)).val < (1024 + 1024 - 1) / 1024 := (β (1 : Fin 2)).isLt
    refine ⟨⟨(β (0 : Fin 2)).val, ?_⟩, fun a => ?_⟩
    · rw [show (grid0.N) = 32 from by decide +kernel]; omega
    · rw [index8]
      match a with
      | ⟨0, _⟩ => rfl
      | ⟨1, _⟩ => show 0 = (β (1 : Fin 2)).val; omega
theorem final8 (c : Dev nD) : (dats m 0 c).arrAt (8 : Fin 9) cfg0.N
    = fun y : S16384x1024.Idx => (fun (R : Fin 16384) (n : Fin 1024) => token (m ((c : Thread nD τ).loc main_arg0)) (m ((c : Thread nD τ).loc main_arg1)) (m ((c : Thread nD τ).loc main_arg2)) (m ((c : Thread nD τ).loc main_arg3)) R ⟨2048 + n.val, by omega⟩) (y 0) (y 1) := by
  refine (dats m 0 c).arrAt_eq_of_covers (8 : Fin 9) _ covers8 fun t hf y => ?_
  rw [after0_8, cast_eq]
  have hN : t.val < 32 := N0 ▸ t.isLt
  have hy : (y : S512x1024.Idx) = ix2 (y 0) (y 1) := eq_ix2 (n0 := 512) (n1 := 1024) y
  refine (congrArg _ hy).trans ((point8 m c t ⟨t.val, hN⟩ rfl (y 0) (y 1)).trans ?_)
  have h := Pipeline.Window.rect_emb_val (cfg0.win (8 : Fin 9)) t y
  rw [index8 t] at h
  refine congrArg₂ (fun (R : Fin 16384) (n : Fin 1024) => token (m ((c : Thread nD τ).loc main_arg0)) (m ((c : Thread nD τ).loc main_arg1)) (m ((c : Thread nD τ).loc main_arg2)) (m ((c : Thread nD τ).loc main_arg3)) R ⟨2048 + n.val, by omega⟩) (Fin.ext ?_) (Fin.ext ?_)
  · exact (h (0 : Fin 2)).symm
  · refine Eq.trans ?_ (h (1 : Fin 2)).symm
    show (y 1).val = 0 * 1024 + (y 1).val; omega

end Cert.Kernel5Ideal.Gen

end
-- ==== Proof.QkvLatRef.lean ====
/-
The reference of the latents' queries, keys and values read at an element: the modulated row, its projection, the turn
by position, the queries' scale.
-/
module

public import proofs.«01_k».proof.Proof.QkvLatValue
public import proofs.«01_k».proof.Proof.QkvCtxRef
public import proofs.«01_k».proof.Proof.Gen.Reference5Ideal.Read

@[expose] public section

set_option maxRecDepth 16384

noncomputable section

namespace Cert.Reference5Ideal.Read

open Cert.Reference5Ideal Cert.Reference5Ideal.Gen Idealize.ShloMosaic Idealize.ShloMosaic.TcCoe
open Cert.Kernel3Ideal.Gen (rms modu)
open Cert.Reference3Ideal.Read (ofBits_zero modu_eq)
open Cert.Kernel4Ideal.Gen (proj qs)
open Cert.Kernel5Ideal.Gen (token turn partner partner_lt)
open Cert.Reference4Ideal.Read (div_scale)

variable (x0 : FVec Ideal S24576x1024 .f32) (x1 : FVec Ideal S2x8x6x1024 .f32) (x2 : FVec Ideal S1x1024 .f32) (x3 : FVec Ideal S1024x3072 .bf16)
  (x4 x5 : FVec Ideal S4096x128 .f32)

theorem row (q : Fin 4) (r : Fin 4096) (k : Fin 1024) : val_main_v1 (F := Ideal) x0 (ix3 q r k) = x0 (ix2 ⟨8192 + (q.val * 4096 + r.val), by omega⟩ k) := by
  pointwise [val_main_v1, val_main_v0]
theorem scale (q : Fin 4) (r : Fin 4096) (k : Fin 1024) : val_main_v23 (F := Ideal) x1 (ix3 q r k) = Ideal.ofBits .f32 0x3F800000#32 + x1 (ix4 1 ⟨q.val, by omega⟩ 1 k) := by
  pointwise [val_main_v23, val_main_v22, val_main_v21, val_main_cst_2, val_main_v20, val_main_v19, val_main_v4, val_main_v3, val_main_v2]
theorem shift (q : Fin 4) (r : Fin 4096) (k : Fin 1024) : val_main_v27 (F := Ideal) x1 (ix3 q r k) = x1 (ix4 1 ⟨q.val, by omega⟩ 0 k) := by
  pointwise [val_main_v27, val_main_v26, val_main_v25, val_main_v4, val_main_v3, val_main_v2]
theorem weight (q : Fin 4) (r : Fin 4096) (k : Fin 1024) : val_main_v17 (F := Ideal) x2 (ix3 q r k) = x2 (ix2 0 k) := by
  pointwise [val_main_v17, val_main_v16, val_main_v15]
theorem square (q : Fin 4) (r : Fin 4096) : val_main_v6 (F := Ideal) x0 (ix2 q r) = ∑ k, x0 (ix2 ⟨8192 + (q.val * 4096 + r.val), by omega⟩ k) * x0 (ix2 ⟨8192 + (q.val * 4096 + r.val), by omega⟩ k) := by
  rw [val_main_v6_apply, val_main_cst_apply]
  refine (congrArg (· + _) ofBits_zero).trans ((zero_add _).trans (Finset.sum_congr rfl fun k _ => ?_))
  rw [val_main_v5_apply, show val_main_v1 (F := Ideal) x0 (idx_main_v6 (ix2 q r) k) = x0 (ix2 ⟨8192 + (q.val * 4096 + r.val), by omega⟩ k) from (congrArg _ (eq_ix3 (n0 := 4) (n1 := 4096) (n2 := 1024) _)).trans (row x0 q r k)]
  rfl
theorem norm (q : Fin 4) (r : Fin 4096) (k : Fin 1024) : val_main_v13 (F := Ideal) x0 (ix3 q r k) = rms (fun k => x0 (ix2 ⟨8192 + (q.val * 4096 + r.val), by omega⟩ k)) := by
  rw [val_main_v13_apply, val_main_v12_apply, val_main_v11_apply, val_main_v9_apply, val_main_v7_apply, val_main_v8_apply, val_main_v10_apply, val_main_cst_0_apply, val_main_cst_1_apply]
  refine congrArg (fun y => Ideal.rsqrt (Ideal.div y (Ideal.ofBits .f32 0x44800000#32) + Ideal.ofBits .f32 0x358637BD#32)) ?_
  exact (congrArg _ (eq_ix2 (n0 := 4) (n1 := 4096) _)).trans (square x0 q r)
theorem modulated (q : Fin 4) (r : Fin 4096) (k : Fin 1024) : val_main_v28 (F := Ideal) x0 x1 x2 (ix3 q r k)
    = modu (fun k => x0 (ix2 ⟨8192 + (q.val * 4096 + r.val), by omega⟩ k)) (fun k => x2 (ix2 0 k)) (fun k => x1 (ix4 1 ⟨q.val, by omega⟩ 0 k)) (fun k => x1 (ix4 1 ⟨q.val, by omega⟩ 1 k)) k := by
  rw [val_main_v28_apply, val_main_v24_apply, val_main_v18_apply, val_main_v14_apply, row, norm, weight, scale, shift]
  exact modu_eq (fun k => x0 (ix2 ⟨8192 + (q.val * 4096 + r.val), by omega⟩ k)) (fun k => x2 (ix2 0 k)) (fun k => x1 (ix4 1 ⟨q.val, by omega⟩ 0 k)) (fun k => x1 (ix4 1 ⟨q.val, by omega⟩ 1 k)) k
theorem projected (q : Fin 4) (r : Fin 4096) (j : Fin 3072) : val_main_v30 (F := Ideal) x0 x1 x2 x3 (ix3 q r j) = token x0 x1 x2 x3 ⟨q.val * 4096 + r.val, by omega⟩ j := by
  have hq : (⟨(q.val * 4096 + r.val) / 4096, by omega⟩ : Fin 8) = ⟨q.val, by omega⟩ := Fin.ext (by show (q.val * 4096 + r.val) / 4096 = q.val; omega)
  refine (val_main_v30_apply x0 x1 x2 x3 _).trans ?_
  unfold token
  show _ = proj (fun k => x0 (ix2 ⟨8192 + (q.val * 4096 + r.val), by omega⟩ k)) (fun k => x2 (ix2 0 k)) (fun k => x1 (ix4 1 ⟨(q.val * 4096 + r.val) / 4096, by omega⟩ 0 k)) (fun k => x1 (ix4 1 ⟨(q.val * 4096 + r.val) / 4096, by omega⟩ 1 k)) (fun k => x3 (ix2 k j))
  rw [hq]
  unfold proj
  refine Finset.sum_congr rfl fun k _ => ?_
  exact congrArg₂ (· * ·) ((congrArg _ (eq_ix3 (n0 := 4) (n1 := 4096) (n2 := 1024) _)).trans (modulated x0 x1 x2 q r k))
    (congrArg x3 (eq_ix2 (n0 := 1024) (n1 := 3072) _))

/-- A token's row among the four sequences. -/
theorem projected_at (R : Fin 16384) (j : Fin 3072) (i : S4x4096x3072.Idx) (h0 : (i 0).val = R.val / 4096) (h1 : (i 1).val = R.val % 4096) (h2 : (i 2).val = j.val) :
    val_main_v30 (F := Ideal) x0 x1 x2 x3 i = token x0 x1 x2 x3 R j := by
  have hi : i = ix3 ⟨R.val / 4096, by omega⟩ ⟨R.val % 4096, by omega⟩ j := by
    refine funext fun a => Fin.ext ?_
    match a with
    | ⟨0, _⟩ => exact h0
    | ⟨1, _⟩ => exact h1
    | ⟨2, _⟩ => exact h2
  rw [hi, projected]
  exact congrArg (fun R => token x0 x1 x2 x3 R j) (Fin.ext (by show R.val / 4096 * 4096 + R.val % 4096 = R.val; omega))

/-! ## The turn of the queries -/

theorem queries_part (R : Fin 16384) (n : Fin 1024) (i : S4x4096x1024.Idx) (h0 : (i 0).val = R.val / 4096) (h1 : (i 1).val = R.val % 4096) (h2 : (i 2).val = n.val) :
    val_main_v31 (F := Ideal) x0 x1 x2 x3 i = token x0 x1 x2 x3 R ⟨0 + n.val, by omega⟩ := by
  rw [val_main_v31_apply]
  refine projected_at x0 x1 x2 x3 R ⟨0 + n.val, by omega⟩ _ h0 h1 ?_
  show (i 2).val = 0 + n.val
  omega
theorem queries_pair (R : Fin 16384) (n : Fin 1024) (i : S524288x2x16.Idx) (h : ((i 0).val * 2 + (i 1).val) * 16 + (i 2).val = R.val * 1024 + n.val) :
    val_main_v34 (F := Ideal) x0 x1 x2 x3 i = token x0 x1 x2 x3 R ⟨0 + n.val, by omega⟩ := by
  have i0 : (i 0).val < 524288 := (i 0).isLt
  have i1 : (i 1).val < 2 := (i 1).isLt
  have i2 : (i 2).val < 16 := (i 2).isLt
  rw [val_main_v34_apply]
  refine queries_part x0 x1 x2 x3 R n _ ?_ ?_ ?_
  · show (((i 0).val * 2 + (i 1).val) * 16 + (i 2).val) / 4194304 = R.val / 4096; omega
  · show (((i 0).val * 2 + (i 1).val) * 16 + (i 2).val) / 1024 % 4096 = R.val % 4096; omega
  · show (((i 0).val * 2 + (i 1).val) * 16 + (i 2).val) % 1024 = n.val; omega
theorem queries_partner (R : Fin 16384) (n : Fin 1024) :
    val_main_v37 (F := Ideal) x0 x1 x2 x3 (ix3 ⟨R.val * 32 + n.val / 32, by omega⟩ ⟨n.val / 16 % 2, by omega⟩ ⟨n.val % 16, by omega⟩)
      = token x0 x1 x2 x3 R ⟨0 + partner n.val, by have := partner_lt n.isLt (by norm_num); omega⟩ := by
  have hp := partner_lt n.isLt (by norm_num)
  unfold val_main_v37
  by_cases h : n.val % 32 < 16
  · have e : partner n.val = n.val + 16 := if_pos h
    refine (concatenate_pair_apply_left (s₁ := S524288x1x16) (s₂ := S524288x1x16) 1 _ _ _ (ix3 (n0 := 524288) (n1 := 2) (n2 := 16) ⟨R.val * 32 + n.val / 32, by omega⟩ ⟨n.val / 16 % 2, by omega⟩ ⟨n.val % 16, by omega⟩) rfl (ix3 ⟨R.val * 32 + n.val / 32, by omega⟩ 0 ⟨n.val % 16, by omega⟩)
      (fun b => by
        match b with
        | ⟨0, _⟩ => rfl
        | ⟨1, _⟩ => show 0 = n.val / 16 % 2; omega
        | ⟨2, _⟩ => rfl)).trans ?_
    rw [val_main_v35_apply]
    refine queries_pair x0 x1 x2 x3 R ⟨partner n.val, hp⟩ _ ?_
    show ((R.val * 32 + n.val / 32) * 2 + (1 + 0)) * 16 + n.val % 16 = R.val * 1024 + partner n.val
    omega
  · have e : partner n.val = n.val - 16 := if_neg h
    refine (concatenate_pair_apply_right (s₁ := S524288x1x16) (s₂ := S524288x1x16) 1 _ _ _ (ix3 (n0 := 524288) (n1 := 2) (n2 := 16) ⟨R.val * 32 + n.val / 32, by omega⟩ ⟨n.val / 16 % 2, by omega⟩ ⟨n.val % 16, by omega⟩) rfl rfl (ix3 ⟨R.val * 32 + n.val / 32, by omega⟩ 0 ⟨n.val % 16, by omega⟩)
      (fun b hb => by
        match b with
        | ⟨0, _⟩ => rfl
        | ⟨1, _⟩ => exact absurd rfl hb
        | ⟨2, _⟩ => rfl) (by show 0 + 1 = n.val / 16 % 2; omega)).trans ?_
    rw [val_main_v36_apply]
    refine queries_pair x0 x1 x2 x3 R ⟨partner n.val, hp⟩ _ ?_
    show ((R.val * 32 + n.val / 32) * 2 + 0) * 16 + n.val % 16 = R.val * 1024 + partner n.val
    omega
theorem queries_turned (R : Fin 16384) (n : Fin 1024) : val_main_v47 (F := Ideal) x0 x1 x2 x3 x4 x5 (ix2 R n)
    = turn (token x0 x1 x2 x3 R) (fun l => x4 (ix2 ⟨R.val % 4096, by omega⟩ l)) (fun l => x5 (ix2 ⟨R.val % 4096, by omega⟩ l)) 0 (by norm_num) n := by
  rw [val_main_v47_apply]
  have hi : idx_main_v47 (ix2 R n) = ix4 ⟨R.val / 4096, by omega⟩ ⟨R.val % 4096, by omega⟩ ⟨n.val / 128, by omega⟩ ⟨n.val % 128, by omega⟩ := by
    refine funext fun a => Fin.ext ?_
    match a with
    | ⟨0, _⟩ => show (R.val * 1024 + n.val) / 4194304 = R.val / 4096; omega
    | ⟨1, _⟩ => show (R.val * 1024 + n.val) / 1024 % 4096 = R.val % 4096; omega
    | ⟨2, _⟩ => show (R.val * 1024 + n.val) / 128 % 8 = n.val / 128; omega
    | ⟨3, _⟩ => show (R.val * 1024 + n.val) % 128 = n.val % 128; omega
  rw [hi, val_main_v46_apply, val_main_v42_apply, val_main_v45_apply, val_main_v41_apply, val_main_v40_apply, val_main_v44_apply, val_main_v43_apply, val_main_v38_apply, val_main_v39_apply]
  unfold turn
  refine congrArg₂ (· + ·) (congrArg₂ (· * ·) ?_ ?_) (congrArg₂ (· * ·) ?_ ?_)
  · refine queries_part x0 x1 x2 x3 R n _ ?_ ?_ ?_
    · show (((R.val / 4096 * 4096 + R.val % 4096) * 8 + n.val / 128) * 128 + n.val % 128) / 4194304 = R.val / 4096; omega
    · show (((R.val / 4096 * 4096 + R.val % 4096) * 8 + n.val / 128) * 128 + n.val % 128) / 1024 % 4096 = R.val % 4096; omega
    · show (((R.val / 4096 * 4096 + R.val % 4096) * 8 + n.val / 128) * 128 + n.val % 128) % 1024 = n.val; omega
  · exact congrArg x4 (eq_ix2 (n0 := 4096) (n1 := 128) _)
  · refine (congrArg _ (funext fun a => Fin.ext ?_)).trans (queries_partner x0 x1 x2 x3 R n)
    match a with
    | ⟨0, _⟩ => show (((R.val / 4096 * 4096 + R.val % 4096) * 8 + n.val / 128) * 128 + n.val % 128) / 32 = R.val * 32 + n.val / 32; omega
    | ⟨1, _⟩ => show (((R.val / 4096 * 4096 + R.val % 4096) * 8 + n.val / 128) * 128 + n.val % 128) / 16 % 2 = n.val / 16 % 2; omega
    | ⟨2, _⟩ => show (((R.val / 4096 * 4096 + R.val % 4096) * 8 + n.val / 128) * 128 + n.val % 128) % 16 = n.val % 16; omega
  · exact congrArg x5 (eq_ix2 (n0 := 4096) (n1 := 128) _)

/-! ## The turn of the keys -/

theorem keys_part (R : Fin 16384) (n : Fin 1024) (i : S4x4096x1024.Idx) (h0 : (i 0).val = R.val / 4096) (h1 : (i 1).val = R.val % 4096) (h2 : (i 2).val = n.val) :
    val_main_v32 (F := Ideal) x0 x1 x2 x3 i = token x0 x1 x2 x3 R ⟨1024 + n.val, by omega⟩ := by
  rw [val_main_v32_apply]
  refine projected_at x0 x1 x2 x3 R ⟨1024 + n.val, by omega⟩ _ h0 h1 ?_
  show 1024 + (i 2).val = 1024 + n.val
  omega
theorem keys_pair (R : Fin 16384) (n : Fin 1024) (i : S524288x2x16.Idx) (h : ((i 0).val * 2 + (i 1).val) * 16 + (i 2).val = R.val * 1024 + n.val) :
    val_main_v55 (F := Ideal) x0 x1 x2 x3 i = token x0 x1 x2 x3 R ⟨1024 + n.val, by omega⟩ := by
  have i0 : (i 0).val < 524288 := (i 0).isLt
  have i1 : (i 1).val < 2 := (i 1).isLt
  have i2 : (i 2).val < 16 := (i 2).isLt
  rw [val_main_v55_apply]
  refine keys_part x0 x1 x2 x3 R n _ ?_ ?_ ?_
  · show (((i 0).val * 2 + (i 1).val) * 16 + (i 2).val) / 4194304 = R.val / 4096; omega
  · show (((i 0).val * 2 + (i 1).val) * 16 + (i 2).val) / 1024 % 4096 = R.val % 4096; omega
  · show (((i 0).val * 2 + (i 1).val) * 16 + (i 2).val) % 1024 = n.val; omega
theorem keys_partner (R : Fin 16384) (n : Fin 1024) :
    val_main_v58 (F := Ideal) x0 x1 x2 x3 (ix3 ⟨R.val * 32 + n.val / 32, by omega⟩ ⟨n.val / 16 % 2, by omega⟩ ⟨n.val % 16, by omega⟩)
      = token x0 x1 x2 x3 R ⟨1024 + partner n.val, by have := partner_lt n.isLt (by norm_num); omega⟩ := by
  have hp := partner_lt n.isLt (by norm_num)
  unfold val_main_v58
  by_cases h : n.val % 32 < 16
  · have e : partner n.val = n.val + 16 := if_pos h
    refine (concatenate_pair_apply_left (s₁ := S524288x1x16) (s₂ := S524288x1x16) 1 _ _ _ (ix3 (n0 := 524288) (n1 := 2) (n2 := 16) ⟨R.val * 32 + n.val / 32, by omega⟩ ⟨n.val / 16 % 2, by omega⟩ ⟨n.val % 16, by omega⟩) rfl (ix3 ⟨R.val * 32 + n.val / 32, by omega⟩ 0 ⟨n.val % 16, by omega⟩)
      (fun b => by
        match b with
        | ⟨0, _⟩ => rfl
        | ⟨1, _⟩ => show 0 = n.val / 16 % 2; omega
        | ⟨2, _⟩ => rfl)).trans ?_
    rw [val_main_v56_apply]
    refine keys_pair x0 x1 x2 x3 R ⟨partner n.val, hp⟩ _ ?_
    show ((R.val * 32 + n.val / 32) * 2 + (1 + 0)) * 16 + n.val % 16 = R.val * 1024 + partner n.val
    omega
  · have e : partner n.val = n.val - 16 := if_neg h
    refine (concatenate_pair_apply_right (s₁ := S524288x1x16) (s₂ := S524288x1x16) 1 _ _ _ (ix3 (n0 := 524288) (n1 := 2) (n2 := 16) ⟨R.val * 32 + n.val / 32, by omega⟩ ⟨n.val / 16 % 2, by omega⟩ ⟨n.val % 16, by omega⟩) rfl rfl (ix3 ⟨R.val * 32 + n.val / 32, by omega⟩ 0 ⟨n.val % 16, by omega⟩)
      (fun b hb => by
        match b with
        | ⟨0, _⟩ => rfl
        | ⟨1, _⟩ => exact absurd rfl hb
        | ⟨2, _⟩ => rfl) (by show 0 + 1 = n.val / 16 % 2; omega)).trans ?_
    rw [val_main_v57_apply]
    refine keys_pair x0 x1 x2 x3 R ⟨partner n.val, hp⟩ _ ?_
    show ((R.val * 32 + n.val / 32) * 2 + 0) * 16 + n.val % 16 = R.val * 1024 + partner n.val
    omega
theorem keys_turned (R : Fin 16384) (n : Fin 1024) : val_main_v68 (F := Ideal) x0 x1 x2 x3 x4 x5 (ix2 R n)
    = turn (token x0 x1 x2 x3 R) (fun l => x4 (ix2 ⟨R.val % 4096, by omega⟩ l)) (fun l => x5 (ix2 ⟨R.val % 4096, by omega⟩ l)) 1024 (by norm_num) n := by
  rw [val_main_v68_apply]
  have hi : idx_main_v68 (ix2 R n) = ix4 ⟨R.val / 4096, by omega⟩ ⟨R.val % 4096, by omega⟩ ⟨n.val / 128, by omega⟩ ⟨n.val % 128, by omega⟩ := by
    refine funext fun a => Fin.ext ?_
    match a with
    | ⟨0, _⟩ => show (R.val * 1024 + n.val) / 4194304 = R.val / 4096; omega
    | ⟨1, _⟩ => show (R.val * 1024 + n.val) / 1024 % 4096 = R.val % 4096; omega
    | ⟨2, _⟩ => show (R.val * 1024 + n.val) / 128 % 8 = n.val / 128; omega
    | ⟨3, _⟩ => show (R.val * 1024 + n.val) % 128 = n.val % 128; omega
  rw [hi, val_main_v67_apply, val_main_v63_apply, val_main_v66_apply, val_main_v62_apply, val_main_v61_apply, val_main_v65_apply, val_main_v64_apply, val_main_v59_apply, val_main_v60_apply]
  unfold turn
  refine congrArg₂ (· + ·) (congrArg₂ (· * ·) ?_ ?_) (congrArg₂ (· * ·) ?_ ?_)
  · refine keys_part x0 x1 x2 x3 R n _ ?_ ?_ ?_
    · show (((R.val / 4096 * 4096 + R.val % 4096) * 8 + n.val / 128) * 128 + n.val % 128) / 4194304 = R.val / 4096; omega
    · show (((R.val / 4096 * 4096 + R.val % 4096) * 8 + n.val / 128) * 128 + n.val % 128) / 1024 % 4096 = R.val % 4096; omega
    · show (((R.val / 4096 * 4096 + R.val % 4096) * 8 + n.val / 128) * 128 + n.val % 128) % 1024 = n.val; omega
  · exact congrArg x4 (eq_ix2 (n0 := 4096) (n1 := 128) _)
  · refine (congrArg _ (funext fun a => Fin.ext ?_)).trans (keys_partner x0 x1 x2 x3 R n)
    match a with
    | ⟨0, _⟩ => show (((R.val / 4096 * 4096 + R.val % 4096) * 8 + n.val / 128) * 128 + n.val % 128) / 32 = R.val * 32 + n.val / 32; omega
    | ⟨1, _⟩ => show (((R.val / 4096 * 4096 + R.val % 4096) * 8 + n.val / 128) * 128 + n.val % 128) / 16 % 2 = n.val / 16 % 2; omega
    | ⟨2, _⟩ => show (((R.val / 4096 * 4096 + R.val % 4096) * 8 + n.val / 128) * 128 + n.val % 128) % 16 = n.val % 16; omega
  · exact congrArg x5 (eq_ix2 (n0 := 4096) (n1 := 128) _)

/-! ## The whole results -/

theorem result_q (R : Fin 16384) (n : Fin 1024) : val_main_v54 (F := Ideal) x0 x1 x2 x3 x4 x5 (ix2 R n)
    = turn (token x0 x1 x2 x3 R) (fun l => x4 (ix2 ⟨R.val % 4096, by omega⟩ l)) (fun l => x5 (ix2 ⟨R.val % 4096, by omega⟩ l)) 0 (by norm_num) n * qs := by
  rw [val_main_v54_apply, val_main_v53_apply, val_main_v52_apply, val_main_v51_apply, val_main_v50_apply, val_main_v49_apply, val_main_v48_apply, val_main_cst_3_apply, val_main_cst_4_apply, queries_turned]
  exact div_scale _
theorem result_v (R : Fin 16384) (n : Fin 1024) : val_main_v71 (F := Ideal) x0 x1 x2 x3 (ix2 R n) = token x0 x1 x2 x3 R ⟨2048 + n.val, by omega⟩ := by
  rw [val_main_v71_apply, val_main_v70_apply, val_main_v33_apply]
  refine projected_at x0 x1 x2 x3 R ⟨2048 + n.val, by omega⟩ _ ?_ ?_ ?_
  · show (R.val * 1024 + n.val) / 4194304 = R.val / 4096; omega
  · show (R.val * 1024 + n.val) / 1024 % 4096 = R.val % 4096; omega
  · show 2048 + (R.val * 1024 + n.val) % 1024 = 2048 + n.val; omega

theorem result54 : val_main_v54 (F := Ideal) x0 x1 x2 x3 x4 x5
    = fun y : S16384x1024.Idx => (fun (R : Fin 16384) (n : Fin 1024) => turn (token x0 x1 x2 x3 R) (fun l => x4 (ix2 ⟨R.val % 4096, by omega⟩ l)) (fun l => x5 (ix2 ⟨R.val % 4096, by omega⟩ l)) 0 (by norm_num) n * qs) (y 0) (y 1) :=
  funext fun y => (congrArg _ (eq_ix2 (n0 := 16384) (n1 := 1024) y)).trans (result_q x0 x1 x2 x3 x4 x5 (y 0) (y 1))
theorem result69 : val_main_v69 (F := Ideal) x0 x1 x2 x3 x4 x5
    = fun y : S16384x1024.Idx => (fun (R : Fin 16384) (n : Fin 1024) => turn (token x0 x1 x2 x3 R) (fun l => x4 (ix2 ⟨R.val % 4096, by omega⟩ l)) (fun l => x5 (ix2 ⟨R.val % 4096, by omega⟩ l)) 1024 (by norm_num) n) (y 0) (y 1) :=
  funext fun y => (congrArg _ (eq_ix2 (n0 := 16384) (n1 := 1024) y)).trans (keys_turned x0 x1 x2 x3 x4 x5 (y 0) (y 1))
theorem result71 : val_main_v71 (F := Ideal) x0 x1 x2 x3
    = fun y : S16384x1024.Idx => (fun (R : Fin 16384) (n : Fin 1024) => token x0 x1 x2 x3 R ⟨2048 + n.val, by omega⟩) (y 0) (y 1) :=
  funext fun y => (congrArg _ (eq_ix2 (n0 := 16384) (n1 := 1024) y)).trans (result_v x0 x1 x2 x3 (y 0) (y 1))

end Cert.Reference5Ideal.Read

end
-- ==== Proof.lean ====
/-
The proof of `Cert.Claim`: of the attention call, of the experts' call, of the dense feed-forward and of the two
projections to queries, keys and values the frames, at the hardware's numbers and at the extended reals, the named
constants, and that the results of all five are their references'.
-/
module

public import proofs.«01_k».proof.Defs
public import proofs.«01_k».proof.Proof.BitsFrame
public import proofs.«01_k».proof.Proof.LatPre
public import proofs.«01_k».proof.Proof.MoePre
public import proofs.«01_k».proof.Proof.MoeRef
public import proofs.«01_k».proof.Proof.FfnRef
public import proofs.«01_k».proof.Proof.QkvCtxRef
public import proofs.«01_k».proof.Proof.QkvLatRef
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import Idealize.ShloMosaic.Adequacy
public import Idealize.ShloMosaic.Init

@[expose] public section

set_option maxRecDepth 16384

noncomputable section

namespace Cert.Proof

open Idealize.ShloMosaic Idealize.SL.Sem

attribute [local instance] Cert.Kernel.Gen.facts Cert.KernelIdeal.Gen.facts Cert.ReferenceIdeal.Gen.facts Cert.Pre_finite.facts
  Cert.Kernel2.Gen.facts Cert.Kernel2Ideal.Gen.facts Cert.Reference2Ideal.Gen.facts Cert.Pre_in_range.facts
  Cert.Kernel3.Gen.facts Cert.Kernel3Ideal.Gen.facts Cert.Reference3Ideal.Gen.facts
  Cert.Kernel4.Gen.facts Cert.Kernel4Ideal.Gen.facts Cert.Reference4Ideal.Gen.facts
  Cert.Kernel5.Gen.facts Cert.Kernel5Ideal.Gen.facts Cert.Reference5Ideal.Gen.facts

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)
theorem frame_ri_pre : Cert.quiescent_ReferenceIdeal_pre_finite := fun m ρ _ => frame_ri m ρ trivial

/-- The constant by its name: the scores' scale times the base change from `exp` to powers of two, `1 / (√64 · ln 2)`. -/
theorem preserves : Cert.preserves_Kernel_KernelIdeal :=
  IdealRules.named_const.statement Cert.KernelIdeal.κ "qs" .f32 0x3E38AA3B#32 (((Real.sqrt 64)⁻¹ * (Real.log 2)⁻¹ : ℝ) : EReal) rfl

/-- Ten equations at once. -/
theorem congr10 {A B C D E G H I J K R : Sort*} (f : A → B → C → D → E → G → H → I → J → K → R) {a a' b b' c c' d d' e e' g g' h h' i i' j j' k k'}
    (ha : a' = a) (hb : b' = b) (hc : c' = c) (hd : d' = d) (he : e' = e) (hg : g' = g) (hh : h' = h) (hi : i' = i) (hj : j' = j) (hk : k' = k) :
    f a' b' c' d' e' g' h' i' j' k' = f a b c d e g h i j k := by
  subst ha hb hc hd he hg hh hi hj hk; rfl

theorem algebraic : Cert.algebraic_KernelIdeal_ReferenceIdeal_pre_finite := by
  intro m g m' g' hpre hagree
  refine ⟨fun c => (Cert.KernelIdeal.Gen.dats m 0 c).arrAt 10 (Cert.KernelIdeal.cfgs 0).N,
    fun c => (Cert.KernelIdeal.Gen.dats m 0 c).arrAt 11 (Cert.KernelIdeal.cfgs 0).N,
    fun c => (Cert.KernelIdeal.Gen.dats m 0 c).arrAt 12 (Cert.KernelIdeal.cfgs 0).N,
    fun c => (Cert.KernelIdeal.Gen.dats m 0 c).arrAt 13 (Cert.KernelIdeal.cfgs 0).N, ?_, ?_⟩
  · exact (θ_run Cert.KernelIdeal.defs _ _).mono (fun r h c => ⟨(h.1 c).1 10, (h.1 c).1 11, (h.1 c).1 12, (h.1 c).1 13, h.2.1 c⟩)
      (θ_run_and (Cert.KernelIdeal.Gen.run_main m g) (Cert.KernelIdeal.Gen.frame m g))
  · refine (θ_run Cert.ReferenceIdeal.defs _ _).mono (fun r h c => ⟨(h c).1.trans ?_, (h c).2.1.trans ?_, (h c).2.2.1.trans ?_,
      (h c).2.2.2.1.trans ?_, (h c).2.2.2.2⟩) (Cert.ReferenceIdeal.Value.run (F := Ideal) m' g')
    · obtain ⟨h0, h1, h2, h3, h4, h5, h6, h7, h8, h9, -⟩ := hagree c
      refine (Cert.ReferenceIdeal.Read.val_main_v57_eq m' c).trans ?_
      refine Eq.trans ?_ (Cert.KernelIdeal.Gen.final10_pre hpre c).symm
      exact congr10 _ h0 h1 h2 h3 h4 h5 h6 h7 h8 h9
    · obtain ⟨-, -, -, -, -, -, -, -, -, -, h10, -⟩ := hagree c
      refine (Cert.ReferenceIdeal.Read.val_main_v59_eq _).trans ?_
      exact (congrArg _ h10).trans (Cert.KernelIdeal.Gen.final11 m c).symm
    · obtain ⟨-, -, -, -, -, -, -, -, -, -, -, h11, -⟩ := hagree c
      refine (Cert.ReferenceIdeal.Read.val_main_v61_eq _).trans ?_
      exact (congrArg _ h11).trans (Cert.KernelIdeal.Gen.final12 m c).symm
    · obtain ⟨-, -, -, -, -, -, -, -, -, -, -, -, h12⟩ := hagree c
      refine (Cert.ReferenceIdeal.Read.val_main_v63_eq _).trans ?_
      exact (congrArg _ h12).trans (Cert.KernelIdeal.Gen.final13 m c).symm

/-! ## The experts' call -/

theorem frame_p2 : Cert.quiescent_Kernel2 := fun m ρ h => Cert.Kernel2.Gen.frame (Cert.Kernel2.Gen.tabOf h) m ρ (Cert.Kernel2.Gen.pinned h)
theorem frame_pi2 : Cert.quiescent_Kernel2Ideal := fun m ρ h => Cert.Kernel2Ideal.Gen.frame (Cert.Kernel2Ideal.Gen.tabOf h) m ρ (Cert.Kernel2Ideal.Gen.pinned h)

theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
theorem frame_ri2_pre : Cert.quiescent_Reference2Ideal_pre_in_range := fun m ρ _ => frame_ri2 m ρ trivial

theorem preserves2 : Cert.preserves_Kernel2_Kernel2Ideal := trivial

/-- Six equations at once. -/
theorem congr6 {A B C D E G R : Sort*} (f : A → B → C → D → E → G → R) {a a' b b' c c' d d' e e' g g'}
    (ha : a' = a) (hb : b' = b) (hc : c' = c) (hd : d' = d) (he : e' = e) (hg : g' = g) : f a' b' c' d' e' g' = f a b c d e g := by
  subst ha hb hc hd he hg; rfl

theorem algebraic2 : Cert.algebraic_Kernel2Ideal_Reference2Ideal := by
  intro m g m' g' hpre hagree
  have hp := Cert.Kernel2Ideal.Gen.pinned hpre
  refine ⟨fun c => (Cert.Kernel2Ideal.Gen.dats (Cert.Kernel2Ideal.Gen.tabOf hpre) m g 0 c).arrAt (4 : Fin 5) (Cert.Kernel2Ideal.Gen.cfgA (Cert.Kernel2Ideal.Gen.tabOf hpre)).N, ?_, ?_⟩
  · exact (θ_run Cert.Kernel2Ideal.defs _ _).mono (fun r h c => ⟨(h.1 c).1 (4 : Fin 5), h.2.1 c⟩)
      (θ_run_and (Cert.Kernel2Ideal.Gen.run_main _ m g hp) (Cert.Kernel2Ideal.Gen.frame _ m g hp))
  · refine (θ_run Cert.Reference2Ideal.defs _ _).mono (fun r h c => ⟨(h c).1.trans ?_, (h c).2⟩) (Cert.Reference2Ideal.Value.run (F := Ideal) m' g')
    obtain ⟨h0, h1, h2, h3, h4, h5⟩ := hagree c
    refine (Cert.Reference2Ideal.Read.val_main_v190_eq (F := Ideal) _).trans ?_
    refine Eq.trans ?_ (Cert.Kernel2Ideal.Gen.final4 (Cert.Kernel2Ideal.Gen.tabOf hpre) m g c).symm
    refine Eq.trans ?_ (Cert.Reference2Ideal.Read.result_eq _ _ _ _ _ _ (Cert.Kernel2Ideal.Gen.tabOf hpre).lt)
    exact congr6 _ (h0.trans (hp.1 c)) (h1.trans (hp.2 c)) h2 h3 h4 h5

/-! ## The dense feed-forward -/

theorem frame_p3 : Cert.quiescent_Kernel3 := fun m ρ _ => Cert.Kernel3.Gen.frame m ρ
theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves3 : Cert.preserves_Kernel3_Kernel3Ideal := trivial

/-- Seven equations at once. -/
theorem congr7 {A B C D E G H R : Sort*} (f : A → B → C → D → E → G → H → R) {a a' b b' c c' d d' e e' g g' h h'}
    (ha : a' = a) (hb : b' = b) (hc : c' = c) (hd : d' = d) (he : e' = e) (hg : g' = g) (hh : h' = h) : f a' b' c' d' e' g' h' = f a b c d e g h := by
  subst ha hb hc hd he hg hh; rfl

theorem algebraic3 : Cert.algebraic_Kernel3Ideal_Reference3Ideal := by
  intro m g m' g' _ hagree
  refine ⟨fun c => (Cert.Kernel3Ideal.Gen.dats m 0 c).arrAt (7 : Fin 8) (Cert.Kernel3Ideal.cfgs 0).N, ?_, ?_⟩
  · exact (θ_run Cert.Kernel3Ideal.defs _ _).mono (fun r h c => ⟨(h.1 c).1 (7 : Fin 8), h.2.1 c⟩)
      (θ_run_and (Cert.Kernel3Ideal.Gen.run_main m g) (Cert.Kernel3Ideal.Gen.frame m g))
  · refine (θ_run Cert.Reference3Ideal.defs _ _).mono (fun r h c => ⟨(h c).1.trans ?_, (h c).2⟩) (Cert.Reference3Ideal.Value.run (F := Ideal) m' g')
    obtain ⟨h0, h1, h2, h3, h4, h5, h6⟩ := hagree c
    refine (Cert.Reference3Ideal.Read.val_main_v88_eq (F := Ideal) m' c).trans ?_
    refine Eq.trans ?_ (Cert.Kernel3Ideal.Gen.final7 m c).symm
    refine Eq.trans ?_ (Cert.Reference3Ideal.Read.result_eq _ _ _ _ _ _ _)
    exact congr7 _ h0 h1 h2 h3 h4 h5 h6

/-! ## The context's queries, keys and values -/

theorem frame_p4 : Cert.quiescent_Kernel4 := fun m ρ _ => Cert.Kernel4.Gen.frame m ρ
theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2.2.2.2.2,
      Idealize.ShloMosaic.sem_eq_zero_of_no_sems (by decide) r.2⟩)
    (Cert.Reference4Ideal.Value.run (F := Ideal) m ρ)

theorem preserves4 : Cert.preserves_Kernel4_Kernel4Ideal :=
  IdealRules.named_const.statement Cert.Kernel4Ideal.κ "qs" .f32 0x3E38AA3B#32 (((Real.sqrt 64)⁻¹ * (Real.log 2)⁻¹ : ℝ) : EReal) rfl

/-- Four equations at once. -/
theorem congr4 {A B C D R : Sort*} (f : A → B → C → D → R) {a a' b b' c c' d d'}
    (ha : a' = a) (hb : b' = b) (hc : c' = c) (hd : d' = d) : f a' b' c' d' = f a b c d := by
  subst ha hb hc hd; rfl

theorem algebraic4 : Cert.algebraic_Kernel4Ideal_Reference4Ideal := by
  intro m g m' g' _ hagree
  refine ⟨fun c => (Cert.Kernel4Ideal.Gen.dats m 0 c).arrAt (4 : Fin 9) (Cert.Kernel4Ideal.cfgs 0).N,
    fun c => (Cert.Kernel4Ideal.Gen.dats m 0 c).arrAt (5 : Fin 9) (Cert.Kernel4Ideal.cfgs 0).N,
    fun c => (Cert.Kernel4Ideal.Gen.dats m 0 c).arrAt (6 : Fin 9) (Cert.Kernel4Ideal.cfgs 0).N,
    fun c => (Cert.Kernel4Ideal.Gen.dats m 0 c).arrAt (7 : Fin 9) (Cert.Kernel4Ideal.cfgs 0).N,
    fun c => (Cert.Kernel4Ideal.Gen.dats m 0 c).arrAt (8 : Fin 9) (Cert.Kernel4Ideal.cfgs 0).N, ?_, ?_⟩
  · exact (θ_run Cert.Kernel4Ideal.defs _ _).mono (fun r h c => ⟨(h.1 c).1 (4 : Fin 9), (h.1 c).1 (5 : Fin 9), (h.1 c).1 (6 : Fin 9), (h.1 c).1 (7 : Fin 9), (h.1 c).1 (8 : Fin 9), h.2.1 c⟩)
      (θ_run_and (Cert.Kernel4Ideal.Gen.run_main m g) (Cert.Kernel4Ideal.Gen.frame m g))
  · refine (θ_run Cert.Reference4Ideal.defs _ _).mono (fun r h c => ⟨(h c).1.trans ?_, (h c).2.1.trans ?_, (h c).2.2.1.trans ?_, (h c).2.2.2.1.trans ?_, (h c).2.2.2.2.1.trans ?_, (h c).2.2.2.2.2⟩)
      (Cert.Reference4Ideal.Value.run (F := Ideal) m' g')
    · obtain ⟨h0, h1, h2, h3⟩ := hagree c
      refine (Cert.Reference4Ideal.Read.val_main_v38_eq _ _ _ _).trans ?_
      refine Eq.trans ?_ (Cert.Kernel4Ideal.Gen.final4 m c).symm
      refine Eq.trans ?_ (Cert.Reference4Ideal.Read.result38 _ _ _ _)
      exact congr4 _ h0 h1 h2 h3
    · obtain ⟨h0, h1, h2, h3⟩ := hagree c
      refine (Cert.Reference4Ideal.Read.val_main_v39_eq _ _ _ _).trans ?_
      refine Eq.trans ?_ (Cert.Kernel4Ideal.Gen.final5 m c).symm
      refine Eq.trans ?_ (Cert.Reference4Ideal.Read.result39 _ _ _ _)
      exact congr4 _ h0 h1 h2 h3
    · obtain ⟨h0, h1, h2, h3⟩ := hagree c
      refine (Cert.Reference4Ideal.Read.val_main_v40_eq _ _ _ _).trans ?_
      refine Eq.trans ?_ (Cert.Kernel4Ideal.Gen.final6 m c).symm
      refine Eq.trans ?_ (Cert.Reference4Ideal.Read.result40 _ _ _ _)
      exact congr4 _ h0 h1 h2 h3
    · obtain ⟨h0, h1, h2, h3⟩ := hagree c
      refine (Cert.Reference4Ideal.Read.val_main_v30_eq _ _ _ _).trans ?_
      refine Eq.trans ?_ (Cert.Kernel4Ideal.Gen.final7 m c).symm
      refine Eq.trans ?_ (Cert.Reference4Ideal.Read.result30 _ _ _ _)
      exact congr4 _ h0 h1 h2 h3
    · obtain ⟨h0, h1, h2, h3⟩ := hagree c
      refine (Cert.Reference4Ideal.Read.val_main_v31_eq _ _ _ _).trans ?_
      refine Eq.trans ?_ (Cert.Kernel4Ideal.Gen.final8 m c).symm
      refine Eq.trans ?_ (Cert.Reference4Ideal.Read.result31 _ _ _ _)
      exact congr4 _ h0 h1 h2 h3

/-! ## The latents' queries, keys and values -/

theorem frame_p5 : Cert.quiescent_Kernel5 := fun m ρ _ => Cert.Kernel5.Gen.frame m ρ
theorem frame_pi5 : Cert.quiescent_Kernel5Ideal := fun m ρ _ => Cert.Kernel5Ideal.Gen.frame m ρ

theorem frame_ri5 : Cert.quiescent_Reference5Ideal := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

theorem preserves5 : Cert.preserves_Kernel5_Kernel5Ideal :=
  IdealRules.named_const.statement Cert.Kernel5Ideal.κ "qs" .f32 0x3E38AA3B#32 (((Real.sqrt 64)⁻¹ * (Real.log 2)⁻¹ : ℝ) : EReal) rfl

theorem algebraic5 : Cert.algebraic_Kernel5Ideal_Reference5Ideal := by
  intro m g m' g' _ hagree
  refine ⟨fun c => (Cert.Kernel5Ideal.Gen.dats m 0 c).arrAt (6 : Fin 9) (Cert.Kernel5Ideal.cfgs 0).N,
    fun c => (Cert.Kernel5Ideal.Gen.dats m 0 c).arrAt (7 : Fin 9) (Cert.Kernel5Ideal.cfgs 0).N,
    fun c => (Cert.Kernel5Ideal.Gen.dats m 0 c).arrAt (8 : Fin 9) (Cert.Kernel5Ideal.cfgs 0).N, ?_, ?_⟩
  · exact (θ_run Cert.Kernel5Ideal.defs _ _).mono (fun r h c => ⟨(h.1 c).1 (6 : Fin 9), (h.1 c).1 (7 : Fin 9), (h.1 c).1 (8 : Fin 9), h.2.1 c⟩)
      (θ_run_and (Cert.Kernel5Ideal.Gen.run_main m g) (Cert.Kernel5Ideal.Gen.frame m g))
  · refine (θ_run Cert.Reference5Ideal.defs _ _).mono (fun r h c => ⟨(h c).1.trans ?_, (h c).2.1.trans ?_, (h c).2.2.1.trans ?_, (h c).2.2.2⟩)
      (Cert.Reference5Ideal.Value.run (F := Ideal) m' g')
    · obtain ⟨h0, h1, h2, h3, h4, h5⟩ := hagree c
      refine (Cert.Reference5Ideal.Read.val_main_v54_eq m' c).trans ?_
      refine Eq.trans ?_ (Cert.Kernel5Ideal.Gen.final6 m c).symm
      refine Eq.trans ?_ (Cert.Reference5Ideal.Read.result54 _ _ _ _ _ _)
      exact congr6 _ h0 h1 h2 h3 h4 h5
    · obtain ⟨h0, h1, h2, h3, h4, h5⟩ := hagree c
      refine (Cert.Reference5Ideal.Read.val_main_v69_eq m' c).trans ?_
      refine Eq.trans ?_ (Cert.Kernel5Ideal.Gen.final7 m c).symm
      refine Eq.trans ?_ (Cert.Reference5Ideal.Read.result69 _ _ _ _ _ _)
      exact congr6 _ h0 h1 h2 h3 h4 h5
    · obtain ⟨h0, h1, h2, h3, h4, h5⟩ := hagree c
      refine (Cert.Reference5Ideal.Read.val_main_v71_eq _ _ _ _).trans ?_
      refine Eq.trans ?_ (Cert.Kernel5Ideal.Gen.final8 m c).symm
      refine Eq.trans ?_ (Cert.Reference5Ideal.Read.result71 _ _ _ _)
      exact congr4 _ h0 h1 h2 h3

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.facts, Cert.Pre_in_range.facts,
  frame_p, frame_pi, frame_pi_pre, frame_ri, frame_ri_pre, frame_p2, frame_pi2, frame_ri2, frame_ri2_pre,
  frame_p3, frame_pi3, frame_ri3, frame_p4, frame_pi4, frame_ri4, frame_p5, frame_pi5, frame_ri5,
  preserves, algebraic, preserves2, algebraic2, preserves3, algebraic3, preserves4, algebraic4, preserves5, algebraic5⟩

end Cert.Proof

end
